-- ==== Defs.lean ====
def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_ReferenceSguIdeal (m : (ℓ : Loc Cert.ReferenceSguIdeal.nD Cert.ReferenceSguIdeal.τ Cert.ReferenceSguIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_ReferenceEvenIdeal (m : (ℓ : Loc Cert.ReferenceEvenIdeal.nD Cert.ReferenceEvenIdeal.τ Cert.ReferenceEvenIdeal.sig) → Buf (Elt Ideal) ℓ) : Prop :=
  True

def Pre_KernelOdd (m : (ℓ : Loc Cert.KernelOdd.nD Cert.KernelOdd.τ Cert.KernelOdd.sig) → Buf (Elt Bits) ℓ) : Prop :=
  True

def Pre_KernelOddIdeal (m : (ℓ : Loc Cert.KernelOddIdeal.nD Cert.KernelOddIdeal.τ Cert.KernelOddIdeal.sig) → Buf (Elt Ideal) ℓ) : Prop :=
  True

def Pre_ReferenceOddIdeal (m : (ℓ : Loc Cert.ReferenceOddIdeal.nD Cert.ReferenceOddIdeal.τ Cert.ReferenceOddIdeal.sig) → Buf (Elt Ideal) ℓ) : Prop :=
  True

def Pre_KernelMoba (m : (ℓ : Loc Cert.KernelMoba.nD Cert.KernelMoba.τ Cert.KernelMoba.sig) → Buf (Elt Bits) ℓ) : Prop :=
  True

def Pre_KernelMobaIdeal (m : (ℓ : Loc Cert.KernelMobaIdeal.nD Cert.KernelMobaIdeal.τ Cert.KernelMobaIdeal.sig) → Buf (Elt Ideal) ℓ) : Prop :=
  True

def Pre_KernelFfn21 (m : (ℓ : Loc Cert.KernelFfn21.nD Cert.KernelFfn21.τ Cert.KernelFfn21.sig) → Buf (Elt Bits) ℓ) : Prop :=
  True

def Pre_KernelFfn21Ideal (m : (ℓ : Loc Cert.KernelFfn21Ideal.nD Cert.KernelFfn21Ideal.τ Cert.KernelFfn21Ideal.sig) → Buf (Elt Ideal) ℓ) : Prop :=
  True

def Pre_ReferenceFfn21Ideal (m : (ℓ : Loc Cert.ReferenceFfn21Ideal.nD Cert.ReferenceFfn21Ideal.τ Cert.ReferenceFfn21Ideal.sig) → Buf (Elt Ideal) ℓ) : Prop :=
  True

def Pre_KernelFfn30 (m : (ℓ : Loc Cert.KernelFfn30.nD Cert.KernelFfn30.τ Cert.KernelFfn30.sig) → Buf (Elt Bits) ℓ) : Prop :=
  True

def Pre_KernelFfn30Ideal (m : (ℓ : Loc Cert.KernelFfn30Ideal.nD Cert.KernelFfn30Ideal.τ Cert.KernelFfn30Ideal.sig) → Buf (Elt Ideal) ℓ) : Prop :=
  True

def Pre_ReferenceFfn30Ideal (m : (ℓ : Loc Cert.ReferenceFfn30Ideal.nD Cert.ReferenceFfn30Ideal.τ Cert.ReferenceFfn30Ideal.sig) → Buf (Elt Ideal) ℓ) : Prop :=
  True

def Pre_KernelFfn20 (m : (ℓ : Loc Cert.KernelFfn20.nD Cert.KernelFfn20.τ Cert.KernelFfn20.sig) → Buf (Elt Bits) ℓ) : Prop :=
  True

def Pre_KernelFfn20Ideal (m : (ℓ : Loc Cert.KernelFfn20Ideal.nD Cert.KernelFfn20Ideal.τ Cert.KernelFfn20Ideal.sig) → Buf (Elt Ideal) ℓ) : Prop :=
  True

def Pre_ReferenceFfn20Ideal (m : (ℓ : Loc Cert.ReferenceFfn20Ideal.nD Cert.ReferenceFfn20Ideal.τ Cert.ReferenceFfn20Ideal.sig) → Buf (Elt Ideal) ℓ) : Prop :=
  True

def Pre_KernelFfn11 (m : (ℓ : Loc Cert.KernelFfn11.nD Cert.KernelFfn11.τ Cert.KernelFfn11.sig) → Buf (Elt Bits) ℓ) : Prop :=
  True

def Pre_KernelFfn11Ideal (m : (ℓ : Loc Cert.KernelFfn11Ideal.nD Cert.KernelFfn11Ideal.τ Cert.KernelFfn11Ideal.sig) → Buf (Elt Ideal) ℓ) : Prop :=
  True

def Pre_ReferenceFfn11Ideal (m : (ℓ : Loc Cert.ReferenceFfn11Ideal.nD Cert.ReferenceFfn11Ideal.τ Cert.ReferenceFfn11Ideal.sig) → Buf (Elt Ideal) ℓ) : Prop :=
  True

def Pre_KernelFfn10 (m : (ℓ : Loc Cert.KernelFfn10.nD Cert.KernelFfn10.τ Cert.KernelFfn10.sig) → Buf (Elt Bits) ℓ) : Prop :=
  True

def Pre_KernelFfn10Ideal (m : (ℓ : Loc Cert.KernelFfn10Ideal.nD Cert.KernelFfn10Ideal.τ Cert.KernelFfn10Ideal.sig) → Buf (Elt Ideal) ℓ) : Prop :=
  True

def Pre_ReferenceFfn10Ideal (m : (ℓ : Loc Cert.ReferenceFfn10Ideal.nD Cert.ReferenceFfn10Ideal.τ Cert.ReferenceFfn10Ideal.sig) → Buf (Elt Ideal) ℓ) : Prop :=
  True

def Pre_KernelFfn01 (m : (ℓ : Loc Cert.KernelFfn01.nD Cert.KernelFfn01.τ Cert.KernelFfn01.sig) → Buf (Elt Bits) ℓ) : Prop :=
  True

def Pre_KernelFfn01Ideal (m : (ℓ : Loc Cert.KernelFfn01Ideal.nD Cert.KernelFfn01Ideal.τ Cert.KernelFfn01Ideal.sig) → Buf (Elt Ideal) ℓ) : Prop :=
  True

def Pre_ReferenceFfn01Ideal (m : (ℓ : Loc Cert.ReferenceFfn01Ideal.nD Cert.ReferenceFfn01Ideal.τ Cert.ReferenceFfn01Ideal.sig) → Buf (Elt Ideal) ℓ) : Prop :=
  True

def Pre_KernelFfn00 (m : (ℓ : Loc Cert.KernelFfn00.nD Cert.KernelFfn00.τ Cert.KernelFfn00.sig) → Buf (Elt Bits) ℓ) : Prop :=
  True

def Pre_KernelFfn00Ideal (m : (ℓ : Loc Cert.KernelFfn00Ideal.nD Cert.KernelFfn00Ideal.τ Cert.KernelFfn00Ideal.sig) → Buf (Elt Ideal) ℓ) : Prop :=
  True

def Pre_ReferenceFfn00Ideal (m : (ℓ : Loc Cert.ReferenceFfn00Ideal.nD Cert.ReferenceFfn00Ideal.τ Cert.ReferenceFfn00Ideal.sig) → Buf (Elt Ideal) ℓ) : Prop :=
  True

def Pre_KernelConv2 (m : (ℓ : Loc Cert.KernelConv2.nD Cert.KernelConv2.τ Cert.KernelConv2.sig) → Buf (Elt Bits) ℓ) : Prop :=
  True

def Pre_KernelConv2Ideal (m : (ℓ : Loc Cert.KernelConv2Ideal.nD Cert.KernelConv2Ideal.τ Cert.KernelConv2Ideal.sig) → Buf (Elt Ideal) ℓ) : Prop :=
  True

def Pre_ReferenceConv2Ideal (m : (ℓ : Loc Cert.ReferenceConv2Ideal.nD Cert.ReferenceConv2Ideal.τ Cert.ReferenceConv2Ideal.sig) → Buf (Elt Ideal) ℓ) : Prop :=
  True

def Pre_KernelSgu3 (m : (ℓ : Loc Cert.KernelSgu3.nD Cert.KernelSgu3.τ Cert.KernelSgu3.sig) → Buf (Elt Bits) ℓ) : Prop :=
  True

def Pre_KernelSgu3Ideal (m : (ℓ : Loc Cert.KernelSgu3Ideal.nD Cert.KernelSgu3Ideal.τ Cert.KernelSgu3Ideal.sig) → Buf (Elt Ideal) ℓ) : Prop :=
  True

def Pre_ReferenceSgu3Ideal (m : (ℓ : Loc Cert.ReferenceSgu3Ideal.nD Cert.ReferenceSgu3Ideal.τ Cert.ReferenceSgu3Ideal.sig) → Buf (Elt Ideal) ℓ) : Prop :=
  True

def Pre_KernelEven2 (m : (ℓ : Loc Cert.KernelEven2.nD Cert.KernelEven2.τ Cert.KernelEven2.sig) → Buf (Elt Bits) ℓ) : Prop :=
  True

def Pre_KernelEven2Ideal (m : (ℓ : Loc Cert.KernelEven2Ideal.nD Cert.KernelEven2Ideal.τ Cert.KernelEven2Ideal.sig) → Buf (Elt Ideal) ℓ) : Prop :=
  True

def Pre_ReferenceEven2Ideal (m : (ℓ : Loc Cert.ReferenceEven2Ideal.nD Cert.ReferenceEven2Ideal.τ Cert.ReferenceEven2Ideal.sig) → Buf (Elt Ideal) ℓ) : Prop :=
  True

def Pre_KernelOdd3 (m : (ℓ : Loc Cert.KernelOdd3.nD Cert.KernelOdd3.τ Cert.KernelOdd3.sig) → Buf (Elt Bits) ℓ) : Prop :=
  True

def Pre_KernelOdd3Ideal (m : (ℓ : Loc Cert.KernelOdd3Ideal.nD Cert.KernelOdd3Ideal.τ Cert.KernelOdd3Ideal.sig) → Buf (Elt Ideal) ℓ) : Prop :=
  True

def Pre_ReferenceOdd3Ideal (m : (ℓ : Loc Cert.ReferenceOdd3Ideal.nD Cert.ReferenceOdd3Ideal.τ Cert.ReferenceOdd3Ideal.sig) → Buf (Elt Ideal) ℓ) : Prop :=
  True

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4)
      ∧ r.2.mem ((c.tc : Thread Cert.KernelConv.nD Cert.KernelConv.τ).loc Cert.KernelConv.main_arg5) = m ((c.tc : Thread Cert.KernelConv.nD Cert.KernelConv.τ).loc Cert.KernelConv.main_arg5)
      ∧ r.2.mem ((c.tc : Thread Cert.KernelConv.nD Cert.KernelConv.τ).loc Cert.KernelConv.main_arg6) = m ((c.tc : Thread Cert.KernelConv.nD Cert.KernelConv.τ).loc Cert.KernelConv.main_arg6)
      ∧ r.2.mem ((c.tc : Thread Cert.KernelConv.nD Cert.KernelConv.τ).loc Cert.KernelConv.main_arg7) = m ((c.tc : Thread Cert.KernelConv.nD Cert.KernelConv.τ).loc Cert.KernelConv.main_arg7)
      ∧ r.2.mem ((c.tc : Thread Cert.KernelConv.nD Cert.KernelConv.τ).loc Cert.KernelConv.main_arg8) = m ((c.tc : Thread Cert.KernelConv.nD Cert.KernelConv.τ).loc Cert.KernelConv.main_arg8))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4)
      ∧ r.2.mem ((c.tc : Thread Cert.KernelConvIdeal.nD Cert.KernelConvIdeal.τ).loc Cert.KernelConvIdeal.main_arg5) = m ((c.tc : Thread Cert.KernelConvIdeal.nD Cert.KernelConvIdeal.τ).loc Cert.KernelConvIdeal.main_arg5)
      ∧ r.2.mem ((c.tc : Thread Cert.KernelConvIdeal.nD Cert.KernelConvIdeal.τ).loc Cert.KernelConvIdeal.main_arg6) = m ((c.tc : Thread Cert.KernelConvIdeal.nD Cert.KernelConvIdeal.τ).loc Cert.KernelConvIdeal.main_arg6)
      ∧ r.2.mem ((c.tc : Thread Cert.KernelConvIdeal.nD Cert.KernelConvIdeal.τ).loc Cert.KernelConvIdeal.main_arg7) = m ((c.tc : Thread Cert.KernelConvIdeal.nD Cert.KernelConvIdeal.τ).loc Cert.KernelConvIdeal.main_arg7)
      ∧ r.2.mem ((c.tc : Thread Cert.KernelConvIdeal.nD Cert.KernelConvIdeal.τ).loc Cert.KernelConvIdeal.main_arg8) = m ((c.tc : Thread Cert.KernelConvIdeal.nD Cert.KernelConvIdeal.τ).loc Cert.KernelConvIdeal.main_arg8))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4)
      ∧ r.2.mem ((c.tc : Thread Cert.ReferenceConvIdeal.nD Cert.ReferenceConvIdeal.τ).loc Cert.ReferenceConvIdeal.main_arg5) = m ((c.tc : Thread Cert.ReferenceConvIdeal.nD Cert.ReferenceConvIdeal.τ).loc Cert.ReferenceConvIdeal.main_arg5)
      ∧ r.2.mem ((c.tc : Thread Cert.ReferenceConvIdeal.nD Cert.ReferenceConvIdeal.τ).loc Cert.ReferenceConvIdeal.main_arg6) = m ((c.tc : Thread Cert.ReferenceConvIdeal.nD Cert.ReferenceConvIdeal.τ).loc Cert.ReferenceConvIdeal.main_arg6)
      ∧ r.2.mem ((c.tc : Thread Cert.ReferenceConvIdeal.nD Cert.ReferenceConvIdeal.τ).loc Cert.ReferenceConvIdeal.main_arg7) = m ((c.tc : Thread Cert.ReferenceConvIdeal.nD Cert.ReferenceConvIdeal.τ).loc Cert.ReferenceConvIdeal.main_arg7)
      ∧ r.2.mem ((c.tc : Thread Cert.ReferenceConvIdeal.nD Cert.ReferenceConvIdeal.τ).loc Cert.ReferenceConvIdeal.main_arg8) = m ((c.tc : Thread Cert.ReferenceConvIdeal.nD Cert.ReferenceConvIdeal.τ).loc Cert.ReferenceConvIdeal.main_arg8))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3)
      ∧ r.2.mem ((c.tc : Thread Cert.KernelSgu.nD Cert.KernelSgu.τ).loc Cert.KernelSgu.main_arg4) = m ((c.tc : Thread Cert.KernelSgu.nD Cert.KernelSgu.τ).loc Cert.KernelSgu.main_arg4)
      ∧ r.2.mem ((c.tc : Thread Cert.KernelSgu.nD Cert.KernelSgu.τ).loc Cert.KernelSgu.main_arg5) = m ((c.tc : Thread Cert.KernelSgu.nD Cert.KernelSgu.τ).loc Cert.KernelSgu.main_arg5)
      ∧ r.2.mem ((c.tc : Thread Cert.KernelSgu.nD Cert.KernelSgu.τ).loc Cert.KernelSgu.main_arg6) = m ((c.tc : Thread Cert.KernelSgu.nD Cert.KernelSgu.τ).loc Cert.KernelSgu.main_arg6)
      ∧ r.2.mem ((c.tc : Thread Cert.KernelSgu.nD Cert.KernelSgu.τ).loc Cert.KernelSgu.main_arg7) = m ((c.tc : Thread Cert.KernelSgu.nD Cert.KernelSgu.τ).loc Cert.KernelSgu.main_arg7))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
      ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
      ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6)
      ∧ r.2.mem ((c.tc : Thread Cert.KernelSguIdeal.nD Cert.KernelSguIdeal.τ).loc Cert.KernelSguIdeal.main_arg7) = m ((c.tc : Thread Cert.KernelSguIdeal.nD Cert.KernelSguIdeal.τ).loc Cert.KernelSguIdeal.main_arg7))
      ∧ r.2.sem = fun _ => 0)

def quiescent_ReferenceSguIdeal [hReferenceSguIdeal : Cert.ReferenceSguIdeal.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3)
      ∧ r.2.mem ((c.tc : Thread Cert.ReferenceSguIdeal.nD Cert.ReferenceSguIdeal.τ).loc Cert.ReferenceSguIdeal.main_arg4) = m ((c.tc : Thread Cert.ReferenceSguIdeal.nD Cert.ReferenceSguIdeal.τ).loc Cert.ReferenceSguIdeal.main_arg4)
      ∧ r.2.mem ((c.tc : Thread Cert.ReferenceSguIdeal.nD Cert.ReferenceSguIdeal.τ).loc Cert.ReferenceSguIdeal.main_arg5) = m ((c.tc : Thread Cert.ReferenceSguIdeal.nD Cert.ReferenceSguIdeal.τ).loc Cert.ReferenceSguIdeal.main_arg5)
      ∧ r.2.mem ((c.tc : Thread Cert.ReferenceSguIdeal.nD Cert.ReferenceSguIdeal.τ).loc Cert.ReferenceSguIdeal.main_arg6) = m ((c.tc : Thread Cert.ReferenceSguIdeal.nD Cert.ReferenceSguIdeal.τ).loc Cert.ReferenceSguIdeal.main_arg6)
      ∧ r.2.mem ((c.tc : Thread Cert.ReferenceSguIdeal.nD Cert.ReferenceSguIdeal.τ).loc Cert.ReferenceSguIdeal.main_arg7) = m ((c.tc : Thread Cert.ReferenceSguIdeal.nD Cert.ReferenceSguIdeal.τ).loc Cert.ReferenceSguIdeal.main_arg7))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2))
      ∧ r.2.sem = fun _ => 0)

def quiescent_KernelOdd [hKernelOdd : Cert.KernelOdd.Facts] : Prop :=
  ∀ (m : (ℓ : Loc Cert.KernelOdd.nD Cert.KernelOdd.τ Cert.KernelOdd.sig) → Buf (Elt Bits) ℓ) (g : Dev Cert.KernelOdd.nD → PrngReg), Pre_KernelOdd m →
    θ_run (Cert.KernelOdd.defs (F := Bits)) (onTc (τ := Cert.KernelOdd.τ) (Cert.KernelOdd.main (F := Bits))) ⟨m, fun _ => 0, g⟩ (fun r => (∀ c : Dev Cert.KernelOdd.nD,
      r.2.mem ((c.tc : Thread Cert.KernelOdd.nD Cert.KernelOdd.τ).loc Cert.KernelOdd.main_arg0) = m ((c.tc : Thread Cert.KernelOdd.nD Cert.KernelOdd.τ).loc Cert.KernelOdd.main_arg0)
      ∧ r.2.mem ((c.tc : Thread Cert.KernelOdd.nD Cert.KernelOdd.τ).loc Cert.KernelOdd.main_arg1) = m ((c.tc : Thread Cert.KernelOdd.nD Cert.KernelOdd.τ).loc Cert.KernelOdd.main_arg1)
      ∧ r.2.mem ((c.tc : Thread Cert.KernelOdd.nD Cert.KernelOdd.τ).loc Cert.KernelOdd.main_arg2) = m ((c.tc : Thread Cert.KernelOdd.nD Cert.KernelOdd.τ).loc Cert.KernelOdd.main_arg2)
      ∧ r.2.mem ((c.tc : Thread Cert.KernelOdd.nD Cert.KernelOdd.τ).loc Cert.KernelOdd.main_arg3) = m ((c.tc : Thread Cert.KernelOdd.nD Cert.KernelOdd.τ).loc Cert.KernelOdd.main_arg3)
      ∧ r.2.mem ((c.tc : Thread Cert.KernelOdd.nD Cert.KernelOdd.τ).loc Cert.KernelOdd.main_arg4) = m ((c.tc : Thread Cert.KernelOdd.nD Cert.KernelOdd.τ).loc Cert.KernelOdd.main_arg4))
      ∧ r.2.sem = fun _ => 0)

def quiescent_KernelOddIdeal [hKernelOddIdeal : Cert.KernelOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg), Pre_KernelOddIdeal m →
    θ_run (Cert.KernelOddIdeal.defs (F := Ideal)) (onTc (τ := Cert.KernelOddIdeal.τ) (Cert.KernelOddIdeal.main (F := Ideal))) ⟨m, fun _ => 0, g⟩ (fun r => (∀ c : Dev Cert.KernelOddIdeal.nD,
      r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
      ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
      ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
      ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
      ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2)
      ∧ r.2.mem ((c.tc : Thread Cert.ReferenceOddIdeal.nD Cert.ReferenceOddIdeal.τ).loc Cert.ReferenceOddIdeal.main_arg3) = m ((c.tc : Thread Cert.ReferenceOddIdeal.nD Cert.ReferenceOddIdeal.τ).loc Cert.ReferenceOddIdeal.main_arg3)
      ∧ r.2.mem ((c.tc : Thread Cert.ReferenceOddIdeal.nD Cert.ReferenceOddIdeal.τ).loc Cert.ReferenceOddIdeal.main_arg4) = m ((c.tc : Thread Cert.ReferenceOddIdeal.nD Cert.ReferenceOddIdeal.τ).loc Cert.ReferenceOddIdeal.main_arg4))
      ∧ r.2.sem = fun _ => 0)

def quiescent_KernelMoba [hKernelMoba : Cert.KernelMoba.Facts] : Prop :=
  ∀ (m : (ℓ : Loc Cert.KernelMoba.nD Cert.KernelMoba.τ Cert.KernelMoba.sig) → Buf (Elt Bits) ℓ) (g : Dev Cert.KernelMoba.nD → PrngReg), Pre_KernelMoba m →
    θ_run (Cert.KernelMoba.defs (F := Bits)) (onTc (τ := Cert.KernelMoba.τ) (Cert.KernelMoba.main (F := Bits))) ⟨m, fun _ => 0, g⟩ (fun r => (∀ c : Dev Cert.KernelMoba.nD,
      r.2.mem ((c.tc : Thread Cert.KernelMoba.nD Cert.KernelMoba.τ).loc Cert.KernelMoba.main_arg0) = m ((c.tc : Thread Cert.KernelMoba.nD Cert.KernelMoba.τ).loc Cert.KernelMoba.main_arg0)
      ∧ r.2.mem ((c.tc : Thread Cert.KernelMoba.nD Cert.KernelMoba.τ).loc Cert.KernelMoba.main_arg1) = m ((c.tc : Thread Cert.KernelMoba.nD Cert.KernelMoba.τ).loc Cert.KernelMoba.main_arg1)
      ∧ r.2.mem ((c.tc : Thread Cert.KernelMoba.nD Cert.KernelMoba.τ).loc Cert.KernelMoba.main_arg2) = m ((c.tc : Thread Cert.KernelMoba.nD Cert.KernelMoba.τ).loc Cert.KernelMoba.main_arg2))
      ∧ r.2.sem = fun _ => 0)

def quiescent_KernelMobaIdeal [hKernelMobaIdeal : Cert.KernelMobaIdeal.Facts] : Prop :=
  ∀ (m : (ℓ : Loc Cert.KernelMobaIdeal.nD Cert.KernelMobaIdeal.τ Cert.KernelMobaIdeal.sig) → Buf (Elt Ideal) ℓ) (g : Dev Cert.KernelMobaIdeal.nD → PrngReg), Pre_KernelMobaIdeal m →
    θ_run (Cert.KernelMobaIdeal.defs (F := Ideal)) (onTc (τ := Cert.KernelMobaIdeal.τ) (Cert.KernelMobaIdeal.main (F := Ideal))) ⟨m, fun _ => 0, g⟩ (fun r => (∀ c : Dev Cert.KernelMobaIdeal.nD,
      r.2.mem ((c.tc : Thread Cert.KernelMobaIdeal.nD Cert.KernelMobaIdeal.τ).loc Cert.KernelMobaIdeal.main_arg0) = m ((c.tc : Thread Cert.KernelMobaIdeal.nD Cert.KernelMobaIdeal.τ).loc Cert.KernelMobaIdeal.main_arg0)
      ∧ r.2.mem ((c.tc : Thread Cert.KernelMobaIdeal.nD Cert.KernelMobaIdeal.τ).loc Cert.KernelMobaIdeal.main_arg1) = m ((c.tc : Thread Cert.KernelMobaIdeal.nD Cert.KernelMobaIdeal.τ).loc Cert.KernelMobaIdeal.main_arg1)
      ∧ r.2.mem ((c.tc : Thread Cert.KernelMobaIdeal.nD Cert.KernelMobaIdeal.τ).loc Cert.KernelMobaIdeal.main_arg2) = m ((c.tc : Thread Cert.KernelMobaIdeal.nD Cert.KernelMobaIdeal.τ).loc Cert.KernelMobaIdeal.main_arg2))
      ∧ r.2.sem = fun _ => 0)

def quiescent_KernelFfn21 [hKernelFfn21 : Cert.KernelFfn21.Facts] : Prop :=
  ∀ (m : (ℓ : Loc Cert.KernelFfn21.nD Cert.KernelFfn21.τ Cert.KernelFfn21.sig) → Buf (Elt Bits) ℓ) (g : Dev Cert.KernelFfn21.nD → PrngReg), Pre_KernelFfn21 m →
    θ_run (Cert.KernelFfn21.defs (F := Bits)) (onTc (τ := Cert.KernelFfn21.τ) (Cert.KernelFfn21.main (F := Bits))) ⟨m, fun _ => 0, g⟩ (fun r => (∀ c : Dev Cert.KernelFfn21.nD,
      r.2.mem ((c.tc : Thread Cert.KernelFfn21.nD Cert.KernelFfn21.τ).loc Cert.KernelFfn21.main_arg0) = m ((c.tc : Thread Cert.KernelFfn21.nD Cert.KernelFfn21.τ).loc Cert.KernelFfn21.main_arg0)
      ∧ r.2.mem ((c.tc : Thread Cert.KernelFfn21.nD Cert.KernelFfn21.τ).loc Cert.KernelFfn21.main_arg1) = m ((c.tc : Thread Cert.KernelFfn21.nD Cert.KernelFfn21.τ).loc Cert.KernelFfn21.main_arg1)
      ∧ r.2.mem ((c.tc : Thread Cert.KernelFfn21.nD Cert.KernelFfn21.τ).loc Cert.KernelFfn21.main_arg2) = m ((c.tc : Thread Cert.KernelFfn21.nD Cert.KernelFfn21.τ).loc Cert.KernelFfn21.main_arg2)
      ∧ r.2.mem ((c.tc : Thread Cert.KernelFfn21.nD Cert.KernelFfn21.τ).loc Cert.KernelFfn21.main_arg3) = m ((c.tc : Thread Cert.KernelFfn21.nD Cert.KernelFfn21.τ).loc Cert.KernelFfn21.main_arg3)
      ∧ r.2.mem ((c.tc : Thread Cert.KernelFfn21.nD Cert.KernelFfn21.τ).loc Cert.KernelFfn21.main_arg4) = m ((c.tc : Thread Cert.KernelFfn21.nD Cert.KernelFfn21.τ).loc Cert.KernelFfn21.main_arg4))
      ∧ r.2.sem = fun _ => 0)

def quiescent_KernelFfn21Ideal [hKernelFfn21Ideal : Cert.KernelFfn21Ideal.Facts] : Prop :=
  ∀ (m : (ℓ : Loc Cert.KernelFfn21Ideal.nD Cert.KernelFfn21Ideal.τ Cert.KernelFfn21Ideal.sig) → Buf (Elt Ideal) ℓ) (g : Dev Cert.KernelFfn21Ideal.nD → PrngReg), Pre_KernelFfn21Ideal m →
    θ_run (Cert.KernelFfn21Ideal.defs (F := Ideal)) (onTc (τ := Cert.KernelFfn21Ideal.τ) (Cert.KernelFfn21Ideal.main (F := Ideal))) ⟨m, fun _ => 0, g⟩ (fun r => (∀ c : Dev Cert.KernelFfn21Ideal.nD,
      r.2.mem ((c.tc : Thread Cert.KernelFfn21Ideal.nD Cert.KernelFfn21Ideal.τ).loc Cert.KernelFfn21Ideal.main_arg0) = m ((c.tc : Thread Cert.KernelFfn21Ideal.nD Cert.KernelFfn21Ideal.τ).loc Cert.KernelFfn21Ideal.main_arg0)
      ∧ r.2.mem ((c.tc : Thread Cert.KernelFfn21Ideal.nD Cert.KernelFfn21Ideal.τ).loc Cert.KernelFfn21Ideal.main_arg1) = m ((c.tc : Thread Cert.KernelFfn21Ideal.nD Cert.KernelFfn21Ideal.τ).loc Cert.KernelFfn21Ideal.main_arg1)
      ∧ r.2.mem ((c.tc : Thread Cert.KernelFfn21Ideal.nD Cert.KernelFfn21Ideal.τ).loc Cert.KernelFfn21Ideal.main_arg2) = m ((c.tc : Thread Cert.KernelFfn21Ideal.nD Cert.KernelFfn21Ideal.τ).loc Cert.KernelFfn21Ideal.main_arg2)
      ∧ r.2.mem ((c.tc : Thread Cert.KernelFfn21Ideal.nD Cert.KernelFfn21Ideal.τ).loc Cert.KernelFfn21Ideal.main_arg3) = m ((c.tc : Thread Cert.KernelFfn21Ideal.nD Cert.KernelFfn21Ideal.τ).loc Cert.KernelFfn21Ideal.main_arg3)
      ∧ r.2.mem ((c.tc : Thread Cert.KernelFfn21Ideal.nD Cert.KernelFfn21Ideal.τ).loc Cert.KernelFfn21Ideal.main_arg4) = m ((c.tc : Thread Cert.KernelFfn21Ideal.nD Cert.KernelFfn21Ideal.τ).loc Cert.KernelFfn21Ideal.main_arg4))
      ∧ r.2.sem = fun _ => 0)

def quiescent_ReferenceFfn21Ideal [hReferenceFfn21Ideal : Cert.ReferenceFfn21Ideal.Facts] : Prop :=
  ∀ (m : (ℓ : Loc Cert.ReferenceFfn21Ideal.nD Cert.ReferenceFfn21Ideal.τ Cert.ReferenceFfn21Ideal.sig) → Buf (Elt Ideal) ℓ) (g : Dev Cert.ReferenceFfn21Ideal.nD → PrngReg), Pre_ReferenceFfn21Ideal m →
    θ_run (Cert.ReferenceFfn21Ideal.defs (F := Ideal)) (onTc (τ := Cert.ReferenceFfn21Ideal.τ) (Cert.ReferenceFfn21Ideal.main (F := Ideal))) ⟨m, fun _ => 0, g⟩ (fun r => (∀ c : Dev Cert.ReferenceFfn21Ideal.nD,
      r.2.mem ((c.tc : Thread Cert.ReferenceFfn21Ideal.nD Cert.ReferenceFfn21Ideal.τ).loc Cert.ReferenceFfn21Ideal.main_arg0) = m ((c.tc : Thread Cert.ReferenceFfn21Ideal.nD Cert.ReferenceFfn21Ideal.τ).loc Cert.ReferenceFfn21Ideal.main_arg0)
      ∧ r.2.mem ((c.tc : Thread Cert.ReferenceFfn21Ideal.nD Cert.ReferenceFfn21Ideal.τ).loc Cert.ReferenceFfn21Ideal.main_arg1) = m ((c.tc : Thread Cert.ReferenceFfn21Ideal.nD Cert.ReferenceFfn21Ideal.τ).loc Cert.ReferenceFfn21Ideal.main_arg1)
      ∧ r.2.mem ((c.tc : Thread Cert.ReferenceFfn21Ideal.nD Cert.ReferenceFfn21Ideal.τ).loc Cert.ReferenceFfn21Ideal.main_arg2) = m ((c.tc : Thread Cert.ReferenceFfn21Ideal.nD Cert.ReferenceFfn21Ideal.τ).loc Cert.ReferenceFfn21Ideal.main_arg2)
      ∧ r.2.mem ((c.tc : Thread Cert.ReferenceFfn21Ideal.nD Cert.ReferenceFfn21Ideal.τ).loc Cert.ReferenceFfn21Ideal.main_arg3) = m ((c.tc : Thread Cert.ReferenceFfn21Ideal.nD Cert.ReferenceFfn21Ideal.τ).loc Cert.ReferenceFfn21Ideal.main_arg3)
      ∧ r.2.mem ((c.tc : Thread Cert.ReferenceFfn21Ideal.nD Cert.ReferenceFfn21Ideal.τ).loc Cert.ReferenceFfn21Ideal.main_arg4) = m ((c.tc : Thread Cert.ReferenceFfn21Ideal.nD Cert.ReferenceFfn21Ideal.τ).loc Cert.ReferenceFfn21Ideal.main_arg4))
      ∧ r.2.sem = fun _ => 0)

def quiescent_KernelFfn30 [hKernelFfn30 : Cert.KernelFfn30.Facts] : Prop :=
  ∀ (m : (ℓ : Loc Cert.KernelFfn30.nD Cert.KernelFfn30.τ Cert.KernelFfn30.sig) → Buf (Elt Bits) ℓ) (g : Dev Cert.KernelFfn30.nD → PrngReg), Pre_KernelFfn30 m →
    θ_run (Cert.KernelFfn30.defs (F := Bits)) (onTc (τ := Cert.KernelFfn30.τ) (Cert.KernelFfn30.main (F := Bits))) ⟨m, fun _ => 0, g⟩ (fun r => (∀ c : Dev Cert.KernelFfn30.nD,
      r.2.mem ((c.tc : Thread Cert.KernelFfn30.nD Cert.KernelFfn30.τ).loc Cert.KernelFfn30.main_arg0) = m ((c.tc : Thread Cert.KernelFfn30.nD Cert.KernelFfn30.τ).loc Cert.KernelFfn30.main_arg0)
      ∧ r.2.mem ((c.tc : Thread Cert.KernelFfn30.nD Cert.KernelFfn30.τ).loc Cert.KernelFfn30.main_arg1) = m ((c.tc : Thread Cert.KernelFfn30.nD Cert.KernelFfn30.τ).loc Cert.KernelFfn30.main_arg1)
      ∧ r.2.mem ((c.tc : Thread Cert.KernelFfn30.nD Cert.KernelFfn30.τ).loc Cert.KernelFfn30.main_arg2) = m ((c.tc : Thread Cert.KernelFfn30.nD Cert.KernelFfn30.τ).loc Cert.KernelFfn30.main_arg2)
      ∧ r.2.mem ((c.tc : Thread Cert.KernelFfn30.nD Cert.KernelFfn30.τ).loc Cert.KernelFfn30.main_arg3) = m ((c.tc : Thread Cert.KernelFfn30.nD Cert.KernelFfn30.τ).loc Cert.KernelFfn30.main_arg3)
      ∧ r.2.mem ((c.tc : Thread Cert.KernelFfn30.nD Cert.KernelFfn30.τ).loc Cert.KernelFfn30.main_arg4) = m ((c.tc : Thread Cert.KernelFfn30.nD Cert.KernelFfn30.τ).loc Cert.KernelFfn30.main_arg4))
      ∧ r.2.sem = fun _ => 0)

def quiescent_KernelFfn30Ideal [hKernelFfn30Ideal : Cert.KernelFfn30Ideal.Facts] : Prop :=
  ∀ (m : (ℓ : Loc Cert.KernelFfn30Ideal.nD Cert.KernelFfn30Ideal.τ Cert.KernelFfn30Ideal.sig) → Buf (Elt Ideal) ℓ) (g : Dev Cert.KernelFfn30Ideal.nD → PrngReg), Pre_KernelFfn30Ideal m →
    θ_run (Cert.KernelFfn30Ideal.defs (F := Ideal)) (onTc (τ := Cert.KernelFfn30Ideal.τ) (Cert.KernelFfn30Ideal.main (F := Ideal))) ⟨m, fun _ => 0, g⟩ (fun r => (∀ c : Dev Cert.KernelFfn30Ideal.nD,
      r.2.mem ((c.tc : Thread Cert.KernelFfn30Ideal.nD Cert.KernelFfn30Ideal.τ).loc Cert.KernelFfn30Ideal.main_arg0) = m ((c.tc : Thread Cert.KernelFfn30Ideal.nD Cert.KernelFfn30Ideal.τ).loc Cert.KernelFfn30Ideal.main_arg0)
      ∧ r.2.mem ((c.tc : Thread Cert.KernelFfn30Ideal.nD Cert.KernelFfn30Ideal.τ).loc Cert.KernelFfn30Ideal.main_arg1) = m ((c.tc : Thread Cert.KernelFfn30Ideal.nD Cert.KernelFfn30Ideal.τ).loc Cert.KernelFfn30Ideal.main_arg1)
      ∧ r.2.mem ((c.tc : Thread Cert.KernelFfn30Ideal.nD Cert.KernelFfn30Ideal.τ).loc Cert.KernelFfn30Ideal.main_arg2) = m ((c.tc : Thread Cert.KernelFfn30Ideal.nD Cert.KernelFfn30Ideal.τ).loc Cert.KernelFfn30Ideal.main_arg2)
      ∧ r.2.mem ((c.tc : Thread Cert.KernelFfn30Ideal.nD Cert.KernelFfn30Ideal.τ).loc Cert.KernelFfn30Ideal.main_arg3) = m ((c.tc : Thread Cert.KernelFfn30Ideal.nD Cert.KernelFfn30Ideal.τ).loc Cert.KernelFfn30Ideal.main_arg3)
      ∧ r.2.mem ((c.tc : Thread Cert.KernelFfn30Ideal.nD Cert.KernelFfn30Ideal.τ).loc Cert.KernelFfn30Ideal.main_arg4) = m ((c.tc : Thread Cert.KernelFfn30Ideal.nD Cert.KernelFfn30Ideal.τ).loc Cert.KernelFfn30Ideal.main_arg4))
      ∧ r.2.sem = fun _ => 0)

def quiescent_ReferenceFfn30Ideal [hReferenceFfn30Ideal : Cert.ReferenceFfn30Ideal.Facts] : Prop :=
  ∀ (m : (ℓ : Loc Cert.ReferenceFfn30Ideal.nD Cert.ReferenceFfn30Ideal.τ Cert.ReferenceFfn30Ideal.sig) → Buf (Elt Ideal) ℓ) (g : Dev Cert.ReferenceFfn30Ideal.nD → PrngReg), Pre_ReferenceFfn30Ideal m →
    θ_run (Cert.ReferenceFfn30Ideal.defs (F := Ideal)) (onTc (τ := Cert.ReferenceFfn30Ideal.τ) (Cert.ReferenceFfn30Ideal.main (F := Ideal))) ⟨m, fun _ => 0, g⟩ (fun r => (∀ c : Dev Cert.ReferenceFfn30Ideal.nD,
      r.2.mem ((c.tc : Thread Cert.ReferenceFfn30Ideal.nD Cert.ReferenceFfn30Ideal.τ).loc Cert.ReferenceFfn30Ideal.main_arg0) = m ((c.tc : Thread Cert.ReferenceFfn30Ideal.nD Cert.ReferenceFfn30Ideal.τ).loc Cert.ReferenceFfn30Ideal.main_arg0)
      ∧ r.2.mem ((c.tc : Thread Cert.ReferenceFfn30Ideal.nD Cert.ReferenceFfn30Ideal.τ).loc Cert.ReferenceFfn30Ideal.main_arg1) = m ((c.tc : Thread Cert.ReferenceFfn30Ideal.nD Cert.ReferenceFfn30Ideal.τ).loc Cert.ReferenceFfn30Ideal.main_arg1)
      ∧ r.2.mem ((c.tc : Thread Cert.ReferenceFfn30Ideal.nD Cert.ReferenceFfn30Ideal.τ).loc Cert.ReferenceFfn30Ideal.main_arg2) = m ((c.tc : Thread Cert.ReferenceFfn30Ideal.nD Cert.ReferenceFfn30Ideal.τ).loc Cert.ReferenceFfn30Ideal.main_arg2)
      ∧ r.2.mem ((c.tc : Thread Cert.ReferenceFfn30Ideal.nD Cert.ReferenceFfn30Ideal.τ).loc Cert.ReferenceFfn30Ideal.main_arg3) = m ((c.tc : Thread Cert.ReferenceFfn30Ideal.nD Cert.ReferenceFfn30Ideal.τ).loc Cert.ReferenceFfn30Ideal.main_arg3)
      ∧ r.2.mem ((c.tc : Thread Cert.ReferenceFfn30Ideal.nD Cert.ReferenceFfn30Ideal.τ).loc Cert.ReferenceFfn30Ideal.main_arg4) = m ((c.tc : Thread Cert.ReferenceFfn30Ideal.nD Cert.ReferenceFfn30Ideal.τ).loc Cert.ReferenceFfn30Ideal.main_arg4))
      ∧ r.2.sem = fun _ => 0)

def quiescent_KernelFfn20 [hKernelFfn20 : Cert.KernelFfn20.Facts] : Prop :=
  ∀ (m : (ℓ : Loc Cert.KernelFfn20.nD Cert.KernelFfn20.τ Cert.KernelFfn20.sig) → Buf (Elt Bits) ℓ) (g : Dev Cert.KernelFfn20.nD → PrngReg), Pre_KernelFfn20 m →
    θ_run (Cert.KernelFfn20.defs (F := Bits)) (onTc (τ := Cert.KernelFfn20.τ) (Cert.KernelFfn20.main (F := Bits))) ⟨m, fun _ => 0, g⟩ (fun r => (∀ c : Dev Cert.KernelFfn20.nD,
      r.2.mem ((c.tc : Thread Cert.KernelFfn20.nD Cert.KernelFfn20.τ).loc Cert.KernelFfn20.main_arg0) = m ((c.tc : Thread Cert.KernelFfn20.nD Cert.KernelFfn20.τ).loc Cert.KernelFfn20.main_arg0)
      ∧ r.2.mem ((c.tc : Thread Cert.KernelFfn20.nD Cert.KernelFfn20.τ).loc Cert.KernelFfn20.main_arg1) = m ((c.tc : Thread Cert.KernelFfn20.nD Cert.KernelFfn20.τ).loc Cert.KernelFfn20.main_arg1)
      ∧ r.2.mem ((c.tc : Thread Cert.KernelFfn20.nD Cert.KernelFfn20.τ).loc Cert.KernelFfn20.main_arg2) = m ((c.tc : Thread Cert.KernelFfn20.nD Cert.KernelFfn20.τ).loc Cert.KernelFfn20.main_arg2)
      ∧ r.2.mem ((c.tc : Thread Cert.KernelFfn20.nD Cert.KernelFfn20.τ).loc Cert.KernelFfn20.main_arg3) = m ((c.tc : Thread Cert.KernelFfn20.nD Cert.KernelFfn20.τ).loc Cert.KernelFfn20.main_arg3)
      ∧ r.2.mem ((c.tc : Thread Cert.KernelFfn20.nD Cert.KernelFfn20.τ).loc Cert.KernelFfn20.main_arg4) = m ((c.tc : Thread Cert.KernelFfn20.nD Cert.KernelFfn20.τ).loc Cert.KernelFfn20.main_arg4))
      ∧ r.2.sem = fun _ => 0)

def quiescent_KernelFfn20Ideal [hKernelFfn20Ideal : Cert.KernelFfn20Ideal.Facts] : Prop :=
  ∀ (m : (ℓ : Loc Cert.KernelFfn20Ideal.nD Cert.KernelFfn20Ideal.τ Cert.KernelFfn20Ideal.sig) → Buf (Elt Ideal) ℓ) (g : Dev Cert.KernelFfn20Ideal.nD → PrngReg), Pre_KernelFfn20Ideal m →
    θ_run (Cert.KernelFfn20Ideal.defs (F := Ideal)) (onTc (τ := Cert.KernelFfn20Ideal.τ) (Cert.KernelFfn20Ideal.main (F := Ideal))) ⟨m, fun _ => 0, g⟩ (fun r => (∀ c : Dev Cert.KernelFfn20Ideal.nD,
      r.2.mem ((c.tc : Thread Cert.KernelFfn20Ideal.nD Cert.KernelFfn20Ideal.τ).loc Cert.KernelFfn20Ideal.main_arg0) = m ((c.tc : Thread Cert.KernelFfn20Ideal.nD Cert.KernelFfn20Ideal.τ).loc Cert.KernelFfn20Ideal.main_arg0)
      ∧ r.2.mem ((c.tc : Thread Cert.KernelFfn20Ideal.nD Cert.KernelFfn20Ideal.τ).loc Cert.KernelFfn20Ideal.main_arg1) = m ((c.tc : Thread Cert.KernelFfn20Ideal.nD Cert.KernelFfn20Ideal.τ).loc Cert.KernelFfn20Ideal.main_arg1)
      ∧ r.2.mem ((c.tc : Thread Cert.KernelFfn20Ideal.nD Cert.KernelFfn20Ideal.τ).loc Cert.KernelFfn20Ideal.main_arg2) = m ((c.tc : Thread Cert.KernelFfn20Ideal.nD Cert.KernelFfn20Ideal.τ).loc Cert.KernelFfn20Ideal.main_arg2)
      ∧ r.2.mem ((c.tc : Thread Cert.KernelFfn20Ideal.nD Cert.KernelFfn20Ideal.τ).loc Cert.KernelFfn20Ideal.main_arg3) = m ((c.tc : Thread Cert.KernelFfn20Ideal.nD Cert.KernelFfn20Ideal.τ).loc Cert.KernelFfn20Ideal.main_arg3)
      ∧ r.2.mem ((c.tc : Thread Cert.KernelFfn20Ideal.nD Cert.KernelFfn20Ideal.τ).loc Cert.KernelFfn20Ideal.main_arg4) = m ((c.tc : Thread Cert.KernelFfn20Ideal.nD Cert.KernelFfn20Ideal.τ).loc Cert.KernelFfn20Ideal.main_arg4))
      ∧ r.2.sem = fun _ => 0)

def quiescent_ReferenceFfn20Ideal [hReferenceFfn20Ideal : Cert.ReferenceFfn20Ideal.Facts] : Prop :=
  ∀ (m : (ℓ : Loc Cert.ReferenceFfn20Ideal.nD Cert.ReferenceFfn20Ideal.τ Cert.ReferenceFfn20Ideal.sig) → Buf (Elt Ideal) ℓ) (g : Dev Cert.ReferenceFfn20Ideal.nD → PrngReg), Pre_ReferenceFfn20Ideal m →
    θ_run (Cert.ReferenceFfn20Ideal.defs (F := Ideal)) (onTc (τ := Cert.ReferenceFfn20Ideal.τ) (Cert.ReferenceFfn20Ideal.main (F := Ideal))) ⟨m, fun _ => 0, g⟩ (fun r => (∀ c : Dev Cert.ReferenceFfn20Ideal.nD,
      r.2.mem ((c.tc : Thread Cert.ReferenceFfn20Ideal.nD Cert.ReferenceFfn20Ideal.τ).loc Cert.ReferenceFfn20Ideal.main_arg0) = m ((c.tc : Thread Cert.ReferenceFfn20Ideal.nD Cert.ReferenceFfn20Ideal.τ).loc Cert.ReferenceFfn20Ideal.main_arg0)
      ∧ r.2.mem ((c.tc : Thread Cert.ReferenceFfn20Ideal.nD Cert.ReferenceFfn20Ideal.τ).loc Cert.ReferenceFfn20Ideal.main_arg1) = m ((c.tc : Thread Cert.ReferenceFfn20Ideal.nD Cert.ReferenceFfn20Ideal.τ).loc Cert.ReferenceFfn20Ideal.main_arg1)
      ∧ r.2.mem ((c.tc : Thread Cert.ReferenceFfn20Ideal.nD Cert.ReferenceFfn20Ideal.τ).loc Cert.ReferenceFfn20Ideal.main_arg2) = m ((c.tc : Thread Cert.ReferenceFfn20Ideal.nD Cert.ReferenceFfn20Ideal.τ).loc Cert.ReferenceFfn20Ideal.main_arg2)
      ∧ r.2.mem ((c.tc : Thread Cert.ReferenceFfn20Ideal.nD Cert.ReferenceFfn20Ideal.τ).loc Cert.ReferenceFfn20Ideal.main_arg3) = m ((c.tc : Thread Cert.ReferenceFfn20Ideal.nD Cert.ReferenceFfn20Ideal.τ).loc Cert.ReferenceFfn20Ideal.main_arg3)
      ∧ r.2.mem ((c.tc : Thread Cert.ReferenceFfn20Ideal.nD Cert.ReferenceFfn20Ideal.τ).loc Cert.ReferenceFfn20Ideal.main_arg4) = m ((c.tc : Thread Cert.ReferenceFfn20Ideal.nD Cert.ReferenceFfn20Ideal.τ).loc Cert.ReferenceFfn20Ideal.main_arg4))
      ∧ r.2.sem = fun _ => 0)

def quiescent_KernelFfn11 [hKernelFfn11 : Cert.KernelFfn11.Facts] : Prop :=
  ∀ (m : (ℓ : Loc Cert.KernelFfn11.nD Cert.KernelFfn11.τ Cert.KernelFfn11.sig) → Buf (Elt Bits) ℓ) (g : Dev Cert.KernelFfn11.nD → PrngReg), Pre_KernelFfn11 m →
    θ_run (Cert.KernelFfn11.defs (F := Bits)) (onTc (τ := Cert.KernelFfn11.τ) (Cert.KernelFfn11.main (F := Bits))) ⟨m, fun _ => 0, g⟩ (fun r => (∀ c : Dev Cert.KernelFfn11.nD,
      r.2.mem ((c.tc : Thread Cert.KernelFfn11.nD Cert.KernelFfn11.τ).loc Cert.KernelFfn11.main_arg0) = m ((c.tc : Thread Cert.KernelFfn11.nD Cert.KernelFfn11.τ).loc Cert.KernelFfn11.main_arg0)
      ∧ r.2.mem ((c.tc : Thread Cert.KernelFfn11.nD Cert.KernelFfn11.τ).loc Cert.KernelFfn11.main_arg1) = m ((c.tc : Thread Cert.KernelFfn11.nD Cert.KernelFfn11.τ).loc Cert.KernelFfn11.main_arg1)
      ∧ r.2.mem ((c.tc : Thread Cert.KernelFfn11.nD Cert.KernelFfn11.τ).loc Cert.KernelFfn11.main_arg2) = m ((c.tc : Thread Cert.KernelFfn11.nD Cert.KernelFfn11.τ).loc Cert.KernelFfn11.main_arg2)
      ∧ r.2.mem ((c.tc : Thread Cert.KernelFfn11.nD Cert.KernelFfn11.τ).loc Cert.KernelFfn11.main_arg3) = m ((c.tc : Thread Cert.KernelFfn11.nD Cert.KernelFfn11.τ).loc Cert.KernelFfn11.main_arg3)
      ∧ r.2.mem ((c.tc : Thread Cert.KernelFfn11.nD Cert.KernelFfn11.τ).loc Cert.KernelFfn11.main_arg4) = m ((c.tc : Thread Cert.KernelFfn11.nD Cert.KernelFfn11.τ).loc Cert.KernelFfn11.main_arg4))
      ∧ r.2.sem = fun _ => 0)

def quiescent_KernelFfn11Ideal [hKernelFfn11Ideal : Cert.KernelFfn11Ideal.Facts] : Prop :=
  ∀ (m : (ℓ : Loc Cert.KernelFfn11Ideal.nD Cert.KernelFfn11Ideal.τ Cert.KernelFfn11Ideal.sig) → Buf (Elt Ideal) ℓ) (g : Dev Cert.KernelFfn11Ideal.nD → PrngReg), Pre_KernelFfn11Ideal m →
    θ_run (Cert.KernelFfn11Ideal.defs (F := Ideal)) (onTc (τ := Cert.KernelFfn11Ideal.τ) (Cert.KernelFfn11Ideal.main (F := Ideal))) ⟨m, fun _ => 0, g⟩ (fun r => (∀ c : Dev Cert.KernelFfn11Ideal.nD,
      r.2.mem ((c.tc : Thread Cert.KernelFfn11Ideal.nD Cert.KernelFfn11Ideal.τ).loc Cert.KernelFfn11Ideal.main_arg0) = m ((c.tc : Thread Cert.KernelFfn11Ideal.nD Cert.KernelFfn11Ideal.τ).loc Cert.KernelFfn11Ideal.main_arg0)
      ∧ r.2.mem ((c.tc : Thread Cert.KernelFfn11Ideal.nD Cert.KernelFfn11Ideal.τ).loc Cert.KernelFfn11Ideal.main_arg1) = m ((c.tc : Thread Cert.KernelFfn11Ideal.nD Cert.KernelFfn11Ideal.τ).loc Cert.KernelFfn11Ideal.main_arg1)
      ∧ r.2.mem ((c.tc : Thread Cert.KernelFfn11Ideal.nD Cert.KernelFfn11Ideal.τ).loc Cert.KernelFfn11Ideal.main_arg2) = m ((c.tc : Thread Cert.KernelFfn11Ideal.nD Cert.KernelFfn11Ideal.τ).loc Cert.KernelFfn11Ideal.main_arg2)
      ∧ r.2.mem ((c.tc : Thread Cert.KernelFfn11Ideal.nD Cert.KernelFfn11Ideal.τ).loc Cert.KernelFfn11Ideal.main_arg3) = m ((c.tc : Thread Cert.KernelFfn11Ideal.nD Cert.KernelFfn11Ideal.τ).loc Cert.KernelFfn11Ideal.main_arg3)
      ∧ r.2.mem ((c.tc : Thread Cert.KernelFfn11Ideal.nD Cert.KernelFfn11Ideal.τ).loc Cert.KernelFfn11Ideal.main_arg4) = m ((c.tc : Thread Cert.KernelFfn11Ideal.nD Cert.KernelFfn11Ideal.τ).loc Cert.KernelFfn11Ideal.main_arg4))
      ∧ r.2.sem = fun _ => 0)

def quiescent_ReferenceFfn11Ideal [hReferenceFfn11Ideal : Cert.ReferenceFfn11Ideal.Facts] : Prop :=
  ∀ (m : (ℓ : Loc Cert.ReferenceFfn11Ideal.nD Cert.ReferenceFfn11Ideal.τ Cert.ReferenceFfn11Ideal.sig) → Buf (Elt Ideal) ℓ) (g : Dev Cert.ReferenceFfn11Ideal.nD → PrngReg), Pre_ReferenceFfn11Ideal m →
    θ_run (Cert.ReferenceFfn11Ideal.defs (F := Ideal)) (onTc (τ := Cert.ReferenceFfn11Ideal.τ) (Cert.ReferenceFfn11Ideal.main (F := Ideal))) ⟨m, fun _ => 0, g⟩ (fun r => (∀ c : Dev Cert.ReferenceFfn11Ideal.nD,
      r.2.mem ((c.tc : Thread Cert.ReferenceFfn11Ideal.nD Cert.ReferenceFfn11Ideal.τ).loc Cert.ReferenceFfn11Ideal.main_arg0) = m ((c.tc : Thread Cert.ReferenceFfn11Ideal.nD Cert.ReferenceFfn11Ideal.τ).loc Cert.ReferenceFfn11Ideal.main_arg0)
      ∧ r.2.mem ((c.tc : Thread Cert.ReferenceFfn11Ideal.nD Cert.ReferenceFfn11Ideal.τ).loc Cert.ReferenceFfn11Ideal.main_arg1) = m ((c.tc : Thread Cert.ReferenceFfn11Ideal.nD Cert.ReferenceFfn11Ideal.τ).loc Cert.ReferenceFfn11Ideal.main_arg1)
      ∧ r.2.mem ((c.tc : Thread Cert.ReferenceFfn11Ideal.nD Cert.ReferenceFfn11Ideal.τ).loc Cert.ReferenceFfn11Ideal.main_arg2) = m ((c.tc : Thread Cert.ReferenceFfn11Ideal.nD Cert.ReferenceFfn11Ideal.τ).loc Cert.ReferenceFfn11Ideal.main_arg2)
      ∧ r.2.mem ((c.tc : Thread Cert.ReferenceFfn11Ideal.nD Cert.ReferenceFfn11Ideal.τ).loc Cert.ReferenceFfn11Ideal.main_arg3) = m ((c.tc : Thread Cert.ReferenceFfn11Ideal.nD Cert.ReferenceFfn11Ideal.τ).loc Cert.ReferenceFfn11Ideal.main_arg3)
      ∧ r.2.mem ((c.tc : Thread Cert.ReferenceFfn11Ideal.nD Cert.ReferenceFfn11Ideal.τ).loc Cert.ReferenceFfn11Ideal.main_arg4) = m ((c.tc : Thread Cert.ReferenceFfn11Ideal.nD Cert.ReferenceFfn11Ideal.τ).loc Cert.ReferenceFfn11Ideal.main_arg4))
      ∧ r.2.sem = fun _ => 0)

def quiescent_KernelFfn10 [hKernelFfn10 : Cert.KernelFfn10.Facts] : Prop :=
  ∀ (m : (ℓ : Loc Cert.KernelFfn10.nD Cert.KernelFfn10.τ Cert.KernelFfn10.sig) → Buf (Elt Bits) ℓ) (g : Dev Cert.KernelFfn10.nD → PrngReg), Pre_KernelFfn10 m →
    θ_run (Cert.KernelFfn10.defs (F := Bits)) (onTc (τ := Cert.KernelFfn10.τ) (Cert.KernelFfn10.main (F := Bits))) ⟨m, fun _ => 0, g⟩ (fun r => (∀ c : Dev Cert.KernelFfn10.nD,
      r.2.mem ((c.tc : Thread Cert.KernelFfn10.nD Cert.KernelFfn10.τ).loc Cert.KernelFfn10.main_arg0) = m ((c.tc : Thread Cert.KernelFfn10.nD Cert.KernelFfn10.τ).loc Cert.KernelFfn10.main_arg0)
      ∧ r.2.mem ((c.tc : Thread Cert.KernelFfn10.nD Cert.KernelFfn10.τ).loc Cert.KernelFfn10.main_arg1) = m ((c.tc : Thread Cert.KernelFfn10.nD Cert.KernelFfn10.τ).loc Cert.KernelFfn10.main_arg1)
      ∧ r.2.mem ((c.tc : Thread Cert.KernelFfn10.nD Cert.KernelFfn10.τ).loc Cert.KernelFfn10.main_arg2) = m ((c.tc : Thread Cert.KernelFfn10.nD Cert.KernelFfn10.τ).loc Cert.KernelFfn10.main_arg2)
      ∧ r.2.mem ((c.tc : Thread Cert.KernelFfn10.nD Cert.KernelFfn10.τ).loc Cert.KernelFfn10.main_arg3) = m ((c.tc : Thread Cert.KernelFfn10.nD Cert.KernelFfn10.τ).loc Cert.KernelFfn10.main_arg3)
      ∧ r.2.mem ((c.tc : Thread Cert.KernelFfn10.nD Cert.KernelFfn10.τ).loc Cert.KernelFfn10.main_arg4) = m ((c.tc : Thread Cert.KernelFfn10.nD Cert.KernelFfn10.τ).loc Cert.KernelFfn10.main_arg4))
      ∧ r.2.sem = fun _ => 0)

def quiescent_KernelFfn10Ideal [hKernelFfn10Ideal : Cert.KernelFfn10Ideal.Facts] : Prop :=
  ∀ (m : (ℓ : Loc Cert.KernelFfn10Ideal.nD Cert.KernelFfn10Ideal.τ Cert.KernelFfn10Ideal.sig) → Buf (Elt Ideal) ℓ) (g : Dev Cert.KernelFfn10Ideal.nD → PrngReg), Pre_KernelFfn10Ideal m →
    θ_run (Cert.KernelFfn10Ideal.defs (F := Ideal)) (onTc (τ := Cert.KernelFfn10Ideal.τ) (Cert.KernelFfn10Ideal.main (F := Ideal))) ⟨m, fun _ => 0, g⟩ (fun r => (∀ c : Dev Cert.KernelFfn10Ideal.nD,
      r.2.mem ((c.tc : Thread Cert.KernelFfn10Ideal.nD Cert.KernelFfn10Ideal.τ).loc Cert.KernelFfn10Ideal.main_arg0) = m ((c.tc : Thread Cert.KernelFfn10Ideal.nD Cert.KernelFfn10Ideal.τ).loc Cert.KernelFfn10Ideal.main_arg0)
      ∧ r.2.mem ((c.tc : Thread Cert.KernelFfn10Ideal.nD Cert.KernelFfn10Ideal.τ).loc Cert.KernelFfn10Ideal.main_arg1) = m ((c.tc : Thread Cert.KernelFfn10Ideal.nD Cert.KernelFfn10Ideal.τ).loc Cert.KernelFfn10Ideal.main_arg1)
      ∧ r.2.mem ((c.tc : Thread Cert.KernelFfn10Ideal.nD Cert.KernelFfn10Ideal.τ).loc Cert.KernelFfn10Ideal.main_arg2) = m ((c.tc : Thread Cert.KernelFfn10Ideal.nD Cert.KernelFfn10Ideal.τ).loc Cert.KernelFfn10Ideal.main_arg2)
      ∧ r.2.mem ((c.tc : Thread Cert.KernelFfn10Ideal.nD Cert.KernelFfn10Ideal.τ).loc Cert.KernelFfn10Ideal.main_arg3) = m ((c.tc : Thread Cert.KernelFfn10Ideal.nD Cert.KernelFfn10Ideal.τ).loc Cert.KernelFfn10Ideal.main_arg3)
      ∧ r.2.mem ((c.tc : Thread Cert.KernelFfn10Ideal.nD Cert.KernelFfn10Ideal.τ).loc Cert.KernelFfn10Ideal.main_arg4) = m ((c.tc : Thread Cert.KernelFfn10Ideal.nD Cert.KernelFfn10Ideal.τ).loc Cert.KernelFfn10Ideal.main_arg4))
      ∧ r.2.sem = fun _ => 0)

def quiescent_ReferenceFfn10Ideal [hReferenceFfn10Ideal : Cert.ReferenceFfn10Ideal.Facts] : Prop :=
  ∀ (m : (ℓ : Loc Cert.ReferenceFfn10Ideal.nD Cert.ReferenceFfn10Ideal.τ Cert.ReferenceFfn10Ideal.sig) → Buf (Elt Ideal) ℓ) (g : Dev Cert.ReferenceFfn10Ideal.nD → PrngReg), Pre_ReferenceFfn10Ideal m →
    θ_run (Cert.ReferenceFfn10Ideal.defs (F := Ideal)) (onTc (τ := Cert.ReferenceFfn10Ideal.τ) (Cert.ReferenceFfn10Ideal.main (F := Ideal))) ⟨m, fun _ => 0, g⟩ (fun r => (∀ c : Dev Cert.ReferenceFfn10Ideal.nD,
      r.2.mem ((c.tc : Thread Cert.ReferenceFfn10Ideal.nD Cert.ReferenceFfn10Ideal.τ).loc Cert.ReferenceFfn10Ideal.main_arg0) = m ((c.tc : Thread Cert.ReferenceFfn10Ideal.nD Cert.ReferenceFfn10Ideal.τ).loc Cert.ReferenceFfn10Ideal.main_arg0)
      ∧ r.2.mem ((c.tc : Thread Cert.ReferenceFfn10Ideal.nD Cert.ReferenceFfn10Ideal.τ).loc Cert.ReferenceFfn10Ideal.main_arg1) = m ((c.tc : Thread Cert.ReferenceFfn10Ideal.nD Cert.ReferenceFfn10Ideal.τ).loc Cert.ReferenceFfn10Ideal.main_arg1)
      ∧ r.2.mem ((c.tc : Thread Cert.ReferenceFfn10Ideal.nD Cert.ReferenceFfn10Ideal.τ).loc Cert.ReferenceFfn10Ideal.main_arg2) = m ((c.tc : Thread Cert.ReferenceFfn10Ideal.nD Cert.ReferenceFfn10Ideal.τ).loc Cert.ReferenceFfn10Ideal.main_arg2)
      ∧ r.2.mem ((c.tc : Thread Cert.ReferenceFfn10Ideal.nD Cert.ReferenceFfn10Ideal.τ).loc Cert.ReferenceFfn10Ideal.main_arg3) = m ((c.tc : Thread Cert.ReferenceFfn10Ideal.nD Cert.ReferenceFfn10Ideal.τ).loc Cert.ReferenceFfn10Ideal.main_arg3)
      ∧ r.2.mem ((c.tc : Thread Cert.ReferenceFfn10Ideal.nD Cert.ReferenceFfn10Ideal.τ).loc Cert.ReferenceFfn10Ideal.main_arg4) = m ((c.tc : Thread Cert.ReferenceFfn10Ideal.nD Cert.ReferenceFfn10Ideal.τ).loc Cert.ReferenceFfn10Ideal.main_arg4))
      ∧ r.2.sem = fun _ => 0)

def quiescent_KernelFfn01 [hKernelFfn01 : Cert.KernelFfn01.Facts] : Prop :=
  ∀ (m : (ℓ : Loc Cert.KernelFfn01.nD Cert.KernelFfn01.τ Cert.KernelFfn01.sig) → Buf (Elt Bits) ℓ) (g : Dev Cert.KernelFfn01.nD → PrngReg), Pre_KernelFfn01 m →
    θ_run (Cert.KernelFfn01.defs (F := Bits)) (onTc (τ := Cert.KernelFfn01.τ) (Cert.KernelFfn01.main (F := Bits))) ⟨m, fun _ => 0, g⟩ (fun r => (∀ c : Dev Cert.KernelFfn01.nD,
      r.2.mem ((c.tc : Thread Cert.KernelFfn01.nD Cert.KernelFfn01.τ).loc Cert.KernelFfn01.main_arg0) = m ((c.tc : Thread Cert.KernelFfn01.nD Cert.KernelFfn01.τ).loc Cert.KernelFfn01.main_arg0)
      ∧ r.2.mem ((c.tc : Thread Cert.KernelFfn01.nD Cert.KernelFfn01.τ).loc Cert.KernelFfn01.main_arg1) = m ((c.tc : Thread Cert.KernelFfn01.nD Cert.KernelFfn01.τ).loc Cert.KernelFfn01.main_arg1)
      ∧ r.2.mem ((c.tc : Thread Cert.KernelFfn01.nD Cert.KernelFfn01.τ).loc Cert.KernelFfn01.main_arg2) = m ((c.tc : Thread Cert.KernelFfn01.nD Cert.KernelFfn01.τ).loc Cert.KernelFfn01.main_arg2)
      ∧ r.2.mem ((c.tc : Thread Cert.KernelFfn01.nD Cert.KernelFfn01.τ).loc Cert.KernelFfn01.main_arg3) = m ((c.tc : Thread Cert.KernelFfn01.nD Cert.KernelFfn01.τ).loc Cert.KernelFfn01.main_arg3)
      ∧ r.2.mem ((c.tc : Thread Cert.KernelFfn01.nD Cert.KernelFfn01.τ).loc Cert.KernelFfn01.main_arg4) = m ((c.tc : Thread Cert.KernelFfn01.nD Cert.KernelFfn01.τ).loc Cert.KernelFfn01.main_arg4))
      ∧ r.2.sem = fun _ => 0)

def quiescent_KernelFfn01Ideal [hKernelFfn01Ideal : Cert.KernelFfn01Ideal.Facts] : Prop :=
  ∀ (m : (ℓ : Loc Cert.KernelFfn01Ideal.nD Cert.KernelFfn01Ideal.τ Cert.KernelFfn01Ideal.sig) → Buf (Elt Ideal) ℓ) (g : Dev Cert.KernelFfn01Ideal.nD → PrngReg), Pre_KernelFfn01Ideal m →
    θ_run (Cert.KernelFfn01Ideal.defs (F := Ideal)) (onTc (τ := Cert.KernelFfn01Ideal.τ) (Cert.KernelFfn01Ideal.main (F := Ideal))) ⟨m, fun _ => 0, g⟩ (fun r => (∀ c : Dev Cert.KernelFfn01Ideal.nD,
      r.2.mem ((c.tc : Thread Cert.KernelFfn01Ideal.nD Cert.KernelFfn01Ideal.τ).loc Cert.KernelFfn01Ideal.main_arg0) = m ((c.tc : Thread Cert.KernelFfn01Ideal.nD Cert.KernelFfn01Ideal.τ).loc Cert.KernelFfn01Ideal.main_arg0)
      ∧ r.2.mem ((c.tc : Thread Cert.KernelFfn01Ideal.nD Cert.KernelFfn01Ideal.τ).loc Cert.KernelFfn01Ideal.main_arg1) = m ((c.tc : Thread Cert.KernelFfn01Ideal.nD Cert.KernelFfn01Ideal.τ).loc Cert.KernelFfn01Ideal.main_arg1)
      ∧ r.2.mem ((c.tc : Thread Cert.KernelFfn01Ideal.nD Cert.KernelFfn01Ideal.τ).loc Cert.KernelFfn01Ideal.main_arg2) = m ((c.tc : Thread Cert.KernelFfn01Ideal.nD Cert.KernelFfn01Ideal.τ).loc Cert.KernelFfn01Ideal.main_arg2)
      ∧ r.2.mem ((c.tc : Thread Cert.KernelFfn01Ideal.nD Cert.KernelFfn01Ideal.τ).loc Cert.KernelFfn01Ideal.main_arg3) = m ((c.tc : Thread Cert.KernelFfn01Ideal.nD Cert.KernelFfn01Ideal.τ).loc Cert.KernelFfn01Ideal.main_arg3)
      ∧ r.2.mem ((c.tc : Thread Cert.KernelFfn01Ideal.nD Cert.KernelFfn01Ideal.τ).loc Cert.KernelFfn01Ideal.main_arg4) = m ((c.tc : Thread Cert.KernelFfn01Ideal.nD Cert.KernelFfn01Ideal.τ).loc Cert.KernelFfn01Ideal.main_arg4))
      ∧ r.2.sem = fun _ => 0)

def quiescent_ReferenceFfn01Ideal [hReferenceFfn01Ideal : Cert.ReferenceFfn01Ideal.Facts] : Prop :=
  ∀ (m : (ℓ : Loc Cert.ReferenceFfn01Ideal.nD Cert.ReferenceFfn01Ideal.τ Cert.ReferenceFfn01Ideal.sig) → Buf (Elt Ideal) ℓ) (g : Dev Cert.ReferenceFfn01Ideal.nD → PrngReg), Pre_ReferenceFfn01Ideal m →
    θ_run (Cert.ReferenceFfn01Ideal.defs (F := Ideal)) (onTc (τ := Cert.ReferenceFfn01Ideal.τ) (Cert.ReferenceFfn01Ideal.main (F := Ideal))) ⟨m, fun _ => 0, g⟩ (fun r => (∀ c : Dev Cert.ReferenceFfn01Ideal.nD,
      r.2.mem ((c.tc : Thread Cert.ReferenceFfn01Ideal.nD Cert.ReferenceFfn01Ideal.τ).loc Cert.ReferenceFfn01Ideal.main_arg0) = m ((c.tc : Thread Cert.ReferenceFfn01Ideal.nD Cert.ReferenceFfn01Ideal.τ).loc Cert.ReferenceFfn01Ideal.main_arg0)
      ∧ r.2.mem ((c.tc : Thread Cert.ReferenceFfn01Ideal.nD Cert.ReferenceFfn01Ideal.τ).loc Cert.ReferenceFfn01Ideal.main_arg1) = m ((c.tc : Thread Cert.ReferenceFfn01Ideal.nD Cert.ReferenceFfn01Ideal.τ).loc Cert.ReferenceFfn01Ideal.main_arg1)
      ∧ r.2.mem ((c.tc : Thread Cert.ReferenceFfn01Ideal.nD Cert.ReferenceFfn01Ideal.τ).loc Cert.ReferenceFfn01Ideal.main_arg2) = m ((c.tc : Thread Cert.ReferenceFfn01Ideal.nD Cert.ReferenceFfn01Ideal.τ).loc Cert.ReferenceFfn01Ideal.main_arg2)
      ∧ r.2.mem ((c.tc : Thread Cert.ReferenceFfn01Ideal.nD Cert.ReferenceFfn01Ideal.τ).loc Cert.ReferenceFfn01Ideal.main_arg3) = m ((c.tc : Thread Cert.ReferenceFfn01Ideal.nD Cert.ReferenceFfn01Ideal.τ).loc Cert.ReferenceFfn01Ideal.main_arg3)
      ∧ r.2.mem ((c.tc : Thread Cert.ReferenceFfn01Ideal.nD Cert.ReferenceFfn01Ideal.τ).loc Cert.ReferenceFfn01Ideal.main_arg4) = m ((c.tc : Thread Cert.ReferenceFfn01Ideal.nD Cert.ReferenceFfn01Ideal.τ).loc Cert.ReferenceFfn01Ideal.main_arg4))
      ∧ r.2.sem = fun _ => 0)

def quiescent_KernelFfn00 [hKernelFfn00 : Cert.KernelFfn00.Facts] : Prop :=
  ∀ (m : (ℓ : Loc Cert.KernelFfn00.nD Cert.KernelFfn00.τ Cert.KernelFfn00.sig) → Buf (Elt Bits) ℓ) (g : Dev Cert.KernelFfn00.nD → PrngReg), Pre_KernelFfn00 m →
    θ_run (Cert.KernelFfn00.defs (F := Bits)) (onTc (τ := Cert.KernelFfn00.τ) (Cert.KernelFfn00.main (F := Bits))) ⟨m, fun _ => 0, g⟩ (fun r => (∀ c : Dev Cert.KernelFfn00.nD,
      r.2.mem ((c.tc : Thread Cert.KernelFfn00.nD Cert.KernelFfn00.τ).loc Cert.KernelFfn00.main_arg0) = m ((c.tc : Thread Cert.KernelFfn00.nD Cert.KernelFfn00.τ).loc Cert.KernelFfn00.main_arg0)
      ∧ r.2.mem ((c.tc : Thread Cert.KernelFfn00.nD Cert.KernelFfn00.τ).loc Cert.KernelFfn00.main_arg1) = m ((c.tc : Thread Cert.KernelFfn00.nD Cert.KernelFfn00.τ).loc Cert.KernelFfn00.main_arg1)
      ∧ r.2.mem ((c.tc : Thread Cert.KernelFfn00.nD Cert.KernelFfn00.τ).loc Cert.KernelFfn00.main_arg2) = m ((c.tc : Thread Cert.KernelFfn00.nD Cert.KernelFfn00.τ).loc Cert.KernelFfn00.main_arg2)
      ∧ r.2.mem ((c.tc : Thread Cert.KernelFfn00.nD Cert.KernelFfn00.τ).loc Cert.KernelFfn00.main_arg3) = m ((c.tc : Thread Cert.KernelFfn00.nD Cert.KernelFfn00.τ).loc Cert.KernelFfn00.main_arg3)
      ∧ r.2.mem ((c.tc : Thread Cert.KernelFfn00.nD Cert.KernelFfn00.τ).loc Cert.KernelFfn00.main_arg4) = m ((c.tc : Thread Cert.KernelFfn00.nD Cert.KernelFfn00.τ).loc Cert.KernelFfn00.main_arg4))
      ∧ r.2.sem = fun _ => 0)

def quiescent_KernelFfn00Ideal [hKernelFfn00Ideal : Cert.KernelFfn00Ideal.Facts] : Prop :=
  ∀ (m : (ℓ : Loc Cert.KernelFfn00Ideal.nD Cert.KernelFfn00Ideal.τ Cert.KernelFfn00Ideal.sig) → Buf (Elt Ideal) ℓ) (g : Dev Cert.KernelFfn00Ideal.nD → PrngReg), Pre_KernelFfn00Ideal m →
    θ_run (Cert.KernelFfn00Ideal.defs (F := Ideal)) (onTc (τ := Cert.KernelFfn00Ideal.τ) (Cert.KernelFfn00Ideal.main (F := Ideal))) ⟨m, fun _ => 0, g⟩ (fun r => (∀ c : Dev Cert.KernelFfn00Ideal.nD,
      r.2.mem ((c.tc : Thread Cert.KernelFfn00Ideal.nD Cert.KernelFfn00Ideal.τ).loc Cert.KernelFfn00Ideal.main_arg0) = m ((c.tc : Thread Cert.KernelFfn00Ideal.nD Cert.KernelFfn00Ideal.τ).loc Cert.KernelFfn00Ideal.main_arg0)
      ∧ r.2.mem ((c.tc : Thread Cert.KernelFfn00Ideal.nD Cert.KernelFfn00Ideal.τ).loc Cert.KernelFfn00Ideal.main_arg1) = m ((c.tc : Thread Cert.KernelFfn00Ideal.nD Cert.KernelFfn00Ideal.τ).loc Cert.KernelFfn00Ideal.main_arg1)
      ∧ r.2.mem ((c.tc : Thread Cert.KernelFfn00Ideal.nD Cert.KernelFfn00Ideal.τ).loc Cert.KernelFfn00Ideal.main_arg2) = m ((c.tc : Thread Cert.KernelFfn00Ideal.nD Cert.KernelFfn00Ideal.τ).loc Cert.KernelFfn00Ideal.main_arg2)
      ∧ r.2.mem ((c.tc : Thread Cert.KernelFfn00Ideal.nD Cert.KernelFfn00Ideal.τ).loc Cert.KernelFfn00Ideal.main_arg3) = m ((c.tc : Thread Cert.KernelFfn00Ideal.nD Cert.KernelFfn00Ideal.τ).loc Cert.KernelFfn00Ideal.main_arg3)
      ∧ r.2.mem ((c.tc : Thread Cert.KernelFfn00Ideal.nD Cert.KernelFfn00Ideal.τ).loc Cert.KernelFfn00Ideal.main_arg4) = m ((c.tc : Thread Cert.KernelFfn00Ideal.nD Cert.KernelFfn00Ideal.τ).loc Cert.KernelFfn00Ideal.main_arg4))
      ∧ r.2.sem = fun _ => 0)

def quiescent_ReferenceFfn00Ideal [hReferenceFfn00Ideal : Cert.ReferenceFfn00Ideal.Facts] : Prop :=
  ∀ (m : (ℓ : Loc Cert.ReferenceFfn00Ideal.nD Cert.ReferenceFfn00Ideal.τ Cert.ReferenceFfn00Ideal.sig) → Buf (Elt Ideal) ℓ) (g : Dev Cert.ReferenceFfn00Ideal.nD → PrngReg), Pre_ReferenceFfn00Ideal m →
    θ_run (Cert.ReferenceFfn00Ideal.defs (F := Ideal)) (onTc (τ := Cert.ReferenceFfn00Ideal.τ) (Cert.ReferenceFfn00Ideal.main (F := Ideal))) ⟨m, fun _ => 0, g⟩ (fun r => (∀ c : Dev Cert.ReferenceFfn00Ideal.nD,
      r.2.mem ((c.tc : Thread Cert.ReferenceFfn00Ideal.nD Cert.ReferenceFfn00Ideal.τ).loc Cert.ReferenceFfn00Ideal.main_arg0) = m ((c.tc : Thread Cert.ReferenceFfn00Ideal.nD Cert.ReferenceFfn00Ideal.τ).loc Cert.ReferenceFfn00Ideal.main_arg0)
      ∧ r.2.mem ((c.tc : Thread Cert.ReferenceFfn00Ideal.nD Cert.ReferenceFfn00Ideal.τ).loc Cert.ReferenceFfn00Ideal.main_arg1) = m ((c.tc : Thread Cert.ReferenceFfn00Ideal.nD Cert.ReferenceFfn00Ideal.τ).loc Cert.ReferenceFfn00Ideal.main_arg1)
      ∧ r.2.mem ((c.tc : Thread Cert.ReferenceFfn00Ideal.nD Cert.ReferenceFfn00Ideal.τ).loc Cert.ReferenceFfn00Ideal.main_arg2) = m ((c.tc : Thread Cert.ReferenceFfn00Ideal.nD Cert.ReferenceFfn00Ideal.τ).loc Cert.ReferenceFfn00Ideal.main_arg2)
      ∧ r.2.mem ((c.tc : Thread Cert.ReferenceFfn00Ideal.nD Cert.ReferenceFfn00Ideal.τ).loc Cert.ReferenceFfn00Ideal.main_arg3) = m ((c.tc : Thread Cert.ReferenceFfn00Ideal.nD Cert.ReferenceFfn00Ideal.τ).loc Cert.ReferenceFfn00Ideal.main_arg3)
      ∧ r.2.mem ((c.tc : Thread Cert.ReferenceFfn00Ideal.nD Cert.ReferenceFfn00Ideal.τ).loc Cert.ReferenceFfn00Ideal.main_arg4) = m ((c.tc : Thread Cert.ReferenceFfn00Ideal.nD Cert.ReferenceFfn00Ideal.τ).loc Cert.ReferenceFfn00Ideal.main_arg4))
      ∧ r.2.sem = fun _ => 0)

def quiescent_KernelConv2 [hKernelConv2 : Cert.KernelConv2.Facts] : Prop :=
  ∀ (m : (ℓ : Loc Cert.KernelConv2.nD Cert.KernelConv2.τ Cert.KernelConv2.sig) → Buf (Elt Bits) ℓ) (g : Dev Cert.KernelConv2.nD → PrngReg), Pre_KernelConv2 m →
    θ_run (Cert.KernelConv2.defs (F := Bits)) (onTc (τ := Cert.KernelConv2.τ) (Cert.KernelConv2.main (F := Bits))) ⟨m, fun _ => 0, g⟩ (fun r => (∀ c : Dev Cert.KernelConv2.nD,
      r.2.mem ((c.tc : Thread Cert.KernelConv2.nD Cert.KernelConv2.τ).loc Cert.KernelConv2.main_arg0) = m ((c.tc : Thread Cert.KernelConv2.nD Cert.KernelConv2.τ).loc Cert.KernelConv2.main_arg0)
      ∧ r.2.mem ((c.tc : Thread Cert.KernelConv2.nD Cert.KernelConv2.τ).loc Cert.KernelConv2.main_arg1) = m ((c.tc : Thread Cert.KernelConv2.nD Cert.KernelConv2.τ).loc Cert.KernelConv2.main_arg1)
      ∧ r.2.mem ((c.tc : Thread Cert.KernelConv2.nD Cert.KernelConv2.τ).loc Cert.KernelConv2.main_arg2) = m ((c.tc : Thread Cert.KernelConv2.nD Cert.KernelConv2.τ).loc Cert.KernelConv2.main_arg2)
      ∧ r.2.mem ((c.tc : Thread Cert.KernelConv2.nD Cert.KernelConv2.τ).loc Cert.KernelConv2.main_arg3) = m ((c.tc : Thread Cert.KernelConv2.nD Cert.KernelConv2.τ).loc Cert.KernelConv2.main_arg3)
      ∧ r.2.mem ((c.tc : Thread Cert.KernelConv2.nD Cert.KernelConv2.τ).loc Cert.KernelConv2.main_arg4) = m ((c.tc : Thread Cert.KernelConv2.nD Cert.KernelConv2.τ).loc Cert.KernelConv2.main_arg4)
      ∧ r.2.mem ((c.tc : Thread Cert.KernelConv2.nD Cert.KernelConv2.τ).loc Cert.KernelConv2.main_arg5) = m ((c.tc : Thread Cert.KernelConv2.nD Cert.KernelConv2.τ).loc Cert.KernelConv2.main_arg5)
      ∧ r.2.mem ((c.tc : Thread Cert.KernelConv2.nD Cert.KernelConv2.τ).loc Cert.KernelConv2.main_arg6) = m ((c.tc : Thread Cert.KernelConv2.nD Cert.KernelConv2.τ).loc Cert.KernelConv2.main_arg6)
      ∧ r.2.mem ((c.tc : Thread Cert.KernelConv2.nD Cert.KernelConv2.τ).loc Cert.KernelConv2.main_arg7) = m ((c.tc : Thread Cert.KernelConv2.nD Cert.KernelConv2.τ).loc Cert.KernelConv2.main_arg7)
      ∧ r.2.mem ((c.tc : Thread Cert.KernelConv2.nD Cert.KernelConv2.τ).loc Cert.KernelConv2.main_arg8) = m ((c.tc : Thread Cert.KernelConv2.nD Cert.KernelConv2.τ).loc Cert.KernelConv2.main_arg8))
      ∧ r.2.sem = fun _ => 0)

def quiescent_KernelConv2Ideal [hKernelConv2Ideal : Cert.KernelConv2Ideal.Facts] : Prop :=
  ∀ (m : (ℓ : Loc Cert.KernelConv2Ideal.nD Cert.KernelConv2Ideal.τ Cert.KernelConv2Ideal.sig) → Buf (Elt Ideal) ℓ) (g : Dev Cert.KernelConv2Ideal.nD → PrngReg), Pre_KernelConv2Ideal m →
    θ_run (Cert.KernelConv2Ideal.defs (F := Ideal)) (onTc (τ := Cert.KernelConv2Ideal.τ) (Cert.KernelConv2Ideal.main (F := Ideal))) ⟨m, fun _ => 0, g⟩ (fun r => (∀ c : Dev Cert.KernelConv2Ideal.nD,
      r.2.mem ((c.tc : Thread Cert.KernelConv2Ideal.nD Cert.KernelConv2Ideal.τ).loc Cert.KernelConv2Ideal.main_arg0) = m ((c.tc : Thread Cert.KernelConv2Ideal.nD Cert.KernelConv2Ideal.τ).loc Cert.KernelConv2Ideal.main_arg0)
      ∧ r.2.mem ((c.tc : Thread Cert.KernelConv2Ideal.nD Cert.KernelConv2Ideal.τ).loc Cert.KernelConv2Ideal.main_arg1) = m ((c.tc : Thread Cert.KernelConv2Ideal.nD Cert.KernelConv2Ideal.τ).loc Cert.KernelConv2Ideal.main_arg1)
      ∧ r.2.mem ((c.tc : Thread Cert.KernelConv2Ideal.nD Cert.KernelConv2Ideal.τ).loc Cert.KernelConv2Ideal.main_arg2) = m ((c.tc : Thread Cert.KernelConv2Ideal.nD Cert.KernelConv2Ideal.τ).loc Cert.KernelConv2Ideal.main_arg2)
      ∧ r.2.mem ((c.tc : Thread Cert.KernelConv2Ideal.nD Cert.KernelConv2Ideal.τ).loc Cert.KernelConv2Ideal.main_arg3) = m ((c.tc : Thread Cert.KernelConv2Ideal.nD Cert.KernelConv2Ideal.τ).loc Cert.KernelConv2Ideal.main_arg3)
      ∧ r.2.mem ((c.tc : Thread Cert.KernelConv2Ideal.nD Cert.KernelConv2Ideal.τ).loc Cert.KernelConv2Ideal.main_arg4) = m ((c.tc : Thread Cert.KernelConv2Ideal.nD Cert.KernelConv2Ideal.τ).loc Cert.KernelConv2Ideal.main_arg4)
      ∧ r.2.mem ((c.tc : Thread Cert.KernelConv2Ideal.nD Cert.KernelConv2Ideal.τ).loc Cert.KernelConv2Ideal.main_arg5) = m ((c.tc : Thread Cert.KernelConv2Ideal.nD Cert.KernelConv2Ideal.τ).loc Cert.KernelConv2Ideal.main_arg5)
      ∧ r.2.mem ((c.tc : Thread Cert.KernelConv2Ideal.nD Cert.KernelConv2Ideal.τ).loc Cert.KernelConv2Ideal.main_arg6) = m ((c.tc : Thread Cert.KernelConv2Ideal.nD Cert.KernelConv2Ideal.τ).loc Cert.KernelConv2Ideal.main_arg6)
      ∧ r.2.mem ((c.tc : Thread Cert.KernelConv2Ideal.nD Cert.KernelConv2Ideal.τ).loc Cert.KernelConv2Ideal.main_arg7) = m ((c.tc : Thread Cert.KernelConv2Ideal.nD Cert.KernelConv2Ideal.τ).loc Cert.KernelConv2Ideal.main_arg7)
      ∧ r.2.mem ((c.tc : Thread Cert.KernelConv2Ideal.nD Cert.KernelConv2Ideal.τ).loc Cert.KernelConv2Ideal.main_arg8) = m ((c.tc : Thread Cert.KernelConv2Ideal.nD Cert.KernelConv2Ideal.τ).loc Cert.KernelConv2Ideal.main_arg8))
      ∧ r.2.sem = fun _ => 0)

def quiescent_ReferenceConv2Ideal [hReferenceConv2Ideal : Cert.ReferenceConv2Ideal.Facts] : Prop :=
  ∀ (m : (ℓ : Loc Cert.ReferenceConv2Ideal.nD Cert.ReferenceConv2Ideal.τ Cert.ReferenceConv2Ideal.sig) → Buf (Elt Ideal) ℓ) (g : Dev Cert.ReferenceConv2Ideal.nD → PrngReg), Pre_ReferenceConv2Ideal m →
    θ_run (Cert.ReferenceConv2Ideal.defs (F := Ideal)) (onTc (τ := Cert.ReferenceConv2Ideal.τ) (Cert.ReferenceConv2Ideal.main (F := Ideal))) ⟨m, fun _ => 0, g⟩ (fun r => (∀ c : Dev Cert.ReferenceConv2Ideal.nD,
      r.2.mem ((c.tc : Thread Cert.ReferenceConv2Ideal.nD Cert.ReferenceConv2Ideal.τ).loc Cert.ReferenceConv2Ideal.main_arg0) = m ((c.tc : Thread Cert.ReferenceConv2Ideal.nD Cert.ReferenceConv2Ideal.τ).loc Cert.ReferenceConv2Ideal.main_arg0)
      ∧ r.2.mem ((c.tc : Thread Cert.ReferenceConv2Ideal.nD Cert.ReferenceConv2Ideal.τ).loc Cert.ReferenceConv2Ideal.main_arg1) = m ((c.tc : Thread Cert.ReferenceConv2Ideal.nD Cert.ReferenceConv2Ideal.τ).loc Cert.ReferenceConv2Ideal.main_arg1)
      ∧ r.2.mem ((c.tc : Thread Cert.ReferenceConv2Ideal.nD Cert.ReferenceConv2Ideal.τ).loc Cert.ReferenceConv2Ideal.main_arg2) = m ((c.tc : Thread Cert.ReferenceConv2Ideal.nD Cert.ReferenceConv2Ideal.τ).loc Cert.ReferenceConv2Ideal.main_arg2)
      ∧ r.2.mem ((c.tc : Thread Cert.ReferenceConv2Ideal.nD Cert.ReferenceConv2Ideal.τ).loc Cert.ReferenceConv2Ideal.main_arg3) = m ((c.tc : Thread Cert.ReferenceConv2Ideal.nD Cert.ReferenceConv2Ideal.τ).loc Cert.ReferenceConv2Ideal.main_arg3)
      ∧ r.2.mem ((c.tc : Thread Cert.ReferenceConv2Ideal.nD Cert.ReferenceConv2Ideal.τ).loc Cert.ReferenceConv2Ideal.main_arg4) = m ((c.tc : Thread Cert.ReferenceConv2Ideal.nD Cert.ReferenceConv2Ideal.τ).loc Cert.ReferenceConv2Ideal.main_arg4)
      ∧ r.2.mem ((c.tc : Thread Cert.ReferenceConv2Ideal.nD Cert.ReferenceConv2Ideal.τ).loc Cert.ReferenceConv2Ideal.main_arg5) = m ((c.tc : Thread Cert.ReferenceConv2Ideal.nD Cert.ReferenceConv2Ideal.τ).loc Cert.ReferenceConv2Ideal.main_arg5)
      ∧ r.2.mem ((c.tc : Thread Cert.ReferenceConv2Ideal.nD Cert.ReferenceConv2Ideal.τ).loc Cert.ReferenceConv2Ideal.main_arg6) = m ((c.tc : Thread Cert.ReferenceConv2Ideal.nD Cert.ReferenceConv2Ideal.τ).loc Cert.ReferenceConv2Ideal.main_arg6)
      ∧ r.2.mem ((c.tc : Thread Cert.ReferenceConv2Ideal.nD Cert.ReferenceConv2Ideal.τ).loc Cert.ReferenceConv2Ideal.main_arg7) = m ((c.tc : Thread Cert.ReferenceConv2Ideal.nD Cert.ReferenceConv2Ideal.τ).loc Cert.ReferenceConv2Ideal.main_arg7)
      ∧ r.2.mem ((c.tc : Thread Cert.ReferenceConv2Ideal.nD Cert.ReferenceConv2Ideal.τ).loc Cert.ReferenceConv2Ideal.main_arg8) = m ((c.tc : Thread Cert.ReferenceConv2Ideal.nD Cert.ReferenceConv2Ideal.τ).loc Cert.ReferenceConv2Ideal.main_arg8))
      ∧ r.2.sem = fun _ => 0)

def quiescent_KernelSgu3 [hKernelSgu3 : Cert.KernelSgu3.Facts] : Prop :=
  ∀ (m : (ℓ : Loc Cert.KernelSgu3.nD Cert.KernelSgu3.τ Cert.KernelSgu3.sig) → Buf (Elt Bits) ℓ) (g : Dev Cert.KernelSgu3.nD → PrngReg), Pre_KernelSgu3 m →
    θ_run (Cert.KernelSgu3.defs (F := Bits)) (onTc (τ := Cert.KernelSgu3.τ) (Cert.KernelSgu3.main (F := Bits))) ⟨m, fun _ => 0, g⟩ (fun r => (∀ c : Dev Cert.KernelSgu3.nD,
      r.2.mem ((c.tc : Thread Cert.KernelSgu3.nD Cert.KernelSgu3.τ).loc Cert.KernelSgu3.main_arg0) = m ((c.tc : Thread Cert.KernelSgu3.nD Cert.KernelSgu3.τ).loc Cert.KernelSgu3.main_arg0)
      ∧ r.2.mem ((c.tc : Thread Cert.KernelSgu3.nD Cert.KernelSgu3.τ).loc Cert.KernelSgu3.main_arg1) = m ((c.tc : Thread Cert.KernelSgu3.nD Cert.KernelSgu3.τ).loc Cert.KernelSgu3.main_arg1)
      ∧ r.2.mem ((c.tc : Thread Cert.KernelSgu3.nD Cert.KernelSgu3.τ).loc Cert.KernelSgu3.main_arg2) = m ((c.tc : Thread Cert.KernelSgu3.nD Cert.KernelSgu3.τ).loc Cert.KernelSgu3.main_arg2)
      ∧ r.2.mem ((c.tc : Thread Cert.KernelSgu3.nD Cert.KernelSgu3.τ).loc Cert.KernelSgu3.main_arg3) = m ((c.tc : Thread Cert.KernelSgu3.nD Cert.KernelSgu3.τ).loc Cert.KernelSgu3.main_arg3)
      ∧ r.2.mem ((c.tc : Thread Cert.KernelSgu3.nD Cert.KernelSgu3.τ).loc Cert.KernelSgu3.main_arg4) = m ((c.tc : Thread Cert.KernelSgu3.nD Cert.KernelSgu3.τ).loc Cert.KernelSgu3.main_arg4)
      ∧ r.2.mem ((c.tc : Thread Cert.KernelSgu3.nD Cert.KernelSgu3.τ).loc Cert.KernelSgu3.main_arg5) = m ((c.tc : Thread Cert.KernelSgu3.nD Cert.KernelSgu3.τ).loc Cert.KernelSgu3.main_arg5)
      ∧ r.2.mem ((c.tc : Thread Cert.KernelSgu3.nD Cert.KernelSgu3.τ).loc Cert.KernelSgu3.main_arg6) = m ((c.tc : Thread Cert.KernelSgu3.nD Cert.KernelSgu3.τ).loc Cert.KernelSgu3.main_arg6)
      ∧ r.2.mem ((c.tc : Thread Cert.KernelSgu3.nD Cert.KernelSgu3.τ).loc Cert.KernelSgu3.main_arg7) = m ((c.tc : Thread Cert.KernelSgu3.nD Cert.KernelSgu3.τ).loc Cert.KernelSgu3.main_arg7))
      ∧ r.2.sem = fun _ => 0)

def quiescent_KernelSgu3Ideal [hKernelSgu3Ideal : Cert.KernelSgu3Ideal.Facts] : Prop :=
  ∀ (m : (ℓ : Loc Cert.KernelSgu3Ideal.nD Cert.KernelSgu3Ideal.τ Cert.KernelSgu3Ideal.sig) → Buf (Elt Ideal) ℓ) (g : Dev Cert.KernelSgu3Ideal.nD → PrngReg), Pre_KernelSgu3Ideal m →
    θ_run (Cert.KernelSgu3Ideal.defs (F := Ideal)) (onTc (τ := Cert.KernelSgu3Ideal.τ) (Cert.KernelSgu3Ideal.main (F := Ideal))) ⟨m, fun _ => 0, g⟩ (fun r => (∀ c : Dev Cert.KernelSgu3Ideal.nD,
      r.2.mem ((c.tc : Thread Cert.KernelSgu3Ideal.nD Cert.KernelSgu3Ideal.τ).loc Cert.KernelSgu3Ideal.main_arg0) = m ((c.tc : Thread Cert.KernelSgu3Ideal.nD Cert.KernelSgu3Ideal.τ).loc Cert.KernelSgu3Ideal.main_arg0)
      ∧ r.2.mem ((c.tc : Thread Cert.KernelSgu3Ideal.nD Cert.KernelSgu3Ideal.τ).loc Cert.KernelSgu3Ideal.main_arg1) = m ((c.tc : Thread Cert.KernelSgu3Ideal.nD Cert.KernelSgu3Ideal.τ).loc Cert.KernelSgu3Ideal.main_arg1)
      ∧ r.2.mem ((c.tc : Thread Cert.KernelSgu3Ideal.nD Cert.KernelSgu3Ideal.τ).loc Cert.KernelSgu3Ideal.main_arg2) = m ((c.tc : Thread Cert.KernelSgu3Ideal.nD Cert.KernelSgu3Ideal.τ).loc Cert.KernelSgu3Ideal.main_arg2)
      ∧ r.2.mem ((c.tc : Thread Cert.KernelSgu3Ideal.nD Cert.KernelSgu3Ideal.τ).loc Cert.KernelSgu3Ideal.main_arg3) = m ((c.tc : Thread Cert.KernelSgu3Ideal.nD Cert.KernelSgu3Ideal.τ).loc Cert.KernelSgu3Ideal.main_arg3)
      ∧ r.2.mem ((c.tc : Thread Cert.KernelSgu3Ideal.nD Cert.KernelSgu3Ideal.τ).loc Cert.KernelSgu3Ideal.main_arg4) = m ((c.tc : Thread Cert.KernelSgu3Ideal.nD Cert.KernelSgu3Ideal.τ).loc Cert.KernelSgu3Ideal.main_arg4)
      ∧ r.2.mem ((c.tc : Thread Cert.KernelSgu3Ideal.nD Cert.KernelSgu3Ideal.τ).loc Cert.KernelSgu3Ideal.main_arg5) = m ((c.tc : Thread Cert.KernelSgu3Ideal.nD Cert.KernelSgu3Ideal.τ).loc Cert.KernelSgu3Ideal.main_arg5)
      ∧ r.2.mem ((c.tc : Thread Cert.KernelSgu3Ideal.nD Cert.KernelSgu3Ideal.τ).loc Cert.KernelSgu3Ideal.main_arg6) = m ((c.tc : Thread Cert.KernelSgu3Ideal.nD Cert.KernelSgu3Ideal.τ).loc Cert.KernelSgu3Ideal.main_arg6)
      ∧ r.2.mem ((c.tc : Thread Cert.KernelSgu3Ideal.nD Cert.KernelSgu3Ideal.τ).loc Cert.KernelSgu3Ideal.main_arg7) = m ((c.tc : Thread Cert.KernelSgu3Ideal.nD Cert.KernelSgu3Ideal.τ).loc Cert.KernelSgu3Ideal.main_arg7))
      ∧ r.2.sem = fun _ => 0)

def quiescent_ReferenceSgu3Ideal [hReferenceSgu3Ideal : Cert.ReferenceSgu3Ideal.Facts] : Prop :=
  ∀ (m : (ℓ : Loc Cert.ReferenceSgu3Ideal.nD Cert.ReferenceSgu3Ideal.τ Cert.ReferenceSgu3Ideal.sig) → Buf (Elt Ideal) ℓ) (g : Dev Cert.ReferenceSgu3Ideal.nD → PrngReg), Pre_ReferenceSgu3Ideal m →
    θ_run (Cert.ReferenceSgu3Ideal.defs (F := Ideal)) (onTc (τ := Cert.ReferenceSgu3Ideal.τ) (Cert.ReferenceSgu3Ideal.main (F := Ideal))) ⟨m, fun _ => 0, g⟩ (fun r => (∀ c : Dev Cert.ReferenceSgu3Ideal.nD,
      r.2.mem ((c.tc : Thread Cert.ReferenceSgu3Ideal.nD Cert.ReferenceSgu3Ideal.τ).loc Cert.ReferenceSgu3Ideal.main_arg0) = m ((c.tc : Thread Cert.ReferenceSgu3Ideal.nD Cert.ReferenceSgu3Ideal.τ).loc Cert.ReferenceSgu3Ideal.main_arg0)
      ∧ r.2.mem ((c.tc : Thread Cert.ReferenceSgu3Ideal.nD Cert.ReferenceSgu3Ideal.τ).loc Cert.ReferenceSgu3Ideal.main_arg1) = m ((c.tc : Thread Cert.ReferenceSgu3Ideal.nD Cert.ReferenceSgu3Ideal.τ).loc Cert.ReferenceSgu3Ideal.main_arg1)
      ∧ r.2.mem ((c.tc : Thread Cert.ReferenceSgu3Ideal.nD Cert.ReferenceSgu3Ideal.τ).loc Cert.ReferenceSgu3Ideal.main_arg2) = m ((c.tc : Thread Cert.ReferenceSgu3Ideal.nD Cert.ReferenceSgu3Ideal.τ).loc Cert.ReferenceSgu3Ideal.main_arg2)
      ∧ r.2.mem ((c.tc : Thread Cert.ReferenceSgu3Ideal.nD Cert.ReferenceSgu3Ideal.τ).loc Cert.ReferenceSgu3Ideal.main_arg3) = m ((c.tc : Thread Cert.ReferenceSgu3Ideal.nD Cert.ReferenceSgu3Ideal.τ).loc Cert.ReferenceSgu3Ideal.main_arg3)
      ∧ r.2.mem ((c.tc : Thread Cert.ReferenceSgu3Ideal.nD Cert.ReferenceSgu3Ideal.τ).loc Cert.ReferenceSgu3Ideal.main_arg4) = m ((c.tc : Thread Cert.ReferenceSgu3Ideal.nD Cert.ReferenceSgu3Ideal.τ).loc Cert.ReferenceSgu3Ideal.main_arg4)
      ∧ r.2.mem ((c.tc : Thread Cert.ReferenceSgu3Ideal.nD Cert.ReferenceSgu3Ideal.τ).loc Cert.ReferenceSgu3Ideal.main_arg5) = m ((c.tc : Thread Cert.ReferenceSgu3Ideal.nD Cert.ReferenceSgu3Ideal.τ).loc Cert.ReferenceSgu3Ideal.main_arg5)
      ∧ r.2.mem ((c.tc : Thread Cert.ReferenceSgu3Ideal.nD Cert.ReferenceSgu3Ideal.τ).loc Cert.ReferenceSgu3Ideal.main_arg6) = m ((c.tc : Thread Cert.ReferenceSgu3Ideal.nD Cert.ReferenceSgu3Ideal.τ).loc Cert.ReferenceSgu3Ideal.main_arg6)
      ∧ r.2.mem ((c.tc : Thread Cert.ReferenceSgu3Ideal.nD Cert.ReferenceSgu3Ideal.τ).loc Cert.ReferenceSgu3Ideal.main_arg7) = m ((c.tc : Thread Cert.ReferenceSgu3Ideal.nD Cert.ReferenceSgu3Ideal.τ).loc Cert.ReferenceSgu3Ideal.main_arg7))
      ∧ r.2.sem = fun _ => 0)

def quiescent_KernelEven2 [hKernelEven2 : Cert.KernelEven2.Facts] : Prop :=
  ∀ (m : (ℓ : Loc Cert.KernelEven2.nD Cert.KernelEven2.τ Cert.KernelEven2.sig) → Buf (Elt Bits) ℓ) (g : Dev Cert.KernelEven2.nD → PrngReg), Pre_KernelEven2 m →
    θ_run (Cert.KernelEven2.defs (F := Bits)) (onTc (τ := Cert.KernelEven2.τ) (Cert.KernelEven2.main (F := Bits))) ⟨m, fun _ => 0, g⟩ (fun r => (∀ c : Dev Cert.KernelEven2.nD,
      r.2.mem ((c.tc : Thread Cert.KernelEven2.nD Cert.KernelEven2.τ).loc Cert.KernelEven2.main_arg0) = m ((c.tc : Thread Cert.KernelEven2.nD Cert.KernelEven2.τ).loc Cert.KernelEven2.main_arg0)
      ∧ r.2.mem ((c.tc : Thread Cert.KernelEven2.nD Cert.KernelEven2.τ).loc Cert.KernelEven2.main_arg1) = m ((c.tc : Thread Cert.KernelEven2.nD Cert.KernelEven2.τ).loc Cert.KernelEven2.main_arg1)
      ∧ r.2.mem ((c.tc : Thread Cert.KernelEven2.nD Cert.KernelEven2.τ).loc Cert.KernelEven2.main_arg2) = m ((c.tc : Thread Cert.KernelEven2.nD Cert.KernelEven2.τ).loc Cert.KernelEven2.main_arg2))
      ∧ r.2.sem = fun _ => 0)

def quiescent_KernelEven2Ideal [hKernelEven2Ideal : Cert.KernelEven2Ideal.Facts] : Prop :=
  ∀ (m : (ℓ : Loc Cert.KernelEven2Ideal.nD Cert.KernelEven2Ideal.τ Cert.KernelEven2Ideal.sig) → Buf (Elt Ideal) ℓ) (g : Dev Cert.KernelEven2Ideal.nD → PrngReg), Pre_KernelEven2Ideal m →
    θ_run (Cert.KernelEven2Ideal.defs (F := Ideal)) (onTc (τ := Cert.KernelEven2Ideal.τ) (Cert.KernelEven2Ideal.main (F := Ideal))) ⟨m, fun _ => 0, g⟩ (fun r => (∀ c : Dev Cert.KernelEven2Ideal.nD,
      r.2.mem ((c.tc : Thread Cert.KernelEven2Ideal.nD Cert.KernelEven2Ideal.τ).loc Cert.KernelEven2Ideal.main_arg0) = m ((c.tc : Thread Cert.KernelEven2Ideal.nD Cert.KernelEven2Ideal.τ).loc Cert.KernelEven2Ideal.main_arg0)
      ∧ r.2.mem ((c.tc : Thread Cert.KernelEven2Ideal.nD Cert.KernelEven2Ideal.τ).loc Cert.KernelEven2Ideal.main_arg1) = m ((c.tc : Thread Cert.KernelEven2Ideal.nD Cert.KernelEven2Ideal.τ).loc Cert.KernelEven2Ideal.main_arg1)
      ∧ r.2.mem ((c.tc : Thread Cert.KernelEven2Ideal.nD Cert.KernelEven2Ideal.τ).loc Cert.KernelEven2Ideal.main_arg2) = m ((c.tc : Thread Cert.KernelEven2Ideal.nD Cert.KernelEven2Ideal.τ).loc Cert.KernelEven2Ideal.main_arg2))
      ∧ r.2.sem = fun _ => 0)

def quiescent_ReferenceEven2Ideal [hReferenceEven2Ideal : Cert.ReferenceEven2Ideal.Facts] : Prop :=
  ∀ (m : (ℓ : Loc Cert.ReferenceEven2Ideal.nD Cert.ReferenceEven2Ideal.τ Cert.ReferenceEven2Ideal.sig) → Buf (Elt Ideal) ℓ) (g : Dev Cert.ReferenceEven2Ideal.nD → PrngReg), Pre_ReferenceEven2Ideal m →
    θ_run (Cert.ReferenceEven2Ideal.defs (F := Ideal)) (onTc (τ := Cert.ReferenceEven2Ideal.τ) (Cert.ReferenceEven2Ideal.main (F := Ideal))) ⟨m, fun _ => 0, g⟩ (fun r => (∀ c : Dev Cert.ReferenceEven2Ideal.nD,
      r.2.mem ((c.tc : Thread Cert.ReferenceEven2Ideal.nD Cert.ReferenceEven2Ideal.τ).loc Cert.ReferenceEven2Ideal.main_arg0) = m ((c.tc : Thread Cert.ReferenceEven2Ideal.nD Cert.ReferenceEven2Ideal.τ).loc Cert.ReferenceEven2Ideal.main_arg0)
      ∧ r.2.mem ((c.tc : Thread Cert.ReferenceEven2Ideal.nD Cert.ReferenceEven2Ideal.τ).loc Cert.ReferenceEven2Ideal.main_arg1) = m ((c.tc : Thread Cert.ReferenceEven2Ideal.nD Cert.ReferenceEven2Ideal.τ).loc Cert.ReferenceEven2Ideal.main_arg1)
      ∧ r.2.mem ((c.tc : Thread Cert.ReferenceEven2Ideal.nD Cert.ReferenceEven2Ideal.τ).loc Cert.ReferenceEven2Ideal.main_arg2) = m ((c.tc : Thread Cert.ReferenceEven2Ideal.nD Cert.ReferenceEven2Ideal.τ).loc Cert.ReferenceEven2Ideal.main_arg2))
      ∧ r.2.sem = fun _ => 0)

def quiescent_KernelOdd3 [hKernelOdd3 : Cert.KernelOdd3.Facts] : Prop :=
  ∀ (m : (ℓ : Loc Cert.KernelOdd3.nD Cert.KernelOdd3.τ Cert.KernelOdd3.sig) → Buf (Elt Bits) ℓ) (g : Dev Cert.KernelOdd3.nD → PrngReg), Pre_KernelOdd3 m →
    θ_run (Cert.KernelOdd3.defs (F := Bits)) (onTc (τ := Cert.KernelOdd3.τ) (Cert.KernelOdd3.main (F := Bits))) ⟨m, fun _ => 0, g⟩ (fun r => (∀ c : Dev Cert.KernelOdd3.nD,
      r.2.mem ((c.tc : Thread Cert.KernelOdd3.nD Cert.KernelOdd3.τ).loc Cert.KernelOdd3.main_arg0) = m ((c.tc : Thread Cert.KernelOdd3.nD Cert.KernelOdd3.τ).loc Cert.KernelOdd3.main_arg0)
      ∧ r.2.mem ((c.tc : Thread Cert.KernelOdd3.nD Cert.KernelOdd3.τ).loc Cert.KernelOdd3.main_arg1) = m ((c.tc : Thread Cert.KernelOdd3.nD Cert.KernelOdd3.τ).loc Cert.KernelOdd3.main_arg1)
      ∧ r.2.mem ((c.tc : Thread Cert.KernelOdd3.nD Cert.KernelOdd3.τ).loc Cert.KernelOdd3.main_arg2) = m ((c.tc : Thread Cert.KernelOdd3.nD Cert.KernelOdd3.τ).loc Cert.KernelOdd3.main_arg2)
      ∧ r.2.mem ((c.tc : Thread Cert.KernelOdd3.nD Cert.KernelOdd3.τ).loc Cert.KernelOdd3.main_arg3) = m ((c.tc : Thread Cert.KernelOdd3.nD Cert.KernelOdd3.τ).loc Cert.KernelOdd3.main_arg3)
      ∧ r.2.mem ((c.tc : Thread Cert.KernelOdd3.nD Cert.KernelOdd3.τ).loc Cert.KernelOdd3.main_arg4) = m ((c.tc : Thread Cert.KernelOdd3.nD Cert.KernelOdd3.τ).loc Cert.KernelOdd3.main_arg4))
      ∧ r.2.sem = fun _ => 0)

def quiescent_KernelOdd3Ideal [hKernelOdd3Ideal : Cert.KernelOdd3Ideal.Facts] : Prop :=
  ∀ (m : (ℓ : Loc Cert.KernelOdd3Ideal.nD Cert.KernelOdd3Ideal.τ Cert.KernelOdd3Ideal.sig) → Buf (Elt Ideal) ℓ) (g : Dev Cert.KernelOdd3Ideal.nD → PrngReg), Pre_KernelOdd3Ideal m →
    θ_run (Cert.KernelOdd3Ideal.defs (F := Ideal)) (onTc (τ := Cert.KernelOdd3Ideal.τ) (Cert.KernelOdd3Ideal.main (F := Ideal))) ⟨m, fun _ => 0, g⟩ (fun r => (∀ c : Dev Cert.KernelOdd3Ideal.nD,
      r.2.mem ((c.tc : Thread Cert.KernelOdd3Ideal.nD Cert.KernelOdd3Ideal.τ).loc Cert.KernelOdd3Ideal.main_arg0) = m ((c.tc : Thread Cert.KernelOdd3Ideal.nD Cert.KernelOdd3Ideal.τ).loc Cert.KernelOdd3Ideal.main_arg0)
      ∧ r.2.mem ((c.tc : Thread Cert.KernelOdd3Ideal.nD Cert.KernelOdd3Ideal.τ).loc Cert.KernelOdd3Ideal.main_arg1) = m ((c.tc : Thread Cert.KernelOdd3Ideal.nD Cert.KernelOdd3Ideal.τ).loc Cert.KernelOdd3Ideal.main_arg1)
      ∧ r.2.mem ((c.tc : Thread Cert.KernelOdd3Ideal.nD Cert.KernelOdd3Ideal.τ).loc Cert.KernelOdd3Ideal.main_arg2) = m ((c.tc : Thread Cert.KernelOdd3Ideal.nD Cert.KernelOdd3Ideal.τ).loc Cert.KernelOdd3Ideal.main_arg2)
      ∧ r.2.mem ((c.tc : Thread Cert.KernelOdd3Ideal.nD Cert.KernelOdd3Ideal.τ).loc Cert.KernelOdd3Ideal.main_arg3) = m ((c.tc : Thread Cert.KernelOdd3Ideal.nD Cert.KernelOdd3Ideal.τ).loc Cert.KernelOdd3Ideal.main_arg3)
      ∧ r.2.mem ((c.tc : Thread Cert.KernelOdd3Ideal.nD Cert.KernelOdd3Ideal.τ).loc Cert.KernelOdd3Ideal.main_arg4) = m ((c.tc : Thread Cert.KernelOdd3Ideal.nD Cert.KernelOdd3Ideal.τ).loc Cert.KernelOdd3Ideal.main_arg4))
      ∧ r.2.sem = fun _ => 0)

def quiescent_ReferenceOdd3Ideal [hReferenceOdd3Ideal : Cert.ReferenceOdd3Ideal.Facts] : Prop :=
  ∀ (m : (ℓ : Loc Cert.ReferenceOdd3Ideal.nD Cert.ReferenceOdd3Ideal.τ Cert.ReferenceOdd3Ideal.sig) → Buf (Elt Ideal) ℓ) (g : Dev Cert.ReferenceOdd3Ideal.nD → PrngReg), Pre_ReferenceOdd3Ideal m →
    θ_run (Cert.ReferenceOdd3Ideal.defs (F := Ideal)) (onTc (τ := Cert.ReferenceOdd3Ideal.τ) (Cert.ReferenceOdd3Ideal.main (F := Ideal))) ⟨m, fun _ => 0, g⟩ (fun r => (∀ c : Dev Cert.ReferenceOdd3Ideal.nD,
      r.2.mem ((c.tc : Thread Cert.ReferenceOdd3Ideal.nD Cert.ReferenceOdd3Ideal.τ).loc Cert.ReferenceOdd3Ideal.main_arg0) = m ((c.tc : Thread Cert.ReferenceOdd3Ideal.nD Cert.ReferenceOdd3Ideal.τ).loc Cert.ReferenceOdd3Ideal.main_arg0)
      ∧ r.2.mem ((c.tc : Thread Cert.ReferenceOdd3Ideal.nD Cert.ReferenceOdd3Ideal.τ).loc Cert.ReferenceOdd3Ideal.main_arg1) = m ((c.tc : Thread Cert.ReferenceOdd3Ideal.nD Cert.ReferenceOdd3Ideal.τ).loc Cert.ReferenceOdd3Ideal.main_arg1)
      ∧ r.2.mem ((c.tc : Thread Cert.ReferenceOdd3Ideal.nD Cert.ReferenceOdd3Ideal.τ).loc Cert.ReferenceOdd3Ideal.main_arg2) = m ((c.tc : Thread Cert.ReferenceOdd3Ideal.nD Cert.ReferenceOdd3Ideal.τ).loc Cert.ReferenceOdd3Ideal.main_arg2)
      ∧ r.2.mem ((c.tc : Thread Cert.ReferenceOdd3Ideal.nD Cert.ReferenceOdd3Ideal.τ).loc Cert.ReferenceOdd3Ideal.main_arg3) = m ((c.tc : Thread Cert.ReferenceOdd3Ideal.nD Cert.ReferenceOdd3Ideal.τ).loc Cert.ReferenceOdd3Ideal.main_arg3)
      ∧ r.2.mem ((c.tc : Thread Cert.ReferenceOdd3Ideal.nD Cert.ReferenceOdd3Ideal.τ).loc Cert.ReferenceOdd3Ideal.main_arg4) = m ((c.tc : Thread Cert.ReferenceOdd3Ideal.nD Cert.ReferenceOdd3Ideal.τ).loc Cert.ReferenceOdd3Ideal.main_arg4))
      ∧ r.2.sem = fun _ => 0)

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)
      ∧ m' ((c.tc : Thread Cert.ReferenceConvIdeal.nD Cert.ReferenceConvIdeal.τ).loc Cert.ReferenceConvIdeal.main_arg5) = m ((c.tc : Thread Cert.KernelConvIdeal.nD Cert.KernelConvIdeal.τ).loc Cert.KernelConvIdeal.main_arg5)
      ∧ m' ((c.tc : Thread Cert.ReferenceConvIdeal.nD Cert.ReferenceConvIdeal.τ).loc Cert.ReferenceConvIdeal.main_arg6) = m ((c.tc : Thread Cert.KernelConvIdeal.nD Cert.KernelConvIdeal.τ).loc Cert.KernelConvIdeal.main_arg6)
      ∧ m' ((c.tc : Thread Cert.ReferenceConvIdeal.nD Cert.ReferenceConvIdeal.τ).loc Cert.ReferenceConvIdeal.main_arg7) = m ((c.tc : Thread Cert.KernelConvIdeal.nD Cert.KernelConvIdeal.τ).loc Cert.KernelConvIdeal.main_arg7)
      ∧ m' ((c.tc : Thread Cert.ReferenceConvIdeal.nD Cert.ReferenceConvIdeal.τ).loc Cert.ReferenceConvIdeal.main_arg8) = m ((c.tc : Thread Cert.KernelConvIdeal.nD Cert.KernelConvIdeal.τ).loc Cert.KernelConvIdeal.main_arg8)) →
    ∃ (v0 : (c : Dev Cert.KernelConvIdeal.nD) → Buf (Elt Ideal) ((c.tc : Thread Cert.KernelConvIdeal.nD Cert.KernelConvIdeal.τ).loc Cert.KernelConvIdeal.main_v8)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v8) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4)
          ∧ r.2.mem ((c.tc : Thread Cert.KernelConvIdeal.nD Cert.KernelConvIdeal.τ).loc Cert.KernelConvIdeal.main_arg5) = m ((c.tc : Thread Cert.KernelConvIdeal.nD Cert.KernelConvIdeal.τ).loc Cert.KernelConvIdeal.main_arg5)
          ∧ r.2.mem ((c.tc : Thread Cert.KernelConvIdeal.nD Cert.KernelConvIdeal.τ).loc Cert.KernelConvIdeal.main_arg6) = m ((c.tc : Thread Cert.KernelConvIdeal.nD Cert.KernelConvIdeal.τ).loc Cert.KernelConvIdeal.main_arg6)
          ∧ r.2.mem ((c.tc : Thread Cert.KernelConvIdeal.nD Cert.KernelConvIdeal.τ).loc Cert.KernelConvIdeal.main_arg7) = m ((c.tc : Thread Cert.KernelConvIdeal.nD Cert.KernelConvIdeal.τ).loc Cert.KernelConvIdeal.main_arg7)
          ∧ r.2.mem ((c.tc : Thread Cert.KernelConvIdeal.nD Cert.KernelConvIdeal.τ).loc Cert.KernelConvIdeal.main_arg8) = m ((c.tc : Thread Cert.KernelConvIdeal.nD Cert.KernelConvIdeal.τ).loc Cert.KernelConvIdeal.main_arg8))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v276) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4)
          ∧ r.2.mem ((c.tc : Thread Cert.ReferenceConvIdeal.nD Cert.ReferenceConvIdeal.τ).loc Cert.ReferenceConvIdeal.main_arg5) = m' ((c.tc : Thread Cert.ReferenceConvIdeal.nD Cert.ReferenceConvIdeal.τ).loc Cert.ReferenceConvIdeal.main_arg5)
          ∧ r.2.mem ((c.tc : Thread Cert.ReferenceConvIdeal.nD Cert.ReferenceConvIdeal.τ).loc Cert.ReferenceConvIdeal.main_arg6) = m' ((c.tc : Thread Cert.ReferenceConvIdeal.nD Cert.ReferenceConvIdeal.τ).loc Cert.ReferenceConvIdeal.main_arg6)
          ∧ r.2.mem ((c.tc : Thread Cert.ReferenceConvIdeal.nD Cert.ReferenceConvIdeal.τ).loc Cert.ReferenceConvIdeal.main_arg7) = m' ((c.tc : Thread Cert.ReferenceConvIdeal.nD Cert.ReferenceConvIdeal.τ).loc Cert.ReferenceConvIdeal.main_arg7)
          ∧ r.2.mem ((c.tc : Thread Cert.ReferenceConvIdeal.nD Cert.ReferenceConvIdeal.τ).loc Cert.ReferenceConvIdeal.main_arg8) = m' ((c.tc : Thread Cert.ReferenceConvIdeal.nD Cert.ReferenceConvIdeal.τ).loc Cert.ReferenceConvIdeal.main_arg8))

def preserves_KernelSgu_KernelSguIdeal : Prop :=
  True

def algebraic_KernelSguIdeal_ReferenceSguIdeal [hKernelSguIdeal : Cert.KernelSguIdeal.Facts] [hReferenceSguIdeal : Cert.ReferenceSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg)
    (m' : (ℓ : Loc Cert.ReferenceSguIdeal.nD Cert.ReferenceSguIdeal.τ Cert.ReferenceSguIdeal.sig) → Buf (Elt Ideal) ℓ) (g' : Dev Cert.ReferenceSguIdeal.nD → PrngReg), Pre_KernelSguIdeal m →
    (∀ c : Dev Cert.KernelSguIdeal.nD,
      m' ((c.tc : Thread Cert.ReferenceSguIdeal.nD Cert.ReferenceSguIdeal.τ).loc Cert.ReferenceSguIdeal.main_arg0) = m ((c.tc : Thread Cert.KernelSguIdeal.nD Cert.KernelSguIdeal.τ).loc Cert.KernelSguIdeal.main_arg0)
      ∧ m' ((c.tc : Thread Cert.ReferenceSguIdeal.nD Cert.ReferenceSguIdeal.τ).loc Cert.ReferenceSguIdeal.main_arg1) = m ((c.tc : Thread Cert.KernelSguIdeal.nD Cert.KernelSguIdeal.τ).loc Cert.KernelSguIdeal.main_arg1)
      ∧ m' ((c.tc : Thread Cert.ReferenceSguIdeal.nD Cert.ReferenceSguIdeal.τ).loc Cert.ReferenceSguIdeal.main_arg2) = m ((c.tc : Thread Cert.KernelSguIdeal.nD Cert.KernelSguIdeal.τ).loc Cert.KernelSguIdeal.main_arg2)
      ∧ m' ((c.tc : Thread Cert.ReferenceSguIdeal.nD Cert.ReferenceSguIdeal.τ).loc Cert.ReferenceSguIdeal.main_arg3) = m ((c.tc : Thread Cert.KernelSguIdeal.nD Cert.KernelSguIdeal.τ).loc Cert.KernelSguIdeal.main_arg3)
      ∧ m' ((c.tc : Thread Cert.ReferenceSguIdeal.nD Cert.ReferenceSguIdeal.τ).loc Cert.ReferenceSguIdeal.main_arg4) = m ((c.tc : Thread Cert.KernelSguIdeal.nD Cert.KernelSguIdeal.τ).loc Cert.KernelSguIdeal.main_arg4)
      ∧ m' ((c.tc : Thread Cert.ReferenceSguIdeal.nD Cert.ReferenceSguIdeal.τ).loc Cert.ReferenceSguIdeal.main_arg5) = m ((c.tc : Thread Cert.KernelSguIdeal.nD Cert.KernelSguIdeal.τ).loc Cert.KernelSguIdeal.main_arg5)
      ∧ m' ((c.tc : Thread Cert.ReferenceSguIdeal.nD Cert.ReferenceSguIdeal.τ).loc Cert.ReferenceSguIdeal.main_arg6) = m ((c.tc : Thread Cert.KernelSguIdeal.nD Cert.KernelSguIdeal.τ).loc Cert.KernelSguIdeal.main_arg6)
      ∧ m' ((c.tc : Thread Cert.ReferenceSguIdeal.nD Cert.ReferenceSguIdeal.τ).loc Cert.ReferenceSguIdeal.main_arg7) = m ((c.tc : Thread Cert.KernelSguIdeal.nD Cert.KernelSguIdeal.τ).loc Cert.KernelSguIdeal.main_arg7)) →
    ∃ (v0 : (c : Dev Cert.KernelSguIdeal.nD) → Buf (Elt Ideal) ((c.tc : Thread Cert.KernelSguIdeal.nD Cert.KernelSguIdeal.τ).loc Cert.KernelSguIdeal.main_v6)),
      θ_run (Cert.KernelSguIdeal.defs (F := Ideal)) (onTc (τ := Cert.KernelSguIdeal.τ) (Cert.KernelSguIdeal.main (F := Ideal))) ⟨m, fun _ => 0, g⟩ (fun r => ∀ c : Dev Cert.KernelSguIdeal.nD,
          r.2.mem ((c.tc : Thread Cert.KernelSguIdeal.nD Cert.KernelSguIdeal.τ).loc Cert.KernelSguIdeal.main_v6) = v0 c
          ∧ r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
          ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
          ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
          ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
          ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
          ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
          ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6)
          ∧ r.2.mem ((c.tc : Thread Cert.KernelSguIdeal.nD Cert.KernelSguIdeal.τ).loc Cert.KernelSguIdeal.main_arg7) = m ((c.tc : Thread Cert.KernelSguIdeal.nD Cert.KernelSguIdeal.τ).loc Cert.KernelSguIdeal.main_arg7))
      ∧ θ_run (Cert.ReferenceSguIdeal.defs (F := Ideal)) (onTc (τ := Cert.ReferenceSguIdeal.τ) (Cert.ReferenceSguIdeal.main (F := Ideal))) ⟨m', fun _ => 0, g'⟩ (fun r => ∀ c : Dev Cert.ReferenceSguIdeal.nD,
          r.2.mem ((c.tc : Thread Cert.ReferenceSguIdeal.nD Cert.ReferenceSguIdeal.τ).loc Cert.ReferenceSguIdeal.main_v43) = v0 c
          ∧ r.2.mem ((c.tc : Thread Cert.ReferenceSguIdeal.nD Cert.ReferenceSguIdeal.τ).loc Cert.ReferenceSguIdeal.main_arg0) = m' ((c.tc : Thread Cert.ReferenceSguIdeal.nD Cert.ReferenceSguIdeal.τ).loc Cert.ReferenceSguIdeal.main_arg0)
          ∧ r.2.mem ((c.tc : Thread Cert.ReferenceSguIdeal.nD Cert.ReferenceSguIdeal.τ).loc Cert.ReferenceSguIdeal.main_arg1) = m' ((c.tc : Thread Cert.ReferenceSguIdeal.nD Cert.ReferenceSguIdeal.τ).loc Cert.ReferenceSguIdeal.main_arg1)
          ∧ r.2.mem ((c.tc : Thread Cert.ReferenceSguIdeal.nD Cert.ReferenceSguIdeal.τ).loc Cert.ReferenceSguIdeal.main_arg2) = m' ((c.tc : Thread Cert.ReferenceSguIdeal.nD Cert.ReferenceSguIdeal.τ).loc Cert.ReferenceSguIdeal.main_arg2)
          ∧ r.2.mem ((c.tc : Thread Cert.ReferenceSguIdeal.nD Cert.ReferenceSguIdeal.τ).loc Cert.ReferenceSguIdeal.main_arg3) = m' ((c.tc : Thread Cert.ReferenceSguIdeal.nD Cert.ReferenceSguIdeal.τ).loc Cert.ReferenceSguIdeal.main_arg3)
          ∧ r.2.mem ((c.tc : Thread Cert.ReferenceSguIdeal.nD Cert.ReferenceSguIdeal.τ).loc Cert.ReferenceSguIdeal.main_arg4) = m' ((c.tc : Thread Cert.ReferenceSguIdeal.nD Cert.ReferenceSguIdeal.τ).loc Cert.ReferenceSguIdeal.main_arg4)
          ∧ r.2.mem ((c.tc : Thread Cert.ReferenceSguIdeal.nD Cert.ReferenceSguIdeal.τ).loc Cert.ReferenceSguIdeal.main_arg5) = m' ((c.tc : Thread Cert.ReferenceSguIdeal.nD Cert.ReferenceSguIdeal.τ).loc Cert.ReferenceSguIdeal.main_arg5)
          ∧ r.2.mem ((c.tc : Thread Cert.ReferenceSguIdeal.nD Cert.ReferenceSguIdeal.τ).loc Cert.ReferenceSguIdeal.main_arg6) = m' ((c.tc : Thread Cert.ReferenceSguIdeal.nD Cert.ReferenceSguIdeal.τ).loc Cert.ReferenceSguIdeal.main_arg6)
          ∧ r.2.mem ((c.tc : Thread Cert.ReferenceSguIdeal.nD Cert.ReferenceSguIdeal.τ).loc Cert.ReferenceSguIdeal.main_arg7) = m' ((c.tc : Thread Cert.ReferenceSguIdeal.nD Cert.ReferenceSguIdeal.τ).loc Cert.ReferenceSguIdeal.main_arg7))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v1) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v46) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelEven_KernelEvenIdeal : Prop :=
  True

def algebraic_KernelEvenIdeal_ReferenceEvenIdeal [hKernelEvenIdeal : Cert.KernelEvenIdeal.Facts] [hReferenceEvenIdeal : Cert.ReferenceEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)) →
    ∃ (v0 : (c : Dev Cert.KernelEvenIdeal.nD) → Buf (Elt Ideal) ((c.tc : Thread Cert.KernelEvenIdeal.nD Cert.KernelEvenIdeal.τ).loc Cert.KernelEvenIdeal.main_v28_0)) (v1 : (c : Dev Cert.KernelEvenIdeal.nD) → Buf (Elt Ideal) ((c.tc : Thread Cert.KernelEvenIdeal.nD Cert.KernelEvenIdeal.τ).loc Cert.KernelEvenIdeal.main_v28_1)) (v2 : (c : Dev Cert.KernelEvenIdeal.nD) → Buf (Elt Ideal) ((c.tc : Thread Cert.KernelEvenIdeal.nD Cert.KernelEvenIdeal.τ).loc Cert.KernelEvenIdeal.main_v28_2)) (v3 : (c : Dev Cert.KernelEvenIdeal.nD) → Buf (Elt Ideal) ((c.tc : Thread Cert.KernelEvenIdeal.nD Cert.KernelEvenIdeal.τ).loc Cert.KernelEvenIdeal.main_v28_3)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v28_0) = v0 c
          ∧ r.2.mem ((c.tc : Thread Cert.KernelEvenIdeal.nD Cert.KernelEvenIdeal.τ).loc Cert.KernelEvenIdeal.main_v28_1) = v1 c
          ∧ r.2.mem ((c.tc : Thread Cert.KernelEvenIdeal.nD Cert.KernelEvenIdeal.τ).loc Cert.KernelEvenIdeal.main_v28_2) = v2 c
          ∧ r.2.mem ((c.tc : Thread Cert.KernelEvenIdeal.nD Cert.KernelEvenIdeal.τ).loc Cert.KernelEvenIdeal.main_v28_3) = v3 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v82) = v0 c
          ∧ r.2.mem ((c.tc : Thread Cert.ReferenceEvenIdeal.nD Cert.ReferenceEvenIdeal.τ).loc Cert.ReferenceEvenIdeal.main_v83) = v1 c
          ∧ r.2.mem ((c.tc : Thread Cert.ReferenceEvenIdeal.nD Cert.ReferenceEvenIdeal.τ).loc Cert.ReferenceEvenIdeal.main_v85) = v2 c
          ∧ r.2.mem ((c.tc : Thread Cert.ReferenceEvenIdeal.nD Cert.ReferenceEvenIdeal.τ).loc Cert.ReferenceEvenIdeal.main_v87) = v3 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2))

def preserves_KernelOdd_KernelOddIdeal : Prop :=
  True

def algebraic_KernelOddIdeal_ReferenceOddIdeal [hKernelOddIdeal : Cert.KernelOddIdeal.Facts] [hReferenceOddIdeal : Cert.ReferenceOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_KernelOddIdeal m →
    (∀ c : Dev Cert.KernelOddIdeal.nD,
      m' ((c.tc : Thread Cert.ReferenceOddIdeal.nD Cert.ReferenceOddIdeal.τ).loc Cert.ReferenceOddIdeal.main_arg0) = m ((c.tc : Thread Cert.KernelOddIdeal.nD Cert.KernelOddIdeal.τ).loc Cert.KernelOddIdeal.main_arg0)
      ∧ m' ((c.tc : Thread Cert.ReferenceOddIdeal.nD Cert.ReferenceOddIdeal.τ).loc Cert.ReferenceOddIdeal.main_arg1) = m ((c.tc : Thread Cert.KernelOddIdeal.nD Cert.KernelOddIdeal.τ).loc Cert.KernelOddIdeal.main_arg1)
      ∧ m' ((c.tc : Thread Cert.ReferenceOddIdeal.nD Cert.ReferenceOddIdeal.τ).loc Cert.ReferenceOddIdeal.main_arg2) = m ((c.tc : Thread Cert.KernelOddIdeal.nD Cert.KernelOddIdeal.τ).loc Cert.KernelOddIdeal.main_arg2)
      ∧ m' ((c.tc : Thread Cert.ReferenceOddIdeal.nD Cert.ReferenceOddIdeal.τ).loc Cert.ReferenceOddIdeal.main_arg3) = m ((c.tc : Thread Cert.KernelOddIdeal.nD Cert.KernelOddIdeal.τ).loc Cert.KernelOddIdeal.main_arg3)
      ∧ m' ((c.tc : Thread Cert.ReferenceOddIdeal.nD Cert.ReferenceOddIdeal.τ).loc Cert.ReferenceOddIdeal.main_arg4) = m ((c.tc : Thread Cert.KernelOddIdeal.nD Cert.KernelOddIdeal.τ).loc Cert.KernelOddIdeal.main_arg4)) →
    ∃ (v0 : (c : Dev Cert.KernelOddIdeal.nD) → Buf (Elt Ideal) ((c.tc : Thread Cert.KernelOddIdeal.nD Cert.KernelOddIdeal.τ).loc Cert.KernelOddIdeal.main_v4_0)) (v1 : (c : Dev Cert.KernelOddIdeal.nD) → Buf (Elt Ideal) ((c.tc : Thread Cert.KernelOddIdeal.nD Cert.KernelOddIdeal.τ).loc Cert.KernelOddIdeal.main_v4_1)) (v2 : (c : Dev Cert.KernelOddIdeal.nD) → Buf (Elt Ideal) ((c.tc : Thread Cert.KernelOddIdeal.nD Cert.KernelOddIdeal.τ).loc Cert.KernelOddIdeal.main_v4_2)) (v3 : (c : Dev Cert.KernelOddIdeal.nD) → Buf (Elt Ideal) ((c.tc : Thread Cert.KernelOddIdeal.nD Cert.KernelOddIdeal.τ).loc Cert.KernelOddIdeal.main_v4_3)) (v4 : (c : Dev Cert.KernelOddIdeal.nD) → Buf (Elt Ideal) ((c.tc : Thread Cert.KernelOddIdeal.nD Cert.KernelOddIdeal.τ).loc Cert.KernelOddIdeal.main_v4_4)),
      θ_run (Cert.KernelOddIdeal.defs (F := Ideal)) (onTc (τ := Cert.KernelOddIdeal.τ) (Cert.KernelOddIdeal.main (F := Ideal))) ⟨m, fun _ => 0, g⟩ (fun r => ∀ c : Dev Cert.KernelOddIdeal.nD,
          r.2.mem ((c.tc : Thread Cert.KernelOddIdeal.nD Cert.KernelOddIdeal.τ).loc Cert.KernelOddIdeal.main_v4_0) = v0 c
          ∧ r.2.mem ((c.tc : Thread Cert.KernelOddIdeal.nD Cert.KernelOddIdeal.τ).loc Cert.KernelOddIdeal.main_v4_1) = v1 c
          ∧ r.2.mem ((c.tc : Thread Cert.KernelOddIdeal.nD Cert.KernelOddIdeal.τ).loc Cert.KernelOddIdeal.main_v4_2) = v2 c
          ∧ r.2.mem ((c.tc : Thread Cert.KernelOddIdeal.nD Cert.KernelOddIdeal.τ).loc Cert.KernelOddIdeal.main_v4_3) = v3 c
          ∧ r.2.mem ((c.tc : Thread Cert.KernelOddIdeal.nD Cert.KernelOddIdeal.τ).loc Cert.KernelOddIdeal.main_v4_4) = v4 c
          ∧ r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
          ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
          ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
          ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
          ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v80) = v0 c
          ∧ r.2.mem ((c.tc : Thread Cert.ReferenceOddIdeal.nD Cert.ReferenceOddIdeal.τ).loc Cert.ReferenceOddIdeal.main_v82) = v1 c
          ∧ r.2.mem ((c.tc : Thread Cert.ReferenceOddIdeal.nD Cert.ReferenceOddIdeal.τ).loc Cert.ReferenceOddIdeal.main_v84) = v2 c
          ∧ r.2.mem ((c.tc : Thread Cert.ReferenceOddIdeal.nD Cert.ReferenceOddIdeal.τ).loc Cert.ReferenceOddIdeal.main_v86) = v3 c
          ∧ r.2.mem ((c.tc : Thread Cert.ReferenceOddIdeal.nD Cert.ReferenceOddIdeal.τ).loc Cert.ReferenceOddIdeal.main_v88) = v4 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2)
          ∧ r.2.mem ((c.tc : Thread Cert.ReferenceOddIdeal.nD Cert.ReferenceOddIdeal.τ).loc Cert.ReferenceOddIdeal.main_arg3) = m' ((c.tc : Thread Cert.ReferenceOddIdeal.nD Cert.ReferenceOddIdeal.τ).loc Cert.ReferenceOddIdeal.main_arg3)
          ∧ r.2.mem ((c.tc : Thread Cert.ReferenceOddIdeal.nD Cert.ReferenceOddIdeal.τ).loc Cert.ReferenceOddIdeal.main_arg4) = m' ((c.tc : Thread Cert.ReferenceOddIdeal.nD Cert.ReferenceOddIdeal.τ).loc Cert.ReferenceOddIdeal.main_arg4))

def preserves_KernelMoba_KernelMobaIdeal : Prop :=
  True

def preserves_KernelFfn21_KernelFfn21Ideal : Prop :=
  True

def algebraic_KernelFfn21Ideal_ReferenceFfn21Ideal [hKernelFfn21Ideal : Cert.KernelFfn21Ideal.Facts] [hReferenceFfn21Ideal : Cert.ReferenceFfn21Ideal.Facts] : Prop :=
  ∀ (m : (ℓ : Loc Cert.KernelFfn21Ideal.nD Cert.KernelFfn21Ideal.τ Cert.KernelFfn21Ideal.sig) → Buf (Elt Ideal) ℓ) (g : Dev Cert.KernelFfn21Ideal.nD → PrngReg)
    (m' : (ℓ : Loc Cert.ReferenceFfn21Ideal.nD Cert.ReferenceFfn21Ideal.τ Cert.ReferenceFfn21Ideal.sig) → Buf (Elt Ideal) ℓ) (g' : Dev Cert.ReferenceFfn21Ideal.nD → PrngReg), Pre_KernelFfn21Ideal m →
    (∀ c : Dev Cert.KernelFfn21Ideal.nD,
      m' ((c.tc : Thread Cert.ReferenceFfn21Ideal.nD Cert.ReferenceFfn21Ideal.τ).loc Cert.ReferenceFfn21Ideal.main_arg0) = m ((c.tc : Thread Cert.KernelFfn21Ideal.nD Cert.KernelFfn21Ideal.τ).loc Cert.KernelFfn21Ideal.main_arg0)
      ∧ m' ((c.tc : Thread Cert.ReferenceFfn21Ideal.nD Cert.ReferenceFfn21Ideal.τ).loc Cert.ReferenceFfn21Ideal.main_arg1) = m ((c.tc : Thread Cert.KernelFfn21Ideal.nD Cert.KernelFfn21Ideal.τ).loc Cert.KernelFfn21Ideal.main_arg1)
      ∧ m' ((c.tc : Thread Cert.ReferenceFfn21Ideal.nD Cert.ReferenceFfn21Ideal.τ).loc Cert.ReferenceFfn21Ideal.main_arg2) = m ((c.tc : Thread Cert.KernelFfn21Ideal.nD Cert.KernelFfn21Ideal.τ).loc Cert.KernelFfn21Ideal.main_arg2)
      ∧ m' ((c.tc : Thread Cert.ReferenceFfn21Ideal.nD Cert.ReferenceFfn21Ideal.τ).loc Cert.ReferenceFfn21Ideal.main_arg3) = m ((c.tc : Thread Cert.KernelFfn21Ideal.nD Cert.KernelFfn21Ideal.τ).loc Cert.KernelFfn21Ideal.main_arg3)
      ∧ m' ((c.tc : Thread Cert.ReferenceFfn21Ideal.nD Cert.ReferenceFfn21Ideal.τ).loc Cert.ReferenceFfn21Ideal.main_arg4) = m ((c.tc : Thread Cert.KernelFfn21Ideal.nD Cert.KernelFfn21Ideal.τ).loc Cert.KernelFfn21Ideal.main_arg4)) →
    ∃ (v0 : (c : Dev Cert.KernelFfn21Ideal.nD) → Buf (Elt Ideal) ((c.tc : Thread Cert.KernelFfn21Ideal.nD Cert.KernelFfn21Ideal.τ).loc Cert.KernelFfn21Ideal.main_v1)),
      θ_run (Cert.KernelFfn21Ideal.defs (F := Ideal)) (onTc (τ := Cert.KernelFfn21Ideal.τ) (Cert.KernelFfn21Ideal.main (F := Ideal))) ⟨m, fun _ => 0, g⟩ (fun r => ∀ c : Dev Cert.KernelFfn21Ideal.nD,
          r.2.mem ((c.tc : Thread Cert.KernelFfn21Ideal.nD Cert.KernelFfn21Ideal.τ).loc Cert.KernelFfn21Ideal.main_v1) = v0 c
          ∧ r.2.mem ((c.tc : Thread Cert.KernelFfn21Ideal.nD Cert.KernelFfn21Ideal.τ).loc Cert.KernelFfn21Ideal.main_arg0) = m ((c.tc : Thread Cert.KernelFfn21Ideal.nD Cert.KernelFfn21Ideal.τ).loc Cert.KernelFfn21Ideal.main_arg0)
          ∧ r.2.mem ((c.tc : Thread Cert.KernelFfn21Ideal.nD Cert.KernelFfn21Ideal.τ).loc Cert.KernelFfn21Ideal.main_arg1) = m ((c.tc : Thread Cert.KernelFfn21Ideal.nD Cert.KernelFfn21Ideal.τ).loc Cert.KernelFfn21Ideal.main_arg1)
          ∧ r.2.mem ((c.tc : Thread Cert.KernelFfn21Ideal.nD Cert.KernelFfn21Ideal.τ).loc Cert.KernelFfn21Ideal.main_arg2) = m ((c.tc : Thread Cert.KernelFfn21Ideal.nD Cert.KernelFfn21Ideal.τ).loc Cert.KernelFfn21Ideal.main_arg2)
          ∧ r.2.mem ((c.tc : Thread Cert.KernelFfn21Ideal.nD Cert.KernelFfn21Ideal.τ).loc Cert.KernelFfn21Ideal.main_arg3) = m ((c.tc : Thread Cert.KernelFfn21Ideal.nD Cert.KernelFfn21Ideal.τ).loc Cert.KernelFfn21Ideal.main_arg3)
          ∧ r.2.mem ((c.tc : Thread Cert.KernelFfn21Ideal.nD Cert.KernelFfn21Ideal.τ).loc Cert.KernelFfn21Ideal.main_arg4) = m ((c.tc : Thread Cert.KernelFfn21Ideal.nD Cert.KernelFfn21Ideal.τ).loc Cert.KernelFfn21Ideal.main_arg4))
      ∧ θ_run (Cert.ReferenceFfn21Ideal.defs (F := Ideal)) (onTc (τ := Cert.ReferenceFfn21Ideal.τ) (Cert.ReferenceFfn21Ideal.main (F := Ideal))) ⟨m', fun _ => 0, g'⟩ (fun r => ∀ c : Dev Cert.ReferenceFfn21Ideal.nD,
          r.2.mem ((c.tc : Thread Cert.ReferenceFfn21Ideal.nD Cert.ReferenceFfn21Ideal.τ).loc Cert.ReferenceFfn21Ideal.main_v46) = v0 c
          ∧ r.2.mem ((c.tc : Thread Cert.ReferenceFfn21Ideal.nD Cert.ReferenceFfn21Ideal.τ).loc Cert.ReferenceFfn21Ideal.main_arg0) = m' ((c.tc : Thread Cert.ReferenceFfn21Ideal.nD Cert.ReferenceFfn21Ideal.τ).loc Cert.ReferenceFfn21Ideal.main_arg0)
          ∧ r.2.mem ((c.tc : Thread Cert.ReferenceFfn21Ideal.nD Cert.ReferenceFfn21Ideal.τ).loc Cert.ReferenceFfn21Ideal.main_arg1) = m' ((c.tc : Thread Cert.ReferenceFfn21Ideal.nD Cert.ReferenceFfn21Ideal.τ).loc Cert.ReferenceFfn21Ideal.main_arg1)
          ∧ r.2.mem ((c.tc : Thread Cert.ReferenceFfn21Ideal.nD Cert.ReferenceFfn21Ideal.τ).loc Cert.ReferenceFfn21Ideal.main_arg2) = m' ((c.tc : Thread Cert.ReferenceFfn21Ideal.nD Cert.ReferenceFfn21Ideal.τ).loc Cert.ReferenceFfn21Ideal.main_arg2)
          ∧ r.2.mem ((c.tc : Thread Cert.ReferenceFfn21Ideal.nD Cert.ReferenceFfn21Ideal.τ).loc Cert.ReferenceFfn21Ideal.main_arg3) = m' ((c.tc : Thread Cert.ReferenceFfn21Ideal.nD Cert.ReferenceFfn21Ideal.τ).loc Cert.ReferenceFfn21Ideal.main_arg3)
          ∧ r.2.mem ((c.tc : Thread Cert.ReferenceFfn21Ideal.nD Cert.ReferenceFfn21Ideal.τ).loc Cert.ReferenceFfn21Ideal.main_arg4) = m' ((c.tc : Thread Cert.ReferenceFfn21Ideal.nD Cert.ReferenceFfn21Ideal.τ).loc Cert.ReferenceFfn21Ideal.main_arg4))

def preserves_KernelFfn30_KernelFfn30Ideal : Prop :=
  True

def algebraic_KernelFfn30Ideal_ReferenceFfn30Ideal [hKernelFfn30Ideal : Cert.KernelFfn30Ideal.Facts] [hReferenceFfn30Ideal : Cert.ReferenceFfn30Ideal.Facts] : Prop :=
  ∀ (m : (ℓ : Loc Cert.KernelFfn30Ideal.nD Cert.KernelFfn30Ideal.τ Cert.KernelFfn30Ideal.sig) → Buf (Elt Ideal) ℓ) (g : Dev Cert.KernelFfn30Ideal.nD → PrngReg)
    (m' : (ℓ : Loc Cert.ReferenceFfn30Ideal.nD Cert.ReferenceFfn30Ideal.τ Cert.ReferenceFfn30Ideal.sig) → Buf (Elt Ideal) ℓ) (g' : Dev Cert.ReferenceFfn30Ideal.nD → PrngReg), Pre_KernelFfn30Ideal m →
    (∀ c : Dev Cert.KernelFfn30Ideal.nD,
      m' ((c.tc : Thread Cert.ReferenceFfn30Ideal.nD Cert.ReferenceFfn30Ideal.τ).loc Cert.ReferenceFfn30Ideal.main_arg0) = m ((c.tc : Thread Cert.KernelFfn30Ideal.nD Cert.KernelFfn30Ideal.τ).loc Cert.KernelFfn30Ideal.main_arg0)
      ∧ m' ((c.tc : Thread Cert.ReferenceFfn30Ideal.nD Cert.ReferenceFfn30Ideal.τ).loc Cert.ReferenceFfn30Ideal.main_arg1) = m ((c.tc : Thread Cert.KernelFfn30Ideal.nD Cert.KernelFfn30Ideal.τ).loc Cert.KernelFfn30Ideal.main_arg1)
      ∧ m' ((c.tc : Thread Cert.ReferenceFfn30Ideal.nD Cert.ReferenceFfn30Ideal.τ).loc Cert.ReferenceFfn30Ideal.main_arg2) = m ((c.tc : Thread Cert.KernelFfn30Ideal.nD Cert.KernelFfn30Ideal.τ).loc Cert.KernelFfn30Ideal.main_arg2)
      ∧ m' ((c.tc : Thread Cert.ReferenceFfn30Ideal.nD Cert.ReferenceFfn30Ideal.τ).loc Cert.ReferenceFfn30Ideal.main_arg3) = m ((c.tc : Thread Cert.KernelFfn30Ideal.nD Cert.KernelFfn30Ideal.τ).loc Cert.KernelFfn30Ideal.main_arg3)
      ∧ m' ((c.tc : Thread Cert.ReferenceFfn30Ideal.nD Cert.ReferenceFfn30Ideal.τ).loc Cert.ReferenceFfn30Ideal.main_arg4) = m ((c.tc : Thread Cert.KernelFfn30Ideal.nD Cert.KernelFfn30Ideal.τ).loc Cert.KernelFfn30Ideal.main_arg4)) →
    ∃ (v0 : (c : Dev Cert.KernelFfn30Ideal.nD) → Buf (Elt Ideal) ((c.tc : Thread Cert.KernelFfn30Ideal.nD Cert.KernelFfn30Ideal.τ).loc Cert.KernelFfn30Ideal.main_v1)),
      θ_run (Cert.KernelFfn30Ideal.defs (F := Ideal)) (onTc (τ := Cert.KernelFfn30Ideal.τ) (Cert.KernelFfn30Ideal.main (F := Ideal))) ⟨m, fun _ => 0, g⟩ (fun r => ∀ c : Dev Cert.KernelFfn30Ideal.nD,
          r.2.mem ((c.tc : Thread Cert.KernelFfn30Ideal.nD Cert.KernelFfn30Ideal.τ).loc Cert.KernelFfn30Ideal.main_v1) = v0 c
          ∧ r.2.mem ((c.tc : Thread Cert.KernelFfn30Ideal.nD Cert.KernelFfn30Ideal.τ).loc Cert.KernelFfn30Ideal.main_arg0) = m ((c.tc : Thread Cert.KernelFfn30Ideal.nD Cert.KernelFfn30Ideal.τ).loc Cert.KernelFfn30Ideal.main_arg0)
          ∧ r.2.mem ((c.tc : Thread Cert.KernelFfn30Ideal.nD Cert.KernelFfn30Ideal.τ).loc Cert.KernelFfn30Ideal.main_arg1) = m ((c.tc : Thread Cert.KernelFfn30Ideal.nD Cert.KernelFfn30Ideal.τ).loc Cert.KernelFfn30Ideal.main_arg1)
          ∧ r.2.mem ((c.tc : Thread Cert.KernelFfn30Ideal.nD Cert.KernelFfn30Ideal.τ).loc Cert.KernelFfn30Ideal.main_arg2) = m ((c.tc : Thread Cert.KernelFfn30Ideal.nD Cert.KernelFfn30Ideal.τ).loc Cert.KernelFfn30Ideal.main_arg2)
          ∧ r.2.mem ((c.tc : Thread Cert.KernelFfn30Ideal.nD Cert.KernelFfn30Ideal.τ).loc Cert.KernelFfn30Ideal.main_arg3) = m ((c.tc : Thread Cert.KernelFfn30Ideal.nD Cert.KernelFfn30Ideal.τ).loc Cert.KernelFfn30Ideal.main_arg3)
          ∧ r.2.mem ((c.tc : Thread Cert.KernelFfn30Ideal.nD Cert.KernelFfn30Ideal.τ).loc Cert.KernelFfn30Ideal.main_arg4) = m ((c.tc : Thread Cert.KernelFfn30Ideal.nD Cert.KernelFfn30Ideal.τ).loc Cert.KernelFfn30Ideal.main_arg4))
      ∧ θ_run (Cert.ReferenceFfn30Ideal.defs (F := Ideal)) (onTc (τ := Cert.ReferenceFfn30Ideal.τ) (Cert.ReferenceFfn30Ideal.main (F := Ideal))) ⟨m', fun _ => 0, g'⟩ (fun r => ∀ c : Dev Cert.ReferenceFfn30Ideal.nD,
          r.2.mem ((c.tc : Thread Cert.ReferenceFfn30Ideal.nD Cert.ReferenceFfn30Ideal.τ).loc Cert.ReferenceFfn30Ideal.main_v46) = v0 c
          ∧ r.2.mem ((c.tc : Thread Cert.ReferenceFfn30Ideal.nD Cert.ReferenceFfn30Ideal.τ).loc Cert.ReferenceFfn30Ideal.main_arg0) = m' ((c.tc : Thread Cert.ReferenceFfn30Ideal.nD Cert.ReferenceFfn30Ideal.τ).loc Cert.ReferenceFfn30Ideal.main_arg0)
          ∧ r.2.mem ((c.tc : Thread Cert.ReferenceFfn30Ideal.nD Cert.ReferenceFfn30Ideal.τ).loc Cert.ReferenceFfn30Ideal.main_arg1) = m' ((c.tc : Thread Cert.ReferenceFfn30Ideal.nD Cert.ReferenceFfn30Ideal.τ).loc Cert.ReferenceFfn30Ideal.main_arg1)
          ∧ r.2.mem ((c.tc : Thread Cert.ReferenceFfn30Ideal.nD Cert.ReferenceFfn30Ideal.τ).loc Cert.ReferenceFfn30Ideal.main_arg2) = m' ((c.tc : Thread Cert.ReferenceFfn30Ideal.nD Cert.ReferenceFfn30Ideal.τ).loc Cert.ReferenceFfn30Ideal.main_arg2)
          ∧ r.2.mem ((c.tc : Thread Cert.ReferenceFfn30Ideal.nD Cert.ReferenceFfn30Ideal.τ).loc Cert.ReferenceFfn30Ideal.main_arg3) = m' ((c.tc : Thread Cert.ReferenceFfn30Ideal.nD Cert.ReferenceFfn30Ideal.τ).loc Cert.ReferenceFfn30Ideal.main_arg3)
          ∧ r.2.mem ((c.tc : Thread Cert.ReferenceFfn30Ideal.nD Cert.ReferenceFfn30Ideal.τ).loc Cert.ReferenceFfn30Ideal.main_arg4) = m' ((c.tc : Thread Cert.ReferenceFfn30Ideal.nD Cert.ReferenceFfn30Ideal.τ).loc Cert.ReferenceFfn30Ideal.main_arg4))

def preserves_KernelFfn20_KernelFfn20Ideal : Prop :=
  True

def algebraic_KernelFfn20Ideal_ReferenceFfn20Ideal [hKernelFfn20Ideal : Cert.KernelFfn20Ideal.Facts] [hReferenceFfn20Ideal : Cert.ReferenceFfn20Ideal.Facts] : Prop :=
  ∀ (m : (ℓ : Loc Cert.KernelFfn20Ideal.nD Cert.KernelFfn20Ideal.τ Cert.KernelFfn20Ideal.sig) → Buf (Elt Ideal) ℓ) (g : Dev Cert.KernelFfn20Ideal.nD → PrngReg)
    (m' : (ℓ : Loc Cert.ReferenceFfn20Ideal.nD Cert.ReferenceFfn20Ideal.τ Cert.ReferenceFfn20Ideal.sig) → Buf (Elt Ideal) ℓ) (g' : Dev Cert.ReferenceFfn20Ideal.nD → PrngReg), Pre_KernelFfn20Ideal m →
    (∀ c : Dev Cert.KernelFfn20Ideal.nD,
      m' ((c.tc : Thread Cert.ReferenceFfn20Ideal.nD Cert.ReferenceFfn20Ideal.τ).loc Cert.ReferenceFfn20Ideal.main_arg0) = m ((c.tc : Thread Cert.KernelFfn20Ideal.nD Cert.KernelFfn20Ideal.τ).loc Cert.KernelFfn20Ideal.main_arg0)
      ∧ m' ((c.tc : Thread Cert.ReferenceFfn20Ideal.nD Cert.ReferenceFfn20Ideal.τ).loc Cert.ReferenceFfn20Ideal.main_arg1) = m ((c.tc : Thread Cert.KernelFfn20Ideal.nD Cert.KernelFfn20Ideal.τ).loc Cert.KernelFfn20Ideal.main_arg1)
      ∧ m' ((c.tc : Thread Cert.ReferenceFfn20Ideal.nD Cert.ReferenceFfn20Ideal.τ).loc Cert.ReferenceFfn20Ideal.main_arg2) = m ((c.tc : Thread Cert.KernelFfn20Ideal.nD Cert.KernelFfn20Ideal.τ).loc Cert.KernelFfn20Ideal.main_arg2)
      ∧ m' ((c.tc : Thread Cert.ReferenceFfn20Ideal.nD Cert.ReferenceFfn20Ideal.τ).loc Cert.ReferenceFfn20Ideal.main_arg3) = m ((c.tc : Thread Cert.KernelFfn20Ideal.nD Cert.KernelFfn20Ideal.τ).loc Cert.KernelFfn20Ideal.main_arg3)
      ∧ m' ((c.tc : Thread Cert.ReferenceFfn20Ideal.nD Cert.ReferenceFfn20Ideal.τ).loc Cert.ReferenceFfn20Ideal.main_arg4) = m ((c.tc : Thread Cert.KernelFfn20Ideal.nD Cert.KernelFfn20Ideal.τ).loc Cert.KernelFfn20Ideal.main_arg4)) →
    ∃ (v0 : (c : Dev Cert.KernelFfn20Ideal.nD) → Buf (Elt Ideal) ((c.tc : Thread Cert.KernelFfn20Ideal.nD Cert.KernelFfn20Ideal.τ).loc Cert.KernelFfn20Ideal.main_v1)),
      θ_run (Cert.KernelFfn20Ideal.defs (F := Ideal)) (onTc (τ := Cert.KernelFfn20Ideal.τ) (Cert.KernelFfn20Ideal.main (F := Ideal))) ⟨m, fun _ => 0, g⟩ (fun r => ∀ c : Dev Cert.KernelFfn20Ideal.nD,
          r.2.mem ((c.tc : Thread Cert.KernelFfn20Ideal.nD Cert.KernelFfn20Ideal.τ).loc Cert.KernelFfn20Ideal.main_v1) = v0 c
          ∧ r.2.mem ((c.tc : Thread Cert.KernelFfn20Ideal.nD Cert.KernelFfn20Ideal.τ).loc Cert.KernelFfn20Ideal.main_arg0) = m ((c.tc : Thread Cert.KernelFfn20Ideal.nD Cert.KernelFfn20Ideal.τ).loc Cert.KernelFfn20Ideal.main_arg0)
          ∧ r.2.mem ((c.tc : Thread Cert.KernelFfn20Ideal.nD Cert.KernelFfn20Ideal.τ).loc Cert.KernelFfn20Ideal.main_arg1) = m ((c.tc : Thread Cert.KernelFfn20Ideal.nD Cert.KernelFfn20Ideal.τ).loc Cert.KernelFfn20Ideal.main_arg1)
          ∧ r.2.mem ((c.tc : Thread Cert.KernelFfn20Ideal.nD Cert.KernelFfn20Ideal.τ).loc Cert.KernelFfn20Ideal.main_arg2) = m ((c.tc : Thread Cert.KernelFfn20Ideal.nD Cert.KernelFfn20Ideal.τ).loc Cert.KernelFfn20Ideal.main_arg2)
          ∧ r.2.mem ((c.tc : Thread Cert.KernelFfn20Ideal.nD Cert.KernelFfn20Ideal.τ).loc Cert.KernelFfn20Ideal.main_arg3) = m ((c.tc : Thread Cert.KernelFfn20Ideal.nD Cert.KernelFfn20Ideal.τ).loc Cert.KernelFfn20Ideal.main_arg3)
          ∧ r.2.mem ((c.tc : Thread Cert.KernelFfn20Ideal.nD Cert.KernelFfn20Ideal.τ).loc Cert.KernelFfn20Ideal.main_arg4) = m ((c.tc : Thread Cert.KernelFfn20Ideal.nD Cert.KernelFfn20Ideal.τ).loc Cert.KernelFfn20Ideal.main_arg4))
      ∧ θ_run (Cert.ReferenceFfn20Ideal.defs (F := Ideal)) (onTc (τ := Cert.ReferenceFfn20Ideal.τ) (Cert.ReferenceFfn20Ideal.main (F := Ideal))) ⟨m', fun _ => 0, g'⟩ (fun r => ∀ c : Dev Cert.ReferenceFfn20Ideal.nD,
          r.2.mem ((c.tc : Thread Cert.ReferenceFfn20Ideal.nD Cert.ReferenceFfn20Ideal.τ).loc Cert.ReferenceFfn20Ideal.main_v46) = v0 c
          ∧ r.2.mem ((c.tc : Thread Cert.ReferenceFfn20Ideal.nD Cert.ReferenceFfn20Ideal.τ).loc Cert.ReferenceFfn20Ideal.main_arg0) = m' ((c.tc : Thread Cert.ReferenceFfn20Ideal.nD Cert.ReferenceFfn20Ideal.τ).loc Cert.ReferenceFfn20Ideal.main_arg0)
          ∧ r.2.mem ((c.tc : Thread Cert.ReferenceFfn20Ideal.nD Cert.ReferenceFfn20Ideal.τ).loc Cert.ReferenceFfn20Ideal.main_arg1) = m' ((c.tc : Thread Cert.ReferenceFfn20Ideal.nD Cert.ReferenceFfn20Ideal.τ).loc Cert.ReferenceFfn20Ideal.main_arg1)
          ∧ r.2.mem ((c.tc : Thread Cert.ReferenceFfn20Ideal.nD Cert.ReferenceFfn20Ideal.τ).loc Cert.ReferenceFfn20Ideal.main_arg2) = m' ((c.tc : Thread Cert.ReferenceFfn20Ideal.nD Cert.ReferenceFfn20Ideal.τ).loc Cert.ReferenceFfn20Ideal.main_arg2)
          ∧ r.2.mem ((c.tc : Thread Cert.ReferenceFfn20Ideal.nD Cert.ReferenceFfn20Ideal.τ).loc Cert.ReferenceFfn20Ideal.main_arg3) = m' ((c.tc : Thread Cert.ReferenceFfn20Ideal.nD Cert.ReferenceFfn20Ideal.τ).loc Cert.ReferenceFfn20Ideal.main_arg3)
          ∧ r.2.mem ((c.tc : Thread Cert.ReferenceFfn20Ideal.nD Cert.ReferenceFfn20Ideal.τ).loc Cert.ReferenceFfn20Ideal.main_arg4) = m' ((c.tc : Thread Cert.ReferenceFfn20Ideal.nD Cert.ReferenceFfn20Ideal.τ).loc Cert.ReferenceFfn20Ideal.main_arg4))

def preserves_KernelFfn11_KernelFfn11Ideal : Prop :=
  True

def algebraic_KernelFfn11Ideal_ReferenceFfn11Ideal [hKernelFfn11Ideal : Cert.KernelFfn11Ideal.Facts] [hReferenceFfn11Ideal : Cert.ReferenceFfn11Ideal.Facts] : Prop :=
  ∀ (m : (ℓ : Loc Cert.KernelFfn11Ideal.nD Cert.KernelFfn11Ideal.τ Cert.KernelFfn11Ideal.sig) → Buf (Elt Ideal) ℓ) (g : Dev Cert.KernelFfn11Ideal.nD → PrngReg)
    (m' : (ℓ : Loc Cert.ReferenceFfn11Ideal.nD Cert.ReferenceFfn11Ideal.τ Cert.ReferenceFfn11Ideal.sig) → Buf (Elt Ideal) ℓ) (g' : Dev Cert.ReferenceFfn11Ideal.nD → PrngReg), Pre_KernelFfn11Ideal m →
    (∀ c : Dev Cert.KernelFfn11Ideal.nD,
      m' ((c.tc : Thread Cert.ReferenceFfn11Ideal.nD Cert.ReferenceFfn11Ideal.τ).loc Cert.ReferenceFfn11Ideal.main_arg0) = m ((c.tc : Thread Cert.KernelFfn11Ideal.nD Cert.KernelFfn11Ideal.τ).loc Cert.KernelFfn11Ideal.main_arg0)
      ∧ m' ((c.tc : Thread Cert.ReferenceFfn11Ideal.nD Cert.ReferenceFfn11Ideal.τ).loc Cert.ReferenceFfn11Ideal.main_arg1) = m ((c.tc : Thread Cert.KernelFfn11Ideal.nD Cert.KernelFfn11Ideal.τ).loc Cert.KernelFfn11Ideal.main_arg1)
      ∧ m' ((c.tc : Thread Cert.ReferenceFfn11Ideal.nD Cert.ReferenceFfn11Ideal.τ).loc Cert.ReferenceFfn11Ideal.main_arg2) = m ((c.tc : Thread Cert.KernelFfn11Ideal.nD Cert.KernelFfn11Ideal.τ).loc Cert.KernelFfn11Ideal.main_arg2)
      ∧ m' ((c.tc : Thread Cert.ReferenceFfn11Ideal.nD Cert.ReferenceFfn11Ideal.τ).loc Cert.ReferenceFfn11Ideal.main_arg3) = m ((c.tc : Thread Cert.KernelFfn11Ideal.nD Cert.KernelFfn11Ideal.τ).loc Cert.KernelFfn11Ideal.main_arg3)
      ∧ m' ((c.tc : Thread Cert.ReferenceFfn11Ideal.nD Cert.ReferenceFfn11Ideal.τ).loc Cert.ReferenceFfn11Ideal.main_arg4) = m ((c.tc : Thread Cert.KernelFfn11Ideal.nD Cert.KernelFfn11Ideal.τ).loc Cert.KernelFfn11Ideal.main_arg4)) →
    ∃ (v0 : (c : Dev Cert.KernelFfn11Ideal.nD) → Buf (Elt Ideal) ((c.tc : Thread Cert.KernelFfn11Ideal.nD Cert.KernelFfn11Ideal.τ).loc Cert.KernelFfn11Ideal.main_v1)),
      θ_run (Cert.KernelFfn11Ideal.defs (F := Ideal)) (onTc (τ := Cert.KernelFfn11Ideal.τ) (Cert.KernelFfn11Ideal.main (F := Ideal))) ⟨m, fun _ => 0, g⟩ (fun r => ∀ c : Dev Cert.KernelFfn11Ideal.nD,
          r.2.mem ((c.tc : Thread Cert.KernelFfn11Ideal.nD Cert.KernelFfn11Ideal.τ).loc Cert.KernelFfn11Ideal.main_v1) = v0 c
          ∧ r.2.mem ((c.tc : Thread Cert.KernelFfn11Ideal.nD Cert.KernelFfn11Ideal.τ).loc Cert.KernelFfn11Ideal.main_arg0) = m ((c.tc : Thread Cert.KernelFfn11Ideal.nD Cert.KernelFfn11Ideal.τ).loc Cert.KernelFfn11Ideal.main_arg0)
          ∧ r.2.mem ((c.tc : Thread Cert.KernelFfn11Ideal.nD Cert.KernelFfn11Ideal.τ).loc Cert.KernelFfn11Ideal.main_arg1) = m ((c.tc : Thread Cert.KernelFfn11Ideal.nD Cert.KernelFfn11Ideal.τ).loc Cert.KernelFfn11Ideal.main_arg1)
          ∧ r.2.mem ((c.tc : Thread Cert.KernelFfn11Ideal.nD Cert.KernelFfn11Ideal.τ).loc Cert.KernelFfn11Ideal.main_arg2) = m ((c.tc : Thread Cert.KernelFfn11Ideal.nD Cert.KernelFfn11Ideal.τ).loc Cert.KernelFfn11Ideal.main_arg2)
          ∧ r.2.mem ((c.tc : Thread Cert.KernelFfn11Ideal.nD Cert.KernelFfn11Ideal.τ).loc Cert.KernelFfn11Ideal.main_arg3) = m ((c.tc : Thread Cert.KernelFfn11Ideal.nD Cert.KernelFfn11Ideal.τ).loc Cert.KernelFfn11Ideal.main_arg3)
          ∧ r.2.mem ((c.tc : Thread Cert.KernelFfn11Ideal.nD Cert.KernelFfn11Ideal.τ).loc Cert.KernelFfn11Ideal.main_arg4) = m ((c.tc : Thread Cert.KernelFfn11Ideal.nD Cert.KernelFfn11Ideal.τ).loc Cert.KernelFfn11Ideal.main_arg4))
      ∧ θ_run (Cert.ReferenceFfn11Ideal.defs (F := Ideal)) (onTc (τ := Cert.ReferenceFfn11Ideal.τ) (Cert.ReferenceFfn11Ideal.main (F := Ideal))) ⟨m', fun _ => 0, g'⟩ (fun r => ∀ c : Dev Cert.ReferenceFfn11Ideal.nD,
          r.2.mem ((c.tc : Thread Cert.ReferenceFfn11Ideal.nD Cert.ReferenceFfn11Ideal.τ).loc Cert.ReferenceFfn11Ideal.main_v46) = v0 c
          ∧ r.2.mem ((c.tc : Thread Cert.ReferenceFfn11Ideal.nD Cert.ReferenceFfn11Ideal.τ).loc Cert.ReferenceFfn11Ideal.main_arg0) = m' ((c.tc : Thread Cert.ReferenceFfn11Ideal.nD Cert.ReferenceFfn11Ideal.τ).loc Cert.ReferenceFfn11Ideal.main_arg0)
          ∧ r.2.mem ((c.tc : Thread Cert.ReferenceFfn11Ideal.nD Cert.ReferenceFfn11Ideal.τ).loc Cert.ReferenceFfn11Ideal.main_arg1) = m' ((c.tc : Thread Cert.ReferenceFfn11Ideal.nD Cert.ReferenceFfn11Ideal.τ).loc Cert.ReferenceFfn11Ideal.main_arg1)
          ∧ r.2.mem ((c.tc : Thread Cert.ReferenceFfn11Ideal.nD Cert.ReferenceFfn11Ideal.τ).loc Cert.ReferenceFfn11Ideal.main_arg2) = m' ((c.tc : Thread Cert.ReferenceFfn11Ideal.nD Cert.ReferenceFfn11Ideal.τ).loc Cert.ReferenceFfn11Ideal.main_arg2)
          ∧ r.2.mem ((c.tc : Thread Cert.ReferenceFfn11Ideal.nD Cert.ReferenceFfn11Ideal.τ).loc Cert.ReferenceFfn11Ideal.main_arg3) = m' ((c.tc : Thread Cert.ReferenceFfn11Ideal.nD Cert.ReferenceFfn11Ideal.τ).loc Cert.ReferenceFfn11Ideal.main_arg3)
          ∧ r.2.mem ((c.tc : Thread Cert.ReferenceFfn11Ideal.nD Cert.ReferenceFfn11Ideal.τ).loc Cert.ReferenceFfn11Ideal.main_arg4) = m' ((c.tc : Thread Cert.ReferenceFfn11Ideal.nD Cert.ReferenceFfn11Ideal.τ).loc Cert.ReferenceFfn11Ideal.main_arg4))

def preserves_KernelFfn10_KernelFfn10Ideal : Prop :=
  True

def algebraic_KernelFfn10Ideal_ReferenceFfn10Ideal [hKernelFfn10Ideal : Cert.KernelFfn10Ideal.Facts] [hReferenceFfn10Ideal : Cert.ReferenceFfn10Ideal.Facts] : Prop :=
  ∀ (m : (ℓ : Loc Cert.KernelFfn10Ideal.nD Cert.KernelFfn10Ideal.τ Cert.KernelFfn10Ideal.sig) → Buf (Elt Ideal) ℓ) (g : Dev Cert.KernelFfn10Ideal.nD → PrngReg)
    (m' : (ℓ : Loc Cert.ReferenceFfn10Ideal.nD Cert.ReferenceFfn10Ideal.τ Cert.ReferenceFfn10Ideal.sig) → Buf (Elt Ideal) ℓ) (g' : Dev Cert.ReferenceFfn10Ideal.nD → PrngReg), Pre_KernelFfn10Ideal m →
    (∀ c : Dev Cert.KernelFfn10Ideal.nD,
      m' ((c.tc : Thread Cert.ReferenceFfn10Ideal.nD Cert.ReferenceFfn10Ideal.τ).loc Cert.ReferenceFfn10Ideal.main_arg0) = m ((c.tc : Thread Cert.KernelFfn10Ideal.nD Cert.KernelFfn10Ideal.τ).loc Cert.KernelFfn10Ideal.main_arg0)
      ∧ m' ((c.tc : Thread Cert.ReferenceFfn10Ideal.nD Cert.ReferenceFfn10Ideal.τ).loc Cert.ReferenceFfn10Ideal.main_arg1) = m ((c.tc : Thread Cert.KernelFfn10Ideal.nD Cert.KernelFfn10Ideal.τ).loc Cert.KernelFfn10Ideal.main_arg1)
      ∧ m' ((c.tc : Thread Cert.ReferenceFfn10Ideal.nD Cert.ReferenceFfn10Ideal.τ).loc Cert.ReferenceFfn10Ideal.main_arg2) = m ((c.tc : Thread Cert.KernelFfn10Ideal.nD Cert.KernelFfn10Ideal.τ).loc Cert.KernelFfn10Ideal.main_arg2)
      ∧ m' ((c.tc : Thread Cert.ReferenceFfn10Ideal.nD Cert.ReferenceFfn10Ideal.τ).loc Cert.ReferenceFfn10Ideal.main_arg3) = m ((c.tc : Thread Cert.KernelFfn10Ideal.nD Cert.KernelFfn10Ideal.τ).loc Cert.KernelFfn10Ideal.main_arg3)
      ∧ m' ((c.tc : Thread Cert.ReferenceFfn10Ideal.nD Cert.ReferenceFfn10Ideal.τ).loc Cert.ReferenceFfn10Ideal.main_arg4) = m ((c.tc : Thread Cert.KernelFfn10Ideal.nD Cert.KernelFfn10Ideal.τ).loc Cert.KernelFfn10Ideal.main_arg4)) →
    ∃ (v0 : (c : Dev Cert.KernelFfn10Ideal.nD) → Buf (Elt Ideal) ((c.tc : Thread Cert.KernelFfn10Ideal.nD Cert.KernelFfn10Ideal.τ).loc Cert.KernelFfn10Ideal.main_v1)),
      θ_run (Cert.KernelFfn10Ideal.defs (F := Ideal)) (onTc (τ := Cert.KernelFfn10Ideal.τ) (Cert.KernelFfn10Ideal.main (F := Ideal))) ⟨m, fun _ => 0, g⟩ (fun r => ∀ c : Dev Cert.KernelFfn10Ideal.nD,
          r.2.mem ((c.tc : Thread Cert.KernelFfn10Ideal.nD Cert.KernelFfn10Ideal.τ).loc Cert.KernelFfn10Ideal.main_v1) = v0 c
          ∧ r.2.mem ((c.tc : Thread Cert.KernelFfn10Ideal.nD Cert.KernelFfn10Ideal.τ).loc Cert.KernelFfn10Ideal.main_arg0) = m ((c.tc : Thread Cert.KernelFfn10Ideal.nD Cert.KernelFfn10Ideal.τ).loc Cert.KernelFfn10Ideal.main_arg0)
          ∧ r.2.mem ((c.tc : Thread Cert.KernelFfn10Ideal.nD Cert.KernelFfn10Ideal.τ).loc Cert.KernelFfn10Ideal.main_arg1) = m ((c.tc : Thread Cert.KernelFfn10Ideal.nD Cert.KernelFfn10Ideal.τ).loc Cert.KernelFfn10Ideal.main_arg1)
          ∧ r.2.mem ((c.tc : Thread Cert.KernelFfn10Ideal.nD Cert.KernelFfn10Ideal.τ).loc Cert.KernelFfn10Ideal.main_arg2) = m ((c.tc : Thread Cert.KernelFfn10Ideal.nD Cert.KernelFfn10Ideal.τ).loc Cert.KernelFfn10Ideal.main_arg2)
          ∧ r.2.mem ((c.tc : Thread Cert.KernelFfn10Ideal.nD Cert.KernelFfn10Ideal.τ).loc Cert.KernelFfn10Ideal.main_arg3) = m ((c.tc : Thread Cert.KernelFfn10Ideal.nD Cert.KernelFfn10Ideal.τ).loc Cert.KernelFfn10Ideal.main_arg3)
          ∧ r.2.mem ((c.tc : Thread Cert.KernelFfn10Ideal.nD Cert.KernelFfn10Ideal.τ).loc Cert.KernelFfn10Ideal.main_arg4) = m ((c.tc : Thread Cert.KernelFfn10Ideal.nD Cert.KernelFfn10Ideal.τ).loc Cert.KernelFfn10Ideal.main_arg4))
      ∧ θ_run (Cert.ReferenceFfn10Ideal.defs (F := Ideal)) (onTc (τ := Cert.ReferenceFfn10Ideal.τ) (Cert.ReferenceFfn10Ideal.main (F := Ideal))) ⟨m', fun _ => 0, g'⟩ (fun r => ∀ c : Dev Cert.ReferenceFfn10Ideal.nD,
          r.2.mem ((c.tc : Thread Cert.ReferenceFfn10Ideal.nD Cert.ReferenceFfn10Ideal.τ).loc Cert.ReferenceFfn10Ideal.main_v46) = v0 c
          ∧ r.2.mem ((c.tc : Thread Cert.ReferenceFfn10Ideal.nD Cert.ReferenceFfn10Ideal.τ).loc Cert.ReferenceFfn10Ideal.main_arg0) = m' ((c.tc : Thread Cert.ReferenceFfn10Ideal.nD Cert.ReferenceFfn10Ideal.τ).loc Cert.ReferenceFfn10Ideal.main_arg0)
          ∧ r.2.mem ((c.tc : Thread Cert.ReferenceFfn10Ideal.nD Cert.ReferenceFfn10Ideal.τ).loc Cert.ReferenceFfn10Ideal.main_arg1) = m' ((c.tc : Thread Cert.ReferenceFfn10Ideal.nD Cert.ReferenceFfn10Ideal.τ).loc Cert.ReferenceFfn10Ideal.main_arg1)
          ∧ r.2.mem ((c.tc : Thread Cert.ReferenceFfn10Ideal.nD Cert.ReferenceFfn10Ideal.τ).loc Cert.ReferenceFfn10Ideal.main_arg2) = m' ((c.tc : Thread Cert.ReferenceFfn10Ideal.nD Cert.ReferenceFfn10Ideal.τ).loc Cert.ReferenceFfn10Ideal.main_arg2)
          ∧ r.2.mem ((c.tc : Thread Cert.ReferenceFfn10Ideal.nD Cert.ReferenceFfn10Ideal.τ).loc Cert.ReferenceFfn10Ideal.main_arg3) = m' ((c.tc : Thread Cert.ReferenceFfn10Ideal.nD Cert.ReferenceFfn10Ideal.τ).loc Cert.ReferenceFfn10Ideal.main_arg3)
          ∧ r.2.mem ((c.tc : Thread Cert.ReferenceFfn10Ideal.nD Cert.ReferenceFfn10Ideal.τ).loc Cert.ReferenceFfn10Ideal.main_arg4) = m' ((c.tc : Thread Cert.ReferenceFfn10Ideal.nD Cert.ReferenceFfn10Ideal.τ).loc Cert.ReferenceFfn10Ideal.main_arg4))

def preserves_KernelFfn01_KernelFfn01Ideal : Prop :=
  True

def algebraic_KernelFfn01Ideal_ReferenceFfn01Ideal [hKernelFfn01Ideal : Cert.KernelFfn01Ideal.Facts] [hReferenceFfn01Ideal : Cert.ReferenceFfn01Ideal.Facts] : Prop :=
  ∀ (m : (ℓ : Loc Cert.KernelFfn01Ideal.nD Cert.KernelFfn01Ideal.τ Cert.KernelFfn01Ideal.sig) → Buf (Elt Ideal) ℓ) (g : Dev Cert.KernelFfn01Ideal.nD → PrngReg)
    (m' : (ℓ : Loc Cert.ReferenceFfn01Ideal.nD Cert.ReferenceFfn01Ideal.τ Cert.ReferenceFfn01Ideal.sig) → Buf (Elt Ideal) ℓ) (g' : Dev Cert.ReferenceFfn01Ideal.nD → PrngReg), Pre_KernelFfn01Ideal m →
    (∀ c : Dev Cert.KernelFfn01Ideal.nD,
      m' ((c.tc : Thread Cert.ReferenceFfn01Ideal.nD Cert.ReferenceFfn01Ideal.τ).loc Cert.ReferenceFfn01Ideal.main_arg0) = m ((c.tc : Thread Cert.KernelFfn01Ideal.nD Cert.KernelFfn01Ideal.τ).loc Cert.KernelFfn01Ideal.main_arg0)
      ∧ m' ((c.tc : Thread Cert.ReferenceFfn01Ideal.nD Cert.ReferenceFfn01Ideal.τ).loc Cert.ReferenceFfn01Ideal.main_arg1) = m ((c.tc : Thread Cert.KernelFfn01Ideal.nD Cert.KernelFfn01Ideal.τ).loc Cert.KernelFfn01Ideal.main_arg1)
      ∧ m' ((c.tc : Thread Cert.ReferenceFfn01Ideal.nD Cert.ReferenceFfn01Ideal.τ).loc Cert.ReferenceFfn01Ideal.main_arg2) = m ((c.tc : Thread Cert.KernelFfn01Ideal.nD Cert.KernelFfn01Ideal.τ).loc Cert.KernelFfn01Ideal.main_arg2)
      ∧ m' ((c.tc : Thread Cert.ReferenceFfn01Ideal.nD Cert.ReferenceFfn01Ideal.τ).loc Cert.ReferenceFfn01Ideal.main_arg3) = m ((c.tc : Thread Cert.KernelFfn01Ideal.nD Cert.KernelFfn01Ideal.τ).loc Cert.KernelFfn01Ideal.main_arg3)
      ∧ m' ((c.tc : Thread Cert.ReferenceFfn01Ideal.nD Cert.ReferenceFfn01Ideal.τ).loc Cert.ReferenceFfn01Ideal.main_arg4) = m ((c.tc : Thread Cert.KernelFfn01Ideal.nD Cert.KernelFfn01Ideal.τ).loc Cert.KernelFfn01Ideal.main_arg4)) →
    ∃ (v0 : (c : Dev Cert.KernelFfn01Ideal.nD) → Buf (Elt Ideal) ((c.tc : Thread Cert.KernelFfn01Ideal.nD Cert.KernelFfn01Ideal.τ).loc Cert.KernelFfn01Ideal.main_v1)),
      θ_run (Cert.KernelFfn01Ideal.defs (F := Ideal)) (onTc (τ := Cert.KernelFfn01Ideal.τ) (Cert.KernelFfn01Ideal.main (F := Ideal))) ⟨m, fun _ => 0, g⟩ (fun r => ∀ c : Dev Cert.KernelFfn01Ideal.nD,
          r.2.mem ((c.tc : Thread Cert.KernelFfn01Ideal.nD Cert.KernelFfn01Ideal.τ).loc Cert.KernelFfn01Ideal.main_v1) = v0 c
          ∧ r.2.mem ((c.tc : Thread Cert.KernelFfn01Ideal.nD Cert.KernelFfn01Ideal.τ).loc Cert.KernelFfn01Ideal.main_arg0) = m ((c.tc : Thread Cert.KernelFfn01Ideal.nD Cert.KernelFfn01Ideal.τ).loc Cert.KernelFfn01Ideal.main_arg0)
          ∧ r.2.mem ((c.tc : Thread Cert.KernelFfn01Ideal.nD Cert.KernelFfn01Ideal.τ).loc Cert.KernelFfn01Ideal.main_arg1) = m ((c.tc : Thread Cert.KernelFfn01Ideal.nD Cert.KernelFfn01Ideal.τ).loc Cert.KernelFfn01Ideal.main_arg1)
          ∧ r.2.mem ((c.tc : Thread Cert.KernelFfn01Ideal.nD Cert.KernelFfn01Ideal.τ).loc Cert.KernelFfn01Ideal.main_arg2) = m ((c.tc : Thread Cert.KernelFfn01Ideal.nD Cert.KernelFfn01Ideal.τ).loc Cert.KernelFfn01Ideal.main_arg2)
          ∧ r.2.mem ((c.tc : Thread Cert.KernelFfn01Ideal.nD Cert.KernelFfn01Ideal.τ).loc Cert.KernelFfn01Ideal.main_arg3) = m ((c.tc : Thread Cert.KernelFfn01Ideal.nD Cert.KernelFfn01Ideal.τ).loc Cert.KernelFfn01Ideal.main_arg3)
          ∧ r.2.mem ((c.tc : Thread Cert.KernelFfn01Ideal.nD Cert.KernelFfn01Ideal.τ).loc Cert.KernelFfn01Ideal.main_arg4) = m ((c.tc : Thread Cert.KernelFfn01Ideal.nD Cert.KernelFfn01Ideal.τ).loc Cert.KernelFfn01Ideal.main_arg4))
      ∧ θ_run (Cert.ReferenceFfn01Ideal.defs (F := Ideal)) (onTc (τ := Cert.ReferenceFfn01Ideal.τ) (Cert.ReferenceFfn01Ideal.main (F := Ideal))) ⟨m', fun _ => 0, g'⟩ (fun r => ∀ c : Dev Cert.ReferenceFfn01Ideal.nD,
          r.2.mem ((c.tc : Thread Cert.ReferenceFfn01Ideal.nD Cert.ReferenceFfn01Ideal.τ).loc Cert.ReferenceFfn01Ideal.main_v46) = v0 c
          ∧ r.2.mem ((c.tc : Thread Cert.ReferenceFfn01Ideal.nD Cert.ReferenceFfn01Ideal.τ).loc Cert.ReferenceFfn01Ideal.main_arg0) = m' ((c.tc : Thread Cert.ReferenceFfn01Ideal.nD Cert.ReferenceFfn01Ideal.τ).loc Cert.ReferenceFfn01Ideal.main_arg0)
          ∧ r.2.mem ((c.tc : Thread Cert.ReferenceFfn01Ideal.nD Cert.ReferenceFfn01Ideal.τ).loc Cert.ReferenceFfn01Ideal.main_arg1) = m' ((c.tc : Thread Cert.ReferenceFfn01Ideal.nD Cert.ReferenceFfn01Ideal.τ).loc Cert.ReferenceFfn01Ideal.main_arg1)
          ∧ r.2.mem ((c.tc : Thread Cert.ReferenceFfn01Ideal.nD Cert.ReferenceFfn01Ideal.τ).loc Cert.ReferenceFfn01Ideal.main_arg2) = m' ((c.tc : Thread Cert.ReferenceFfn01Ideal.nD Cert.ReferenceFfn01Ideal.τ).loc Cert.ReferenceFfn01Ideal.main_arg2)
          ∧ r.2.mem ((c.tc : Thread Cert.ReferenceFfn01Ideal.nD Cert.ReferenceFfn01Ideal.τ).loc Cert.ReferenceFfn01Ideal.main_arg3) = m' ((c.tc : Thread Cert.ReferenceFfn01Ideal.nD Cert.ReferenceFfn01Ideal.τ).loc Cert.ReferenceFfn01Ideal.main_arg3)
          ∧ r.2.mem ((c.tc : Thread Cert.ReferenceFfn01Ideal.nD Cert.ReferenceFfn01Ideal.τ).loc Cert.ReferenceFfn01Ideal.main_arg4) = m' ((c.tc : Thread Cert.ReferenceFfn01Ideal.nD Cert.ReferenceFfn01Ideal.τ).loc Cert.ReferenceFfn01Ideal.main_arg4))

def preserves_KernelFfn00_KernelFfn00Ideal : Prop :=
  True

def algebraic_KernelFfn00Ideal_ReferenceFfn00Ideal [hKernelFfn00Ideal : Cert.KernelFfn00Ideal.Facts] [hReferenceFfn00Ideal : Cert.ReferenceFfn00Ideal.Facts] : Prop :=
  ∀ (m : (ℓ : Loc Cert.KernelFfn00Ideal.nD Cert.KernelFfn00Ideal.τ Cert.KernelFfn00Ideal.sig) → Buf (Elt Ideal) ℓ) (g : Dev Cert.KernelFfn00Ideal.nD → PrngReg)
    (m' : (ℓ : Loc Cert.ReferenceFfn00Ideal.nD Cert.ReferenceFfn00Ideal.τ Cert.ReferenceFfn00Ideal.sig) → Buf (Elt Ideal) ℓ) (g' : Dev Cert.ReferenceFfn00Ideal.nD → PrngReg), Pre_KernelFfn00Ideal m →
    (∀ c : Dev Cert.KernelFfn00Ideal.nD,
      m' ((c.tc : Thread Cert.ReferenceFfn00Ideal.nD Cert.ReferenceFfn00Ideal.τ).loc Cert.ReferenceFfn00Ideal.main_arg0) = m ((c.tc : Thread Cert.KernelFfn00Ideal.nD Cert.KernelFfn00Ideal.τ).loc Cert.KernelFfn00Ideal.main_arg0)
      ∧ m' ((c.tc : Thread Cert.ReferenceFfn00Ideal.nD Cert.ReferenceFfn00Ideal.τ).loc Cert.ReferenceFfn00Ideal.main_arg1) = m ((c.tc : Thread Cert.KernelFfn00Ideal.nD Cert.KernelFfn00Ideal.τ).loc Cert.KernelFfn00Ideal.main_arg1)
      ∧ m' ((c.tc : Thread Cert.ReferenceFfn00Ideal.nD Cert.ReferenceFfn00Ideal.τ).loc Cert.ReferenceFfn00Ideal.main_arg2) = m ((c.tc : Thread Cert.KernelFfn00Ideal.nD Cert.KernelFfn00Ideal.τ).loc Cert.KernelFfn00Ideal.main_arg2)
      ∧ m' ((c.tc : Thread Cert.ReferenceFfn00Ideal.nD Cert.ReferenceFfn00Ideal.τ).loc Cert.ReferenceFfn00Ideal.main_arg3) = m ((c.tc : Thread Cert.KernelFfn00Ideal.nD Cert.KernelFfn00Ideal.τ).loc Cert.KernelFfn00Ideal.main_arg3)
      ∧ m' ((c.tc : Thread Cert.ReferenceFfn00Ideal.nD Cert.ReferenceFfn00Ideal.τ).loc Cert.ReferenceFfn00Ideal.main_arg4) = m ((c.tc : Thread Cert.KernelFfn00Ideal.nD Cert.KernelFfn00Ideal.τ).loc Cert.KernelFfn00Ideal.main_arg4)) →
    ∃ (v0 : (c : Dev Cert.KernelFfn00Ideal.nD) → Buf (Elt Ideal) ((c.tc : Thread Cert.KernelFfn00Ideal.nD Cert.KernelFfn00Ideal.τ).loc Cert.KernelFfn00Ideal.main_v1)),
      θ_run (Cert.KernelFfn00Ideal.defs (F := Ideal)) (onTc (τ := Cert.KernelFfn00Ideal.τ) (Cert.KernelFfn00Ideal.main (F := Ideal))) ⟨m, fun _ => 0, g⟩ (fun r => ∀ c : Dev Cert.KernelFfn00Ideal.nD,
          r.2.mem ((c.tc : Thread Cert.KernelFfn00Ideal.nD Cert.KernelFfn00Ideal.τ).loc Cert.KernelFfn00Ideal.main_v1) = v0 c
          ∧ r.2.mem ((c.tc : Thread Cert.KernelFfn00Ideal.nD Cert.KernelFfn00Ideal.τ).loc Cert.KernelFfn00Ideal.main_arg0) = m ((c.tc : Thread Cert.KernelFfn00Ideal.nD Cert.KernelFfn00Ideal.τ).loc Cert.KernelFfn00Ideal.main_arg0)
          ∧ r.2.mem ((c.tc : Thread Cert.KernelFfn00Ideal.nD Cert.KernelFfn00Ideal.τ).loc Cert.KernelFfn00Ideal.main_arg1) = m ((c.tc : Thread Cert.KernelFfn00Ideal.nD Cert.KernelFfn00Ideal.τ).loc Cert.KernelFfn00Ideal.main_arg1)
          ∧ r.2.mem ((c.tc : Thread Cert.KernelFfn00Ideal.nD Cert.KernelFfn00Ideal.τ).loc Cert.KernelFfn00Ideal.main_arg2) = m ((c.tc : Thread Cert.KernelFfn00Ideal.nD Cert.KernelFfn00Ideal.τ).loc Cert.KernelFfn00Ideal.main_arg2)
          ∧ r.2.mem ((c.tc : Thread Cert.KernelFfn00Ideal.nD Cert.KernelFfn00Ideal.τ).loc Cert.KernelFfn00Ideal.main_arg3) = m ((c.tc : Thread Cert.KernelFfn00Ideal.nD Cert.KernelFfn00Ideal.τ).loc Cert.KernelFfn00Ideal.main_arg3)
          ∧ r.2.mem ((c.tc : Thread Cert.KernelFfn00Ideal.nD Cert.KernelFfn00Ideal.τ).loc Cert.KernelFfn00Ideal.main_arg4) = m ((c.tc : Thread Cert.KernelFfn00Ideal.nD Cert.KernelFfn00Ideal.τ).loc Cert.KernelFfn00Ideal.main_arg4))
      ∧ θ_run (Cert.ReferenceFfn00Ideal.defs (F := Ideal)) (onTc (τ := Cert.ReferenceFfn00Ideal.τ) (Cert.ReferenceFfn00Ideal.main (F := Ideal))) ⟨m', fun _ => 0, g'⟩ (fun r => ∀ c : Dev Cert.ReferenceFfn00Ideal.nD,
          r.2.mem ((c.tc : Thread Cert.ReferenceFfn00Ideal.nD Cert.ReferenceFfn00Ideal.τ).loc Cert.ReferenceFfn00Ideal.main_v46) = v0 c
          ∧ r.2.mem ((c.tc : Thread Cert.ReferenceFfn00Ideal.nD Cert.ReferenceFfn00Ideal.τ).loc Cert.ReferenceFfn00Ideal.main_arg0) = m' ((c.tc : Thread Cert.ReferenceFfn00Ideal.nD Cert.ReferenceFfn00Ideal.τ).loc Cert.ReferenceFfn00Ideal.main_arg0)
          ∧ r.2.mem ((c.tc : Thread Cert.ReferenceFfn00Ideal.nD Cert.ReferenceFfn00Ideal.τ).loc Cert.ReferenceFfn00Ideal.main_arg1) = m' ((c.tc : Thread Cert.ReferenceFfn00Ideal.nD Cert.ReferenceFfn00Ideal.τ).loc Cert.ReferenceFfn00Ideal.main_arg1)
          ∧ r.2.mem ((c.tc : Thread Cert.ReferenceFfn00Ideal.nD Cert.ReferenceFfn00Ideal.τ).loc Cert.ReferenceFfn00Ideal.main_arg2) = m' ((c.tc : Thread Cert.ReferenceFfn00Ideal.nD Cert.ReferenceFfn00Ideal.τ).loc Cert.ReferenceFfn00Ideal.main_arg2)
          ∧ r.2.mem ((c.tc : Thread Cert.ReferenceFfn00Ideal.nD Cert.ReferenceFfn00Ideal.τ).loc Cert.ReferenceFfn00Ideal.main_arg3) = m' ((c.tc : Thread Cert.ReferenceFfn00Ideal.nD Cert.ReferenceFfn00Ideal.τ).loc Cert.ReferenceFfn00Ideal.main_arg3)
          ∧ r.2.mem ((c.tc : Thread Cert.ReferenceFfn00Ideal.nD Cert.ReferenceFfn00Ideal.τ).loc Cert.ReferenceFfn00Ideal.main_arg4) = m' ((c.tc : Thread Cert.ReferenceFfn00Ideal.nD Cert.ReferenceFfn00Ideal.τ).loc Cert.ReferenceFfn00Ideal.main_arg4))

def preserves_KernelConv2_KernelConv2Ideal : Prop :=
  True

def algebraic_KernelConv2Ideal_ReferenceConv2Ideal [hKernelConv2Ideal : Cert.KernelConv2Ideal.Facts] [hReferenceConv2Ideal : Cert.ReferenceConv2Ideal.Facts] : Prop :=
  ∀ (m : (ℓ : Loc Cert.KernelConv2Ideal.nD Cert.KernelConv2Ideal.τ Cert.KernelConv2Ideal.sig) → Buf (Elt Ideal) ℓ) (g : Dev Cert.KernelConv2Ideal.nD → PrngReg)
    (m' : (ℓ : Loc Cert.ReferenceConv2Ideal.nD Cert.ReferenceConv2Ideal.τ Cert.ReferenceConv2Ideal.sig) → Buf (Elt Ideal) ℓ) (g' : Dev Cert.ReferenceConv2Ideal.nD → PrngReg), Pre_KernelConv2Ideal m →
    (∀ c : Dev Cert.KernelConv2Ideal.nD,
      m' ((c.tc : Thread Cert.ReferenceConv2Ideal.nD Cert.ReferenceConv2Ideal.τ).loc Cert.ReferenceConv2Ideal.main_arg0) = m ((c.tc : Thread Cert.KernelConv2Ideal.nD Cert.KernelConv2Ideal.τ).loc Cert.KernelConv2Ideal.main_arg0)
      ∧ m' ((c.tc : Thread Cert.ReferenceConv2Ideal.nD Cert.ReferenceConv2Ideal.τ).loc Cert.ReferenceConv2Ideal.main_arg1) = m ((c.tc : Thread Cert.KernelConv2Ideal.nD Cert.KernelConv2Ideal.τ).loc Cert.KernelConv2Ideal.main_arg1)
      ∧ m' ((c.tc : Thread Cert.ReferenceConv2Ideal.nD Cert.ReferenceConv2Ideal.τ).loc Cert.ReferenceConv2Ideal.main_arg2) = m ((c.tc : Thread Cert.KernelConv2Ideal.nD Cert.KernelConv2Ideal.τ).loc Cert.KernelConv2Ideal.main_arg2)
      ∧ m' ((c.tc : Thread Cert.ReferenceConv2Ideal.nD Cert.ReferenceConv2Ideal.τ).loc Cert.ReferenceConv2Ideal.main_arg3) = m ((c.tc : Thread Cert.KernelConv2Ideal.nD Cert.KernelConv2Ideal.τ).loc Cert.KernelConv2Ideal.main_arg3)
      ∧ m' ((c.tc : Thread Cert.ReferenceConv2Ideal.nD Cert.ReferenceConv2Ideal.τ).loc Cert.ReferenceConv2Ideal.main_arg4) = m ((c.tc : Thread Cert.KernelConv2Ideal.nD Cert.KernelConv2Ideal.τ).loc Cert.KernelConv2Ideal.main_arg4)
      ∧ m' ((c.tc : Thread Cert.ReferenceConv2Ideal.nD Cert.ReferenceConv2Ideal.τ).loc Cert.ReferenceConv2Ideal.main_arg5) = m ((c.tc : Thread Cert.KernelConv2Ideal.nD Cert.KernelConv2Ideal.τ).loc Cert.KernelConv2Ideal.main_arg5)
      ∧ m' ((c.tc : Thread Cert.ReferenceConv2Ideal.nD Cert.ReferenceConv2Ideal.τ).loc Cert.ReferenceConv2Ideal.main_arg6) = m ((c.tc : Thread Cert.KernelConv2Ideal.nD Cert.KernelConv2Ideal.τ).loc Cert.KernelConv2Ideal.main_arg6)
      ∧ m' ((c.tc : Thread Cert.ReferenceConv2Ideal.nD Cert.ReferenceConv2Ideal.τ).loc Cert.ReferenceConv2Ideal.main_arg7) = m ((c.tc : Thread Cert.KernelConv2Ideal.nD Cert.KernelConv2Ideal.τ).loc Cert.KernelConv2Ideal.main_arg7)
      ∧ m' ((c.tc : Thread Cert.ReferenceConv2Ideal.nD Cert.ReferenceConv2Ideal.τ).loc Cert.ReferenceConv2Ideal.main_arg8) = m ((c.tc : Thread Cert.KernelConv2Ideal.nD Cert.KernelConv2Ideal.τ).loc Cert.KernelConv2Ideal.main_arg8)) →
    ∃ (v0 : (c : Dev Cert.KernelConv2Ideal.nD) → Buf (Elt Ideal) ((c.tc : Thread Cert.KernelConv2Ideal.nD Cert.KernelConv2Ideal.τ).loc Cert.KernelConv2Ideal.main_v8)),
      θ_run (Cert.KernelConv2Ideal.defs (F := Ideal)) (onTc (τ := Cert.KernelConv2Ideal.τ) (Cert.KernelConv2Ideal.main (F := Ideal))) ⟨m, fun _ => 0, g⟩ (fun r => ∀ c : Dev Cert.KernelConv2Ideal.nD,
          r.2.mem ((c.tc : Thread Cert.KernelConv2Ideal.nD Cert.KernelConv2Ideal.τ).loc Cert.KernelConv2Ideal.main_v8) = v0 c
          ∧ r.2.mem ((c.tc : Thread Cert.KernelConv2Ideal.nD Cert.KernelConv2Ideal.τ).loc Cert.KernelConv2Ideal.main_arg0) = m ((c.tc : Thread Cert.KernelConv2Ideal.nD Cert.KernelConv2Ideal.τ).loc Cert.KernelConv2Ideal.main_arg0)
          ∧ r.2.mem ((c.tc : Thread Cert.KernelConv2Ideal.nD Cert.KernelConv2Ideal.τ).loc Cert.KernelConv2Ideal.main_arg1) = m ((c.tc : Thread Cert.KernelConv2Ideal.nD Cert.KernelConv2Ideal.τ).loc Cert.KernelConv2Ideal.main_arg1)
          ∧ r.2.mem ((c.tc : Thread Cert.KernelConv2Ideal.nD Cert.KernelConv2Ideal.τ).loc Cert.KernelConv2Ideal.main_arg2) = m ((c.tc : Thread Cert.KernelConv2Ideal.nD Cert.KernelConv2Ideal.τ).loc Cert.KernelConv2Ideal.main_arg2)
          ∧ r.2.mem ((c.tc : Thread Cert.KernelConv2Ideal.nD Cert.KernelConv2Ideal.τ).loc Cert.KernelConv2Ideal.main_arg3) = m ((c.tc : Thread Cert.KernelConv2Ideal.nD Cert.KernelConv2Ideal.τ).loc Cert.KernelConv2Ideal.main_arg3)
          ∧ r.2.mem ((c.tc : Thread Cert.KernelConv2Ideal.nD Cert.KernelConv2Ideal.τ).loc Cert.KernelConv2Ideal.main_arg4) = m ((c.tc : Thread Cert.KernelConv2Ideal.nD Cert.KernelConv2Ideal.τ).loc Cert.KernelConv2Ideal.main_arg4)
          ∧ r.2.mem ((c.tc : Thread Cert.KernelConv2Ideal.nD Cert.KernelConv2Ideal.τ).loc Cert.KernelConv2Ideal.main_arg5) = m ((c.tc : Thread Cert.KernelConv2Ideal.nD Cert.KernelConv2Ideal.τ).loc Cert.KernelConv2Ideal.main_arg5)
          ∧ r.2.mem ((c.tc : Thread Cert.KernelConv2Ideal.nD Cert.KernelConv2Ideal.τ).loc Cert.KernelConv2Ideal.main_arg6) = m ((c.tc : Thread Cert.KernelConv2Ideal.nD Cert.KernelConv2Ideal.τ).loc Cert.KernelConv2Ideal.main_arg6)
          ∧ r.2.mem ((c.tc : Thread Cert.KernelConv2Ideal.nD Cert.KernelConv2Ideal.τ).loc Cert.KernelConv2Ideal.main_arg7) = m ((c.tc : Thread Cert.KernelConv2Ideal.nD Cert.KernelConv2Ideal.τ).loc Cert.KernelConv2Ideal.main_arg7)
          ∧ r.2.mem ((c.tc : Thread Cert.KernelConv2Ideal.nD Cert.KernelConv2Ideal.τ).loc Cert.KernelConv2Ideal.main_arg8) = m ((c.tc : Thread Cert.KernelConv2Ideal.nD Cert.KernelConv2Ideal.τ).loc Cert.KernelConv2Ideal.main_arg8))
      ∧ θ_run (Cert.ReferenceConv2Ideal.defs (F := Ideal)) (onTc (τ := Cert.ReferenceConv2Ideal.τ) (Cert.ReferenceConv2Ideal.main (F := Ideal))) ⟨m', fun _ => 0, g'⟩ (fun r => ∀ c : Dev Cert.ReferenceConv2Ideal.nD,
          r.2.mem ((c.tc : Thread Cert.ReferenceConv2Ideal.nD Cert.ReferenceConv2Ideal.τ).loc Cert.ReferenceConv2Ideal.main_v276) = v0 c
          ∧ r.2.mem ((c.tc : Thread Cert.ReferenceConv2Ideal.nD Cert.ReferenceConv2Ideal.τ).loc Cert.ReferenceConv2Ideal.main_arg0) = m' ((c.tc : Thread Cert.ReferenceConv2Ideal.nD Cert.ReferenceConv2Ideal.τ).loc Cert.ReferenceConv2Ideal.main_arg0)
          ∧ r.2.mem ((c.tc : Thread Cert.ReferenceConv2Ideal.nD Cert.ReferenceConv2Ideal.τ).loc Cert.ReferenceConv2Ideal.main_arg1) = m' ((c.tc : Thread Cert.ReferenceConv2Ideal.nD Cert.ReferenceConv2Ideal.τ).loc Cert.ReferenceConv2Ideal.main_arg1)
          ∧ r.2.mem ((c.tc : Thread Cert.ReferenceConv2Ideal.nD Cert.ReferenceConv2Ideal.τ).loc Cert.ReferenceConv2Ideal.main_arg2) = m' ((c.tc : Thread Cert.ReferenceConv2Ideal.nD Cert.ReferenceConv2Ideal.τ).loc Cert.ReferenceConv2Ideal.main_arg2)
          ∧ r.2.mem ((c.tc : Thread Cert.ReferenceConv2Ideal.nD Cert.ReferenceConv2Ideal.τ).loc Cert.ReferenceConv2Ideal.main_arg3) = m' ((c.tc : Thread Cert.ReferenceConv2Ideal.nD Cert.ReferenceConv2Ideal.τ).loc Cert.ReferenceConv2Ideal.main_arg3)
          ∧ r.2.mem ((c.tc : Thread Cert.ReferenceConv2Ideal.nD Cert.ReferenceConv2Ideal.τ).loc Cert.ReferenceConv2Ideal.main_arg4) = m' ((c.tc : Thread Cert.ReferenceConv2Ideal.nD Cert.ReferenceConv2Ideal.τ).loc Cert.ReferenceConv2Ideal.main_arg4)
          ∧ r.2.mem ((c.tc : Thread Cert.ReferenceConv2Ideal.nD Cert.ReferenceConv2Ideal.τ).loc Cert.ReferenceConv2Ideal.main_arg5) = m' ((c.tc : Thread Cert.ReferenceConv2Ideal.nD Cert.ReferenceConv2Ideal.τ).loc Cert.ReferenceConv2Ideal.main_arg5)
          ∧ r.2.mem ((c.tc : Thread Cert.ReferenceConv2Ideal.nD Cert.ReferenceConv2Ideal.τ).loc Cert.ReferenceConv2Ideal.main_arg6) = m' ((c.tc : Thread Cert.ReferenceConv2Ideal.nD Cert.ReferenceConv2Ideal.τ).loc Cert.ReferenceConv2Ideal.main_arg6)
          ∧ r.2.mem ((c.tc : Thread Cert.ReferenceConv2Ideal.nD Cert.ReferenceConv2Ideal.τ).loc Cert.ReferenceConv2Ideal.main_arg7) = m' ((c.tc : Thread Cert.ReferenceConv2Ideal.nD Cert.ReferenceConv2Ideal.τ).loc Cert.ReferenceConv2Ideal.main_arg7)
          ∧ r.2.mem ((c.tc : Thread Cert.ReferenceConv2Ideal.nD Cert.ReferenceConv2Ideal.τ).loc Cert.ReferenceConv2Ideal.main_arg8) = m' ((c.tc : Thread Cert.ReferenceConv2Ideal.nD Cert.ReferenceConv2Ideal.τ).loc Cert.ReferenceConv2Ideal.main_arg8))

def preserves_KernelSgu3_KernelSgu3Ideal : Prop :=
  True

def algebraic_KernelSgu3Ideal_ReferenceSgu3Ideal [hKernelSgu3Ideal : Cert.KernelSgu3Ideal.Facts] [hReferenceSgu3Ideal : Cert.ReferenceSgu3Ideal.Facts] : Prop :=
  ∀ (m : (ℓ : Loc Cert.KernelSgu3Ideal.nD Cert.KernelSgu3Ideal.τ Cert.KernelSgu3Ideal.sig) → Buf (Elt Ideal) ℓ) (g : Dev Cert.KernelSgu3Ideal.nD → PrngReg)
    (m' : (ℓ : Loc Cert.ReferenceSgu3Ideal.nD Cert.ReferenceSgu3Ideal.τ Cert.ReferenceSgu3Ideal.sig) → Buf (Elt Ideal) ℓ) (g' : Dev Cert.ReferenceSgu3Ideal.nD → PrngReg), Pre_KernelSgu3Ideal m →
    (∀ c : Dev Cert.KernelSgu3Ideal.nD,
      m' ((c.tc : Thread Cert.ReferenceSgu3Ideal.nD Cert.ReferenceSgu3Ideal.τ).loc Cert.ReferenceSgu3Ideal.main_arg0) = m ((c.tc : Thread Cert.KernelSgu3Ideal.nD Cert.KernelSgu3Ideal.τ).loc Cert.KernelSgu3Ideal.main_arg0)
      ∧ m' ((c.tc : Thread Cert.ReferenceSgu3Ideal.nD Cert.ReferenceSgu3Ideal.τ).loc Cert.ReferenceSgu3Ideal.main_arg1) = m ((c.tc : Thread Cert.KernelSgu3Ideal.nD Cert.KernelSgu3Ideal.τ).loc Cert.KernelSgu3Ideal.main_arg1)
      ∧ m' ((c.tc : Thread Cert.ReferenceSgu3Ideal.nD Cert.ReferenceSgu3Ideal.τ).loc Cert.ReferenceSgu3Ideal.main_arg2) = m ((c.tc : Thread Cert.KernelSgu3Ideal.nD Cert.KernelSgu3Ideal.τ).loc Cert.KernelSgu3Ideal.main_arg2)
      ∧ m' ((c.tc : Thread Cert.ReferenceSgu3Ideal.nD Cert.ReferenceSgu3Ideal.τ).loc Cert.ReferenceSgu3Ideal.main_arg3) = m ((c.tc : Thread Cert.KernelSgu3Ideal.nD Cert.KernelSgu3Ideal.τ).loc Cert.KernelSgu3Ideal.main_arg3)
      ∧ m' ((c.tc : Thread Cert.ReferenceSgu3Ideal.nD Cert.ReferenceSgu3Ideal.τ).loc Cert.ReferenceSgu3Ideal.main_arg4) = m ((c.tc : Thread Cert.KernelSgu3Ideal.nD Cert.KernelSgu3Ideal.τ).loc Cert.KernelSgu3Ideal.main_arg4)
      ∧ m' ((c.tc : Thread Cert.ReferenceSgu3Ideal.nD Cert.ReferenceSgu3Ideal.τ).loc Cert.ReferenceSgu3Ideal.main_arg5) = m ((c.tc : Thread Cert.KernelSgu3Ideal.nD Cert.KernelSgu3Ideal.τ).loc Cert.KernelSgu3Ideal.main_arg5)
      ∧ m' ((c.tc : Thread Cert.ReferenceSgu3Ideal.nD Cert.ReferenceSgu3Ideal.τ).loc Cert.ReferenceSgu3Ideal.main_arg6) = m ((c.tc : Thread Cert.KernelSgu3Ideal.nD Cert.KernelSgu3Ideal.τ).loc Cert.KernelSgu3Ideal.main_arg6)
      ∧ m' ((c.tc : Thread Cert.ReferenceSgu3Ideal.nD Cert.ReferenceSgu3Ideal.τ).loc Cert.ReferenceSgu3Ideal.main_arg7) = m ((c.tc : Thread Cert.KernelSgu3Ideal.nD Cert.KernelSgu3Ideal.τ).loc Cert.KernelSgu3Ideal.main_arg7)) →
    ∃ (v0 : (c : Dev Cert.KernelSgu3Ideal.nD) → Buf (Elt Ideal) ((c.tc : Thread Cert.KernelSgu3Ideal.nD Cert.KernelSgu3Ideal.τ).loc Cert.KernelSgu3Ideal.main_v6)),
      θ_run (Cert.KernelSgu3Ideal.defs (F := Ideal)) (onTc (τ := Cert.KernelSgu3Ideal.τ) (Cert.KernelSgu3Ideal.main (F := Ideal))) ⟨m, fun _ => 0, g⟩ (fun r => ∀ c : Dev Cert.KernelSgu3Ideal.nD,
          r.2.mem ((c.tc : Thread Cert.KernelSgu3Ideal.nD Cert.KernelSgu3Ideal.τ).loc Cert.KernelSgu3Ideal.main_v6) = v0 c
          ∧ r.2.mem ((c.tc : Thread Cert.KernelSgu3Ideal.nD Cert.KernelSgu3Ideal.τ).loc Cert.KernelSgu3Ideal.main_arg0) = m ((c.tc : Thread Cert.KernelSgu3Ideal.nD Cert.KernelSgu3Ideal.τ).loc Cert.KernelSgu3Ideal.main_arg0)
          ∧ r.2.mem ((c.tc : Thread Cert.KernelSgu3Ideal.nD Cert.KernelSgu3Ideal.τ).loc Cert.KernelSgu3Ideal.main_arg1) = m ((c.tc : Thread Cert.KernelSgu3Ideal.nD Cert.KernelSgu3Ideal.τ).loc Cert.KernelSgu3Ideal.main_arg1)
          ∧ r.2.mem ((c.tc : Thread Cert.KernelSgu3Ideal.nD Cert.KernelSgu3Ideal.τ).loc Cert.KernelSgu3Ideal.main_arg2) = m ((c.tc : Thread Cert.KernelSgu3Ideal.nD Cert.KernelSgu3Ideal.τ).loc Cert.KernelSgu3Ideal.main_arg2)
          ∧ r.2.mem ((c.tc : Thread Cert.KernelSgu3Ideal.nD Cert.KernelSgu3Ideal.τ).loc Cert.KernelSgu3Ideal.main_arg3) = m ((c.tc : Thread Cert.KernelSgu3Ideal.nD Cert.KernelSgu3Ideal.τ).loc Cert.KernelSgu3Ideal.main_arg3)
          ∧ r.2.mem ((c.tc : Thread Cert.KernelSgu3Ideal.nD Cert.KernelSgu3Ideal.τ).loc Cert.KernelSgu3Ideal.main_arg4) = m ((c.tc : Thread Cert.KernelSgu3Ideal.nD Cert.KernelSgu3Ideal.τ).loc Cert.KernelSgu3Ideal.main_arg4)
          ∧ r.2.mem ((c.tc : Thread Cert.KernelSgu3Ideal.nD Cert.KernelSgu3Ideal.τ).loc Cert.KernelSgu3Ideal.main_arg5) = m ((c.tc : Thread Cert.KernelSgu3Ideal.nD Cert.KernelSgu3Ideal.τ).loc Cert.KernelSgu3Ideal.main_arg5)
          ∧ r.2.mem ((c.tc : Thread Cert.KernelSgu3Ideal.nD Cert.KernelSgu3Ideal.τ).loc Cert.KernelSgu3Ideal.main_arg6) = m ((c.tc : Thread Cert.KernelSgu3Ideal.nD Cert.KernelSgu3Ideal.τ).loc Cert.KernelSgu3Ideal.main_arg6)
          ∧ r.2.mem ((c.tc : Thread Cert.KernelSgu3Ideal.nD Cert.KernelSgu3Ideal.τ).loc Cert.KernelSgu3Ideal.main_arg7) = m ((c.tc : Thread Cert.KernelSgu3Ideal.nD Cert.KernelSgu3Ideal.τ).loc Cert.KernelSgu3Ideal.main_arg7))
      ∧ θ_run (Cert.ReferenceSgu3Ideal.defs (F := Ideal)) (onTc (τ := Cert.ReferenceSgu3Ideal.τ) (Cert.ReferenceSgu3Ideal.main (F := Ideal))) ⟨m', fun _ => 0, g'⟩ (fun r => ∀ c : Dev Cert.ReferenceSgu3Ideal.nD,
          r.2.mem ((c.tc : Thread Cert.ReferenceSgu3Ideal.nD Cert.ReferenceSgu3Ideal.τ).loc Cert.ReferenceSgu3Ideal.main_v43) = v0 c
          ∧ r.2.mem ((c.tc : Thread Cert.ReferenceSgu3Ideal.nD Cert.ReferenceSgu3Ideal.τ).loc Cert.ReferenceSgu3Ideal.main_arg0) = m' ((c.tc : Thread Cert.ReferenceSgu3Ideal.nD Cert.ReferenceSgu3Ideal.τ).loc Cert.ReferenceSgu3Ideal.main_arg0)
          ∧ r.2.mem ((c.tc : Thread Cert.ReferenceSgu3Ideal.nD Cert.ReferenceSgu3Ideal.τ).loc Cert.ReferenceSgu3Ideal.main_arg1) = m' ((c.tc : Thread Cert.ReferenceSgu3Ideal.nD Cert.ReferenceSgu3Ideal.τ).loc Cert.ReferenceSgu3Ideal.main_arg1)
          ∧ r.2.mem ((c.tc : Thread Cert.ReferenceSgu3Ideal.nD Cert.ReferenceSgu3Ideal.τ).loc Cert.ReferenceSgu3Ideal.main_arg2) = m' ((c.tc : Thread Cert.ReferenceSgu3Ideal.nD Cert.ReferenceSgu3Ideal.τ).loc Cert.ReferenceSgu3Ideal.main_arg2)
          ∧ r.2.mem ((c.tc : Thread Cert.ReferenceSgu3Ideal.nD Cert.ReferenceSgu3Ideal.τ).loc Cert.ReferenceSgu3Ideal.main_arg3) = m' ((c.tc : Thread Cert.ReferenceSgu3Ideal.nD Cert.ReferenceSgu3Ideal.τ).loc Cert.ReferenceSgu3Ideal.main_arg3)
          ∧ r.2.mem ((c.tc : Thread Cert.ReferenceSgu3Ideal.nD Cert.ReferenceSgu3Ideal.τ).loc Cert.ReferenceSgu3Ideal.main_arg4) = m' ((c.tc : Thread Cert.ReferenceSgu3Ideal.nD Cert.ReferenceSgu3Ideal.τ).loc Cert.ReferenceSgu3Ideal.main_arg4)
          ∧ r.2.mem ((c.tc : Thread Cert.ReferenceSgu3Ideal.nD Cert.ReferenceSgu3Ideal.τ).loc Cert.ReferenceSgu3Ideal.main_arg5) = m' ((c.tc : Thread Cert.ReferenceSgu3Ideal.nD Cert.ReferenceSgu3Ideal.τ).loc Cert.ReferenceSgu3Ideal.main_arg5)
          ∧ r.2.mem ((c.tc : Thread Cert.ReferenceSgu3Ideal.nD Cert.ReferenceSgu3Ideal.τ).loc Cert.ReferenceSgu3Ideal.main_arg6) = m' ((c.tc : Thread Cert.ReferenceSgu3Ideal.nD Cert.ReferenceSgu3Ideal.τ).loc Cert.ReferenceSgu3Ideal.main_arg6)
          ∧ r.2.mem ((c.tc : Thread Cert.ReferenceSgu3Ideal.nD Cert.ReferenceSgu3Ideal.τ).loc Cert.ReferenceSgu3Ideal.main_arg7) = m' ((c.tc : Thread Cert.ReferenceSgu3Ideal.nD Cert.ReferenceSgu3Ideal.τ).loc Cert.ReferenceSgu3Ideal.main_arg7))

def preserves_KernelEven2_KernelEven2Ideal : Prop :=
  True

def algebraic_KernelEven2Ideal_ReferenceEven2Ideal [hKernelEven2Ideal : Cert.KernelEven2Ideal.Facts] [hReferenceEven2Ideal : Cert.ReferenceEven2Ideal.Facts] : Prop :=
  ∀ (m : (ℓ : Loc Cert.KernelEven2Ideal.nD Cert.KernelEven2Ideal.τ Cert.KernelEven2Ideal.sig) → Buf (Elt Ideal) ℓ) (g : Dev Cert.KernelEven2Ideal.nD → PrngReg)
    (m' : (ℓ : Loc Cert.ReferenceEven2Ideal.nD Cert.ReferenceEven2Ideal.τ Cert.ReferenceEven2Ideal.sig) → Buf (Elt Ideal) ℓ) (g' : Dev Cert.ReferenceEven2Ideal.nD → PrngReg), Pre_KernelEven2Ideal m →
    (∀ c : Dev Cert.KernelEven2Ideal.nD,
      m' ((c.tc : Thread Cert.ReferenceEven2Ideal.nD Cert.ReferenceEven2Ideal.τ).loc Cert.ReferenceEven2Ideal.main_arg0) = m ((c.tc : Thread Cert.KernelEven2Ideal.nD Cert.KernelEven2Ideal.τ).loc Cert.KernelEven2Ideal.main_arg0)
      ∧ m' ((c.tc : Thread Cert.ReferenceEven2Ideal.nD Cert.ReferenceEven2Ideal.τ).loc Cert.ReferenceEven2Ideal.main_arg1) = m ((c.tc : Thread Cert.KernelEven2Ideal.nD Cert.KernelEven2Ideal.τ).loc Cert.KernelEven2Ideal.main_arg1)
      ∧ m' ((c.tc : Thread Cert.ReferenceEven2Ideal.nD Cert.ReferenceEven2Ideal.τ).loc Cert.ReferenceEven2Ideal.main_arg2) = m ((c.tc : Thread Cert.KernelEven2Ideal.nD Cert.KernelEven2Ideal.τ).loc Cert.KernelEven2Ideal.main_arg2)) →
    ∃ (v0 : (c : Dev Cert.KernelEven2Ideal.nD) → Buf (Elt Ideal) ((c.tc : Thread Cert.KernelEven2Ideal.nD Cert.KernelEven2Ideal.τ).loc Cert.KernelEven2Ideal.main_v28_0)) (v1 : (c : Dev Cert.KernelEven2Ideal.nD) → Buf (Elt Ideal) ((c.tc : Thread Cert.KernelEven2Ideal.nD Cert.KernelEven2Ideal.τ).loc Cert.KernelEven2Ideal.main_v28_1)) (v2 : (c : Dev Cert.KernelEven2Ideal.nD) → Buf (Elt Ideal) ((c.tc : Thread Cert.KernelEven2Ideal.nD Cert.KernelEven2Ideal.τ).loc Cert.KernelEven2Ideal.main_v28_2)) (v3 : (c : Dev Cert.KernelEven2Ideal.nD) → Buf (Elt Ideal) ((c.tc : Thread Cert.KernelEven2Ideal.nD Cert.KernelEven2Ideal.τ).loc Cert.KernelEven2Ideal.main_v28_3)),
      θ_run (Cert.KernelEven2Ideal.defs (F := Ideal)) (onTc (τ := Cert.KernelEven2Ideal.τ) (Cert.KernelEven2Ideal.main (F := Ideal))) ⟨m, fun _ => 0, g⟩ (fun r => ∀ c : Dev Cert.KernelEven2Ideal.nD,
          r.2.mem ((c.tc : Thread Cert.KernelEven2Ideal.nD Cert.KernelEven2Ideal.τ).loc Cert.KernelEven2Ideal.main_v28_0) = v0 c
          ∧ r.2.mem ((c.tc : Thread Cert.KernelEven2Ideal.nD Cert.KernelEven2Ideal.τ).loc Cert.KernelEven2Ideal.main_v28_1) = v1 c
          ∧ r.2.mem ((c.tc : Thread Cert.KernelEven2Ideal.nD Cert.KernelEven2Ideal.τ).loc Cert.KernelEven2Ideal.main_v28_2) = v2 c
          ∧ r.2.mem ((c.tc : Thread Cert.KernelEven2Ideal.nD Cert.KernelEven2Ideal.τ).loc Cert.KernelEven2Ideal.main_v28_3) = v3 c
          ∧ r.2.mem ((c.tc : Thread Cert.KernelEven2Ideal.nD Cert.KernelEven2Ideal.τ).loc Cert.KernelEven2Ideal.main_arg0) = m ((c.tc : Thread Cert.KernelEven2Ideal.nD Cert.KernelEven2Ideal.τ).loc Cert.KernelEven2Ideal.main_arg0)
          ∧ r.2.mem ((c.tc : Thread Cert.KernelEven2Ideal.nD Cert.KernelEven2Ideal.τ).loc Cert.KernelEven2Ideal.main_arg1) = m ((c.tc : Thread Cert.KernelEven2Ideal.nD Cert.KernelEven2Ideal.τ).loc Cert.KernelEven2Ideal.main_arg1)
          ∧ r.2.mem ((c.tc : Thread Cert.KernelEven2Ideal.nD Cert.KernelEven2Ideal.τ).loc Cert.KernelEven2Ideal.main_arg2) = m ((c.tc : Thread Cert.KernelEven2Ideal.nD Cert.KernelEven2Ideal.τ).loc Cert.KernelEven2Ideal.main_arg2))
      ∧ θ_run (Cert.ReferenceEven2Ideal.defs (F := Ideal)) (onTc (τ := Cert.ReferenceEven2Ideal.τ) (Cert.ReferenceEven2Ideal.main (F := Ideal))) ⟨m', fun _ => 0, g'⟩ (fun r => ∀ c : Dev Cert.ReferenceEven2Ideal.nD,
          r.2.mem ((c.tc : Thread Cert.ReferenceEven2Ideal.nD Cert.ReferenceEven2Ideal.τ).loc Cert.ReferenceEven2Ideal.main_v82) = v0 c
          ∧ r.2.mem ((c.tc : Thread Cert.ReferenceEven2Ideal.nD Cert.ReferenceEven2Ideal.τ).loc Cert.ReferenceEven2Ideal.main_v83) = v1 c
          ∧ r.2.mem ((c.tc : Thread Cert.ReferenceEven2Ideal.nD Cert.ReferenceEven2Ideal.τ).loc Cert.ReferenceEven2Ideal.main_v85) = v2 c
          ∧ r.2.mem ((c.tc : Thread Cert.ReferenceEven2Ideal.nD Cert.ReferenceEven2Ideal.τ).loc Cert.ReferenceEven2Ideal.main_v87) = v3 c
          ∧ r.2.mem ((c.tc : Thread Cert.ReferenceEven2Ideal.nD Cert.ReferenceEven2Ideal.τ).loc Cert.ReferenceEven2Ideal.main_arg0) = m' ((c.tc : Thread Cert.ReferenceEven2Ideal.nD Cert.ReferenceEven2Ideal.τ).loc Cert.ReferenceEven2Ideal.main_arg0)
          ∧ r.2.mem ((c.tc : Thread Cert.ReferenceEven2Ideal.nD Cert.ReferenceEven2Ideal.τ).loc Cert.ReferenceEven2Ideal.main_arg1) = m' ((c.tc : Thread Cert.ReferenceEven2Ideal.nD Cert.ReferenceEven2Ideal.τ).loc Cert.ReferenceEven2Ideal.main_arg1)
          ∧ r.2.mem ((c.tc : Thread Cert.ReferenceEven2Ideal.nD Cert.ReferenceEven2Ideal.τ).loc Cert.ReferenceEven2Ideal.main_arg2) = m' ((c.tc : Thread Cert.ReferenceEven2Ideal.nD Cert.ReferenceEven2Ideal.τ).loc Cert.ReferenceEven2Ideal.main_arg2))

def preserves_KernelOdd3_KernelOdd3Ideal : Prop :=
  True

def algebraic_KernelOdd3Ideal_ReferenceOdd3Ideal [hKernelOdd3Ideal : Cert.KernelOdd3Ideal.Facts] [hReferenceOdd3Ideal : Cert.ReferenceOdd3Ideal.Facts] : Prop :=
  ∀ (m : (ℓ : Loc Cert.KernelOdd3Ideal.nD Cert.KernelOdd3Ideal.τ Cert.KernelOdd3Ideal.sig) → Buf (Elt Ideal) ℓ) (g : Dev Cert.KernelOdd3Ideal.nD → PrngReg)
    (m' : (ℓ : Loc Cert.ReferenceOdd3Ideal.nD Cert.ReferenceOdd3Ideal.τ Cert.ReferenceOdd3Ideal.sig) → Buf (Elt Ideal) ℓ) (g' : Dev Cert.ReferenceOdd3Ideal.nD → PrngReg), Pre_KernelOdd3Ideal m →
    (∀ c : Dev Cert.KernelOdd3Ideal.nD,
      m' ((c.tc : Thread Cert.ReferenceOdd3Ideal.nD Cert.ReferenceOdd3Ideal.τ).loc Cert.ReferenceOdd3Ideal.main_arg0) = m ((c.tc : Thread Cert.KernelOdd3Ideal.nD Cert.KernelOdd3Ideal.τ).loc Cert.KernelOdd3Ideal.main_arg0)
      ∧ m' ((c.tc : Thread Cert.ReferenceOdd3Ideal.nD Cert.ReferenceOdd3Ideal.τ).loc Cert.ReferenceOdd3Ideal.main_arg1) = m ((c.tc : Thread Cert.KernelOdd3Ideal.nD Cert.KernelOdd3Ideal.τ).loc Cert.KernelOdd3Ideal.main_arg1)
      ∧ m' ((c.tc : Thread Cert.ReferenceOdd3Ideal.nD Cert.ReferenceOdd3Ideal.τ).loc Cert.ReferenceOdd3Ideal.main_arg2) = m ((c.tc : Thread Cert.KernelOdd3Ideal.nD Cert.KernelOdd3Ideal.τ).loc Cert.KernelOdd3Ideal.main_arg2)
      ∧ m' ((c.tc : Thread Cert.ReferenceOdd3Ideal.nD Cert.ReferenceOdd3Ideal.τ).loc Cert.ReferenceOdd3Ideal.main_arg3) = m ((c.tc : Thread Cert.KernelOdd3Ideal.nD Cert.KernelOdd3Ideal.τ).loc Cert.KernelOdd3Ideal.main_arg3)
      ∧ m' ((c.tc : Thread Cert.ReferenceOdd3Ideal.nD Cert.ReferenceOdd3Ideal.τ).loc Cert.ReferenceOdd3Ideal.main_arg4) = m ((c.tc : Thread Cert.KernelOdd3Ideal.nD Cert.KernelOdd3Ideal.τ).loc Cert.KernelOdd3Ideal.main_arg4)) →
    ∃ (v0 : (c : Dev Cert.KernelOdd3Ideal.nD) → Buf (Elt Ideal) ((c.tc : Thread Cert.KernelOdd3Ideal.nD Cert.KernelOdd3Ideal.τ).loc Cert.KernelOdd3Ideal.main_v4_0)) (v1 : (c : Dev Cert.KernelOdd3Ideal.nD) → Buf (Elt Ideal) ((c.tc : Thread Cert.KernelOdd3Ideal.nD Cert.KernelOdd3Ideal.τ).loc Cert.KernelOdd3Ideal.main_v4_1)) (v2 : (c : Dev Cert.KernelOdd3Ideal.nD) → Buf (Elt Ideal) ((c.tc : Thread Cert.KernelOdd3Ideal.nD Cert.KernelOdd3Ideal.τ).loc Cert.KernelOdd3Ideal.main_v4_2)) (v3 : (c : Dev Cert.KernelOdd3Ideal.nD) → Buf (Elt Ideal) ((c.tc : Thread Cert.KernelOdd3Ideal.nD Cert.KernelOdd3Ideal.τ).loc Cert.KernelOdd3Ideal.main_v4_3)) (v4 : (c : Dev Cert.KernelOdd3Ideal.nD) → Buf (Elt Ideal) ((c.tc : Thread Cert.KernelOdd3Ideal.nD Cert.KernelOdd3Ideal.τ).loc Cert.KernelOdd3Ideal.main_v4_4)),
      θ_run (Cert.KernelOdd3Ideal.defs (F := Ideal)) (onTc (τ := Cert.KernelOdd3Ideal.τ) (Cert.KernelOdd3Ideal.main (F := Ideal))) ⟨m, fun _ => 0, g⟩ (fun r => ∀ c : Dev Cert.KernelOdd3Ideal.nD,
          r.2.mem ((c.tc : Thread Cert.KernelOdd3Ideal.nD Cert.KernelOdd3Ideal.τ).loc Cert.KernelOdd3Ideal.main_v4_0) = v0 c
          ∧ r.2.mem ((c.tc : Thread Cert.KernelOdd3Ideal.nD Cert.KernelOdd3Ideal.τ).loc Cert.KernelOdd3Ideal.main_v4_1) = v1 c
          ∧ r.2.mem ((c.tc : Thread Cert.KernelOdd3Ideal.nD Cert.KernelOdd3Ideal.τ).loc Cert.KernelOdd3Ideal.main_v4_2) = v2 c
          ∧ r.2.mem ((c.tc : Thread Cert.KernelOdd3Ideal.nD Cert.KernelOdd3Ideal.τ).loc Cert.KernelOdd3Ideal.main_v4_3) = v3 c
          ∧ r.2.mem ((c.tc : Thread Cert.KernelOdd3Ideal.nD Cert.KernelOdd3Ideal.τ).loc Cert.KernelOdd3Ideal.main_v4_4) = v4 c
          ∧ r.2.mem ((c.tc : Thread Cert.KernelOdd3Ideal.nD Cert.KernelOdd3Ideal.τ).loc Cert.KernelOdd3Ideal.main_arg0) = m ((c.tc : Thread Cert.KernelOdd3Ideal.nD Cert.KernelOdd3Ideal.τ).loc Cert.KernelOdd3Ideal.main_arg0)
          ∧ r.2.mem ((c.tc : Thread Cert.KernelOdd3Ideal.nD Cert.KernelOdd3Ideal.τ).loc Cert.KernelOdd3Ideal.main_arg1) = m ((c.tc : Thread Cert.KernelOdd3Ideal.nD Cert.KernelOdd3Ideal.τ).loc Cert.KernelOdd3Ideal.main_arg1)
          ∧ r.2.mem ((c.tc : Thread Cert.KernelOdd3Ideal.nD Cert.KernelOdd3Ideal.τ).loc Cert.KernelOdd3Ideal.main_arg2) = m ((c.tc : Thread Cert.KernelOdd3Ideal.nD Cert.KernelOdd3Ideal.τ).loc Cert.KernelOdd3Ideal.main_arg2)
          ∧ r.2.mem ((c.tc : Thread Cert.KernelOdd3Ideal.nD Cert.KernelOdd3Ideal.τ).loc Cert.KernelOdd3Ideal.main_arg3) = m ((c.tc : Thread Cert.KernelOdd3Ideal.nD Cert.KernelOdd3Ideal.τ).loc Cert.KernelOdd3Ideal.main_arg3)
          ∧ r.2.mem ((c.tc : Thread Cert.KernelOdd3Ideal.nD Cert.KernelOdd3Ideal.τ).loc Cert.KernelOdd3Ideal.main_arg4) = m ((c.tc : Thread Cert.KernelOdd3Ideal.nD Cert.KernelOdd3Ideal.τ).loc Cert.KernelOdd3Ideal.main_arg4))
      ∧ θ_run (Cert.ReferenceOdd3Ideal.defs (F := Ideal)) (onTc (τ := Cert.ReferenceOdd3Ideal.τ) (Cert.ReferenceOdd3Ideal.main (F := Ideal))) ⟨m', fun _ => 0, g'⟩ (fun r => ∀ c : Dev Cert.ReferenceOdd3Ideal.nD,
          r.2.mem ((c.tc : Thread Cert.ReferenceOdd3Ideal.nD Cert.ReferenceOdd3Ideal.τ).loc Cert.ReferenceOdd3Ideal.main_v80) = v0 c
          ∧ r.2.mem ((c.tc : Thread Cert.ReferenceOdd3Ideal.nD Cert.ReferenceOdd3Ideal.τ).loc Cert.ReferenceOdd3Ideal.main_v82) = v1 c
          ∧ r.2.mem ((c.tc : Thread Cert.ReferenceOdd3Ideal.nD Cert.ReferenceOdd3Ideal.τ).loc Cert.ReferenceOdd3Ideal.main_v84) = v2 c
          ∧ r.2.mem ((c.tc : Thread Cert.ReferenceOdd3Ideal.nD Cert.ReferenceOdd3Ideal.τ).loc Cert.ReferenceOdd3Ideal.main_v86) = v3 c
          ∧ r.2.mem ((c.tc : Thread Cert.ReferenceOdd3Ideal.nD Cert.ReferenceOdd3Ideal.τ).loc Cert.ReferenceOdd3Ideal.main_v88) = v4 c
          ∧ r.2.mem ((c.tc : Thread Cert.ReferenceOdd3Ideal.nD Cert.ReferenceOdd3Ideal.τ).loc Cert.ReferenceOdd3Ideal.main_arg0) = m' ((c.tc : Thread Cert.ReferenceOdd3Ideal.nD Cert.ReferenceOdd3Ideal.τ).loc Cert.ReferenceOdd3Ideal.main_arg0)
          ∧ r.2.mem ((c.tc : Thread Cert.ReferenceOdd3Ideal.nD Cert.ReferenceOdd3Ideal.τ).loc Cert.ReferenceOdd3Ideal.main_arg1) = m' ((c.tc : Thread Cert.ReferenceOdd3Ideal.nD Cert.ReferenceOdd3Ideal.τ).loc Cert.ReferenceOdd3Ideal.main_arg1)
          ∧ r.2.mem ((c.tc : Thread Cert.ReferenceOdd3Ideal.nD Cert.ReferenceOdd3Ideal.τ).loc Cert.ReferenceOdd3Ideal.main_arg2) = m' ((c.tc : Thread Cert.ReferenceOdd3Ideal.nD Cert.ReferenceOdd3Ideal.τ).loc Cert.ReferenceOdd3Ideal.main_arg2)
          ∧ r.2.mem ((c.tc : Thread Cert.ReferenceOdd3Ideal.nD Cert.ReferenceOdd3Ideal.τ).loc Cert.ReferenceOdd3Ideal.main_arg3) = m' ((c.tc : Thread Cert.ReferenceOdd3Ideal.nD Cert.ReferenceOdd3Ideal.τ).loc Cert.ReferenceOdd3Ideal.main_arg3)
          ∧ r.2.mem ((c.tc : Thread Cert.ReferenceOdd3Ideal.nD Cert.ReferenceOdd3Ideal.τ).loc Cert.ReferenceOdd3Ideal.main_arg4) = m' ((c.tc : Thread Cert.ReferenceOdd3Ideal.nD Cert.ReferenceOdd3Ideal.τ).loc Cert.ReferenceOdd3Ideal.main_arg4))

def Claim : Prop :=
  ∃ (hKernelConv : Cert.KernelConv.Facts) (hKernelConvIdeal : Cert.KernelConvIdeal.Facts) (hReferenceConvIdeal : Cert.ReferenceConvIdeal.Facts) (hKernelSgu : Cert.KernelSgu.Facts) (hKernelSguIdeal : Cert.KernelSguIdeal.Facts) (hReferenceSguIdeal : Cert.ReferenceSguIdeal.Facts) (hKernelFfn : Cert.KernelFfn.Facts) (hKernelFfnIdeal : Cert.KernelFfnIdeal.Facts) (hReferenceFfnIdeal : Cert.ReferenceFfnIdeal.Facts) (hKernelEven : Cert.KernelEven.Facts) (hKernelEvenIdeal : Cert.KernelEvenIdeal.Facts) (hReferenceEvenIdeal : Cert.ReferenceEvenIdeal.Facts) (hKernelOdd : Cert.KernelOdd.Facts) (hKernelOddIdeal : Cert.KernelOddIdeal.Facts) (hReferenceOddIdeal : Cert.ReferenceOddIdeal.Facts) (hKernelMoba : Cert.KernelMoba.Facts) (hKernelMobaIdeal : Cert.KernelMobaIdeal.Facts) (hKernelFfn21 : Cert.KernelFfn21.Facts) (hKernelFfn21Ideal : Cert.KernelFfn21Ideal.Facts) (hReferenceFfn21Ideal : Cert.ReferenceFfn21Ideal.Facts) (hKernelFfn30 : Cert.KernelFfn30.Facts) (hKernelFfn30Ideal : Cert.KernelFfn30Ideal.Facts) (hReferenceFfn30Ideal : Cert.ReferenceFfn30Ideal.Facts) (hKernelFfn20 : Cert.KernelFfn20.Facts) (hKernelFfn20Ideal : Cert.KernelFfn20Ideal.Facts) (hReferenceFfn20Ideal : Cert.ReferenceFfn20Ideal.Facts) (hKernelFfn11 : Cert.KernelFfn11.Facts) (hKernelFfn11Ideal : Cert.KernelFfn11Ideal.Facts) (hReferenceFfn11Ideal : Cert.ReferenceFfn11Ideal.Facts) (hKernelFfn10 : Cert.KernelFfn10.Facts) (hKernelFfn10Ideal : Cert.KernelFfn10Ideal.Facts) (hReferenceFfn10Ideal : Cert.ReferenceFfn10Ideal.Facts) (hKernelFfn01 : Cert.KernelFfn01.Facts) (hKernelFfn01Ideal : Cert.KernelFfn01Ideal.Facts) (hReferenceFfn01Ideal : Cert.ReferenceFfn01Ideal.Facts) (hKernelFfn00 : Cert.KernelFfn00.Facts) (hKernelFfn00Ideal : Cert.KernelFfn00Ideal.Facts) (hReferenceFfn00Ideal : Cert.ReferenceFfn00Ideal.Facts) (hKernelConv2 : Cert.KernelConv2.Facts) (hKernelConv2Ideal : Cert.KernelConv2Ideal.Facts) (hReferenceConv2Ideal : Cert.ReferenceConv2Ideal.Facts) (hKernelSgu3 : Cert.KernelSgu3.Facts) (hKernelSgu3Ideal : Cert.KernelSgu3Ideal.Facts) (hReferenceSgu3Ideal : Cert.ReferenceSgu3Ideal.Facts) (hKernelEven2 : Cert.KernelEven2.Facts) (hKernelEven2Ideal : Cert.KernelEven2Ideal.Facts) (hReferenceEven2Ideal : Cert.ReferenceEven2Ideal.Facts) (hKernelOdd3 : Cert.KernelOdd3.Facts) (hKernelOdd3Ideal : Cert.KernelOdd3Ideal.Facts) (hReferenceOdd3Ideal : Cert.ReferenceOdd3Ideal.Facts),
    quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelSgu (hKernelSgu := hKernelSgu)
    ∧ quiescent_KernelSguIdeal (hKernelSguIdeal := hKernelSguIdeal)
    ∧ quiescent_ReferenceSguIdeal (hReferenceSguIdeal := hReferenceSguIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelEven (hKernelEven := hKernelEven)
    ∧ quiescent_KernelEvenIdeal (hKernelEvenIdeal := hKernelEvenIdeal)
    ∧ quiescent_ReferenceEvenIdeal (hReferenceEvenIdeal := hReferenceEvenIdeal)
    ∧ quiescent_KernelOdd (hKernelOdd := hKernelOdd)
    ∧ quiescent_KernelOddIdeal (hKernelOddIdeal := hKernelOddIdeal)
    ∧ quiescent_ReferenceOddIdeal (hReferenceOddIdeal := hReferenceOddIdeal)
    ∧ quiescent_KernelMoba (hKernelMoba := hKernelMoba)
    ∧ quiescent_KernelMobaIdeal (hKernelMobaIdeal := hKernelMobaIdeal)
    ∧ quiescent_KernelFfn21 (hKernelFfn21 := hKernelFfn21)
    ∧ quiescent_KernelFfn21Ideal (hKernelFfn21Ideal := hKernelFfn21Ideal)
    ∧ quiescent_ReferenceFfn21Ideal (hReferenceFfn21Ideal := hReferenceFfn21Ideal)
    ∧ quiescent_KernelFfn30 (hKernelFfn30 := hKernelFfn30)
    ∧ quiescent_KernelFfn30Ideal (hKernelFfn30Ideal := hKernelFfn30Ideal)
    ∧ quiescent_ReferenceFfn30Ideal (hReferenceFfn30Ideal := hReferenceFfn30Ideal)
    ∧ quiescent_KernelFfn20 (hKernelFfn20 := hKernelFfn20)
    ∧ quiescent_KernelFfn20Ideal (hKernelFfn20Ideal := hKernelFfn20Ideal)
    ∧ quiescent_ReferenceFfn20Ideal (hReferenceFfn20Ideal := hReferenceFfn20Ideal)
    ∧ quiescent_KernelFfn11 (hKernelFfn11 := hKernelFfn11)
    ∧ quiescent_KernelFfn11Ideal (hKernelFfn11Ideal := hKernelFfn11Ideal)
    ∧ quiescent_ReferenceFfn11Ideal (hReferenceFfn11Ideal := hReferenceFfn11Ideal)
    ∧ quiescent_KernelFfn10 (hKernelFfn10 := hKernelFfn10)
    ∧ quiescent_KernelFfn10Ideal (hKernelFfn10Ideal := hKernelFfn10Ideal)
    ∧ quiescent_ReferenceFfn10Ideal (hReferenceFfn10Ideal := hReferenceFfn10Ideal)
    ∧ quiescent_KernelFfn01 (hKernelFfn01 := hKernelFfn01)
    ∧ quiescent_KernelFfn01Ideal (hKernelFfn01Ideal := hKernelFfn01Ideal)
    ∧ quiescent_ReferenceFfn01Ideal (hReferenceFfn01Ideal := hReferenceFfn01Ideal)
    ∧ quiescent_KernelFfn00 (hKernelFfn00 := hKernelFfn00)
    ∧ quiescent_KernelFfn00Ideal (hKernelFfn00Ideal := hKernelFfn00Ideal)
    ∧ quiescent_ReferenceFfn00Ideal (hReferenceFfn00Ideal := hReferenceFfn00Ideal)
    ∧ quiescent_KernelConv2 (hKernelConv2 := hKernelConv2)
    ∧ quiescent_KernelConv2Ideal (hKernelConv2Ideal := hKernelConv2Ideal)
    ∧ quiescent_ReferenceConv2Ideal (hReferenceConv2Ideal := hReferenceConv2Ideal)
    ∧ quiescent_KernelSgu3 (hKernelSgu3 := hKernelSgu3)
    ∧ quiescent_KernelSgu3Ideal (hKernelSgu3Ideal := hKernelSgu3Ideal)
    ∧ quiescent_ReferenceSgu3Ideal (hReferenceSgu3Ideal := hReferenceSgu3Ideal)
    ∧ quiescent_KernelEven2 (hKernelEven2 := hKernelEven2)
    ∧ quiescent_KernelEven2Ideal (hKernelEven2Ideal := hKernelEven2Ideal)
    ∧ quiescent_ReferenceEven2Ideal (hReferenceEven2Ideal := hReferenceEven2Ideal)
    ∧ quiescent_KernelOdd3 (hKernelOdd3 := hKernelOdd3)
    ∧ quiescent_KernelOdd3Ideal (hKernelOdd3Ideal := hKernelOdd3Ideal)
    ∧ quiescent_ReferenceOdd3Ideal (hReferenceOdd3Ideal := hReferenceOdd3Ideal)
    ∧ preserves_KernelConv_KernelConvIdeal
    ∧ algebraic_KernelConvIdeal_ReferenceConvIdeal (hKernelConvIdeal := hKernelConvIdeal) (hReferenceConvIdeal := hReferenceConvIdeal)
    ∧ preserves_KernelSgu_KernelSguIdeal
    ∧ algebraic_KernelSguIdeal_ReferenceSguIdeal (hKernelSguIdeal := hKernelSguIdeal) (hReferenceSguIdeal := hReferenceSguIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelEven_KernelEvenIdeal
    ∧ algebraic_KernelEvenIdeal_ReferenceEvenIdeal (hKernelEvenIdeal := hKernelEvenIdeal) (hReferenceEvenIdeal := hReferenceEvenIdeal)
    ∧ preserves_KernelOdd_KernelOddIdeal
    ∧ algebraic_KernelOddIdeal_ReferenceOddIdeal (hKernelOddIdeal := hKernelOddIdeal) (hReferenceOddIdeal := hReferenceOddIdeal)
    ∧ preserves_KernelMoba_KernelMobaIdeal
    ∧ preserves_KernelFfn21_KernelFfn21Ideal
    ∧ algebraic_KernelFfn21Ideal_ReferenceFfn21Ideal (hKernelFfn21Ideal := hKernelFfn21Ideal) (hReferenceFfn21Ideal := hReferenceFfn21Ideal)
    ∧ preserves_KernelFfn30_KernelFfn30Ideal
    ∧ algebraic_KernelFfn30Ideal_ReferenceFfn30Ideal (hKernelFfn30Ideal := hKernelFfn30Ideal) (hReferenceFfn30Ideal := hReferenceFfn30Ideal)
    ∧ preserves_KernelFfn20_KernelFfn20Ideal
    ∧ algebraic_KernelFfn20Ideal_ReferenceFfn20Ideal (hKernelFfn20Ideal := hKernelFfn20Ideal) (hReferenceFfn20Ideal := hReferenceFfn20Ideal)
    ∧ preserves_KernelFfn11_KernelFfn11Ideal
    ∧ algebraic_KernelFfn11Ideal_ReferenceFfn11Ideal (hKernelFfn11Ideal := hKernelFfn11Ideal) (hReferenceFfn11Ideal := hReferenceFfn11Ideal)
    ∧ preserves_KernelFfn10_KernelFfn10Ideal
    ∧ algebraic_KernelFfn10Ideal_ReferenceFfn10Ideal (hKernelFfn10Ideal := hKernelFfn10Ideal) (hReferenceFfn10Ideal := hReferenceFfn10Ideal)
    ∧ preserves_KernelFfn01_KernelFfn01Ideal
    ∧ algebraic_KernelFfn01Ideal_ReferenceFfn01Ideal (hKernelFfn01Ideal := hKernelFfn01Ideal) (hReferenceFfn01Ideal := hReferenceFfn01Ideal)
    ∧ preserves_KernelFfn00_KernelFfn00Ideal
    ∧ algebraic_KernelFfn00Ideal_ReferenceFfn00Ideal (hKernelFfn00Ideal := hKernelFfn00Ideal) (hReferenceFfn00Ideal := hReferenceFfn00Ideal)
    ∧ preserves_KernelConv2_KernelConv2Ideal
    ∧ algebraic_KernelConv2Ideal_ReferenceConv2Ideal (hKernelConv2Ideal := hKernelConv2Ideal) (hReferenceConv2Ideal := hReferenceConv2Ideal)
    ∧ preserves_KernelSgu3_KernelSgu3Ideal
    ∧ algebraic_KernelSgu3Ideal_ReferenceSgu3Ideal (hKernelSgu3Ideal := hKernelSgu3Ideal) (hReferenceSgu3Ideal := hReferenceSgu3Ideal)
    ∧ preserves_KernelEven2_KernelEven2Ideal
    ∧ algebraic_KernelEven2Ideal_ReferenceEven2Ideal (hKernelEven2Ideal := hKernelEven2Ideal) (hReferenceEven2Ideal := hReferenceEven2Ideal)
    ∧ preserves_KernelOdd3_KernelOdd3Ideal
    ∧ algebraic_KernelOdd3Ideal_ReferenceOdd3Ideal (hKernelOdd3Ideal := hKernelOdd3Ideal) (hReferenceOdd3Ideal := hReferenceOdd3Ideal)
-- ==== KernelConv.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x31x512 : Shape := ⟨3, ![2, 31, 512]⟩
abbrev S2x512 : Shape := ⟨2, ![2, 512]⟩
abbrev S2x1024x1024 : Shape := ⟨3, ![2, 1024, 1024]⟩
abbrev S2x1x512 : Shape := ⟨3, ![2, 1, 512]⟩
abbrev S2x3x512 : Shape := ⟨3, ![2, 3, 512]⟩
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S32x512 : Shape := ⟨2, ![32, 512]⟩
abbrev S1x6x1024 : Shape := ⟨3, ![1, 6, 1024]⟩
abbrev S1x31x512 : Shape := ⟨3, ![1, 31, 512]⟩
abbrev S1x3x512 : Shape := ⟨3, ![1, 3, 512]⟩
abbrev S1x1024x1024 : Shape := ⟨3, ![1, 1024, 1024]⟩
abbrev S1056x512 : Shape := ⟨2, ![1056, 512]⟩
abbrev S1x1x512 : Shape := ⟨3, ![1, 1, 512]⟩
abbrev S1x512 : Shape := ⟨2, ![1, 512]⟩
abbrev S1048x512 : Shape := ⟨2, ![1048, 512]⟩
abbrev S1024 : Shape := ⟨1, ![1024]⟩
abbrev S1024x1 : Shape := ⟨2, ![1024, 1]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S4x6x1024, .f32⟩
  | .hbm, ⟨4, _⟩ => ⟨S2x31x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x1024x1024, .f32⟩
  | .hbm, ⟨9, _⟩ => ⟨S2x1024x1024, .bf16⟩
  | .hbm, ⟨10, _⟩ => ⟨S2x1x512, .f32⟩
  | .hbm, ⟨11, _⟩ => ⟨S2x1x512, .f32⟩
  | .hbm, ⟨12, _⟩ => ⟨S2x1x512, .f32⟩
  | .hbm, ⟨13, _⟩ => ⟨S2x3x512, .f32⟩
  | .hbm, ⟨14, _⟩ => ⟨S16384x1024, .f32⟩
  | .hbm, ⟨15, _⟩ => ⟨S16384x512, .bf16⟩
  | .hbm, ⟨16, _⟩ => ⟨S16384x512, .bf16⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S32x512, .bf16⟩
  | .local _ .vmem, ⟨7, _⟩ => ⟨S32x512, .bf16⟩
  | .local _ .vmem, ⟨8, _⟩ => ⟨S1x6x1024, .f32⟩
  | .local _ .vmem, ⟨9, _⟩ => ⟨S1x31x512, .f32⟩
  | .local _ .vmem, ⟨10, _⟩ => ⟨S1x3x512, .f32⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1056x512, .f32⟩
  | .local _ .vmem, ⟨15, _⟩ => ⟨S1056x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelConvIdeal.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x31x512 : Shape := ⟨3, ![2, 31, 512]⟩
abbrev S2x512 : Shape := ⟨2, ![2, 512]⟩
abbrev S2x1024x1024 : Shape := ⟨3, ![2, 1024, 1024]⟩
abbrev S2x1x512 : Shape := ⟨3, ![2, 1, 512]⟩
abbrev S2x3x512 : Shape := ⟨3, ![2, 3, 512]⟩
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S32x512 : Shape := ⟨2, ![32, 512]⟩
abbrev S1x6x1024 : Shape := ⟨3, ![1, 6, 1024]⟩
abbrev S1x31x512 : Shape := ⟨3, ![1, 31, 512]⟩
abbrev S1x3x512 : Shape := ⟨3, ![1, 3, 512]⟩
abbrev S1x1024x1024 : Shape := ⟨3, ![1, 1024, 1024]⟩
abbrev S1056x512 : Shape := ⟨2, ![1056, 512]⟩
abbrev S1x1x512 : Shape := ⟨3, ![1, 1, 512]⟩
abbrev S1x512 : Shape := ⟨2, ![1, 512]⟩
abbrev S1048x512 : Shape := ⟨2, ![1048, 512]⟩
abbrev S1024 : Shape := ⟨1, ![1024]⟩
abbrev S1024x1 : Shape := ⟨2, ![1024, 1]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S4x6x1024, .f32⟩
  | .hbm, ⟨4, _⟩ => ⟨S2x31x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x1024x1024, .f32⟩
  | .hbm, ⟨9, _⟩ => ⟨S2x1024x1024, .bf16⟩
  | .hbm, ⟨10, _⟩ => ⟨S2x1x512, .f32⟩
  | .hbm, ⟨11, _⟩ => ⟨S2x1x512, .f32⟩
  | .hbm, ⟨12, _⟩ => ⟨S2x1x512, .f32⟩
  | .hbm, ⟨13, _⟩ => ⟨S2x3x512, .f32⟩
  | .hbm, ⟨14, _⟩ => ⟨S16384x1024, .f32⟩
  | .hbm, ⟨15, _⟩ => ⟨S16384x512, .bf16⟩
  | .hbm, ⟨16, _⟩ => ⟨S16384x512, .bf16⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S32x512, .bf16⟩
  | .local _ .vmem, ⟨7, _⟩ => ⟨S32x512, .bf16⟩
  | .local _ .vmem, ⟨8, _⟩ => ⟨S1x6x1024, .f32⟩
  | .local _ .vmem, ⟨9, _⟩ => ⟨S1x31x512, .f32⟩
  | .local _ .vmem, ⟨10, _⟩ => ⟨S1x3x512, .f32⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1056x512, .f32⟩
  | .local _ .vmem, ⟨15, _⟩ => ⟨S1056x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceConvIdeal.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x31x512 : Shape := ⟨3, ![2, 31, 512]⟩
abbrev S2x512 : Shape := ⟨2, ![2, 512]⟩
abbrev S2x1024x1024 : Shape := ⟨3, ![2, 1024, 1024]⟩
abbrev S1x6x1024 : Shape := ⟨3, ![1, 6, 1024]⟩
abbrev S6x1024 : Shape := ⟨2, ![6, 1024]⟩
abbrev S_ : Shape := ⟨0, ![]⟩
abbrev S8x30x512 : Shape := ⟨3, ![8, 30, 512]⟩
abbrev S8x2078x512 : Shape := ⟨3, ![8, 2078, 512]⟩
abbrev S1x1x512 : Shape := ⟨3, ![1, 1, 512]⟩
abbrev S512 : Shape := ⟨1, ![512]⟩
abbrev S1x512 : Shape := ⟨2, ![1, 512]⟩
abbrev S8x2048 : Shape := ⟨2, ![8, 2048]⟩
abbrev S8x2048x1 : Shape := ⟨3, ![8, 2048, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 303
  | .vmem => 0
  | .smem => 0
  | _ => 0

abbrev hbmTy0_0 (i : Nat) : BufTy := match i % 128 with
  | 0 => ⟨S8x2048x1024, .f32⟩
  | 1 => ⟨S8x2048x512, .bf16⟩
  | 2 => ⟨S8x2048x512, .bf16⟩
  | 3 => ⟨S4x6x1024, .f32⟩
  | 4 => ⟨S2x31x512, .f32⟩
  | 5 => ⟨S2x512, .f32⟩
  | 6 => ⟨S2x512, .f32⟩
  | 7 => ⟨S2x512, .f32⟩
  | 8 => ⟨S2x1024x1024, .f32⟩
  | 9 => ⟨S1x6x1024, .f32⟩
  | 10 => ⟨S6x1024, .f32⟩
  | 11 => ⟨S8x2048x512, .f32⟩
  | 12 => ⟨S8x2048x512, .f32⟩
  | 13 => ⟨S_, .f32⟩
  | 14 => ⟨S8x30x512, .f32⟩
  | 15 => ⟨S8x2078x512, .f32⟩
  | 16 => ⟨S8x2048x512, .f32⟩
  | 17 => ⟨S1x1x512, .f32⟩
  | 18 => ⟨S512, .f32⟩
  | 19 => ⟨S1x1x512, .f32⟩
  | 20 => ⟨S8x2048x512, .f32⟩
  | 21 => ⟨S8x2048x512, .f32⟩
  | 22 => ⟨S8x2048x512, .f32⟩
  | 23 => ⟨S1x1x512, .f32⟩
  | 24 => ⟨S512, .f32⟩
  | 25 => ⟨S1x1x512, .f32⟩
  | 26 => ⟨S8x2048x512, .f32⟩
  | 27 => ⟨S8x2048x512, .f32⟩
  | 28 => ⟨S8x2048x512, .f32⟩
  | 29 => ⟨S8x2048x512, .f32⟩
  | 30 => ⟨S1x1x512, .f32⟩
  | 31 => ⟨S512, .f32⟩
  | 32 => ⟨S1x1x512, .f32⟩
  | 33 => ⟨S8x2048x512, .f32⟩
  | 34 => ⟨S8x2048x512, .f32⟩
  | 35 => ⟨S8x2048x512, .f32⟩
  | 36 => ⟨S8x2048x512, .f32⟩
  | 37 => ⟨S1x1x512, .f32⟩
  | 38 => ⟨S512, .f32⟩
  | 39 => ⟨S1x1x512, .f32⟩
  | 40 => ⟨S8x2048x512, .f32⟩
  | 41 => ⟨S8x2048x512, .f32⟩
  | 42 => ⟨S8x2048x512, .f32⟩
  | 43 => ⟨S8x2048x512, .f32⟩
  | 44 => ⟨S1x1x512, .f32⟩
  | 45 => ⟨S512, .f32⟩
  | 46 => ⟨S1x1x512, .f32⟩
  | 47 => ⟨S8x2048x512, .f32⟩
  | 48 => ⟨S8x2048x512, .f32⟩
  | 49 => ⟨S8x2048x512, .f32⟩
  | 50 => ⟨S8x2048x512, .f32⟩
  | 51 => ⟨S1x1x512, .f32⟩
  | 52 => ⟨S512, .f32⟩
  | 53 => ⟨S1x1x512, .f32⟩
  | 54 => ⟨S8x2048x512, .f32⟩
  | 55 => ⟨S8x2048x512, .f32⟩
  | 56 => ⟨S8x2048x512, .f32⟩
  | 57 => ⟨S8x2048x512, .f32⟩
  | 58 => ⟨S1x1x512, .f32⟩
  | 59 => ⟨S512, .f32⟩
  | 60 => ⟨S1x1x512, .f32⟩
  | 61 => ⟨S8x2048x512, .f32⟩
  | 62 => ⟨S8x2048x512, .f32⟩
  | 63 => ⟨S8x2048x512, .f32⟩
  | 64 => ⟨S8x2048x512, .f32⟩
  | 65 => ⟨S1x1x512, .f32⟩
  | 66 => ⟨S512, .f32⟩
  | 67 => ⟨S1x1x512, .f32⟩
  | 68 => ⟨S8x2048x512, .f32⟩
  | 69 => ⟨S8x2048x512, .f32⟩
  | 70 => ⟨S8x2048x512, .f32⟩
  | 71 => ⟨S8x2048x512, .f32⟩
  | 72 => ⟨S1x1x512, .f32⟩
  | 73 => ⟨S512, .f32⟩
  | 74 => ⟨S1x1x512, .f32⟩
  | 75 => ⟨S8x2048x512, .f32⟩
  | 76 => ⟨S8x2048x512, .f32⟩
  | 77 => ⟨S8x2048x512, .f32⟩
  | 78 => ⟨S8x2048x512, .f32⟩
  | 79 => ⟨S1x1x512, .f32⟩
  | 80 => ⟨S512, .f32⟩
  | 81 => ⟨S1x1x512, .f32⟩
  | 82 => ⟨S8x2048x512, .f32⟩
  | 83 => ⟨S8x2048x512, .f32⟩
  | 84 => ⟨S8x2048x512, .f32⟩
  | 85 => ⟨S8x2048x512, .f32⟩
  | 86 => ⟨S1x1x512, .f32⟩
  | 87 => ⟨S512, .f32⟩
  | 88 => ⟨S1x1x512, .f32⟩
  | 89 => ⟨S8x2048x512, .f32⟩
  | 90 => ⟨S8x2048x512, .f32⟩
  | 91 => ⟨S8x2048x512, .f32⟩
  | 92 => ⟨S8x2048x512, .f32⟩
  | 93 => ⟨S1x1x512, .f32⟩
  | 94 => ⟨S512, .f32⟩
  | 95 => ⟨S1x1x512, .f32⟩
  | 96 => ⟨S8x2048x512, .f32⟩
  | 97 => ⟨S8x2048x512, .f32⟩
  | 98 => ⟨S8x2048x512, .f32⟩
  | 99 => ⟨S8x2048x512, .f32⟩
  | 100 => ⟨S1x1x512, .f32⟩
  | 101 => ⟨S512, .f32⟩
  | 102 => ⟨S1x1x512, .f32⟩
  | 103 => ⟨S8x2048x512, .f32⟩
  | 104 => ⟨S8x2048x512, .f32⟩
  | 105 => ⟨S8x2048x512, .f32⟩
  | 106 => ⟨S8x2048x512, .f32⟩
  | 107 => ⟨S1x1x512, .f32⟩
  | 108 => ⟨S512, .f32⟩
  | 109 => ⟨S1x1x512, .f32⟩
  | 110 => ⟨S8x2048x512, .f32⟩
  | 111 => ⟨S8x2048x512, .f32⟩
  | 112 => ⟨S8x2048x512, .f32⟩
  | 113 => ⟨S8x2048x512, .f32⟩
  | 114 => ⟨S1x1x512, .f32⟩
  | 115 => ⟨S512, .f32⟩
  | 116 => ⟨S1x1x512, .f32⟩
  | 117 => ⟨S8x2048x512, .f32⟩
  | 118 => ⟨S8x2048x512, .f32⟩
  | 119 => ⟨S8x2048x512, .f32⟩
  | 120 => ⟨S8x2048x512, .f32⟩
  | 121 => ⟨S1x1x512, .f32⟩
  | 122 => ⟨S512, .f32⟩
  | 123 => ⟨S1x1x512, .f32⟩
  | 124 => ⟨S8x2048x512, .f32⟩
  | 125 => ⟨S8x2048x512, .f32⟩
  | 126 => ⟨S8x2048x512, .f32⟩
  | 127 => ⟨S8x2048x512, .f32⟩
  | _ => ⟨S8x2048x1024, .f32⟩

abbrev hbmTy0_1 (i : Nat) : BufTy := match i % 128 with
  | 0 => ⟨S1x1x512, .f32⟩
  | 1 => ⟨S512, .f32⟩
  | 2 => ⟨S1x1x512, .f32⟩
  | 3 => ⟨S8x2048x512, .f32⟩
  | 4 => ⟨S8x2048x512, .f32⟩
  | 5 => ⟨S8x2048x512, .f32⟩
  | 6 => ⟨S8x2048x512, .f32⟩
  | 7 => ⟨S1x1x512, .f32⟩
  | 8 => ⟨S512, .f32⟩
  | 9 => ⟨S1x1x512, .f32⟩
  | 10 => ⟨S8x2048x512, .f32⟩
  | 11 => ⟨S8x2048x512, .f32⟩
  | 12 => ⟨S8x2048x512, .f32⟩
  | 13 => ⟨S8x2048x512, .f32⟩
  | 14 => ⟨S1x1x512, .f32⟩
  | 15 => ⟨S512, .f32⟩
  | 16 => ⟨S1x1x512, .f32⟩
  | 17 => ⟨S8x2048x512, .f32⟩
  | 18 => ⟨S8x2048x512, .f32⟩
  | 19 => ⟨S8x2048x512, .f32⟩
  | 20 => ⟨S8x2048x512, .f32⟩
  | 21 => ⟨S1x1x512, .f32⟩
  | 22 => ⟨S512, .f32⟩
  | 23 => ⟨S1x1x512, .f32⟩
  | 24 => ⟨S8x2048x512, .f32⟩
  | 25 => ⟨S8x2048x512, .f32⟩
  | 26 => ⟨S8x2048x512, .f32⟩
  | 27 => ⟨S8x2048x512, .f32⟩
  | 28 => ⟨S1x1x512, .f32⟩
  | 29 => ⟨S512, .f32⟩
  | 30 => ⟨S1x1x512, .f32⟩
  | 31 => ⟨S8x2048x512, .f32⟩
  | 32 => ⟨S8x2048x512, .f32⟩
  | 33 => ⟨S8x2048x512, .f32⟩
  | 34 => ⟨S8x2048x512, .f32⟩
  | 35 => ⟨S1x1x512, .f32⟩
  | 36 => ⟨S512, .f32⟩
  | 37 => ⟨S1x1x512, .f32⟩
  | 38 => ⟨S8x2048x512, .f32⟩
  | 39 => ⟨S8x2048x512, .f32⟩
  | 40 => ⟨S8x2048x512, .f32⟩
  | 41 => ⟨S8x2048x512, .f32⟩
  | 42 => ⟨S1x1x512, .f32⟩
  | 43 => ⟨S512, .f32⟩
  | 44 => ⟨S1x1x512, .f32⟩
  | 45 => ⟨S8x2048x512, .f32⟩
  | 46 => ⟨S8x2048x512, .f32⟩
  | 47 => ⟨S8x2048x512, .f32⟩
  | 48 => ⟨S8x2048x512, .f32⟩
  | 49 => ⟨S1x1x512, .f32⟩
  | 50 => ⟨S512, .f32⟩
  | 51 => ⟨S1x1x512, .f32⟩
  | 52 => ⟨S8x2048x512, .f32⟩
  | 53 => ⟨S8x2048x512, .f32⟩
  | 54 => ⟨S8x2048x512, .f32⟩
  | 55 => ⟨S8x2048x512, .f32⟩
  | 56 => ⟨S1x1x512, .f32⟩
  | 57 => ⟨S512, .f32⟩
  | 58 => ⟨S1x1x512, .f32⟩
  | 59 => ⟨S8x2048x512, .f32⟩
  | 60 => ⟨S8x2048x512, .f32⟩
  | 61 => ⟨S8x2048x512, .f32⟩
  | 62 => ⟨S8x2048x512, .f32⟩
  | 63 => ⟨S1x1x512, .f32⟩
  | 64 => ⟨S512, .f32⟩
  | 65 => ⟨S1x1x512, .f32⟩
  | 66 => ⟨S8x2048x512, .f32⟩
  | 67 => ⟨S8x2048x512, .f32⟩
  | 68 => ⟨S8x2048x512, .f32⟩
  | 69 => ⟨S8x2048x512, .f32⟩
  | 70 => ⟨S1x1x512, .f32⟩
  | 71 => ⟨S512, .f32⟩
  | 72 => ⟨S1x1x512, .f32⟩
  | 73 => ⟨S8x2048x512, .f32⟩
  | 74 => ⟨S8x2048x512, .f32⟩
  | 75 => ⟨S8x2048x512, .f32⟩
  | 76 => ⟨S8x2048x512, .f32⟩
  | 77 => ⟨S1x1x512, .f32⟩
  | 78 => ⟨S512, .f32⟩
  | 79 => ⟨S1x1x512, .f32⟩
  | 80 => ⟨S8x2048x512, .f32⟩
  | 81 => ⟨S8x2048x512, .f32⟩
  | 82 => ⟨S8x2048x512, .f32⟩
  | 83 => ⟨S8x2048x512, .f32⟩
  | 84 => ⟨S1x1x512, .f32⟩
  | 85 => ⟨S512, .f32⟩
  | 86 => ⟨S1x1x512, .f32⟩
  | 87 => ⟨S8x2048x512, .f32⟩
  | 88 => ⟨S8x2048x512, .f32⟩
  | 89 => ⟨S8x2048x512, .f32⟩
  | 90 => ⟨S8x2048x512, .f32⟩
  | 91 => ⟨S1x1x512, .f32⟩
  | 92 => ⟨S512, .f32⟩
  | 93 => ⟨S1x1x512, .f32⟩
  | 94 => ⟨S8x2048x512, .f32⟩
  | 95 => ⟨S8x2048x512, .f32⟩
  | 96 => ⟨S8x2048x512, .f32⟩
  | 97 => ⟨S8x2048x512, .f32⟩
  | 98 => ⟨S1x1x512, .f32⟩
  | 99 => ⟨S512, .f32⟩
  | 100 => ⟨S1x1x512, .f32⟩
  | 101 => ⟨S8x2048x512, .f32⟩
  | 102 => ⟨S8x2048x512, .f32⟩
  | 103 => ⟨S8x2048x512, .f32⟩
  | 104 => ⟨S1x512, .f32⟩
  | 105 => ⟨S512, .f32⟩
  | 106 => ⟨S1x1x512, .f32⟩
  | 107 => ⟨S8x2048x512, .f32⟩
  | 108 => ⟨S8x2048x512, .f32⟩
  | 109 => ⟨S1x512, .f32⟩
  | 110 => ⟨S512, .f32⟩
  | 111 => ⟨S1x512, .f32⟩
  | 112 => ⟨S512, .f32⟩
  | 113 => ⟨S_, .f32⟩
  | 114 => ⟨S8x2048, .f32⟩
  | 115 => ⟨S8x2048x1, .f32⟩
  | 116 => ⟨S_, .f32⟩
  | 117 => ⟨S8x2048x1, .f32⟩
  | 118 => ⟨S8x2048x1, .f32⟩
  | 119 => ⟨S8x2048x512, .f32⟩
  | 120 => ⟨S8x2048x512, .f32⟩
  | 121 => ⟨S8x2048x512, .f32⟩
  | 122 => ⟨S_, .f32⟩
  | 123 => ⟨S8x2048, .f32⟩
  | 124 => ⟨S8x2048x1, .f32⟩
  | 125 => ⟨S_, .f32⟩
  | 126 => ⟨S8x2048x1, .f32⟩
  | 127 => ⟨S8x2048x1, .f32⟩
  | _ => ⟨S8x2048x1024, .f32⟩

abbrev hbmTy0_2 (i : Nat) : BufTy := match i % 128 with
  | 0 => ⟨S8x2048x512, .f32⟩
  | 1 => ⟨S8x2048x512, .f32⟩
  | 2 => ⟨S_, .f32⟩
  | 3 => ⟨S8x2048x1, .f32⟩
  | 4 => ⟨S8x2048x1, .f32⟩
  | 5 => ⟨S8x2048x1, .f32⟩
  | 6 => ⟨S8x2048x512, .f32⟩
  | 7 => ⟨S8x2048x512, .f32⟩
  | 8 => ⟨S1x1x512, .f32⟩
  | 9 => ⟨S8x2048x512, .f32⟩
  | 10 => ⟨S8x2048x512, .f32⟩
  | 11 => ⟨S1x1x512, .f32⟩
  | 12 => ⟨S8x2048x512, .f32⟩
  | 13 => ⟨S8x2048x512, .f32⟩
  | 14 => ⟨S8x2048x512, .f32⟩
  | 15 => ⟨S8x2048x512, .f32⟩
  | 16 => ⟨S_, .f32⟩
  | 17 => ⟨S8x2048x512, .f32⟩
  | 18 => ⟨S8x2048x512, .f32⟩
  | 19 => ⟨S_, .f32⟩
  | 20 => ⟨S8x2048x512, .f32⟩
  | 21 => ⟨S8x2048x512, .f32⟩
  | 22 => ⟨S8x2048x512, .f32⟩
  | 23 => ⟨S8x2048x1024, .f32⟩
  | 24 => ⟨S1x1024x1024, .f32⟩
  | 25 => ⟨S1024x1024, .f32⟩
  | 26 => ⟨S8x2048x1024, .f32⟩
  | 27 => ⟨S1x1024, .f32⟩
  | 28 => ⟨S1024, .f32⟩
  | 29 => ⟨S8x2048x1024, .f32⟩
  | 30 => ⟨S_, .f32⟩
  | 31 => ⟨S8x2048, .f32⟩
  | 32 => ⟨S8x2048x1, .f32⟩
  | 33 => ⟨S_, .f32⟩
  | 34 => ⟨S8x2048x1, .f32⟩
  | 35 => ⟨S8x2048x1, .f32⟩
  | 36 => ⟨S_, .f32⟩
  | 37 => ⟨S8x2048x1, .f32⟩
  | 38 => ⟨S8x2048x1, .f32⟩
  | 39 => ⟨S8x2048x1, .f32⟩
  | 40 => ⟨S8x2048x1024, .f32⟩
  | 41 => ⟨S8x2048x1024, .f32⟩
  | 42 => ⟨S1x1x1024, .f32⟩
  | 43 => ⟨S8x2048x1024, .f32⟩
  | 44 => ⟨S8x2048x1024, .f32⟩
  | 45 => ⟨S8x2048x1024, .f32⟩
  | 46 => ⟨S16384x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_0 : Ref sig .tc := ⟨.hbm, 241, rfl⟩
abbrev main_v231 : Ref sig .tc := ⟨.hbm, 242, rfl⟩
abbrev main_v232 : Ref sig .tc := ⟨.hbm, 243, rfl⟩
abbrev main_cst_1 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_2 : Ref sig .tc := ⟨.hbm, 250, rfl⟩
abbrev main_v238 : Ref sig .tc := ⟨.hbm, 251, rfl⟩
abbrev main_v239 : Ref sig .tc := ⟨.hbm, 252, rfl⟩
abbrev main_cst_3 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_4 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_cst_5 : Ref sig .tc := ⟨.hbm, 286, rfl⟩
abbrev main_v263 : Ref sig .tc := ⟨.hbm, 287, rfl⟩
abbrev main_v264 : Ref sig .tc := ⟨.hbm, 288, rfl⟩
abbrev main_cst_6 : Ref sig .tc := ⟨.hbm, 289, rfl⟩
abbrev main_v265 : Ref sig .tc := ⟨.hbm, 290, rfl⟩
abbrev main_v266 : Ref sig .tc := ⟨.hbm, 291, rfl⟩
abbrev main_cst_7 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩

abbrev nD : Nat := 1
abbrev τ : Topo := Topo.v7x

variable {F : FTy → Type} [FloatOps F]
-- ==== KernelSgu.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x4x128x128 : Shape := ⟨4, ![2, 4, 128, 128]⟩
abbrev S2x4x128 : Shape := ⟨3, ![2, 4, 128]⟩
abbrev S2x1024x1024 : Shape := ⟨3, ![2, 1024, 1024]⟩
abbrev S2x128x4 : Shape := ⟨3, ![2, 128, 4]⟩
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S1x6x1024 : Shape := ⟨3, ![1, 6, 1024]⟩
abbrev S1x4x128x128 : Shape := ⟨4, ![1, 4, 128, 128]⟩
abbrev S1x128x4 : Shape := ⟨3, ![1, 128, 4]⟩
abbrev S1x1024x1024 : Shape := ⟨3, ![1, 1024, 1024]⟩
abbrev S128x128 : Shape := ⟨2, ![128, 128]⟩
abbrev S1x1x128x128 : Shape := ⟨4, ![1, 1, 128, 128]⟩
abbrev S128x1024 : Shape := ⟨2, ![128, 1024]⟩
abbrev S1x128x1 : Shape := ⟨3, ![1, 128, 1]⟩
abbrev S128x1 : Shape := ⟨2, ![128, 1]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S4x6x1024, .f32⟩
  | .hbm, ⟨5, _⟩ => ⟨S2x4x128x128, .f32⟩
  | .hbm, ⟨6, _⟩ => ⟨S2x4x128, .f32⟩
  | .hbm, ⟨7, _⟩ => ⟨S2x1024x1024, .f32⟩
  | .hbm, ⟨8, _⟩ => ⟨S2x1024x1024, .bf16⟩
  | .hbm, ⟨9, _⟩ => ⟨S2x128x4, .f32⟩
  | .hbm, ⟨10, _⟩ => ⟨S16384x1024, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x6x1024, .f32⟩
  | .local _ .vmem, ⟨9, _⟩ => ⟨S1x4x128x128, .f32⟩
  | .local _ .vmem, ⟨10, _⟩ => ⟨S1x128x4, .f32⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelSguIdeal.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x4x128x128 : Shape := ⟨4, ![2, 4, 128, 128]⟩
abbrev S2x4x128 : Shape := ⟨3, ![2, 4, 128]⟩
abbrev S2x1024x1024 : Shape := ⟨3, ![2, 1024, 1024]⟩
abbrev S2x128x4 : Shape := ⟨3, ![2, 128, 4]⟩
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S1x6x1024 : Shape := ⟨3, ![1, 6, 1024]⟩
abbrev S1x4x128x128 : Shape := ⟨4, ![1, 4, 128, 128]⟩
abbrev S1x128x4 : Shape := ⟨3, ![1, 128, 4]⟩
abbrev S1x1024x1024 : Shape := ⟨3, ![1, 1024, 1024]⟩
abbrev S128x128 : Shape := ⟨2, ![128, 128]⟩
abbrev S1x1x128x128 : Shape := ⟨4, ![1, 1, 128, 128]⟩
abbrev S128x1024 : Shape := ⟨2, ![128, 1024]⟩
abbrev S1x128x1 : Shape := ⟨3, ![1, 128, 1]⟩
abbrev S128x1 : Shape := ⟨2, ![128, 1]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S4x6x1024, .f32⟩
  | .hbm, ⟨5, _⟩ => ⟨S2x4x128x128, .f32⟩
  | .hbm, ⟨6, _⟩ => ⟨S2x4x128, .f32⟩
  | .hbm, ⟨7, _⟩ => ⟨S2x1024x1024, .f32⟩
  | .hbm, ⟨8, _⟩ => ⟨S2x1024x1024, .bf16⟩
  | .hbm, ⟨9, _⟩ => ⟨S2x128x4, .f32⟩
  | .hbm, ⟨10, _⟩ => ⟨S16384x1024, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x6x1024, .f32⟩
  | .local _ .vmem, ⟨9, _⟩ => ⟨S1x4x128x128, .f32⟩
  | .local _ .vmem, ⟨10, _⟩ => ⟨S1x128x4, .f32⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceSguIdeal.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x4x128x128 : Shape := ⟨4, ![2, 4, 128, 128]⟩
abbrev S2x4x128 : Shape := ⟨3, ![2, 4, 128]⟩
abbrev S2x1024x1024 : Shape := ⟨3, ![2, 1024, 1024]⟩
abbrev S1x6x1024 : Shape := ⟨3, ![1, 6, 1024]⟩
abbrev S6x1024 : Shape := ⟨2, ![6, 1024]⟩
abbrev S8x16x128x4x128 : Shape := ⟨5, ![8, 16, 128, 4, 128]⟩
abbrev S_ : Shape := ⟨0, ![]⟩
abbrev S128x128 : Shape := ⟨2, ![128, 128]⟩
abbrev S1x4x128x128 : Shape := ⟨4, ![1, 4, 128, 128]⟩
abbrev S4x128x128 : Shape := ⟨3, ![4, 128, 128]⟩
abbrev S1x128x128 : Shape := ⟨3, ![1, 128, 128]⟩
abbrev S4x8x16x128x128 : Shape := ⟨5, ![4, 8, 16, 128, 128]⟩
abbrev S1x4x128 : Shape := ⟨3, ![1, 4, 128]⟩
abbrev S4x128 : Shape := ⟨2, ![4, 128]⟩
abbrev S128x4 : Shape := ⟨2, ![128, 4]⟩
abbrev S1x1x128x4x1 : Shape := ⟨5, ![1, 1, 128, 4, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S4x6x1024, .f32⟩
  | .hbm, ⟨5, _⟩ => ⟨S2x4x128x128, .f32⟩
  | .hbm, ⟨6, _⟩ => ⟨S2x4x128, .f32⟩
  | .hbm, ⟨7, _⟩ => ⟨S2x1024x1024, .f32⟩
  | .hbm, ⟨8, _⟩ => ⟨S1x6x1024, .f32⟩
  | .hbm, ⟨9, _⟩ => ⟨S6x1024, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S8x16x128x4x128, .f32⟩
  | .hbm, ⟨14, _⟩ => ⟨S_, .f32⟩
  | .hbm, ⟨15, _⟩ => ⟨S128x128, .f32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S1x4x128x128, .f32⟩
  | .hbm, ⟨26, _⟩ => ⟨S4x128x128, .f32⟩
  | .hbm, ⟨27, _⟩ => ⟨S1x128x128, .f32⟩
  | .hbm, ⟨28, _⟩ => ⟨S4x128x128, .f32⟩
  | .hbm, ⟨29, _⟩ => ⟨S4x128x128, .f32⟩
  | .hbm, ⟨30, _⟩ => ⟨S4x8x16x128x128, .f32⟩
  | .hbm, ⟨31, _⟩ => ⟨S8x16x128x4x128, .f32⟩
  | .hbm, ⟨32, _⟩ => ⟨S1x4x128, .f32⟩
  | .hbm, ⟨33, _⟩ => ⟨S4x128, .f32⟩
  | .hbm, ⟨34, _⟩ => ⟨S128x4, .f32⟩
  | .hbm, ⟨35, _⟩ => ⟨S1x1x128x4x1, .f32⟩
  | .hbm, ⟨36, _⟩ => ⟨S8x16x128x4x128, .f32⟩
  | .hbm, ⟨37, _⟩ => ⟨S8x16x128x4x128, .f32⟩
  | .hbm, ⟨38, _⟩ => ⟨S8x2048x512, .f32⟩
  | .hbm, ⟨39, _⟩ => ⟨S8x2048x512, .f32⟩
  | .hbm, ⟨40, _⟩ => ⟨S8x2048x1024, .f32⟩
  | .hbm, ⟨41, _⟩ => ⟨S1x1024x1024, .f32⟩
  | .hbm, ⟨42, _⟩ => ⟨S1024x1024, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_0 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== KernelFfn.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelFfnIdeal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_3 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnIdeal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== KernelEven.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S16384x512 : Shape := ⟨2, ![16384, 512]⟩
abbrev S1024x1024 : Shape := ⟨2, ![1024, 1024]⟩
abbrev S1x6x1024 : Shape := ⟨3, ![1, 6, 1024]⟩
abbrev S1x1024x2560 : Shape := ⟨3, ![1, 1024, 2560]⟩
abbrev S1024x128 : Shape := ⟨2, ![1024, 128]⟩
abbrev S1024x512 : Shape := ⟨2, ![1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x512 : Shape := ⟨3, ![1, 1024, 512]⟩

abbrev nBuf : Space → Nat
  | .hbm => 39
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S2048, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S2048x32, .f32⟩
  | .hbm, ⟨30, _⟩ => ⟨S2048x64, .f32⟩
  | .hbm, ⟨31, _⟩ => ⟨S1x2048x1x64, .f32⟩
  | .hbm, ⟨32, _⟩ => ⟨S1x2048x2x64, .f32⟩
  | .hbm, ⟨33, _⟩ => ⟨S2048x128, .f32⟩
  | .hbm, ⟨34, _⟩ => ⟨S16384x1024, .f32⟩
  | .hbm, ⟨35, _⟩ => ⟨S16384x512, .f32⟩
  | .hbm, ⟨36, _⟩ => ⟨S16384x512, .f32⟩
  | .hbm, ⟨37, _⟩ => ⟨S16384x512, .bf16⟩
  | .hbm, ⟨38, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024x2560, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelEvenIdeal.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S16384x512 : Shape := ⟨2, ![16384, 512]⟩
abbrev S1024x1024 : Shape := ⟨2, ![1024, 1024]⟩
abbrev S1x6x1024 : Shape := ⟨3, ![1, 6, 1024]⟩
abbrev S1x1024x2560 : Shape := ⟨3, ![1, 1024, 2560]⟩
abbrev S1024x128 : Shape := ⟨2, ![1024, 128]⟩
abbrev S1024x512 : Shape := ⟨2, ![1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x512 : Shape := ⟨3, ![1, 1024, 512]⟩

abbrev nBuf : Space → Nat
  | .hbm => 39
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S2048, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S2048x32, .f32⟩
  | .hbm, ⟨30, _⟩ => ⟨S2048x64, .f32⟩
  | .hbm, ⟨31, _⟩ => ⟨S1x2048x1x64, .f32⟩
  | .hbm, ⟨32, _⟩ => ⟨S1x2048x2x64, .f32⟩
  | .hbm, ⟨33, _⟩ => ⟨S2048x128, .f32⟩
  | .hbm, ⟨34, _⟩ => ⟨S16384x1024, .f32⟩
  | .hbm, ⟨35, _⟩ => ⟨S16384x512, .f32⟩
  | .hbm, ⟨36, _⟩ => ⟨S16384x512, .f32⟩
  | .hbm, ⟨37, _⟩ => ⟨S16384x512, .bf16⟩
  | .hbm, ⟨38, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024x2560, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceEvenIdeal.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S1x6x1024 : Shape := ⟨3, ![1, 6, 1024]⟩
abbrev S6x1024 : Shape := ⟨2, ![6, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S8x2048x2560 : Shape := ⟨3, ![8, 2048, 2560]⟩
abbrev S8x2048x512 : Shape := ⟨3, ![8, 2048, 512]⟩
abbrev S8x2048x8x64 : Shape := ⟨4, ![8, 2048, 8, 64]⟩
abbrev S8x2048x8x32 : Shape := ⟨4, ![8, 2048, 8, 32]⟩
abbrev S1x2048x1x32 : Shape := ⟨4, ![1, 2048, 1, 32]⟩
abbrev S16384x512 : Shape := ⟨2, ![16384, 512]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S1x6x1024, .f32⟩
  | .hbm, ⟨4, _⟩ => ⟨S6x1024, .f32⟩
  | .hbm, ⟨5, _⟩ => ⟨S2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S1x1024, .f32⟩
  | .hbm, ⟨28, _⟩ => ⟨S1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S1x1024x2560, .f32⟩
  | .hbm, ⟨46, _⟩ => ⟨S1024x2560, .f32⟩
  | .hbm, ⟨47, _⟩ => ⟨S8x2048x2560, .f32⟩
  | .hbm, ⟨48, _⟩ => ⟨S8x2048x512, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S8x2048x8x64, .f32⟩
  | .hbm, ⟨54, _⟩ => ⟨S8x2048x8x32, .f32⟩
  | .hbm, ⟨55, _⟩ => ⟨S8x2048x8x32, .f32⟩
  | .hbm, ⟨56, _⟩ => ⟨S1x2048x1x32, .f32⟩
  | .hbm, ⟨57, _⟩ => ⟨S1x2048x1x32, .f32⟩
  | .hbm, ⟨58, _⟩ => ⟨S8x2048x8x32, .f32⟩
  | .hbm, ⟨59, _⟩ => ⟨S8x2048x8x32, .f32⟩
  | .hbm, ⟨60, _⟩ => ⟨S8x2048x8x32, .f32⟩
  | .hbm, ⟨61, _⟩ => ⟨S8x2048x8x32, .f32⟩
  | .hbm, ⟨62, _⟩ => ⟨S8x2048x8x32, .f32⟩
  | .hbm, ⟨63, _⟩ => ⟨S8x2048x8x32, .f32⟩
  | .hbm, ⟨64, _⟩ => ⟨S8x2048x8x32, .f32⟩
  | .hbm, ⟨65, _⟩ => ⟨S8x2048x8x32, .f32⟩
  | .hbm, ⟨66, _⟩ => ⟨S8x2048x8x32, .f32⟩
  | .hbm, ⟨67, _⟩ => ⟨S8x2048x8x32, .f32⟩
  | .hbm, ⟨68, _⟩ => ⟨S8x2048x8x64, .f32⟩
  | .hbm, ⟨69, _⟩ => ⟨S8x2048x8x64, .f32⟩
  | .hbm, ⟨70, _⟩ => ⟨S8x2048x8x32, .f32⟩
  | .hbm, ⟨71, _⟩ => ⟨S8x2048x8x32, .f32⟩
  | .hbm, ⟨72, _⟩ => ⟨S1x2048x1x32, .f32⟩
  | .hbm, ⟨73, _⟩ => ⟨S1x2048x1x32, .f32⟩
  | .hbm, ⟨74, _⟩ => ⟨S8x2048x8x32, .f32⟩
  | .hbm, ⟨75, _⟩ => ⟨S8x2048x8x32, .f32⟩
  | .hbm, ⟨76, _⟩ => ⟨S8x2048x8x32, .f32⟩
  | .hbm, ⟨77, _⟩ => ⟨S8x2048x8x32, .f32⟩
  | .hbm, ⟨78, _⟩ => ⟨S8x2048x8x32, .f32⟩
  | .hbm, ⟨79, _⟩ => ⟨S8x2048x8x32, .f32⟩
  | .hbm, ⟨80, _⟩ => ⟨S8x2048x8x32, .f32⟩
  | .hbm, ⟨81, _⟩ => ⟨S8x2048x8x32, .f32⟩
  | .hbm, ⟨82, _⟩ => ⟨S8x2048x8x32, .f32⟩
  | .hbm, ⟨83, _⟩ => ⟨S8x2048x8x32, .f32⟩
  | .hbm, ⟨84, _⟩ => ⟨S8x2048x8x64, .f32⟩
  | .hbm, ⟨85, _⟩ => ⟨S8x2048x512, .f32⟩
  | .hbm, ⟨86, _⟩ => ⟨S8x2048x512, .f32⟩
  | .hbm, ⟨87, _⟩ => ⟨S_, .f32⟩
  | .hbm, ⟨88, _⟩ => ⟨S8x2048x512, .f32⟩
  | .hbm, ⟨89, _⟩ => ⟨S8x2048x512, .f32⟩
  | .hbm, ⟨90, _⟩ => ⟨S_, .f32⟩
  | .hbm, ⟨91, _⟩ => ⟨S8x2048x512, .f32⟩
  | .hbm, ⟨92, _⟩ => ⟨S8x2048x512, .f32⟩
  | .hbm, ⟨93, _⟩ => ⟨S8x2048x512, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .bf16⟩
  | .hbm, ⟨98, _⟩ => ⟨S16384x512, .f32⟩
  | .hbm, ⟨99, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_6 : Ref sig .tc := ⟨.hbm, 87, rfl⟩
abbrev main_v77 : Ref sig .tc := ⟨.hbm, 88, rfl⟩
abbrev main_v78 : Ref sig .tc := ⟨.hbm, 89, rfl⟩
abbrev main_cst_7 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩

abbrev nD : Nat := 1
abbrev τ : Topo := Topo.v7x

variable {F : FTy → Type} [FloatOps F]
-- ==== KernelOdd.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S2x512 : Shape := ⟨2, ![2, 512]⟩
abbrev S2x1x512 : Shape := ⟨3, ![2, 1, 512]⟩
abbrev S2x2x512 : Shape := ⟨3, ![2, 2, 512]⟩
abbrev S16384x1024 : Shape := ⟨2, ![16384, 1024]⟩
abbrev S16384x512 : Shape := ⟨2, ![16384, 512]⟩
abbrev S1024x1024 : Shape := ⟨2, ![1024, 1024]⟩
abbrev S1x6x1024 : Shape := ⟨3, ![1, 6, 1024]⟩
abbrev S1x1024x2560 : Shape := ⟨3, ![1, 1024, 2560]⟩
abbrev S1x2x512 : Shape := ⟨3, ![1, 2, 512]⟩
abbrev S1024x512 : Shape := ⟨2, ![1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x512 : Shape := ⟨3, ![1, 1024, 512]⟩
abbrev S1x1x512 : Shape := ⟨3, ![1, 1, 512]⟩
abbrev S1x512 : Shape := ⟨2, ![1, 512]⟩

abbrev nBuf : Space → Nat
  | .hbm => 14
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S2x512, .f32⟩
  | .hbm, ⟨4, _⟩ => ⟨S2x512, .f32⟩
  | .hbm, ⟨5, _⟩ => ⟨S2x1x512, .f32⟩
  | .hbm, ⟨6, _⟩ => ⟨S2x1x512, .f32⟩
  | .hbm, ⟨7, _⟩ => ⟨S2x2x512, .f32⟩
  | .hbm, ⟨8, _⟩ => ⟨S16384x1024, .f32⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024x2560, .f32⟩
  | .local _ .vmem, ⟨4, _⟩ => ⟨S1x2x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelOddIdeal.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S2x512 : Shape := ⟨2, ![2, 512]⟩
abbrev S2x1x512 : Shape := ⟨3, ![2, 1, 512]⟩
abbrev S2x2x512 : Shape := ⟨3, ![2, 2, 512]⟩
abbrev S16384x1024 : Shape := ⟨2, ![16384, 1024]⟩
abbrev S16384x512 : Shape := ⟨2, ![16384, 512]⟩
abbrev S1024x1024 : Shape := ⟨2, ![1024, 1024]⟩
abbrev S1x6x1024 : Shape := ⟨3, ![1, 6, 1024]⟩
abbrev S1x1024x2560 : Shape := ⟨3, ![1, 1024, 2560]⟩
abbrev S1x2x512 : Shape := ⟨3, ![1, 2, 512]⟩
abbrev S1024x512 : Shape := ⟨2, ![1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x512 : Shape := ⟨3, ![1, 1024, 512]⟩
abbrev S1x1x512 : Shape := ⟨3, ![1, 1, 512]⟩
abbrev S1x512 : Shape := ⟨2, ![1, 512]⟩

abbrev nBuf : Space → Nat
  | .hbm => 14
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S2x512, .f32⟩
  | .hbm, ⟨4, _⟩ => ⟨S2x512, .f32⟩
  | .hbm, ⟨5, _⟩ => ⟨S2x1x512, .f32⟩
  | .hbm, ⟨6, _⟩ => ⟨S2x1x512, .f32⟩
  | .hbm, ⟨7, _⟩ => ⟨S2x2x512, .f32⟩
  | .hbm, ⟨8, _⟩ => ⟨S16384x1024, .f32⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024x2560, .f32⟩
  | .local _ .vmem, ⟨4, _⟩ => ⟨S1x2x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOddIdeal.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S2x512 : Shape := ⟨2, ![2, 512]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S8x2048x2560 : Shape := ⟨3, ![8, 2048, 2560]⟩
abbrev S8x2048x512 : Shape := ⟨3, ![8, 2048, 512]⟩
abbrev S1x512 : Shape := ⟨2, ![1, 512]⟩
abbrev S512 : Shape := ⟨1, ![512]⟩
abbrev S1x1x512 : Shape := ⟨3, ![1, 1, 512]⟩
abbrev S16384x512 : Shape := ⟨2, ![16384, 512]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S2x512, .f32⟩
  | .hbm, ⟨4, _⟩ => ⟨S2x512, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1024x2560, .f32⟩
  | .hbm, ⟨26, _⟩ => ⟨S1024x2560, .f32⟩
  | .hbm, ⟨27, _⟩ => ⟨S8x2048x2560, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S8x2048x512, .f32⟩
  | .hbm, ⟨35, _⟩ => ⟨S_, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x2048x512, .f32⟩
  | .hbm, ⟨45, _⟩ => ⟨S8x2048x512, .f32⟩
  | .hbm, ⟨46, _⟩ => ⟨S_, .f32⟩
  | .hbm, ⟨47, _⟩ => ⟨S8x2048x512, .f32⟩
  | .hbm, ⟨48, _⟩ => ⟨S8x2048x512, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S_, .f32⟩
  | .hbm, ⟨53, _⟩ => ⟨S8x2048x512, .f32⟩
  | .hbm, ⟨54, _⟩ => ⟨S8x2048x512, .f32⟩
  | .hbm, ⟨55, _⟩ => ⟨S8x2048x512, .f32⟩
  | .hbm, ⟨56, _⟩ => ⟨S_, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S_, .f32⟩
  | .hbm, ⟨61, _⟩ => ⟨S8x2048x512, .f32⟩
  | .hbm, ⟨62, _⟩ => ⟨S8x2048x512, .f32⟩
  | .hbm, ⟨63, _⟩ => ⟨S_, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S1x512, .f32⟩
  | .hbm, ⟨68, _⟩ => ⟨S512, .f32⟩
  | .hbm, ⟨69, _⟩ => ⟨S1x512, .f32⟩
  | .hbm, ⟨70, _⟩ => ⟨S512, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x512, .f32⟩
  | .hbm, ⟨78, _⟩ => ⟨S8x2048x512, .f32⟩
  | .hbm, ⟨79, _⟩ => ⟨S8x2048x512, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S8x2048x512, .f32⟩
  | .hbm, ⟨87, _⟩ => ⟨S8x2048x512, .f32⟩
  | .hbm, ⟨88, _⟩ => ⟨S_, .f32⟩
  | .hbm, ⟨89, _⟩ => ⟨S8x2048x1, .f32⟩
  | .hbm, ⟨90, _⟩ => ⟨S8x2048x1, .f32⟩
  | .hbm, ⟨91, _⟩ => ⟨S8x2048x1, .f32⟩
  | .hbm, ⟨92, _⟩ => ⟨S8x2048x512, .f32⟩
  | .hbm, ⟨93, _⟩ => ⟨S8x2048x512, .f32⟩
  | .hbm, ⟨94, _⟩ => ⟨S1x1x512, .f32⟩
  | .hbm, ⟨95, _⟩ => ⟨S8x2048x512, .f32⟩
  | .hbm, ⟨96, _⟩ => ⟨S8x2048x512, .f32⟩
  | .hbm, ⟨97, _⟩ => ⟨S1x1x512, .f32⟩
  | .hbm, ⟨98, _⟩ => ⟨S8x2048x512, .f32⟩
  | .hbm, ⟨99, _⟩ => ⟨S8x2048x512, .f32⟩
  | .hbm, ⟨100, _⟩ => ⟨S16384x512, .f32⟩
  | .hbm, ⟨101, _⟩ => ⟨S16384x512, .bf16⟩
  | .hbm, ⟨102, _⟩ => ⟨S16384x512, .f32⟩
  | .hbm, ⟨103, _⟩ => ⟨S16384x512, .bf16⟩
  | .hbm, ⟨104, _⟩ => ⟨S16384x512, .f32⟩
  | .hbm, ⟨105, _⟩ => ⟨S16384x512, .bf16⟩
  | .hbm, ⟨106, _⟩ => ⟨S16384x512, .f32⟩
  | .hbm, ⟨107, _⟩ => ⟨S16384x512, .bf16⟩
  | .hbm, ⟨108, _⟩ => ⟨S16384x512, .f32⟩
  | .hbm, ⟨109, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== KernelMoba.lean ====
abbrev S16384x512 : Shape := ⟨2, ![16384, 512]⟩
abbrev S8x2048x512 : Shape := ⟨3, ![8, 2048, 512]⟩
abbrev S1x2048x128 : Shape := ⟨3, ![1, 2048, 128]⟩
abbrev S2x2048x128 : Shape := ⟨3, ![2, 2048, 128]⟩
abbrev S2048x128 : Shape := ⟨2, ![2048, 128]⟩
abbrev S144x2048 : Shape := ⟨2, ![144, 2048]⟩
abbrev S128x128 : Shape := ⟨2, ![128, 128]⟩
abbrev S4x2048x256 : Shape := ⟨3, ![4, 2048, 256]⟩
abbrev S2x2048x256 : Shape := ⟨3, ![2, 2048, 256]⟩
abbrev S128x2048 : Shape := ⟨2, ![128, 2048]⟩
abbrev S16x2048 : Shape := ⟨2, ![16, 2048]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S256x256 : Shape := ⟨2, ![256, 256]⟩
abbrev S128x1 : Shape := ⟨2, ![128, 1]⟩
abbrev S1x256x256 : Shape := ⟨3, ![1, 256, 256]⟩
abbrev S512x128 : Shape := ⟨2, ![512, 128]⟩
abbrev S512x256 : Shape := ⟨2, ![512, 256]⟩
abbrev S1x512x256 : Shape := ⟨3, ![1, 512, 256]⟩
abbrev S1x32x256 : Shape := ⟨3, ![1, 32, 256]⟩
abbrev S32x256 : Shape := ⟨2, ![32, 256]⟩
abbrev S256 : Shape := ⟨1, ![256]⟩
abbrev S1x256 : Shape := ⟨2, ![1, 256]⟩
abbrev S144x256 : Shape := ⟨2, ![144, 256]⟩
abbrev S128x256 : Shape := ⟨2, ![128, 256]⟩
abbrev S768x128 : Shape := ⟨2, ![768, 128]⟩
abbrev S768x256 : Shape := ⟨2, ![768, 256]⟩
abbrev S1x768x256 : Shape := ⟨3, ![1, 768, 256]⟩
abbrev S144x512 : Shape := ⟨2, ![144, 512]⟩
abbrev S1024x128 : Shape := ⟨2, ![1024, 128]⟩
abbrev S1024x256 : Shape := ⟨2, ![1024, 256]⟩
abbrev S1x1024x256 : Shape := ⟨3, ![1, 1024, 256]⟩
abbrev S144x768 : Shape := ⟨2, ![144, 768]⟩
abbrev S1280x128 : Shape := ⟨2, ![1280, 128]⟩
abbrev S1280x256 : Shape := ⟨2, ![1280, 256]⟩
abbrev S1x1280x256 : Shape := ⟨3, ![1, 1280, 256]⟩
abbrev S8x256 : Shape := ⟨2, ![8, 256]⟩
abbrev S144x1024 : Shape := ⟨2, ![144, 1024]⟩
abbrev S1536x128 : Shape := ⟨2, ![1536, 128]⟩
abbrev S1536x256 : Shape := ⟨2, ![1536, 256]⟩
abbrev S1x1536x256 : Shape := ⟨3, ![1, 1536, 256]⟩
abbrev S144x1280 : Shape := ⟨2, ![144, 1280]⟩
abbrev S1792x128 : Shape := ⟨2, ![1792, 128]⟩
abbrev S1792x256 : Shape := ⟨2, ![1792, 256]⟩
abbrev S1x1792x256 : Shape := ⟨3, ![1, 1792, 256]⟩
abbrev S144x1536 : Shape := ⟨2, ![144, 1536]⟩
abbrev S2048x256 : Shape := ⟨2, ![2048, 256]⟩
abbrev S1x2048x256 : Shape := ⟨3, ![1, 2048, 256]⟩
abbrev S144x1792 : Shape := ⟨2, ![144, 1792]⟩

abbrev nBuf : Space → Nat
  | .hbm => 8
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .bf16⟩
  | .hbm, ⟨3, _⟩ => ⟨S8x2048x512, .f32⟩
  | .hbm, ⟨4, _⟩ => ⟨S8x2048x512, .f32⟩
  | .hbm, ⟨5, _⟩ => ⟨S8x2048x512, .bf16⟩
  | .hbm, ⟨6, _⟩ => ⟨S8x2048x512, .bf16⟩
  | .hbm, ⟨7, _⟩ => ⟨S16384x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x2048x128, .f32⟩
  | .local _ .vmem, ⟨9, _⟩ => ⟨S2x2048x128, .bf16⟩
  | .local _ .vmem, ⟨10, _⟩ => ⟨S2048x128, .bf16⟩
  | .local _ .vmem, ⟨11, _⟩ => ⟨S144x2048, .bf16⟩
  | .local _ .vmem, ⟨12, _⟩ => ⟨S128x128, .f32⟩
  | .local _ .vmem, ⟨13, _⟩ => ⟨S4x2048x256, .f32⟩
  | .local _ .vmem, ⟨14, _⟩ => ⟨S2x2048x256, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelFfn21.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_3 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_4 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelFfn21Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_3 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_4 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn21Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== KernelFfn30.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelFfn30Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn30Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== KernelFfn20.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelFfn20Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn20Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== KernelFfn11.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelFfn11Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn11Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== KernelFfn10.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelFfn10Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn10Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== KernelFfn01.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelFfn01Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn01Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== KernelFfn00.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S16384x1024 : Shape := ⟨2, ![16384, 1024]⟩
abbrev S1024x1024 : Shape := ⟨2, ![1024, 1024]⟩
abbrev S1x6x1024 : Shape := ⟨3, ![1, 6, 1024]⟩
abbrev S1x1x1024x2816 : Shape := ⟨4, ![1, 1, 1024, 2816]⟩
abbrev S1x1x2816x1024 : Shape := ⟨4, ![1, 1, 2816, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩
abbrev S2816x1024 : Shape := ⟨2, ![2816, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S16384x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1x1024x2816, .f32⟩
  | .local _ .vmem, ⟨4, _⟩ => ⟨S1x1x1024x2816, .f32⟩
  | .local _ .vmem, ⟨5, _⟩ => ⟨S1x1x2816x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn00Ideal.lean ====
abbrev S8x2048x1024 : Shape := ⟨3, ![8, 2048, 1024]⟩
abbrev S4x6x1024 : Shape := ⟨3, ![4, 6, 1024]⟩
abbrev S4x2x1024x2816 : Shape := ⟨4, ![4, 2, 1024, 2816]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S4x2x1024x2816, .f32⟩
  | .hbm, ⟨3, _⟩ => ⟨S4x2x1024x2816, .f32⟩
  | .hbm, ⟨4, _⟩ => ⟨S4x2x2816x1024, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1x1024x2816, .f32⟩
  | .hbm, ⟨26, _⟩ => ⟨S1024x2816, .f32⟩
  | .hbm, ⟨27, _⟩ => ⟨S1x1x1024x2816, .f32⟩
  | .hbm, ⟨28, _⟩ => ⟨S1024x2816, .f32⟩
  | .hbm, ⟨29, _⟩ => ⟨S1x1x2816x1024, .f32⟩
  | .hbm, ⟨30, _⟩ => ⟨S2816x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== KernelConv2.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x31x512 : Shape := ⟨3, ![2, 31, 512]⟩
abbrev S2x512 : Shape := ⟨2, ![2, 512]⟩
abbrev S2x1024x1024 : Shape := ⟨3, ![2, 1024, 1024]⟩
abbrev S2x1x512 : Shape := ⟨3, ![2, 1, 512]⟩
abbrev S2x3x512 : Shape := ⟨3, ![2, 3, 512]⟩
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S32x512 : Shape := ⟨2, ![32, 512]⟩
abbrev S1x6x1024 : Shape := ⟨3, ![1, 6, 1024]⟩
abbrev S1x31x512 : Shape := ⟨3, ![1, 31, 512]⟩
abbrev S1x3x512 : Shape := ⟨3, ![1, 3, 512]⟩
abbrev S1x1024x1024 : Shape := ⟨3, ![1, 1024, 1024]⟩
abbrev S1056x512 : Shape := ⟨2, ![1056, 512]⟩
abbrev S1x1x512 : Shape := ⟨3, ![1, 1, 512]⟩
abbrev S1x512 : Shape := ⟨2, ![1, 512]⟩
abbrev S1048x512 : Shape := ⟨2, ![1048, 512]⟩
abbrev S1024 : Shape := ⟨1, ![1024]⟩
abbrev S1024x1 : Shape := ⟨2, ![1024, 1]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S4x6x1024, .f32⟩
  | .hbm, ⟨4, _⟩ => ⟨S2x31x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x1024x1024, .f32⟩
  | .hbm, ⟨9, _⟩ => ⟨S2x1024x1024, .bf16⟩
  | .hbm, ⟨10, _⟩ => ⟨S2x1x512, .f32⟩
  | .hbm, ⟨11, _⟩ => ⟨S2x1x512, .f32⟩
  | .hbm, ⟨12, _⟩ => ⟨S2x1x512, .f32⟩
  | .hbm, ⟨13, _⟩ => ⟨S2x3x512, .f32⟩
  | .hbm, ⟨14, _⟩ => ⟨S16384x1024, .f32⟩
  | .hbm, ⟨15, _⟩ => ⟨S16384x512, .bf16⟩
  | .hbm, ⟨16, _⟩ => ⟨S16384x512, .bf16⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S32x512, .bf16⟩
  | .local _ .vmem, ⟨7, _⟩ => ⟨S32x512, .bf16⟩
  | .local _ .vmem, ⟨8, _⟩ => ⟨S1x6x1024, .f32⟩
  | .local _ .vmem, ⟨9, _⟩ => ⟨S1x31x512, .f32⟩
  | .local _ .vmem, ⟨10, _⟩ => ⟨S1x3x512, .f32⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1056x512, .f32⟩
  | .local _ .vmem, ⟨15, _⟩ => ⟨S1056x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceConv2Ideal.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x31x512 : Shape := ⟨3, ![2, 31, 512]⟩
abbrev S2x512 : Shape := ⟨2, ![2, 512]⟩
abbrev S2x1024x1024 : Shape := ⟨3, ![2, 1024, 1024]⟩
abbrev S1x6x1024 : Shape := ⟨3, ![1, 6, 1024]⟩
abbrev S6x1024 : Shape := ⟨2, ![6, 1024]⟩
abbrev S_ : Shape := ⟨0, ![]⟩
abbrev S8x30x512 : Shape := ⟨3, ![8, 30, 512]⟩
abbrev S8x2078x512 : Shape := ⟨3, ![8, 2078, 512]⟩
abbrev S1x1x512 : Shape := ⟨3, ![1, 1, 512]⟩
abbrev S512 : Shape := ⟨1, ![512]⟩
abbrev S1x512 : Shape := ⟨2, ![1, 512]⟩
abbrev S8x2048 : Shape := ⟨2, ![8, 2048]⟩
abbrev S8x2048x1 : Shape := ⟨3, ![8, 2048, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 303
  | .vmem => 0
  | .smem => 0
  | _ => 0

abbrev hbmTy0_0 (i : Nat) : BufTy := match i % 128 with
  | 0 => ⟨S8x2048x1024, .f32⟩
  | 1 => ⟨S8x2048x512, .bf16⟩
  | 2 => ⟨S8x2048x512, .bf16⟩
  | 3 => ⟨S4x6x1024, .f32⟩
  | 4 => ⟨S2x31x512, .f32⟩
  | 5 => ⟨S2x512, .f32⟩
  | 6 => ⟨S2x512, .f32⟩
  | 7 => ⟨S2x512, .f32⟩
  | 8 => ⟨S2x1024x1024, .f32⟩
  | 9 => ⟨S1x6x1024, .f32⟩
  | 10 => ⟨S6x1024, .f32⟩
  | 11 => ⟨S8x2048x512, .f32⟩
  | 12 => ⟨S8x2048x512, .f32⟩
  | 13 => ⟨S_, .f32⟩
  | 14 => ⟨S8x30x512, .f32⟩
  | 15 => ⟨S8x2078x512, .f32⟩
  | 16 => ⟨S8x2048x512, .f32⟩
  | 17 => ⟨S1x1x512, .f32⟩
  | 18 => ⟨S512, .f32⟩
  | 19 => ⟨S1x1x512, .f32⟩
  | 20 => ⟨S8x2048x512, .f32⟩
  | 21 => ⟨S8x2048x512, .f32⟩
  | 22 => ⟨S8x2048x512, .f32⟩
  | 23 => ⟨S1x1x512, .f32⟩
  | 24 => ⟨S512, .f32⟩
  | 25 => ⟨S1x1x512, .f32⟩
  | 26 => ⟨S8x2048x512, .f32⟩
  | 27 => ⟨S8x2048x512, .f32⟩
  | 28 => ⟨S8x2048x512, .f32⟩
  | 29 => ⟨S8x2048x512, .f32⟩
  | 30 => ⟨S1x1x512, .f32⟩
  | 31 => ⟨S512, .f32⟩
  | 32 => ⟨S1x1x512, .f32⟩
  | 33 => ⟨S8x2048x512, .f32⟩
  | 34 => ⟨S8x2048x512, .f32⟩
  | 35 => ⟨S8x2048x512, .f32⟩
  | 36 => ⟨S8x2048x512, .f32⟩
  | 37 => ⟨S1x1x512, .f32⟩
  | 38 => ⟨S512, .f32⟩
  | 39 => ⟨S1x1x512, .f32⟩
  | 40 => ⟨S8x2048x512, .f32⟩
  | 41 => ⟨S8x2048x512, .f32⟩
  | 42 => ⟨S8x2048x512, .f32⟩
  | 43 => ⟨S8x2048x512, .f32⟩
  | 44 => ⟨S1x1x512, .f32⟩
  | 45 => ⟨S512, .f32⟩
  | 46 => ⟨S1x1x512, .f32⟩
  | 47 => ⟨S8x2048x512, .f32⟩
  | 48 => ⟨S8x2048x512, .f32⟩
  | 49 => ⟨S8x2048x512, .f32⟩
  | 50 => ⟨S8x2048x512, .f32⟩
  | 51 => ⟨S1x1x512, .f32⟩
  | 52 => ⟨S512, .f32⟩
  | 53 => ⟨S1x1x512, .f32⟩
  | 54 => ⟨S8x2048x512, .f32⟩
  | 55 => ⟨S8x2048x512, .f32⟩
  | 56 => ⟨S8x2048x512, .f32⟩
  | 57 => ⟨S8x2048x512, .f32⟩
  | 58 => ⟨S1x1x512, .f32⟩
  | 59 => ⟨S512, .f32⟩
  | 60 => ⟨S1x1x512, .f32⟩
  | 61 => ⟨S8x2048x512, .f32⟩
  | 62 => ⟨S8x2048x512, .f32⟩
  | 63 => ⟨S8x2048x512, .f32⟩
  | 64 => ⟨S8x2048x512, .f32⟩
  | 65 => ⟨S1x1x512, .f32⟩
  | 66 => ⟨S512, .f32⟩
  | 67 => ⟨S1x1x512, .f32⟩
  | 68 => ⟨S8x2048x512, .f32⟩
  | 69 => ⟨S8x2048x512, .f32⟩
  | 70 => ⟨S8x2048x512, .f32⟩
  | 71 => ⟨S8x2048x512, .f32⟩
  | 72 => ⟨S1x1x512, .f32⟩
  | 73 => ⟨S512, .f32⟩
  | 74 => ⟨S1x1x512, .f32⟩
  | 75 => ⟨S8x2048x512, .f32⟩
  | 76 => ⟨S8x2048x512, .f32⟩
  | 77 => ⟨S8x2048x512, .f32⟩
  | 78 => ⟨S8x2048x512, .f32⟩
  | 79 => ⟨S1x1x512, .f32⟩
  | 80 => ⟨S512, .f32⟩
  | 81 => ⟨S1x1x512, .f32⟩
  | 82 => ⟨S8x2048x512, .f32⟩
  | 83 => ⟨S8x2048x512, .f32⟩
  | 84 => ⟨S8x2048x512, .f32⟩
  | 85 => ⟨S8x2048x512, .f32⟩
  | 86 => ⟨S1x1x512, .f32⟩
  | 87 => ⟨S512, .f32⟩
  | 88 => ⟨S1x1x512, .f32⟩
  | 89 => ⟨S8x2048x512, .f32⟩
  | 90 => ⟨S8x2048x512, .f32⟩
  | 91 => ⟨S8x2048x512, .f32⟩
  | 92 => ⟨S8x2048x512, .f32⟩
  | 93 => ⟨S1x1x512, .f32⟩
  | 94 => ⟨S512, .f32⟩
  | 95 => ⟨S1x1x512, .f32⟩
  | 96 => ⟨S8x2048x512, .f32⟩
  | 97 => ⟨S8x2048x512, .f32⟩
  | 98 => ⟨S8x2048x512, .f32⟩
  | 99 => ⟨S8x2048x512, .f32⟩
  | 100 => ⟨S1x1x512, .f32⟩
  | 101 => ⟨S512, .f32⟩
  | 102 => ⟨S1x1x512, .f32⟩
  | 103 => ⟨S8x2048x512, .f32⟩
  | 104 => ⟨S8x2048x512, .f32⟩
  | 105 => ⟨S8x2048x512, .f32⟩
  | 106 => ⟨S8x2048x512, .f32⟩
  | 107 => ⟨S1x1x512, .f32⟩
  | 108 => ⟨S512, .f32⟩
  | 109 => ⟨S1x1x512, .f32⟩
  | 110 => ⟨S8x2048x512, .f32⟩
  | 111 => ⟨S8x2048x512, .f32⟩
  | 112 => ⟨S8x2048x512, .f32⟩
  | 113 => ⟨S8x2048x512, .f32⟩
  | 114 => ⟨S1x1x512, .f32⟩
  | 115 => ⟨S512, .f32⟩
  | 116 => ⟨S1x1x512, .f32⟩
  | 117 => ⟨S8x2048x512, .f32⟩
  | 118 => ⟨S8x2048x512, .f32⟩
  | 119 => ⟨S8x2048x512, .f32⟩
  | 120 => ⟨S8x2048x512, .f32⟩
  | 121 => ⟨S1x1x512, .f32⟩
  | 122 => ⟨S512, .f32⟩
  | 123 => ⟨S1x1x512, .f32⟩
  | 124 => ⟨S8x2048x512, .f32⟩
  | 125 => ⟨S8x2048x512, .f32⟩
  | 126 => ⟨S8x2048x512, .f32⟩
  | 127 => ⟨S8x2048x512, .f32⟩
  | _ => ⟨S8x2048x1024, .f32⟩

abbrev hbmTy0_1 (i : Nat) : BufTy := match i % 128 with
  | 0 => ⟨S1x1x512, .f32⟩
  | 1 => ⟨S512, .f32⟩
  | 2 => ⟨S1x1x512, .f32⟩
  | 3 => ⟨S8x2048x512, .f32⟩
  | 4 => ⟨S8x2048x512, .f32⟩
  | 5 => ⟨S8x2048x512, .f32⟩
  | 6 => ⟨S8x2048x512, .f32⟩
  | 7 => ⟨S1x1x512, .f32⟩
  | 8 => ⟨S512, .f32⟩
  | 9 => ⟨S1x1x512, .f32⟩
  | 10 => ⟨S8x2048x512, .f32⟩
  | 11 => ⟨S8x2048x512, .f32⟩
  | 12 => ⟨S8x2048x512, .f32⟩
  | 13 => ⟨S8x2048x512, .f32⟩
  | 14 => ⟨S1x1x512, .f32⟩
  | 15 => ⟨S512, .f32⟩
  | 16 => ⟨S1x1x512, .f32⟩
  | 17 => ⟨S8x2048x512, .f32⟩
  | 18 => ⟨S8x2048x512, .f32⟩
  | 19 => ⟨S8x2048x512, .f32⟩
  | 20 => ⟨S8x2048x512, .f32⟩
  | 21 => ⟨S1x1x512, .f32⟩
  | 22 => ⟨S512, .f32⟩
  | 23 => ⟨S1x1x512, .f32⟩
  | 24 => ⟨S8x2048x512, .f32⟩
  | 25 => ⟨S8x2048x512, .f32⟩
  | 26 => ⟨S8x2048x512, .f32⟩
  | 27 => ⟨S8x2048x512, .f32⟩
  | 28 => ⟨S1x1x512, .f32⟩
  | 29 => ⟨S512, .f32⟩
  | 30 => ⟨S1x1x512, .f32⟩
  | 31 => ⟨S8x2048x512, .f32⟩
  | 32 => ⟨S8x2048x512, .f32⟩
  | 33 => ⟨S8x2048x512, .f32⟩
  | 34 => ⟨S8x2048x512, .f32⟩
  | 35 => ⟨S1x1x512, .f32⟩
  | 36 => ⟨S512, .f32⟩
  | 37 => ⟨S1x1x512, .f32⟩
  | 38 => ⟨S8x2048x512, .f32⟩
  | 39 => ⟨S8x2048x512, .f32⟩
  | 40 => ⟨S8x2048x512, .f32⟩
  | 41 => ⟨S8x2048x512, .f32⟩
  | 42 => ⟨S1x1x512, .f32⟩
  | 43 => ⟨S512, .f32⟩
  | 44 => ⟨S1x1x512, .f32⟩
  | 45 => ⟨S8x2048x512, .f32⟩
  | 46 => ⟨S8x2048x512, .f32⟩
  | 47 => ⟨S8x2048x512, .f32⟩
  | 48 => ⟨S8x2048x512, .f32⟩
  | 49 => ⟨S1x1x512, .f32⟩
  | 50 => ⟨S512, .f32⟩
  | 51 => ⟨S1x1x512, .f32⟩
  | 52 => ⟨S8x2048x512, .f32⟩
  | 53 => ⟨S8x2048x512, .f32⟩
  | 54 => ⟨S8x2048x512, .f32⟩
  | 55 => ⟨S8x2048x512, .f32⟩
  | 56 => ⟨S1x1x512, .f32⟩
  | 57 => ⟨S512, .f32⟩
  | 58 => ⟨S1x1x512, .f32⟩
  | 59 => ⟨S8x2048x512, .f32⟩
  | 60 => ⟨S8x2048x512, .f32⟩
  | 61 => ⟨S8x2048x512, .f32⟩
  | 62 => ⟨S8x2048x512, .f32⟩
  | 63 => ⟨S1x1x512, .f32⟩
  | 64 => ⟨S512, .f32⟩
  | 65 => ⟨S1x1x512, .f32⟩
  | 66 => ⟨S8x2048x512, .f32⟩
  | 67 => ⟨S8x2048x512, .f32⟩
  | 68 => ⟨S8x2048x512, .f32⟩
  | 69 => ⟨S8x2048x512, .f32⟩
  | 70 => ⟨S1x1x512, .f32⟩
  | 71 => ⟨S512, .f32⟩
  | 72 => ⟨S1x1x512, .f32⟩
  | 73 => ⟨S8x2048x512, .f32⟩
  | 74 => ⟨S8x2048x512, .f32⟩
  | 75 => ⟨S8x2048x512, .f32⟩
  | 76 => ⟨S8x2048x512, .f32⟩
  | 77 => ⟨S1x1x512, .f32⟩
  | 78 => ⟨S512, .f32⟩
  | 79 => ⟨S1x1x512, .f32⟩
  | 80 => ⟨S8x2048x512, .f32⟩
  | 81 => ⟨S8x2048x512, .f32⟩
  | 82 => ⟨S8x2048x512, .f32⟩
  | 83 => ⟨S8x2048x512, .f32⟩
  | 84 => ⟨S1x1x512, .f32⟩
  | 85 => ⟨S512, .f32⟩
  | 86 => ⟨S1x1x512, .f32⟩
  | 87 => ⟨S8x2048x512, .f32⟩
  | 88 => ⟨S8x2048x512, .f32⟩
  | 89 => ⟨S8x2048x512, .f32⟩
  | 90 => ⟨S8x2048x512, .f32⟩
  | 91 => ⟨S1x1x512, .f32⟩
  | 92 => ⟨S512, .f32⟩
  | 93 => ⟨S1x1x512, .f32⟩
  | 94 => ⟨S8x2048x512, .f32⟩
  | 95 => ⟨S8x2048x512, .f32⟩
  | 96 => ⟨S8x2048x512, .f32⟩
  | 97 => ⟨S8x2048x512, .f32⟩
  | 98 => ⟨S1x1x512, .f32⟩
  | 99 => ⟨S512, .f32⟩
  | 100 => ⟨S1x1x512, .f32⟩
  | 101 => ⟨S8x2048x512, .f32⟩
  | 102 => ⟨S8x2048x512, .f32⟩
  | 103 => ⟨S8x2048x512, .f32⟩
  | 104 => ⟨S1x512, .f32⟩
  | 105 => ⟨S512, .f32⟩
  | 106 => ⟨S1x1x512, .f32⟩
  | 107 => ⟨S8x2048x512, .f32⟩
  | 108 => ⟨S8x2048x512, .f32⟩
  | 109 => ⟨S1x512, .f32⟩
  | 110 => ⟨S512, .f32⟩
  | 111 => ⟨S1x512, .f32⟩
  | 112 => ⟨S512, .f32⟩
  | 113 => ⟨S_, .f32⟩
  | 114 => ⟨S8x2048, .f32⟩
  | 115 => ⟨S8x2048x1, .f32⟩
  | 116 => ⟨S_, .f32⟩
  | 117 => ⟨S8x2048x1, .f32⟩
  | 118 => ⟨S8x2048x1, .f32⟩
  | 119 => ⟨S8x2048x512, .f32⟩
  | 120 => ⟨S8x2048x512, .f32⟩
  | 121 => ⟨S8x2048x512, .f32⟩
  | 122 => ⟨S_, .f32⟩
  | 123 => ⟨S8x2048, .f32⟩
  | 124 => ⟨S8x2048x1, .f32⟩
  | 125 => ⟨S_, .f32⟩
  | 126 => ⟨S8x2048x1, .f32⟩
  | 127 => ⟨S8x2048x1, .f32⟩
  | _ => ⟨S8x2048x1024, .f32⟩

abbrev hbmTy0_2 (i : Nat) : BufTy := match i % 128 with
  | 0 => ⟨S8x2048x512, .f32⟩
  | 1 => ⟨S8x2048x512, .f32⟩
  | 2 => ⟨S_, .f32⟩
  | 3 => ⟨S8x2048x1, .f32⟩
  | 4 => ⟨S8x2048x1, .f32⟩
  | 5 => ⟨S8x2048x1, .f32⟩
  | 6 => ⟨S8x2048x512, .f32⟩
  | 7 => ⟨S8x2048x512, .f32⟩
  | 8 => ⟨S1x1x512, .f32⟩
  | 9 => ⟨S8x2048x512, .f32⟩
  | 10 => ⟨S8x2048x512, .f32⟩
  | 11 => ⟨S1x1x512, .f32⟩
  | 12 => ⟨S8x2048x512, .f32⟩
  | 13 => ⟨S8x2048x512, .f32⟩
  | 14 => ⟨S8x2048x512, .f32⟩
  | 15 => ⟨S8x2048x512, .f32⟩
  | 16 => ⟨S_, .f32⟩
  | 17 => ⟨S8x2048x512, .f32⟩
  | 18 => ⟨S8x2048x512, .f32⟩
  | 19 => ⟨S_, .f32⟩
  | 20 => ⟨S8x2048x512, .f32⟩
  | 21 => ⟨S8x2048x512, .f32⟩
  | 22 => ⟨S8x2048x512, .f32⟩
  | 23 => ⟨S8x2048x1024, .f32⟩
  | 24 => ⟨S1x1024x1024, .f32⟩
  | 25 => ⟨S1024x1024, .f32⟩
  | 26 => ⟨S8x2048x1024, .f32⟩
  | 27 => ⟨S1x1024, .f32⟩
  | 28 => ⟨S1024, .f32⟩
  | 29 => ⟨S8x2048x1024, .f32⟩
  | 30 => ⟨S_, .f32⟩
  | 31 => ⟨S8x2048, .f32⟩
  | 32 => ⟨S8x2048x1, .f32⟩
  | 33 => ⟨S_, .f32⟩
  | 34 => ⟨S8x2048x1, .f32⟩
  | 35 => ⟨S8x2048x1, .f32⟩
  | 36 => ⟨S_, .f32⟩
  | 37 => ⟨S8x2048x1, .f32⟩
  | 38 => ⟨S8x2048x1, .f32⟩
  | 39 => ⟨S8x2048x1, .f32⟩
  | 40 => ⟨S8x2048x1024, .f32⟩
  | 41 => ⟨S8x2048x1024, .f32⟩
  | 42 => ⟨S1x1x1024, .f32⟩
  | 43 => ⟨S8x2048x1024, .f32⟩
  | 44 => ⟨S8x2048x1024, .f32⟩
  | 45 => ⟨S8x2048x1024, .f32⟩
  | 46 => ⟨S16384x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_0 : Ref sig .tc := ⟨.hbm, 241, rfl⟩
abbrev main_v231 : Ref sig .tc := ⟨.hbm, 242, rfl⟩
abbrev main_v232 : Ref sig .tc := ⟨.hbm, 243, rfl⟩
abbrev main_cst_1 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_2 : Ref sig .tc := ⟨.hbm, 250, rfl⟩
abbrev main_v238 : Ref sig .tc := ⟨.hbm, 251, rfl⟩
abbrev main_v239 : Ref sig .tc := ⟨.hbm, 252, rfl⟩
abbrev main_cst_3 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_4 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_cst_5 : Ref sig .tc := ⟨.hbm, 286, rfl⟩
abbrev main_v263 : Ref sig .tc := ⟨.hbm, 287, rfl⟩
abbrev main_v264 : Ref sig .tc := ⟨.hbm, 288, rfl⟩
abbrev main_cst_6 : Ref sig .tc := ⟨.hbm, 289, rfl⟩
abbrev main_v265 : Ref sig .tc := ⟨.hbm, 290, rfl⟩
abbrev main_v266 : Ref sig .tc := ⟨.hbm, 291, rfl⟩
abbrev main_cst_7 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩

abbrev nD : Nat := 1
abbrev τ : Topo := Topo.v7x

variable {F : FTy → Type} [FloatOps F]
-- ==== KernelSgu3.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x4x128x128 : Shape := ⟨4, ![2, 4, 128, 128]⟩
abbrev S2x4x128 : Shape := ⟨3, ![2, 4, 128]⟩
abbrev S2x1024x1024 : Shape := ⟨3, ![2, 1024, 1024]⟩
abbrev S2x128x4 : Shape := ⟨3, ![2, 128, 4]⟩
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S1x6x1024 : Shape := ⟨3, ![1, 6, 1024]⟩
abbrev S1x4x128x128 : Shape := ⟨4, ![1, 4, 128, 128]⟩
abbrev S1x128x4 : Shape := ⟨3, ![1, 128, 4]⟩
abbrev S1x1024x1024 : Shape := ⟨3, ![1, 1024, 1024]⟩
abbrev S128x128 : Shape := ⟨2, ![128, 128]⟩
abbrev S1x1x128x128 : Shape := ⟨4, ![1, 1, 128, 128]⟩
abbrev S128x1024 : Shape := ⟨2, ![128, 1024]⟩
abbrev S1x128x1 : Shape := ⟨3, ![1, 128, 1]⟩
abbrev S128x1 : Shape := ⟨2, ![128, 1]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S4x6x1024, .f32⟩
  | .hbm, ⟨5, _⟩ => ⟨S2x4x128x128, .f32⟩
  | .hbm, ⟨6, _⟩ => ⟨S2x4x128, .f32⟩
  | .hbm, ⟨7, _⟩ => ⟨S2x1024x1024, .f32⟩
  | .hbm, ⟨8, _⟩ => ⟨S2x1024x1024, .bf16⟩
  | .hbm, ⟨9, _⟩ => ⟨S2x128x4, .f32⟩
  | .hbm, ⟨10, _⟩ => ⟨S16384x1024, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x6x1024, .f32⟩
  | .local _ .vmem, ⟨9, _⟩ => ⟨S1x4x128x128, .f32⟩
  | .local _ .vmem, ⟨10, _⟩ => ⟨S1x128x4, .f32⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceSgu3Ideal.lean ====
abbrev S8x2048x1024 : Shape := ⟨3, ![8, 2048, 1024]⟩
abbrev S8x2048x512 : Shape := ⟨3, ![8, 2048, 512]⟩
abbrev S4x6x1024 : Shape := ⟨3, ![4, 6, 1024]⟩
abbrev S2x4x128x128 : Shape := ⟨4, ![2, 4, 128, 128]⟩
abbrev S2x4x128 : Shape := ⟨3, ![2, 4, 128]⟩
abbrev S2x1024x1024 : Shape := ⟨3, ![2, 1024, 1024]⟩
abbrev S1x6x1024 : Shape := ⟨3, ![1, 6, 1024]⟩
abbrev S6x1024 : Shape := ⟨2, ![6, 1024]⟩
abbrev S8x16x128x4x128 : Shape := ⟨5, ![8, 16, 128, 4, 128]⟩
abbrev S_ : Shape := ⟨0, ![]⟩
abbrev S128x128 : Shape := ⟨2, ![128, 128]⟩
abbrev S1x4x128x128 : Shape := ⟨4, ![1, 4, 128, 128]⟩
abbrev S4x128x128 : Shape := ⟨3, ![4, 128, 128]⟩
abbrev S1x128x128 : Shape := ⟨3, ![1, 128, 128]⟩
abbrev S4x8x16x128x128 : Shape := ⟨5, ![4, 8, 16, 128, 128]⟩
abbrev S1x4x128 : Shape := ⟨3, ![1, 4, 128]⟩
abbrev S4x128 : Shape := ⟨2, ![4, 128]⟩
abbrev S128x4 : Shape := ⟨2, ![128, 4]⟩
abbrev S1x1x128x4x1 : Shape := ⟨5, ![1, 1, 128, 4, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S4x6x1024, .f32⟩
  | .hbm, ⟨5, _⟩ => ⟨S2x4x128x128, .f32⟩
  | .hbm, ⟨6, _⟩ => ⟨S2x4x128, .f32⟩
  | .hbm, ⟨7, _⟩ => ⟨S2x1024x1024, .f32⟩
  | .hbm, ⟨8, _⟩ => ⟨S1x6x1024, .f32⟩
  | .hbm, ⟨9, _⟩ => ⟨S6x1024, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S8x16x128x4x128, .f32⟩
  | .hbm, ⟨14, _⟩ => ⟨S_, .f32⟩
  | .hbm, ⟨15, _⟩ => ⟨S128x128, .f32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S1x4x128x128, .f32⟩
  | .hbm, ⟨26, _⟩ => ⟨S4x128x128, .f32⟩
  | .hbm, ⟨27, _⟩ => ⟨S1x128x128, .f32⟩
  | .hbm, ⟨28, _⟩ => ⟨S4x128x128, .f32⟩
  | .hbm, ⟨29, _⟩ => ⟨S4x128x128, .f32⟩
  | .hbm, ⟨30, _⟩ => ⟨S4x8x16x128x128, .f32⟩
  | .hbm, ⟨31, _⟩ => ⟨S8x16x128x4x128, .f32⟩
  | .hbm, ⟨32, _⟩ => ⟨S1x4x128, .f32⟩
  | .hbm, ⟨33, _⟩ => ⟨S4x128, .f32⟩
  | .hbm, ⟨34, _⟩ => ⟨S128x4, .f32⟩
  | .hbm, ⟨35, _⟩ => ⟨S1x1x128x4x1, .f32⟩
  | .hbm, ⟨36, _⟩ => ⟨S8x16x128x4x128, .f32⟩
  | .hbm, ⟨37, _⟩ => ⟨S8x16x128x4x128, .f32⟩
  | .hbm, ⟨38, _⟩ => ⟨S8x2048x512, .f32⟩
  | .hbm, ⟨39, _⟩ => ⟨S8x2048x512, .f32⟩
  | .hbm, ⟨40, _⟩ => ⟨S8x2048x1024, .f32⟩
  | .hbm, ⟨41, _⟩ => ⟨S1x1024x1024, .f32⟩
  | .hbm, ⟨42, _⟩ => ⟨S1024x1024, .f32⟩
  | .hbm, ⟨43, _⟩ => ⟨S8x2048x1024, .f32⟩
  | .hbm, ⟨44, _⟩ => ⟨S1x1024, .f32⟩
  | .hbm, ⟨45, _⟩ => ⟨S1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_0 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== KernelEven2.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S16384x512 : Shape := ⟨2, ![16384, 512]⟩
abbrev S1024x1024 : Shape := ⟨2, ![1024, 1024]⟩
abbrev S1x6x1024 : Shape := ⟨3, ![1, 6, 1024]⟩
abbrev S1x1024x2560 : Shape := ⟨3, ![1, 1024, 2560]⟩
abbrev S1024x128 : Shape := ⟨2, ![1024, 128]⟩
abbrev S1024x512 : Shape := ⟨2, ![1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x512 : Shape := ⟨3, ![1, 1024, 512]⟩

abbrev nBuf : Space → Nat
  | .hbm => 39
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S2048, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S2048x32, .f32⟩
  | .hbm, ⟨30, _⟩ => ⟨S2048x64, .f32⟩
  | .hbm, ⟨31, _⟩ => ⟨S1x2048x1x64, .f32⟩
  | .hbm, ⟨32, _⟩ => ⟨S1x2048x2x64, .f32⟩
  | .hbm, ⟨33, _⟩ => ⟨S2048x128, .f32⟩
  | .hbm, ⟨34, _⟩ => ⟨S16384x1024, .f32⟩
  | .hbm, ⟨35, _⟩ => ⟨S16384x512, .f32⟩
  | .hbm, ⟨36, _⟩ => ⟨S16384x512, .f32⟩
  | .hbm, ⟨37, _⟩ => ⟨S16384x512, .bf16⟩
  | .hbm, ⟨38, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024x2560, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceEven2Ideal.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S1x6x1024 : Shape := ⟨3, ![1, 6, 1024]⟩
abbrev S6x1024 : Shape := ⟨2, ![6, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S8x2048x2560 : Shape := ⟨3, ![8, 2048, 2560]⟩
abbrev S8x2048x512 : Shape := ⟨3, ![8, 2048, 512]⟩
abbrev S8x2048x8x64 : Shape := ⟨4, ![8, 2048, 8, 64]⟩
abbrev S8x2048x8x32 : Shape := ⟨4, ![8, 2048, 8, 32]⟩
abbrev S1x2048x1x32 : Shape := ⟨4, ![1, 2048, 1, 32]⟩
abbrev S16384x512 : Shape := ⟨2, ![16384, 512]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S1x6x1024, .f32⟩
  | .hbm, ⟨4, _⟩ => ⟨S6x1024, .f32⟩
  | .hbm, ⟨5, _⟩ => ⟨S2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S1x1024, .f32⟩
  | .hbm, ⟨28, _⟩ => ⟨S1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S1x1024x2560, .f32⟩
  | .hbm, ⟨46, _⟩ => ⟨S1024x2560, .f32⟩
  | .hbm, ⟨47, _⟩ => ⟨S8x2048x2560, .f32⟩
  | .hbm, ⟨48, _⟩ => ⟨S8x2048x512, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S8x2048x8x64, .f32⟩
  | .hbm, ⟨54, _⟩ => ⟨S8x2048x8x32, .f32⟩
  | .hbm, ⟨55, _⟩ => ⟨S8x2048x8x32, .f32⟩
  | .hbm, ⟨56, _⟩ => ⟨S1x2048x1x32, .f32⟩
  | .hbm, ⟨57, _⟩ => ⟨S1x2048x1x32, .f32⟩
  | .hbm, ⟨58, _⟩ => ⟨S8x2048x8x32, .f32⟩
  | .hbm, ⟨59, _⟩ => ⟨S8x2048x8x32, .f32⟩
  | .hbm, ⟨60, _⟩ => ⟨S8x2048x8x32, .f32⟩
  | .hbm, ⟨61, _⟩ => ⟨S8x2048x8x32, .f32⟩
  | .hbm, ⟨62, _⟩ => ⟨S8x2048x8x32, .f32⟩
  | .hbm, ⟨63, _⟩ => ⟨S8x2048x8x32, .f32⟩
  | .hbm, ⟨64, _⟩ => ⟨S8x2048x8x32, .f32⟩
  | .hbm, ⟨65, _⟩ => ⟨S8x2048x8x32, .f32⟩
  | .hbm, ⟨66, _⟩ => ⟨S8x2048x8x32, .f32⟩
  | .hbm, ⟨67, _⟩ => ⟨S8x2048x8x32, .f32⟩
  | .hbm, ⟨68, _⟩ => ⟨S8x2048x8x64, .f32⟩
  | .hbm, ⟨69, _⟩ => ⟨S8x2048x8x64, .f32⟩
  | .hbm, ⟨70, _⟩ => ⟨S8x2048x8x32, .f32⟩
  | .hbm, ⟨71, _⟩ => ⟨S8x2048x8x32, .f32⟩
  | .hbm, ⟨72, _⟩ => ⟨S1x2048x1x32, .f32⟩
  | .hbm, ⟨73, _⟩ => ⟨S1x2048x1x32, .f32⟩
  | .hbm, ⟨74, _⟩ => ⟨S8x2048x8x32, .f32⟩
  | .hbm, ⟨75, _⟩ => ⟨S8x2048x8x32, .f32⟩
  | .hbm, ⟨76, _⟩ => ⟨S8x2048x8x32, .f32⟩
  | .hbm, ⟨77, _⟩ => ⟨S8x2048x8x32, .f32⟩
  | .hbm, ⟨78, _⟩ => ⟨S8x2048x8x32, .f32⟩
  | .hbm, ⟨79, _⟩ => ⟨S8x2048x8x32, .f32⟩
  | .hbm, ⟨80, _⟩ => ⟨S8x2048x8x32, .f32⟩
  | .hbm, ⟨81, _⟩ => ⟨S8x2048x8x32, .f32⟩
  | .hbm, ⟨82, _⟩ => ⟨S8x2048x8x32, .f32⟩
  | .hbm, ⟨83, _⟩ => ⟨S8x2048x8x32, .f32⟩
  | .hbm, ⟨84, _⟩ => ⟨S8x2048x8x64, .f32⟩
  | .hbm, ⟨85, _⟩ => ⟨S8x2048x512, .f32⟩
  | .hbm, ⟨86, _⟩ => ⟨S8x2048x512, .f32⟩
  | .hbm, ⟨87, _⟩ => ⟨S_, .f32⟩
  | .hbm, ⟨88, _⟩ => ⟨S8x2048x512, .f32⟩
  | .hbm, ⟨89, _⟩ => ⟨S8x2048x512, .f32⟩
  | .hbm, ⟨90, _⟩ => ⟨S_, .f32⟩
  | .hbm, ⟨91, _⟩ => ⟨S8x2048x512, .f32⟩
  | .hbm, ⟨92, _⟩ => ⟨S8x2048x512, .f32⟩
  | .hbm, ⟨93, _⟩ => ⟨S8x2048x512, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .bf16⟩
  | .hbm, ⟨98, _⟩ => ⟨S16384x512, .f32⟩
  | .hbm, ⟨99, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_6 : Ref sig .tc := ⟨.hbm, 87, rfl⟩
abbrev main_v77 : Ref sig .tc := ⟨.hbm, 88, rfl⟩
abbrev main_v78 : Ref sig .tc := ⟨.hbm, 89, rfl⟩
abbrev main_cst_7 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩

abbrev nD : Nat := 1
abbrev τ : Topo := Topo.v7x

variable {F : FTy → Type} [FloatOps F]
-- ==== KernelOdd3.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S2x512 : Shape := ⟨2, ![2, 512]⟩
abbrev S2x1x512 : Shape := ⟨3, ![2, 1, 512]⟩
abbrev S2x2x512 : Shape := ⟨3, ![2, 2, 512]⟩
abbrev S16384x1024 : Shape := ⟨2, ![16384, 1024]⟩
abbrev S16384x512 : Shape := ⟨2, ![16384, 512]⟩
abbrev S1024x1024 : Shape := ⟨2, ![1024, 1024]⟩
abbrev S1x6x1024 : Shape := ⟨3, ![1, 6, 1024]⟩
abbrev S1x1024x2560 : Shape := ⟨3, ![1, 1024, 2560]⟩
abbrev S1x2x512 : Shape := ⟨3, ![1, 2, 512]⟩
abbrev S1024x512 : Shape := ⟨2, ![1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1024x512 : Shape := ⟨3, ![1, 1024, 512]⟩
abbrev S1x1x512 : Shape := ⟨3, ![1, 1, 512]⟩
abbrev S1x512 : Shape := ⟨2, ![1, 512]⟩

abbrev nBuf : Space → Nat
  | .hbm => 14
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S2x512, .f32⟩
  | .hbm, ⟨4, _⟩ => ⟨S2x512, .f32⟩
  | .hbm, ⟨5, _⟩ => ⟨S2x1x512, .f32⟩
  | .hbm, ⟨6, _⟩ => ⟨S2x1x512, .f32⟩
  | .hbm, ⟨7, _⟩ => ⟨S2x2x512, .f32⟩
  | .hbm, ⟨8, _⟩ => ⟨S16384x1024, .f32⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024x2560, .f32⟩
  | .local _ .vmem, ⟨4, _⟩ => ⟨S1x2x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOdd3Ideal.lean ====
abbrev S8x2048x1024 : Shape := ⟨3, ![8, 2048, 1024]⟩
abbrev S4x6x1024 : Shape := ⟨3, ![4, 6, 1024]⟩
abbrev S2x1024x2560 : Shape := ⟨3, ![2, 1024, 2560]⟩
abbrev S2x512 : Shape := ⟨2, ![2, 512]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S8x2048x2560 : Shape := ⟨3, ![8, 2048, 2560]⟩
abbrev S8x2048x512 : Shape := ⟨3, ![8, 2048, 512]⟩
abbrev S1x512 : Shape := ⟨2, ![1, 512]⟩
abbrev S512 : Shape := ⟨1, ![512]⟩
abbrev S1x1x512 : Shape := ⟨3, ![1, 1, 512]⟩
abbrev S16384x512 : Shape := ⟨2, ![16384, 512]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x6x1024, .f32⟩
  | .hbm, ⟨2, _⟩ => ⟨S2x1024x2560, .f32⟩
  | .hbm, ⟨3, _⟩ => ⟨S2x512, .f32⟩
  | .hbm, ⟨4, _⟩ => ⟨S2x512, .f32⟩
  | .hbm, ⟨5, _⟩ => ⟨S1x6x1024, .f32⟩
  | .hbm, ⟨6, _⟩ => ⟨S6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x1024x2560, .f32⟩
  | .hbm, ⟨26, _⟩ => ⟨S1024x2560, .f32⟩
  | .hbm, ⟨27, _⟩ => ⟨S8x2048x2560, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S8x2048x512, .f32⟩
  | .hbm, ⟨35, _⟩ => ⟨S_, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x2048x512, .f32⟩
  | .hbm, ⟨45, _⟩ => ⟨S8x2048x512, .f32⟩
  | .hbm, ⟨46, _⟩ => ⟨S_, .f32⟩
  | .hbm, ⟨47, _⟩ => ⟨S8x2048x512, .f32⟩
  | .hbm, ⟨48, _⟩ => ⟨S8x2048x512, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S_, .f32⟩
  | .hbm, ⟨53, _⟩ => ⟨S8x2048x512, .f32⟩
  | .hbm, ⟨54, _⟩ => ⟨S8x2048x512, .f32⟩
  | .hbm, ⟨55, _⟩ => ⟨S8x2048x512, .f32⟩
  | .hbm, ⟨56, _⟩ => ⟨S_, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S_, .f32⟩
  | .hbm, ⟨61, _⟩ => ⟨S8x2048x512, .f32⟩
  | .hbm, ⟨62, _⟩ => ⟨S8x2048x512, .f32⟩
  | .hbm, ⟨63, _⟩ => ⟨S_, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S1x512, .f32⟩
  | .hbm, ⟨68, _⟩ => ⟨S512, .f32⟩
  | .hbm, ⟨69, _⟩ => ⟨S1x512, .f32⟩
  | .hbm, ⟨70, _⟩ => ⟨S512, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x512, .f32⟩
  | .hbm, ⟨78, _⟩ => ⟨S8x2048x512, .f32⟩
  | .hbm, ⟨79, _⟩ => ⟨S8x2048x512, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S8x2048x512, .f32⟩
  | .hbm, ⟨87, _⟩ => ⟨S8x2048x512, .f32⟩
  | .hbm, ⟨88, _⟩ => ⟨S_, .f32⟩
  | .hbm, ⟨89, _⟩ => ⟨S8x2048x1, .f32⟩
  | .hbm, ⟨90, _⟩ => ⟨S8x2048x1, .f32⟩
  | .hbm, ⟨91, _⟩ => ⟨S8x2048x1, .f32⟩
  | .hbm, ⟨92, _⟩ => ⟨S8x2048x512, .f32⟩
  | .hbm, ⟨93, _⟩ => ⟨S8x2048x512, .f32⟩
  | .hbm, ⟨94, _⟩ => ⟨S1x1x512, .f32⟩
  | .hbm, ⟨95, _⟩ => ⟨S8x2048x512, .f32⟩
  | .hbm, ⟨96, _⟩ => ⟨S8x2048x512, .f32⟩
  | .hbm, ⟨97, _⟩ => ⟨S1x1x512, .f32⟩
  | .hbm, ⟨98, _⟩ => ⟨S8x2048x512, .f32⟩
  | .hbm, ⟨99, _⟩ => ⟨S8x2048x512, .f32⟩
  | .hbm, ⟨100, _⟩ => ⟨S16384x512, .f32⟩
  | .hbm, ⟨101, _⟩ => ⟨S16384x512, .bf16⟩
  | .hbm, ⟨102, _⟩ => ⟨S16384x512, .f32⟩
  | .hbm, ⟨103, _⟩ => ⟨S16384x512, .bf16⟩
  | .hbm, ⟨104, _⟩ => ⟨S16384x512, .f32⟩
  | .hbm, ⟨105, _⟩ => ⟨S16384x512, .bf16⟩
  | .hbm, ⟨106, _⟩ => ⟨S16384x512, .f32⟩
  | .hbm, ⟨107, _⟩ => ⟨S16384x512, .bf16⟩
  | .hbm, ⟨108, _⟩ => ⟨S16384x512, .f32⟩
  | .hbm, ⟨109, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== Proof.Rows.lean ====
/- The row functions that several calls share, over the extended reals: the root-mean-square norm of one row of 1024 numbers, the sigmoid and
   the sigmoid-weighted identity; and the one fact about stores read back that the kernels with a scratch use. -/
module

public import Idealize.ShloMosaic.Lib.Pipeline.ValueKit
public import Idealize.ShloMosaic.Lib.Pipeline.ReadBack

@[expose] public section

noncomputable section

open Idealize.ShloMosaic

namespace Cert.Rows

/-- One over the root mean square of a row. -/
def scale (v : Fin 1024 → EReal) : EReal :=
  Ideal.rsqrt (Ideal.div (∑ k, v k * v k) (Ideal.ofBits FTy.f32 0x44800000#32) + Ideal.ofBits FTy.f32 0x358637BD#32)

/-- Entry `d` of a row, normed and weighted. -/
def rms (v g : Fin 1024 → EReal) (d : Fin 1024) : EReal := v d * scale v * g d

def sigmoid (z : EReal) : EReal := Ideal.div 1 (1 + Ideal.exp (0 - z))

def silu (z : EReal) : EReal := z * sigmoid z

/-- The tanh form of the gelu. -/
def gelu (z : EReal) : EReal :=
  z * (Ideal.ofBits FTy.f32 0x3F000000#32 * (1 + Ideal.tanh (Ideal.ofBits FTy.f32 0x3F4C422A#32 * (z + Ideal.ofBits FTy.f32 0x3D372713#32 * (z * z * z)))))

def mean (v : Fin 512 → EReal) : EReal := Ideal.div (∑ k, v k) (Ideal.ofBits FTy.f32 0x44000000#32)

/-- Entry `k` of a row of 512, less its mean. -/
def centred (v : Fin 512 → EReal) (k : Fin 512) : EReal := v k - mean v

/-- Entry `k` of a row of 512, layer-normed. -/
def layerNorm (v g b : Fin 512 → EReal) (k : Fin 512) : EReal :=
  centred v k * Ideal.rsqrt (mean (fun k => centred v k * centred v k) + Ideal.ofBits FTy.f32 0x3727C5AC#32) * g k + b k

/-- Entry `j` of the normed row's projection. -/
def proj (x g : Fin 1024 → EReal) (w : Fin 1024 → Fin 2560 → EReal) (j : Fin 2560) : EReal := ∑ k, rms x g k * w k j

variable {sig : RefSig} {κ : Kind} {sp : Space} {s : Shape} {e : EltTy} {Val : EltTy → Type}

/-- Some piece of the list holds the index: a disjunction, piece by piece. -/
def Held (y : s.Idx) : List (View.Piece Val s e) → Prop
  | [] => False
  | p :: L => y ∈ p.1.set ∨ Held y L

theorem Held.exists {y : s.Idx} : ∀ {L : List (View.Piece Val s e)}, Held y L → ∃ p ∈ L, y ∈ p.1.set
  | [], h => h.elim
  | p :: L, h => by
    rcases h with h | h
    · exact ⟨p, List.mem_cons_self, h⟩
    · obtain ⟨q, hq, hy⟩ := Held.exists h
      exact ⟨q, List.mem_cons_of_mem _ hq, hy⟩

/-- The piece numbered `i` holds the index. -/
theorem Held.at {y : s.Idx} : ∀ {L : List (View.Piece Val s e)} (i : ℕ) (hi : i < L.length), y ∈ (L.get ⟨i, hi⟩).1.set → Held y L
  | _ :: _, 0, _, h => Or.inl h
  | _ :: _, i + 1, hi, h => Or.inr (Held.at i (Nat.lt_of_succ_lt_succ hi) h)

/-- An index of one box of a rank-three shape, placed in the shape, lies in another box: axis by axis. -/
theorem mem_box {n₀ n₁ n₂ : ℕ} {off size off' size' : Fin 3 → ℕ} {inb inb'}
    (z : (Rect.unit (s := ⟨3, ![n₀, n₁, n₂]⟩) off size inb).shape.Idx) :
    (Rect.unit (s := ⟨3, ![n₀, n₁, n₂]⟩) off size inb).emb z ∈ (Rect.unit (s := ⟨3, ![n₀, n₁, n₂]⟩) off' size' inb').set ↔
      (off' 0 ≤ off 0 + (z 0 : ℕ) ∧ off 0 + (z 0 : ℕ) < off' 0 + size' 0) ∧ (off' 1 ≤ off 1 + (z 1 : ℕ) ∧ off 1 + (z 1 : ℕ) < off' 1 + size' 1) ∧
      (off' 2 ≤ off 2 + (z 2 : ℕ) ∧ off 2 + (z 2 : ℕ) < off' 2 + size' 2) := by
  rw [Rect.mem_set_unit]
  constructor
  · intro h
    have h0 := h 0; have h1 := h 1; have h2 := h 2
    rw [ValueKit.rect_emb_unit_val] at h0 h1 h2
    exact ⟨h0, h1, h2⟩
  · rintro ⟨h0, h1, h2⟩ a
    rw [ValueKit.rect_emb_unit_val]
    match a with
    | 0 => exact h0
    | 1 => exact h1
    | 2 => exact h2

/-- The same for a rank-two shape. -/
theorem mem_box2 {n₀ n₁ : ℕ} {off size off' size' : Fin 2 → ℕ} {inb inb'}
    (z : (Rect.unit (s := ⟨2, ![n₀, n₁]⟩) off size inb).shape.Idx) :
    (Rect.unit (s := ⟨2, ![n₀, n₁]⟩) off size inb).emb z ∈ (Rect.unit (s := ⟨2, ![n₀, n₁]⟩) off' size' inb').set ↔
      (off' 0 ≤ off 0 + (z 0 : ℕ) ∧ off 0 + (z 0 : ℕ) < off' 0 + size' 0) ∧ (off' 1 ≤ off 1 + (z 1 : ℕ) ∧ off 1 + (z 1 : ℕ) < off' 1 + size' 1) := by
  rw [Rect.mem_set_unit]
  constructor
  · intro h
    have h0 := h 0; have h1 := h 1
    rw [ValueKit.rect_emb_unit_val] at h0 h1
    exact ⟨h0, h1⟩
  · rintro ⟨h0, h1⟩ a
    rw [ValueKit.rect_emb_unit_val]
    match a with
    | 0 => exact h0
    | 1 => exact h1

/-- A load of a rectangle whose every index some earlier store holds, where the stores are blocks of `G`, is that rectangle of `G`. -/
theorem readCov_of_pieces [∀ e, Nonempty (Val e)] (G : s.Idx → Val e) (v : View sig κ sp s e) (L : List (View.Piece Val s e)) (r : Rect s)
    (h : View.PiecesOf G L) (hc : ∀ x : r.shape.Idx, Held (r.emb x) L) : v.readCov L r.toLoadRect = View.ld G r := by
  rw [View.readCov_eq_canon']
  funext j
  have := View.canon_append_of_piecesOf G [] L h (r.emb j) (hc j).exists
  rw [List.append_nil] at this
  exact this

end Cert.Rows

end
-- ==== Proof.SguRef.lean ====
/- The gating sublayer's closing reference, read at one index of its result. -/
module

public import proofs.«01_k».proof.Proof.Gen.ReferenceSguIdeal.Run
public import proofs.«01_k».proof.Proof.Rows

@[expose] public section

set_option maxRecDepth 16384

noncomputable section

open Idealize.ShloMosaic Idealize.ShloMosaic.TcCoe Idealize.SL.Sem

namespace Cert.Rows

/-- One entry of a chunk's mixture over positions: the weights at or before position `p`, and a bias. -/
def mix (w v : Fin 128 → EReal) (b : EReal) (p : Fin 128) : EReal := (∑ s, (if s ≤ p then w s else 0) * v s) + b

/-- A mixer's closing step on one row: the two sides projected, normed and added to the row. -/
def closing (x : Fin 1024 → EReal) (a o : Fin 512 → EReal) (w : Fin 1024 → Fin 1024 → EReal) (g : Fin 1024 → EReal) (d : Fin 1024) : EReal :=
  x d + rms (fun d => (∑ k : Fin 512, a k * w ⟨k, by omega⟩ d) + ∑ k : Fin 512, o k * w ⟨512 + k, by omega⟩ d) g d

theorem sum_split (f : Fin 1024 → EReal) : ∑ j, f j = (∑ k : Fin 512, f ⟨k, by omega⟩) + ∑ k : Fin 512, f ⟨512 + k, by omega⟩ :=
  Fin.sum_univ_add (a := 512) (b := 512) f

end Cert.Rows

namespace Cert.ReferenceSguIdeal.Value
open Cert.ReferenceSguIdeal Cert.ReferenceSguIdeal.Gen Cert.Rows

variable (X : FVec Ideal S8x2048x1024 .f32) (U V O : FVec Ideal S8x2048x512 .bf16) (G : FVec Ideal S4x6x1024 .f32) (W : FVec Ideal S2x4x128x128 .f32)
  (B : FVec Ideal S2x4x128 .f32) (C : FVec Ideal S2x1024x1024 .f32)

def normed (X : FVec Ideal S8x2048x1024 .f32) (g : FVec Ideal S1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

def causal : FVec Ideal S128x128 .f32 :=
  select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))

def weights : FVec Ideal S4x128x128 .f32 :=
  mulf (shapeCast S4x128x128 (extractStridedSlice S1x4x128x128 ![0, 0, 0, 0] W slices_S2x4x128x128_S1x4x128x128_0_0_0_0) shapeCasts_S1x4x128x128_S4x128x128) (broadcastInDim S4x128x128 ![0, 1, 2] bcast_S1x128x128_S4x128x128_0_1_2 (broadcastInDim S1x128x128 ![1, 2] bcast_S128x128_S1x128x128_1_2 causal))

def bias : FVec Ideal S128x4 .f32 := transpose S128x4 [1, 0] (shapeCast S4x128 (extractStridedSlice S1x4x128 ![0, 0, 0] B slices_S2x4x128_S1x4x128_0_0_0) shapeCasts_S1x4x128_S4x128) transposes_S4x128_S128x4_1_0

def chunks : FVec Ideal S8x16x128x4x128 .f32 := shapeCast S8x16x128x4x128 (extf .f32 V bitsLt_bf16_f32) shapeCasts_S8x2048x512_S8x16x128x4x128

def mixed : FVec Ideal S8x16x128x4x128 .f32 :=
  addf (transpose S8x16x128x4x128 [1, 2, 4, 0, 3] (Host.dotGeneral dot_S8x16x128x4x128_S4x128x128_S4x8x16x128x128_2_2_014_1_3_0 none (chunks V) (weights W)) transposes_S4x8x16x128x128_S8x16x128x4x128_1_2_4_0_3) (broadcastInDim S8x16x128x4x128 ![0, 1, 2, 3, 4] bcast_S1x1x128x4x1_S8x16x128x4x128_0_1_2_3_4 (broadcastInDim S1x1x128x4x1 ![2, 3] bcast_S128x4_S1x1x128x4x1_2_3 (bias B)))

def gated : FVec Ideal S8x2048x512 .f32 := mulf (extf .f32 U bitsLt_bf16_f32) (shapeCast S8x2048x512 (mixed V W B) shapeCasts_S8x16x128x4x128_S8x2048x512)

def sides : FVec Ideal S8x2048x1024 .f32 := concatenate S8x2048x1024 2 [⟨S8x2048x512, gated U V W B⟩, ⟨S8x2048x512, (extf .f32 O bitsLt_bf16_f32)⟩] concatenates_S8x2048x512_S8x2048x512_S8x2048x1024_d2

def outp (H : FVec Ideal S8x2048x1024 .f32) : FVec Ideal S8x2048x1024 .f32 :=
  Host.dotGeneral dot_S8x2048x1024_S1024x1024_S8x2048x1024_2_0_01_1_n_n none H (shapeCast S1024x1024 (extractStridedSlice S1x1024x1024 ![0, 0, 0] C slices_S2x1024x1024_S1x1024x1024_0_0_0) shapeCasts_S1x1024x1024_S1024x1024)

def gain : FVec Ideal S1024 .f32 := shapeCast S1024 (extractStridedSlice S1x1024 ![3, 0] (shapeCast S6x1024 (extractStridedSlice S1x6x1024 ![1, 0, 0] G slices_S4x6x1024_S1x6x1024_1_0_0) shapeCasts_S1x6x1024_S6x1024) slices_S6x1024_S1x1024_3_0) shapeCasts_S1x1024_S1024

def result : FVec Ideal S16384x1024 .f32 :=
  shapeCast S16384x1024 (addf X (normed (outp C (sides U V O W B)) (gain G))) shapeCasts_S8x2048x1024_S16384x1024

theorem res_eq (m : (ℓ : Loc nD τ sig) → Buf (Elt Ideal) ℓ) (c : Dev nD) :
    res_out0 (F := Ideal) m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem normed_at (g : FVec Ideal S1024 .f32) (b : Fin 8) (t : Fin 2048) (d : Fin 1024) :
    normed X g (ix3 b t d) = rms (fun k => X (ix3 b t k)) (fun k => g (ix1 k)) d := by
  pointwise [normed, rms, scale]

theorem gain_at (k : Fin 1024) : gain G (ix1 k) = G (ix3 1 3 k) := by pointwise [gain]

theorem causal_at (t s : Fin 128) : causal (ix2 t s) = if s ≤ t then 1 else 0 := by
  pointwise [causal]
  have h : ∀ t s : Fin 128, IntOp.cmpi CmpIPredicate.sge (IntOp.addi (BitVec.ofNat 32 (t : ℕ)) 0#32) (BitVec.ofNat 32 (s : ℕ)) = if s ≤ t then 1 else 0 := by decide +kernel
  rw [h, Scalar.select]
  split <;> simp

theorem weights_at (g : Fin 4) (t s : Fin 128) : weights W (ix3 g t s) = W (ix4 0 g t s) * causal (ix2 t s) := by
  pointwise [weights]

theorem bias_at (t : Fin 128) (g : Fin 4) : bias B (ix2 t g) = B (ix3 0 g t) := by
  pointwise [bias]

theorem mixed_at (b : Fin 8) (n : Fin 16) (t : Fin 128) (g : Fin 4) (k : Fin 128) : mixed V W B (ix5 b n t g k) =
    (∑ s, chunks V (ix5 b n s g k) * weights W (ix3 g t s)) + bias B (ix2 t g) := by
  pointwise [mixed]

theorem chunks_at (b : Fin 8) (n : Fin 16) (s : Fin 128) (g : Fin 4) (k : Fin 128) : chunks V (ix5 b n s g k) =
    V (ix3 b ⟨n * 128 + s, by omega⟩ ⟨g * 128 + k, by omega⟩) := by
  pointwise [chunks]

theorem gated_at (b : Fin 8) (t : Fin 2048) (k : Fin 512) : gated U V W B (ix3 b t k) =
    U (ix3 b t k) * mixed V W B (ix5 b ⟨t / 128, by omega⟩ ⟨t % 128, by omega⟩ ⟨k / 128, by omega⟩ ⟨k % 128, by omega⟩) := by
  pointwise [gated]

theorem outp_at (H : FVec Ideal S8x2048x1024 .f32) (b : Fin 8) (t : Fin 2048) (d : Fin 1024) :
    outp C H (ix3 b t d) = ∑ j, H (ix3 b t j) * C (ix3 0 j d) := by pointwise [outp]

theorem sides_left (b : Fin 8) (t : Fin 2048) (k : Fin 512) : sides U V O W B (ix3 b t ⟨k, by omega⟩) = gated U V W B (ix3 b t k) := by
  pointwise [sides]

theorem sides_right (b : Fin 8) (t : Fin 2048) (k : Fin 512) : sides U V O W B (ix3 b t ⟨512 + k, by omega⟩) = O (ix3 b t k) := by
  pointwise [sides]

theorem mixed_eq (b : Fin 8) (n : Fin 16) (t : Fin 128) (g : Fin 4) (k : Fin 128) : mixed V W B (ix5 b n t g k) =
    mix (fun s => W (ix4 0 g t s)) (fun s => V (ix3 b ⟨n * 128 + s, by omega⟩ ⟨g * 128 + k, by omega⟩)) (B (ix3 0 g t)) t := by
  rw [mixed_at, bias_at, mix]
  refine congrArg (· + _) (Finset.sum_congr rfl fun s _ => ?_)
  rw [chunks_at, weights_at, causal_at, mul_comm]
  congr 1
  split <;> simp

theorem gated_eq (b : Fin 8) (t : Fin 2048) (k : Fin 512) {t' : Fin 128} (ht : (t' : ℕ) = t % 128) : gated U V W B (ix3 b t k) = U (ix3 b t k) *
    mix (fun s => W (ix4 0 ⟨k / 128, by omega⟩ t' s)) (fun s => V (ix3 b ⟨t / 128 * 128 + s, by omega⟩ k)) (B (ix3 0 ⟨k / 128, by omega⟩ t')) t' := by
  rw [gated_at, mixed_eq]
  obtain ⟨t', h'⟩ := t'
  obtain rfl : t' = t % 128 := ht
  have hk : (⟨k / 128 * 128 + k % 128, by omega⟩ : Fin 512) = k := Fin.ext (by simp; omega)
  rw [hk]

/-- One entry of the two sides' projection. -/
theorem outp_sides (b : Fin 8) (t : Fin 2048) (d : Fin 1024) {t' : Fin 128} (ht : (t' : ℕ) = t % 128) : outp C (sides U V O W B) (ix3 b t d) =
    (∑ k : Fin 512, (U (ix3 b t k) * mix (fun s => W (ix4 0 ⟨k / 128, by omega⟩ t' s)) (fun s => V (ix3 b ⟨t / 128 * 128 + s, by omega⟩ k))
      (B (ix3 0 ⟨k / 128, by omega⟩ t')) t') * C (ix3 0 ⟨k, by omega⟩ d)) + ∑ k : Fin 512, O (ix3 b t k) * C (ix3 0 ⟨512 + k, by omega⟩ d) := by
  rw [outp_at, sum_split]
  simp only [sides_left, sides_right, gated_eq U V W B b t _ ht]

/-- The reference's result at row `r`. -/
theorem result_at (r : Fin 16384) (d : Fin 1024) :
    result X U V O G W B C (ix2 r d) = closing (fun k => X (ix3 ⟨r / 2048, by omega⟩ ⟨r % 2048, by omega⟩ k))
      (fun k => U (ix3 ⟨r / 2048, by omega⟩ ⟨r % 2048, by omega⟩ k) *
        mix (fun s => W (ix4 0 ⟨k / 128, by omega⟩ ⟨r % 128, by omega⟩ s)) (fun s => V (ix3 ⟨r / 2048, by omega⟩ ⟨r % 2048 / 128 * 128 + s, by omega⟩ k))
          (B (ix3 0 ⟨k / 128, by omega⟩ ⟨r % 128, by omega⟩)) ⟨r % 128, by omega⟩)
      (fun k => O (ix3 ⟨r / 2048, by omega⟩ ⟨r % 2048, by omega⟩ k)) (fun j d => C (ix3 0 j d)) (fun k => G (ix3 1 3 k)) d := by
  pointwise [result]
  have ht : (((⟨r % 128, by omega⟩ : Fin 128)) : ℕ) = ((⟨r % 2048, by omega⟩ : Fin 2048) : ℕ) % 128 := by simp
  simp only [normed_at, gain_at, outp_sides U V O W B C _ _ _ ht, closing, rms, scale]

end Cert.ReferenceSguIdeal.Value

end
-- ==== Proof.ConvRef.lean ====
/- The convolution sublayer's closing reference, read at one index of its result. -/
module

public import proofs.«01_k».proof.Proof.Gen.ReferenceConvIdeal.Run
public import proofs.«01_k».proof.Proof.SguRef

@[expose] public section

set_option maxRecDepth 16384

noncomputable section

open Idealize.ShloMosaic Idealize.ShloMosaic.TcCoe Idealize.SL.Sem

namespace Cert.Rows

/-- One channel's convolution at one position: the 31 taps over the values up to it, and the bias. -/
def conv (v : ℕ → EReal) (w : Fin 31 → EReal) (b : EReal) : EReal := (∑ j : Fin 31, v j * w j) + b

theorem sum31 (f : Fin 31 → EReal) : ∑ j, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Fin.sum_univ_zero, zero_add]
  rfl

/-- One position's convolved row, layer-normed and passed through the sigmoid-weighted identity. -/
def convRow (v : ℕ → Fin 512 → EReal) (w : Fin 31 → Fin 512 → EReal) (b g a : Fin 512 → EReal) (k : Fin 512) : EReal :=
  silu (layerNorm (fun k => conv (fun j => v j k) (fun j => w j k) (b k)) g a k)

end Cert.Rows

namespace Cert.ReferenceConvIdeal.Value
open Cert.ReferenceConvIdeal Cert.ReferenceConvIdeal.Gen Cert.Rows

variable (X : FVec Ideal S8x2048x1024 .f32) (O H : FVec Ideal S8x2048x512 .bf16) (G : FVec Ideal S4x6x1024 .f32) (W : FVec Ideal S2x31x512 .f32)
  (B L A : FVec Ideal S2x512 .f32) (C : FVec Ideal S2x1024x1024 .f32) (P : FVec Ideal S8x2078x512 .f32) (Y : FVec Ideal S8x2048x512 .f32)

def normed (X : FVec Ideal S8x2048x1024 .f32) (g : FVec Ideal S1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

def padded : FVec Ideal S8x2078x512 .f32 :=
  concatenate S8x2078x512 1 [⟨S8x30x512, (broadcastInDim S8x30x512 ![] bcast_S_S8x30x512 (constant S_ .f32 0x00000000#32))⟩, ⟨S8x2048x512, (extf .f32 H bitsLt_bf16_f32)⟩] concatenates_S8x30x512_S8x2048x512_S8x2078x512_d1

/-- A vector of channels, laid over every position. -/
def channels (V : FVec Ideal S2x512 .f32) : FVec Ideal S8x2048x512 .f32 :=
  broadcastInDim S8x2048x512 ![0, 1, 2] bcast_S1x1x512_S8x2048x512_0_1_2 (broadcastInDim S1x1x512 ![2] bcast_S512_S1x1x512_2 (shapeCast S512 (extractStridedSlice S1x512 ![0, 0] V slices_S2x512_S1x512_0_0) shapeCasts_S1x512_S512))

def convolved : FVec Ideal S8x2048x512 .f32 :=
  addf (addf (addf (addf (addf (addf (addf (addf (addf (addf (addf (addf (addf (addf (addf (addf (addf (addf (addf (addf (addf (addf (addf (addf (addf (addf (addf (addf (addf (addf (addf (mulf (extractStridedSlice S8x2048x512 ![0, 0, 0] P slices_S8x2078x512_S8x2048x512_0_0_0)
    (broadcastInDim S8x2048x512 ![0, 1, 2] bcast_S1x1x512_S8x2048x512_0_1_2 (broadcastInDim S1x1x512 ![2] bcast_S512_S1x1x512_2 (shapeCast S512 (extractStridedSlice S1x1x512 ![0, 0, 0] W slices_S2x31x512_S1x1x512_0_0_0) shapeCasts_S1x1x512_S512)))) (mulf (extractStridedSlice S8x2048x512 ![0, 1, 0] P slices_S8x2078x512_S8x2048x512_0_1_0)
    (broadcastInDim S8x2048x512 ![0, 1, 2] bcast_S1x1x512_S8x2048x512_0_1_2 (broadcastInDim S1x1x512 ![2] bcast_S512_S1x1x512_2 (shapeCast S512 (extractStridedSlice S1x1x512 ![0, 1, 0] W slices_S2x31x512_S1x1x512_0_1_0) shapeCasts_S1x1x512_S512))))) (mulf (extractStridedSlice S8x2048x512 ![0, 2, 0] P slices_S8x2078x512_S8x2048x512_0_2_0)
    (broadcastInDim S8x2048x512 ![0, 1, 2] bcast_S1x1x512_S8x2048x512_0_1_2 (broadcastInDim S1x1x512 ![2] bcast_S512_S1x1x512_2 (shapeCast S512 (extractStridedSlice S1x1x512 ![0, 2, 0] W slices_S2x31x512_S1x1x512_0_2_0) shapeCasts_S1x1x512_S512))))) (mulf (extractStridedSlice S8x2048x512 ![0, 3, 0] P slices_S8x2078x512_S8x2048x512_0_3_0)
    (broadcastInDim S8x2048x512 ![0, 1, 2] bcast_S1x1x512_S8x2048x512_0_1_2 (broadcastInDim S1x1x512 ![2] bcast_S512_S1x1x512_2 (shapeCast S512 (extractStridedSlice S1x1x512 ![0, 3, 0] W slices_S2x31x512_S1x1x512_0_3_0) shapeCasts_S1x1x512_S512))))) (mulf (extractStridedSlice S8x2048x512 ![0, 4, 0] P slices_S8x2078x512_S8x2048x512_0_4_0)
    (broadcastInDim S8x2048x512 ![0, 1, 2] bcast_S1x1x512_S8x2048x512_0_1_2 (broadcastInDim S1x1x512 ![2] bcast_S512_S1x1x512_2 (shapeCast S512 (extractStridedSlice S1x1x512 ![0, 4, 0] W slices_S2x31x512_S1x1x512_0_4_0) shapeCasts_S1x1x512_S512))))) (mulf (extractStridedSlice S8x2048x512 ![0, 5, 0] P slices_S8x2078x512_S8x2048x512_0_5_0)
    (broadcastInDim S8x2048x512 ![0, 1, 2] bcast_S1x1x512_S8x2048x512_0_1_2 (broadcastInDim S1x1x512 ![2] bcast_S512_S1x1x512_2 (shapeCast S512 (extractStridedSlice S1x1x512 ![0, 5, 0] W slices_S2x31x512_S1x1x512_0_5_0) shapeCasts_S1x1x512_S512))))) (mulf (extractStridedSlice S8x2048x512 ![0, 6, 0] P slices_S8x2078x512_S8x2048x512_0_6_0)
    (broadcastInDim S8x2048x512 ![0, 1, 2] bcast_S1x1x512_S8x2048x512_0_1_2 (broadcastInDim S1x1x512 ![2] bcast_S512_S1x1x512_2 (shapeCast S512 (extractStridedSlice S1x1x512 ![0, 6, 0] W slices_S2x31x512_S1x1x512_0_6_0) shapeCasts_S1x1x512_S512))))) (mulf (extractStridedSlice S8x2048x512 ![0, 7, 0] P slices_S8x2078x512_S8x2048x512_0_7_0)
    (broadcastInDim S8x2048x512 ![0, 1, 2] bcast_S1x1x512_S8x2048x512_0_1_2 (broadcastInDim S1x1x512 ![2] bcast_S512_S1x1x512_2 (shapeCast S512 (extractStridedSlice S1x1x512 ![0, 7, 0] W slices_S2x31x512_S1x1x512_0_7_0) shapeCasts_S1x1x512_S512))))) (mulf (extractStridedSlice S8x2048x512 ![0, 8, 0] P slices_S8x2078x512_S8x2048x512_0_8_0)
    (broadcastInDim S8x2048x512 ![0, 1, 2] bcast_S1x1x512_S8x2048x512_0_1_2 (broadcastInDim S1x1x512 ![2] bcast_S512_S1x1x512_2 (shapeCast S512 (extractStridedSlice S1x1x512 ![0, 8, 0] W slices_S2x31x512_S1x1x512_0_8_0) shapeCasts_S1x1x512_S512))))) (mulf (extractStridedSlice S8x2048x512 ![0, 9, 0] P slices_S8x2078x512_S8x2048x512_0_9_0)
    (broadcastInDim S8x2048x512 ![0, 1, 2] bcast_S1x1x512_S8x2048x512_0_1_2 (broadcastInDim S1x1x512 ![2] bcast_S512_S1x1x512_2 (shapeCast S512 (extractStridedSlice S1x1x512 ![0, 9, 0] W slices_S2x31x512_S1x1x512_0_9_0) shapeCasts_S1x1x512_S512))))) (mulf (extractStridedSlice S8x2048x512 ![0, 10, 0] P slices_S8x2078x512_S8x2048x512_0_10_0)
    (broadcastInDim S8x2048x512 ![0, 1, 2] bcast_S1x1x512_S8x2048x512_0_1_2 (broadcastInDim S1x1x512 ![2] bcast_S512_S1x1x512_2 (shapeCast S512 (extractStridedSlice S1x1x512 ![0, 10, 0] W slices_S2x31x512_S1x1x512_0_10_0) shapeCasts_S1x1x512_S512))))) (mulf (extractStridedSlice S8x2048x512 ![0, 11, 0] P slices_S8x2078x512_S8x2048x512_0_11_0)
    (broadcastInDim S8x2048x512 ![0, 1, 2] bcast_S1x1x512_S8x2048x512_0_1_2 (broadcastInDim S1x1x512 ![2] bcast_S512_S1x1x512_2 (shapeCast S512 (extractStridedSlice S1x1x512 ![0, 11, 0] W slices_S2x31x512_S1x1x512_0_11_0) shapeCasts_S1x1x512_S512))))) (mulf (extractStridedSlice S8x2048x512 ![0, 12, 0] P slices_S8x2078x512_S8x2048x512_0_12_0)
    (broadcastInDim S8x2048x512 ![0, 1, 2] bcast_S1x1x512_S8x2048x512_0_1_2 (broadcastInDim S1x1x512 ![2] bcast_S512_S1x1x512_2 (shapeCast S512 (extractStridedSlice S1x1x512 ![0, 12, 0] W slices_S2x31x512_S1x1x512_0_12_0) shapeCasts_S1x1x512_S512))))) (mulf (extractStridedSlice S8x2048x512 ![0, 13, 0] P slices_S8x2078x512_S8x2048x512_0_13_0)
    (broadcastInDim S8x2048x512 ![0, 1, 2] bcast_S1x1x512_S8x2048x512_0_1_2 (broadcastInDim S1x1x512 ![2] bcast_S512_S1x1x512_2 (shapeCast S512 (extractStridedSlice S1x1x512 ![0, 13, 0] W slices_S2x31x512_S1x1x512_0_13_0) shapeCasts_S1x1x512_S512))))) (mulf (extractStridedSlice S8x2048x512 ![0, 14, 0] P slices_S8x2078x512_S8x2048x512_0_14_0)
    (broadcastInDim S8x2048x512 ![0, 1, 2] bcast_S1x1x512_S8x2048x512_0_1_2 (broadcastInDim S1x1x512 ![2] bcast_S512_S1x1x512_2 (shapeCast S512 (extractStridedSlice S1x1x512 ![0, 14, 0] W slices_S2x31x512_S1x1x512_0_14_0) shapeCasts_S1x1x512_S512))))) (mulf (extractStridedSlice S8x2048x512 ![0, 15, 0] P slices_S8x2078x512_S8x2048x512_0_15_0)
    (broadcastInDim S8x2048x512 ![0, 1, 2] bcast_S1x1x512_S8x2048x512_0_1_2 (broadcastInDim S1x1x512 ![2] bcast_S512_S1x1x512_2 (shapeCast S512 (extractStridedSlice S1x1x512 ![0, 15, 0] W slices_S2x31x512_S1x1x512_0_15_0) shapeCasts_S1x1x512_S512))))) (mulf (extractStridedSlice S8x2048x512 ![0, 16, 0] P slices_S8x2078x512_S8x2048x512_0_16_0)
    (broadcastInDim S8x2048x512 ![0, 1, 2] bcast_S1x1x512_S8x2048x512_0_1_2 (broadcastInDim S1x1x512 ![2] bcast_S512_S1x1x512_2 (shapeCast S512 (extractStridedSlice S1x1x512 ![0, 16, 0] W slices_S2x31x512_S1x1x512_0_16_0) shapeCasts_S1x1x512_S512))))) (mulf (extractStridedSlice S8x2048x512 ![0, 17, 0] P slices_S8x2078x512_S8x2048x512_0_17_0)
    (broadcastInDim S8x2048x512 ![0, 1, 2] bcast_S1x1x512_S8x2048x512_0_1_2 (broadcastInDim S1x1x512 ![2] bcast_S512_S1x1x512_2 (shapeCast S512 (extractStridedSlice S1x1x512 ![0, 17, 0] W slices_S2x31x512_S1x1x512_0_17_0) shapeCasts_S1x1x512_S512))))) (mulf (extractStridedSlice S8x2048x512 ![0, 18, 0] P slices_S8x2078x512_S8x2048x512_0_18_0)
    (broadcastInDim S8x2048x512 ![0, 1, 2] bcast_S1x1x512_S8x2048x512_0_1_2 (broadcastInDim S1x1x512 ![2] bcast_S512_S1x1x512_2 (shapeCast S512 (extractStridedSlice S1x1x512 ![0, 18, 0] W slices_S2x31x512_S1x1x512_0_18_0) shapeCasts_S1x1x512_S512))))) (mulf (extractStridedSlice S8x2048x512 ![0, 19, 0] P slices_S8x2078x512_S8x2048x512_0_19_0)
    (broadcastInDim S8x2048x512 ![0, 1, 2] bcast_S1x1x512_S8x2048x512_0_1_2 (broadcastInDim S1x1x512 ![2] bcast_S512_S1x1x512_2 (shapeCast S512 (extractStridedSlice S1x1x512 ![0, 19, 0] W slices_S2x31x512_S1x1x512_0_19_0) shapeCasts_S1x1x512_S512))))) (mulf (extractStridedSlice S8x2048x512 ![0, 20, 0] P slices_S8x2078x512_S8x2048x512_0_20_0)
    (broadcastInDim S8x2048x512 ![0, 1, 2] bcast_S1x1x512_S8x2048x512_0_1_2 (broadcastInDim S1x1x512 ![2] bcast_S512_S1x1x512_2 (shapeCast S512 (extractStridedSlice S1x1x512 ![0, 20, 0] W slices_S2x31x512_S1x1x512_0_20_0) shapeCasts_S1x1x512_S512))))) (mulf (extractStridedSlice S8x2048x512 ![0, 21, 0] P slices_S8x2078x512_S8x2048x512_0_21_0)
    (broadcastInDim S8x2048x512 ![0, 1, 2] bcast_S1x1x512_S8x2048x512_0_1_2 (broadcastInDim S1x1x512 ![2] bcast_S512_S1x1x512_2 (shapeCast S512 (extractStridedSlice S1x1x512 ![0, 21, 0] W slices_S2x31x512_S1x1x512_0_21_0) shapeCasts_S1x1x512_S512))))) (mulf (extractStridedSlice S8x2048x512 ![0, 22, 0] P slices_S8x2078x512_S8x2048x512_0_22_0)
    (broadcastInDim S8x2048x512 ![0, 1, 2] bcast_S1x1x512_S8x2048x512_0_1_2 (broadcastInDim S1x1x512 ![2] bcast_S512_S1x1x512_2 (shapeCast S512 (extractStridedSlice S1x1x512 ![0, 22, 0] W slices_S2x31x512_S1x1x512_0_22_0) shapeCasts_S1x1x512_S512))))) (mulf (extractStridedSlice S8x2048x512 ![0, 23, 0] P slices_S8x2078x512_S8x2048x512_0_23_0)
    (broadcastInDim S8x2048x512 ![0, 1, 2] bcast_S1x1x512_S8x2048x512_0_1_2 (broadcastInDim S1x1x512 ![2] bcast_S512_S1x1x512_2 (shapeCast S512 (extractStridedSlice S1x1x512 ![0, 23, 0] W slices_S2x31x512_S1x1x512_0_23_0) shapeCasts_S1x1x512_S512))))) (mulf (extractStridedSlice S8x2048x512 ![0, 24, 0] P slices_S8x2078x512_S8x2048x512_0_24_0)
    (broadcastInDim S8x2048x512 ![0, 1, 2] bcast_S1x1x512_S8x2048x512_0_1_2 (broadcastInDim S1x1x512 ![2] bcast_S512_S1x1x512_2 (shapeCast S512 (extractStridedSlice S1x1x512 ![0, 24, 0] W slices_S2x31x512_S1x1x512_0_24_0) shapeCasts_S1x1x512_S512))))) (mulf (extractStridedSlice S8x2048x512 ![0, 25, 0] P slices_S8x2078x512_S8x2048x512_0_25_0)
    (broadcastInDim S8x2048x512 ![0, 1, 2] bcast_S1x1x512_S8x2048x512_0_1_2 (broadcastInDim S1x1x512 ![2] bcast_S512_S1x1x512_2 (shapeCast S512 (extractStridedSlice S1x1x512 ![0, 25, 0] W slices_S2x31x512_S1x1x512_0_25_0) shapeCasts_S1x1x512_S512))))) (mulf (extractStridedSlice S8x2048x512 ![0, 26, 0] P slices_S8x2078x512_S8x2048x512_0_26_0)
    (broadcastInDim S8x2048x512 ![0, 1, 2] bcast_S1x1x512_S8x2048x512_0_1_2 (broadcastInDim S1x1x512 ![2] bcast_S512_S1x1x512_2 (shapeCast S512 (extractStridedSlice S1x1x512 ![0, 26, 0] W slices_S2x31x512_S1x1x512_0_26_0) shapeCasts_S1x1x512_S512))))) (mulf (extractStridedSlice S8x2048x512 ![0, 27, 0] P slices_S8x2078x512_S8x2048x512_0_27_0)
    (broadcastInDim S8x2048x512 ![0, 1, 2] bcast_S1x1x512_S8x2048x512_0_1_2 (broadcastInDim S1x1x512 ![2] bcast_S512_S1x1x512_2 (shapeCast S512 (extractStridedSlice S1x1x512 ![0, 27, 0] W slices_S2x31x512_S1x1x512_0_27_0) shapeCasts_S1x1x512_S512))))) (mulf (extractStridedSlice S8x2048x512 ![0, 28, 0] P slices_S8x2078x512_S8x2048x512_0_28_0)
    (broadcastInDim S8x2048x512 ![0, 1, 2] bcast_S1x1x512_S8x2048x512_0_1_2 (broadcastInDim S1x1x512 ![2] bcast_S512_S1x1x512_2 (shapeCast S512 (extractStridedSlice S1x1x512 ![0, 28, 0] W slices_S2x31x512_S1x1x512_0_28_0) shapeCasts_S1x1x512_S512))))) (mulf (extractStridedSlice S8x2048x512 ![0, 29, 0] P slices_S8x2078x512_S8x2048x512_0_29_0)
    (broadcastInDim S8x2048x512 ![0, 1, 2] bcast_S1x1x512_S8x2048x512_0_1_2 (broadcastInDim S1x1x512 ![2] bcast_S512_S1x1x512_2 (shapeCast S512 (extractStridedSlice S1x1x512 ![0, 29, 0] W slices_S2x31x512_S1x1x512_0_29_0) shapeCasts_S1x1x512_S512))))) (mulf (extractStridedSlice S8x2048x512 ![0, 30, 0] P slices_S8x2078x512_S8x2048x512_0_30_0)
    (broadcastInDim S8x2048x512 ![0, 1, 2] bcast_S1x1x512_S8x2048x512_0_1_2 (broadcastInDim S1x1x512 ![2] bcast_S512_S1x1x512_2 (shapeCast S512 (extractStridedSlice S1x1x512 ![0, 30, 0] W slices_S2x31x512_S1x1x512_0_30_0) shapeCasts_S1x1x512_S512))))) (channels B)

def means : FVec Ideal S8x2048x1 .f32 :=
  Host.divf (broadcastInDim S8x2048x1 ![0, 1] bcast_S8x2048_S8x2048x1_0_1 (Host.reduceAdd Y (constant S_ .f32 0x00000000#32) reducesTo_S8x2048x512_S8x2048_d2 h_S_)) (broadcastInDim S8x2048x1 ![] bcast_S_S8x2048x1 (constant S_ .f32 0x44000000#32))

def centre : FVec Ideal S8x2048x512 .f32 := subf Y (broadcastInDim S8x2048x512 ![0, 1, 2] bcast_S8x2048x1_S8x2048x512_0_1_2 (means Y))

def layered : FVec Ideal S8x2048x512 .f32 :=
  addf (mulf (mulf (centre Y) (broadcastInDim S8x2048x512 ![0, 1, 2] bcast_S8x2048x1_S8x2048x512_0_1_2 (Host.rsqrt (addf (means (mulf (centre Y) (centre Y))) (broadcastInDim S8x2048x1 ![] bcast_S_S8x2048x1 (constant S_ .f32 0x3727C5AC#32)))))) (channels L)) (channels A)

def swished : FVec Ideal S8x2048x512 .f32 :=
  mulf Y (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf Y))))

def sides : FVec Ideal S8x2048x1024 .f32 := concatenate S8x2048x1024 2 [⟨S8x2048x512, (extf .f32 O bitsLt_bf16_f32)⟩, ⟨S8x2048x512, Y⟩] concatenates_S8x2048x512_S8x2048x512_S8x2048x1024_d2

def outp (H : FVec Ideal S8x2048x1024 .f32) : FVec Ideal S8x2048x1024 .f32 :=
  Host.dotGeneral dot_S8x2048x1024_S1024x1024_S8x2048x1024_2_0_01_1_n_n none H (shapeCast S1024x1024 (extractStridedSlice S1x1024x1024 ![0, 0, 0] C slices_S2x1024x1024_S1x1024x1024_0_0_0) shapeCasts_S1x1024x1024_S1024x1024)

def gain : FVec Ideal S1024 .f32 := shapeCast S1024 (extractStridedSlice S1x1024 ![3, 0] (shapeCast S6x1024 (extractStridedSlice S1x6x1024 ![0, 0, 0] G slices_S4x6x1024_S1x6x1024_0_0_0) shapeCasts_S1x6x1024_S6x1024) slices_S6x1024_S1x1024_3_0) shapeCasts_S1x1024_S1024

def result : FVec Ideal S16384x1024 .f32 :=
  shapeCast S16384x1024 (addf X (normed (outp C (sides O (swished (layered L A (convolved W B (padded H)))))) (gain G))) shapeCasts_S8x2048x1024_S16384x1024

set_option maxHeartbeats 2000000 in
theorem side_eq (m : (ℓ : Loc nD τ sig) → Buf (Elt Ideal) ℓ) (c : Dev nD) : res_main_v259 (F := Ideal) (StableHlo.launchContents m c) =
    outp (m ((c.tc : Thread nD τ).loc main_arg8)) (sides (m ((c.tc : Thread nD τ).loc main_arg1)) (swished (layered (m ((c.tc : Thread nD τ).loc main_arg6)) (m ((c.tc : Thread nD τ).loc main_arg7)) (convolved (m ((c.tc : Thread nD τ).loc main_arg4)) (m ((c.tc : Thread nD τ).loc main_arg5)) (padded (m ((c.tc : Thread nD τ).loc main_arg2))))))) := rfl

set_option maxHeartbeats 2000000 in
/-- The reference's run, its result named. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v276) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (by rw [side_eq]; rfl), (h c).2⟩) (run (F := Ideal) m ρ)

theorem normed_at (g : FVec Ideal S1024 .f32) (b : Fin 8) (t : Fin 2048) (d : Fin 1024) :
    normed X g (ix3 b t d) = rms (fun k => X (ix3 b t k)) (fun k => g (ix1 k)) d := by
  pointwise [normed, rms, scale]

theorem gain_at (k : Fin 1024) : gain G (ix1 k) = G (ix3 0 3 k) := by pointwise [gain]

theorem channels_at (b : Fin 8) (t : Fin 2048) (k : Fin 512) : channels B (ix3 b t k) = B (ix2 0 k) := by pointwise [channels]

theorem padded_front (b : Fin 8) (n : Fin 2078) (k : Fin 512) (h : (n : ℕ) < 30) : padded H (ix3 b n k) = 0 := by
  pointwise [padded]
  rw [dif_pos h]

theorem padded_back (b : Fin 8) (n : Fin 2078) (k : Fin 512) (h : ¬(n : ℕ) < 30) : padded H (ix3 b n k) = H (ix3 b ⟨n - 30, by omega⟩ k) := by
  pointwise [padded]
  rw [dif_neg h]

/-- The channel `k` of the sequence `b`, 30 zeros in front. -/
def past (b : Fin 8) (k : Fin 512) (n : ℕ) : EReal := if h : n < 2078 then padded H (ix3 b ⟨n, h⟩ k) else 0

set_option maxHeartbeats 4000000 in
theorem convolved_at (b : Fin 8) (t : Fin 2048) (k : Fin 512) : convolved W B P (ix3 b t k) =
    (∑ j : Fin 31, P (ix3 b ⟨j + t, by omega⟩ k) * W (ix3 0 j k)) + B (ix2 0 k) := by
  have h : (⟨((0 : Fin 31) : ℕ) + t, by omega⟩ : Fin 2078) = ⟨t, by omega⟩ := Fin.ext (Nat.zero_add _)
  rw [sum31, h]
  pointwise [convolved, channels]

theorem means_at (b : Fin 8) (t : Fin 2048) (i) : means Y (ix3 b t i) = mean (fun k => Y (ix3 b t k)) := by pointwise [means, mean]

theorem centre_at (b : Fin 8) (t : Fin 2048) (k : Fin 512) : centre Y (ix3 b t k) = centred (fun k => Y (ix3 b t k)) k := by
  pointwise [centre]
  simp only [means_at, centred]

theorem layered_at (b : Fin 8) (t : Fin 2048) (k : Fin 512) : layered L A Y (ix3 b t k) =
    layerNorm (fun k => Y (ix3 b t k)) (fun k => L (ix2 0 k)) (fun k => A (ix2 0 k)) k := by
  pointwise [layered]
  simp only [means_at, centre_at, channels_at, layerNorm]
  simp only [mulf, centre_at]
  rfl

theorem swished_at (b : Fin 8) (t : Fin 2048) (k : Fin 512) : swished Y (ix3 b t k) = silu (Y (ix3 b t k)) := by
  pointwise [swished, silu, sigmoid]
  rw [zero_sub]

theorem outp_at (H : FVec Ideal S8x2048x1024 .f32) (b : Fin 8) (t : Fin 2048) (d : Fin 1024) :
    outp C H (ix3 b t d) = ∑ j, H (ix3 b t j) * C (ix3 0 j d) := by pointwise [outp]

theorem sides_left (b : Fin 8) (t : Fin 2048) (k : Fin 512) : sides O Y (ix3 b t ⟨k, by omega⟩) = O (ix3 b t k) := by
  pointwise [sides]

theorem sides_right (b : Fin 8) (t : Fin 2048) (k : Fin 512) : sides O Y (ix3 b t ⟨512 + k, by omega⟩) = Y (ix3 b t k) := by
  pointwise [sides]

/-- The convolved side's row at position `t`. -/
theorem side_at (b : Fin 8) (t : Fin 2048) (k : Fin 512) : swished (layered L A (convolved W B (padded H))) (ix3 b t k) =
    convRow (fun j k => past H b k (j + t)) (fun j k => W (ix3 0 j k)) (fun k => B (ix2 0 k)) (fun k => L (ix2 0 k)) (fun k => A (ix2 0 k)) k := by
  rw [swished_at, layered_at, convRow]
  refine congrArg (fun v => silu (layerNorm v _ _ k)) (funext fun k => ?_)
  rw [convolved_at, conv]
  refine congrArg (· + _) (Finset.sum_congr rfl fun j _ => ?_)
  rw [past, dif_pos]

/-- One entry of the two sides' projection. -/
theorem outp_sides (b : Fin 8) (t : Fin 2048) (d : Fin 1024) : outp C (sides O Y) (ix3 b t d) =
    (∑ k : Fin 512, O (ix3 b t k) * C (ix3 0 ⟨k, by omega⟩ d)) + ∑ k : Fin 512, Y (ix3 b t k) * C (ix3 0 ⟨512 + k, by omega⟩ d) := by
  rw [outp_at, sum_split]
  simp only [sides_left, sides_right]

/-- The reference's result at row `r`. -/
theorem result_at (r : Fin 16384) (d : Fin 1024) :
    result X O H G W B L A C (ix2 r d) = closing (fun k => X (ix3 ⟨r / 2048, by omega⟩ ⟨r % 2048, by omega⟩ k))
      (fun k => O (ix3 ⟨r / 2048, by omega⟩ ⟨r % 2048, by omega⟩ k))
      (convRow (fun j k => past H ⟨r / 2048, by omega⟩ k (j + r % 2048)) (fun j k => W (ix3 0 j k)) (fun k => B (ix2 0 k)) (fun k => L (ix2 0 k)) (fun k => A (ix2 0 k)))
      (fun j d => C (ix3 0 j d)) (fun k => G (ix3 0 3 k)) d := by
  pointwise [result]
  simp only [normed_at, gain_at, outp_sides, side_at, closing, rms, scale]

end Cert.ReferenceConvIdeal.Value

end
-- ==== Proof.ConvValue.lean ====
/- The convolution sublayer's closing kernel: its result array is the reference's, row by row. -/
module

public import proofs.«01_k».proof.Proof.Gen.KernelConvIdeal.Frame
public import proofs.«01_k».proof.Proof.ConvRef

@[expose] public section

set_option maxRecDepth 16384

noncomputable section

open Idealize.ShloMosaic Idealize.ShloMosaic.TcCoe Idealize.SL.Sem
open Idealize.ShloMosaic.Pipeline (Dat)

namespace Cert.KernelConvIdeal.Value
open Cert.KernelConvIdeal Cert.KernelConvIdeal.Gen Cert.Rows

/-- Row `n` of the tile with its halo in front: the halo's 32 rows (`h`), then the tile's. -/
def ext (h : Fin 32 → Fin 512 → EReal) (x : Vec Ideal S1024x512 .bf16) (n : ℕ) (k : Fin 512) : EReal :=
  if hn : n < 32 then h ⟨n, hn⟩ k else if hn : n - 32 < 1024 then x (ix2 ⟨n - 32, hn⟩ k) else 0

def extBlock (h : Fin 32 → Fin 512 → EReal) (x : Vec Ideal S1024x512 .bf16) : Vec Ideal S1056x512 .f32 := fun y => ext h x (y 0) (y 1)

/-- The 1024 rows from row `n` on. -/
def rows (h : Fin 32 → Fin 512 → EReal) (x : Vec Ideal S1024x512 .bf16) (n : ℕ) : Vec Ideal S1024x512 .f32 := fun y => ext h x (n + y 0) (y 1)

/-- The halo's rows as the kernel writes them. -/
def front (i : grid0.Coords) (halo : Vec Ideal S32x512 .bf16) (n : Fin 32) (k : Fin 512) : EReal := k0_pay2 i halo (ix2 n k)

theorem extBlock_emb {p q : ℕ} {inb} (h : Fin 32 → Fin 512 → EReal) (x : Vec Ideal S1024x512 .bf16) (i : Fin q) (k : Fin 512) :
    extBlock h x ((Rect.unit (s := S1056x512) ![p, 0] ![q, 512] inb).emb (ix2 i k)) = ext h x (p + i) k := by
  have h0 : (((Rect.unit (s := S1056x512) ![p, 0] ![q, 512] inb).emb (ix2 i k) 0 : Fin 1056) : ℕ) = p + (i : ℕ) := ValueKit.rect_emb_unit_val ..
  have h1 : ((Rect.unit (s := S1056x512) ![p, 0] ![q, 512] inb).emb (ix2 i k) 1 : Fin 512) = k :=
    Fin.ext ((ValueKit.rect_emb_unit_val ..).trans (Nat.zero_add _))
  show ext h x (((Rect.unit (s := S1056x512) ![p, 0] ![q, 512] inb).emb (ix2 i k) 0 : Fin 1056) : ℕ) ((Rect.unit (s := S1056x512) ![p, 0] ![q, 512] inb).emb (ix2 i k) 1 : Fin 512) = _
  rw [h0, h1]

theorem ext_read (i : grid0.Coords) (halo : Vec Ideal S32x512 .bf16) (hc : Vec Ideal S1024x512 .bf16) {p q : ℕ} {inb} :
    (View.whole cc0_scratch0).readCov (Val := Elt Ideal) (s := S1056x512) (e := .f32)
      [⟨Rect.unit ![32, 0] ![1024, 512] inb_S1056x512_S1024x512_32_0, k0_pay3 hc⟩, ⟨Rect.unit ![0, 0] ![32, 512] inb_S1056x512_S32x512_0_0, k0_pay2 i halo⟩]
        (Rect.unit (s := S1056x512) ![p, 0] ![q, 512] inb).toLoadRect =
      View.ld (extBlock (front i halo) hc) (Rect.unit (s := S1056x512) ![p, 0] ![q, 512] inb) := by
  refine readCov_of_pieces (extBlock (front i halo) hc) _ _ _ ?_ fun x => ?_
  · simp only [View.PiecesOf]
    refine ⟨?_, ?_, trivial⟩
    · intro (z : S1024x512.Idx)
      idx_vars z
      rw [extBlock_emb, ext, dif_neg (by omega), dif_pos (by omega)]
      pointwise [k0_pay3]
    · intro (z : S32x512.Idx)
      idx_vars z
      rw [extBlock_emb, ext, dif_pos (by omega), front]
      pointwise
  · have h0 := inb 0
    have h1 : (x 1 : ℕ) < 512 := (x 1).isLt
    have h2 : (x 0 : ℕ) < q := (x 0).isLt
    have h3 : p + q ≤ 1056 := inb 0
    by_cases h : p + (x 0 : ℕ) < 32
    · exact Held.at 1 (Nat.le_of_ble_eq_true rfl) ((mem_box2 (inb' := inb_S1056x512_S32x512_0_0) x).2 (by simp; omega))
    · exact Held.at 0 (Nat.le_of_ble_eq_true rfl) ((mem_box2 (inb' := inb_S1056x512_S1024x512_32_0) x).2 (by simp; omega))

/-- A window's rows, read from row `s` on: the window holds the rows from row `p` on. -/
theorem win_read (p s q : ℕ) (hq : s + 1024 ≤ q) {inb inb' inb''} (h : Fin 32 → Fin 512 → EReal) (x : Vec Ideal S1024x512 .bf16)
    (L : List (View.Piece (Elt Ideal) S1056x512 .f32)) :
    (View.whole cc0_scratch1).readCov (Val := Elt Ideal) (s := S1056x512) (e := .f32)
      (⟨Rect.unit ![0, 0] ![q, 512] inb, View.ld (extBlock h x) (Rect.unit (s := S1056x512) ![p, 0] ![q, 512] inb')⟩ :: L)
        (Rect.unit ![s, 0] ![1024, 512] inb'').toLoadRect = rows h x (p + s) := by
  rw [View.readCov_eq_canon']
  funext (z : S1024x512.Idx)
  idx_vars z
  have e : (Rect.unit (s := S1056x512) ![s, 0] ![1024, 512] inb'').emb (ix2 z0 z1) =
      (Rect.unit (s := S1056x512) ![0, 0] ![q, 512] inb).emb (ix2 (⟨s + z0, by omega⟩ : Fin q) z1) := by
    funext b
    apply Fin.ext
    rw [ValueKit.rect_emb_unit_val, ValueKit.rect_emb_unit_val]
    match b with
    | 0 => exact (Nat.zero_add _).symm
    | 1 => rfl
  show View.canon (Val := Elt Ideal) (s := S1056x512) (e := .f32) _ ((Rect.unit (s := S1056x512) ![s, 0] ![1024, 512] inb'').emb (ix2 z0 z1)) = ext h x (p + s + z0) z1
  rw [e]
  refine (View.canon_cons_emb _ _ _ _).trans ?_
  show extBlock h x ((Rect.unit (s := S1056x512) ![p, 0] ![q, 512] inb').emb (ix2 _ z1)) = _
  rw [extBlock_emb, Nat.add_assoc]

theorem pay4_eq (v : Vec Ideal S1056x512 .f32) : k0_pay4 v = v := by funext y; idx_vars y; pointwise [k0_pay4]
theorem pay6_eq (v : Vec Ideal S1048x512 .f32) : k0_pay6 v = v := by funext y; idx_vars y; pointwise [k0_pay6]
theorem pay9_eq (v : Vec Ideal S1048x512 .f32) : k0_pay9 v = v := by funext y; idx_vars y; pointwise [k0_pay9]
theorem pay11_eq (v : Vec Ideal S1048x512 .f32) : k0_pay11 v = v := by funext y; idx_vars y; pointwise [k0_pay11]
theorem pay13_eq (v : Vec Ideal S1048x512 .f32) : k0_pay13 v = v := by funext y; idx_vars y; pointwise [k0_pay13]
theorem pay15_eq (v : Vec Ideal S1048x512 .f32) : k0_pay15 v = v := by funext y; idx_vars y; pointwise [k0_pay15]
theorem pay17_eq (v : Vec Ideal S1048x512 .f32) : k0_pay17 v = v := by funext y; idx_vars y; pointwise [k0_pay17]
theorem pay18_eq (v : Vec Ideal S1048x512 .f32) : k0_pay18 v = v := by funext y; idx_vars y; pointwise [k0_pay18]
/-- The bias and the first 28 of the taps as the kernel takes them, at each of the tile's rows. -/
def chain (h : Fin 32 → Fin 512 → EReal) (x : Vec Ideal S1024x512 .bf16) (w : Vec Ideal S1x31x512 .f32) (cv : Vec Ideal S1x3x512 .f32) : FVec Ideal S1024x512 .f32 :=
  k0_pay19 (k0_pay16 (k0_pay14 (k0_pay12 (k0_pay10 (k0_pay7 (k0_pay5 (View.ld cv (Rect.unit ![0, 0, 0] ![1, 1, 512] inb_S1x3x512_S1x1x512_0_0_0)) (rows h x 8) (View.ld w (Rect.unit ![0, 6, 0] ![1, 1, 512] inb_S1x31x512_S1x1x512_0_6_0)))
    (rows h x 16) (View.ld w (Rect.unit ![0, 14, 0] ![1, 1, 512] inb_S1x31x512_S1x1x512_0_14_0)) (rows h x 24) (View.ld w (Rect.unit ![0, 22, 0] ![1, 1, 512] inb_S1x31x512_S1x1x512_0_22_0)) (rows h x 32) (View.ld w (Rect.unit ![0, 30, 0] ![1, 1, 512] inb_S1x31x512_S1x1x512_0_30_0)) (rows h x 9) (View.ld w (Rect.unit ![0, 7, 0] ![1, 1, 512] inb_S1x31x512_S1x1x512_0_7_0)))
    (rows h x 17) (k0_pay8 (View.ld w (Rect.unit ![0, 15, 0] ![1, 1, 512] inb_S1x31x512_S1x1x512_0_15_0))) (rows h x 25) (View.ld w (Rect.unit ![0, 23, 0] ![1, 1, 512] inb_S1x31x512_S1x1x512_0_23_0)) (rows h x 2) (View.ld w (Rect.unit ![0, 0, 0] ![1, 1, 512] inb_S1x31x512_S1x1x512_0_0_0)) (rows h x 10) (View.ld w (Rect.unit ![0, 8, 0] ![1, 1, 512] inb_S1x31x512_S1x1x512_0_8_0)) (rows h x 18) (View.ld w (Rect.unit ![0, 16, 0] ![1, 1, 512] inb_S1x31x512_S1x1x512_0_16_0)))
    (rows h x 26) (View.ld w (Rect.unit ![0, 24, 0] ![1, 1, 512] inb_S1x31x512_S1x1x512_0_24_0)) (rows h x 3) (View.ld w (Rect.unit ![0, 1, 0] ![1, 1, 512] inb_S1x31x512_S1x1x512_0_1_0)) (rows h x 11) (View.ld w (Rect.unit ![0, 9, 0] ![1, 1, 512] inb_S1x31x512_S1x1x512_0_9_0)) (rows h x 19) (View.ld w (Rect.unit ![0, 17, 0] ![1, 1, 512] inb_S1x31x512_S1x1x512_0_17_0)) (rows h x 27) (View.ld w (Rect.unit ![0, 25, 0] ![1, 1, 512] inb_S1x31x512_S1x1x512_0_25_0)))
    (rows h x 4) (View.ld w (Rect.unit ![0, 2, 0] ![1, 1, 512] inb_S1x31x512_S1x1x512_0_2_0)) (rows h x 12) (View.ld w (Rect.unit ![0, 10, 0] ![1, 1, 512] inb_S1x31x512_S1x1x512_0_10_0)) (rows h x 20) (View.ld w (Rect.unit ![0, 18, 0] ![1, 1, 512] inb_S1x31x512_S1x1x512_0_18_0)) (rows h x 28) (View.ld w (Rect.unit ![0, 26, 0] ![1, 1, 512] inb_S1x31x512_S1x1x512_0_26_0)))
    (rows h x 5) (View.ld w (Rect.unit ![0, 3, 0] ![1, 1, 512] inb_S1x31x512_S1x1x512_0_3_0)) (rows h x 13) (View.ld w (Rect.unit ![0, 11, 0] ![1, 1, 512] inb_S1x31x512_S1x1x512_0_11_0)) (rows h x 21) (View.ld w (Rect.unit ![0, 19, 0] ![1, 1, 512] inb_S1x31x512_S1x1x512_0_19_0)) (rows h x 29) (View.ld w (Rect.unit ![0, 27, 0] ![1, 1, 512] inb_S1x31x512_S1x1x512_0_27_0)))
    (rows h x 6) (View.ld w (Rect.unit ![0, 4, 0] ![1, 1, 512] inb_S1x31x512_S1x1x512_0_4_0)) (rows h x 14) (View.ld w (Rect.unit ![0, 12, 0] ![1, 1, 512] inb_S1x31x512_S1x1x512_0_12_0)) (rows h x 22) (View.ld w (Rect.unit ![0, 20, 0] ![1, 1, 512] inb_S1x31x512_S1x1x512_0_20_0)) (rows h x 30) (View.ld w (Rect.unit ![0, 28, 0] ![1, 1, 512] inb_S1x31x512_S1x1x512_0_28_0)) (rows h x 7) (View.ld w (Rect.unit ![0, 5, 0] ![1, 1, 512] inb_S1x31x512_S1x1x512_0_5_0))

theorem chain_eq (h : Fin 32 → Fin 512 → EReal) (x : Vec Ideal S1024x512 .bf16) (w : Vec Ideal S1x31x512 .f32) (cv : Vec Ideal S1x3x512 .f32) :
  k0_pay19 (k0_pay16 (k0_pay14 (k0_pay12 (k0_pay10 (k0_pay7 (k0_pay5 (View.ld cv (Rect.unit ![0, 0, 0] ![1, 1, 512] inb_S1x3x512_S1x1x512_0_0_0)) (rows h x 8) (View.ld w (Rect.unit ![0, 6, 0] ![1, 1, 512] inb_S1x31x512_S1x1x512_0_6_0)))
    (rows h x 16) (View.ld w (Rect.unit ![0, 14, 0] ![1, 1, 512] inb_S1x31x512_S1x1x512_0_14_0)) (rows h x 24) (View.ld w (Rect.unit ![0, 22, 0] ![1, 1, 512] inb_S1x31x512_S1x1x512_0_22_0)) (rows h x 32) (View.ld w (Rect.unit ![0, 30, 0] ![1, 1, 512] inb_S1x31x512_S1x1x512_0_30_0)) (rows h x 9) (View.ld w (Rect.unit ![0, 7, 0] ![1, 1, 512] inb_S1x31x512_S1x1x512_0_7_0)))
    (rows h x 17) (k0_pay8 (View.ld w (Rect.unit ![0, 15, 0] ![1, 1, 512] inb_S1x31x512_S1x1x512_0_15_0))) (rows h x 25) (View.ld w (Rect.unit ![0, 23, 0] ![1, 1, 512] inb_S1x31x512_S1x1x512_0_23_0)) (rows h x 2) (View.ld w (Rect.unit ![0, 0, 0] ![1, 1, 512] inb_S1x31x512_S1x1x512_0_0_0)) (rows h x 10) (View.ld w (Rect.unit ![0, 8, 0] ![1, 1, 512] inb_S1x31x512_S1x1x512_0_8_0)) (rows h x 18) (View.ld w (Rect.unit ![0, 16, 0] ![1, 1, 512] inb_S1x31x512_S1x1x512_0_16_0)))
    (rows h x 26) (View.ld w (Rect.unit ![0, 24, 0] ![1, 1, 512] inb_S1x31x512_S1x1x512_0_24_0)) (rows h x 3) (View.ld w (Rect.unit ![0, 1, 0] ![1, 1, 512] inb_S1x31x512_S1x1x512_0_1_0)) (rows h x 11) (View.ld w (Rect.unit ![0, 9, 0] ![1, 1, 512] inb_S1x31x512_S1x1x512_0_9_0)) (rows h x 19) (View.ld w (Rect.unit ![0, 17, 0] ![1, 1, 512] inb_S1x31x512_S1x1x512_0_17_0)) (rows h x 27) (View.ld w (Rect.unit ![0, 25, 0] ![1, 1, 512] inb_S1x31x512_S1x1x512_0_25_0)))
    (rows h x 4) (View.ld w (Rect.unit ![0, 2, 0] ![1, 1, 512] inb_S1x31x512_S1x1x512_0_2_0)) (rows h x 12) (View.ld w (Rect.unit ![0, 10, 0] ![1, 1, 512] inb_S1x31x512_S1x1x512_0_10_0)) (rows h x 20) (View.ld w (Rect.unit ![0, 18, 0] ![1, 1, 512] inb_S1x31x512_S1x1x512_0_18_0)) (rows h x 28) (View.ld w (Rect.unit ![0, 26, 0] ![1, 1, 512] inb_S1x31x512_S1x1x512_0_26_0)))
    (rows h x 5) (View.ld w (Rect.unit ![0, 3, 0] ![1, 1, 512] inb_S1x31x512_S1x1x512_0_3_0)) (rows h x 13) (View.ld w (Rect.unit ![0, 11, 0] ![1, 1, 512] inb_S1x31x512_S1x1x512_0_11_0)) (rows h x 21) (View.ld w (Rect.unit ![0, 19, 0] ![1, 1, 512] inb_S1x31x512_S1x1x512_0_19_0)) (rows h x 29) (View.ld w (Rect.unit ![0, 27, 0] ![1, 1, 512] inb_S1x31x512_S1x1x512_0_27_0)))
    (rows h x 6) (View.ld w (Rect.unit ![0, 4, 0] ![1, 1, 512] inb_S1x31x512_S1x1x512_0_4_0)) (rows h x 14) (View.ld w (Rect.unit ![0, 12, 0] ![1, 1, 512] inb_S1x31x512_S1x1x512_0_12_0)) (rows h x 22) (View.ld w (Rect.unit ![0, 20, 0] ![1, 1, 512] inb_S1x31x512_S1x1x512_0_20_0)) (rows h x 30) (View.ld w (Rect.unit ![0, 28, 0] ![1, 1, 512] inb_S1x31x512_S1x1x512_0_28_0)) (rows h x 7) (View.ld w (Rect.unit ![0, 5, 0] ![1, 1, 512] inb_S1x31x512_S1x1x512_0_5_0)) = chain h x w cv := rfl

theorem rows_at (h : Fin 32 → Fin 512 → EReal) (x : Vec Ideal S1024x512 .bf16) (n : ℕ) (i : Fin 1024) (k : Fin 512) : rows h x n (ix2 i k) = ext h x (n + i) k := rfl

theorem chain_at (h : Fin 32 → Fin 512 → EReal) (x : Vec Ideal S1024x512 .bf16) (w : Vec Ideal S1x31x512 .f32) (cv : Vec Ideal S1x3x512 .f32) (i : Fin 1024) (k : Fin 512) :
    chain h x w cv (ix2 i k) + rows h x 15 (ix2 i k) * w (ix3 0 13 k) + rows h x 23 (ix2 i k) * w (ix3 0 21 k) + rows h x 31 (ix2 i k) * w (ix3 0 29 k) = conv (fun j => ext h x (j + (2 + i)) k) (fun j => w (ix3 0 j k)) (cv (ix3 0 0 k)) := by
  have e (j : Fin 31) : ext h x ((j : ℕ) + (2 + (i : ℕ))) k = rows h x (2 + j) (ix2 i k) := by rw [rows_at]; congr 1; omega
  unfold conv
  simp only [e]
  rw [sum31]
  generalize hR : rows h x = R
  unfold chain
  rw [hR]
  pointwise [k0_pay19, k0_pay16, k0_pay14, k0_pay12, k0_pay10, k0_pay8, k0_pay7, k0_pay5]
  abel

theorem pay22_at (v a b c : FVec Ideal S1024x512 .f32) (wa wb wc : Vec Ideal S1x1x512 .f32) (i : Fin 1024) (k : Fin 512) :
    k0_pay22 v a wa b wb c wc (ix2 i k) = centred (fun k => v (ix2 i k) + a (ix2 i k) * wa (ix3 0 0 k) + b (ix2 i k) * wb (ix3 0 0 k) + c (ix2 i k) * wc (ix3 0 0 k)) k := by
  pointwise [k0_pay22, centred, mean]

theorem pay23_at (v a b c : FVec Ideal S1024x512 .f32) (wa wb wc : Vec Ideal S1x1x512 .f32) (i : Fin 1024) (j : Fin 1) :
    k0_pay23 v a wa b wb c wc (ix2 i j) = Ideal.rsqrt (mean (fun k => k0_pay22 v a wa b wb c wc (ix2 i k) * k0_pay22 v a wa b wb c wc (ix2 i k)) + Ideal.ofBits FTy.f32 0x3727C5AC#32) := by
  pointwise [k0_pay23, mean]

/-- The tile's row `i` with its halo, convolved and layer-normed. -/
theorem ln_at (h : Fin 32 → Fin 512 → EReal) (x : Vec Ideal S1024x512 .bf16) (w : Vec Ideal S1x31x512 .f32) (cv : Vec Ideal S1x3x512 .f32) (i : Fin 1024) (k : Fin 512) :
    @HAdd.hAdd EReal EReal EReal _ (@HMul.hMul EReal EReal EReal _ (@HMul.hMul EReal EReal EReal _ (k0_pay22 (chain h x w cv) (rows h x 15) (View.ld w (Rect.unit ![0, 13, 0] ![1, 1, 512] inb_S1x31x512_S1x1x512_0_13_0)) (rows h x 23) (View.ld w (Rect.unit ![0, 21, 0] ![1, 1, 512] inb_S1x31x512_S1x1x512_0_21_0)) (rows h x 31) (View.ld w (Rect.unit ![0, 29, 0] ![1, 1, 512] inb_S1x31x512_S1x1x512_0_29_0)) (ix2 i k))
      (k0_pay23 (chain h x w cv) (rows h x 15) (View.ld w (Rect.unit ![0, 13, 0] ![1, 1, 512] inb_S1x31x512_S1x1x512_0_13_0)) (rows h x 23) (View.ld w (Rect.unit ![0, 21, 0] ![1, 1, 512] inb_S1x31x512_S1x1x512_0_21_0)) (rows h x 31) (View.ld w (Rect.unit ![0, 29, 0] ![1, 1, 512] inb_S1x31x512_S1x1x512_0_29_0)) (ix2 i 0))) (cv (ix3 0 1 k))) (cv (ix3 0 2 k)) =
      layerNorm (fun k => conv (fun j => ext h x (j + (2 + i)) k) (fun j => w (ix3 0 j k)) (cv (ix3 0 0 k))) (fun k => cv (ix3 0 1 k)) (fun k => cv (ix3 0 2 k)) k := by
  have e (k : Fin 512) : View.ld w (Rect.unit ![0, 13, 0] ![1, 1, 512] inb_S1x31x512_S1x1x512_0_13_0) (ix3 0 0 k) = w (ix3 0 13 k) := by pointwise
  have e' (k : Fin 512) : View.ld w (Rect.unit ![0, 21, 0] ![1, 1, 512] inb_S1x31x512_S1x1x512_0_21_0) (ix3 0 0 k) = w (ix3 0 21 k) := by pointwise
  have e'' (k : Fin 512) : View.ld w (Rect.unit ![0, 29, 0] ![1, 1, 512] inb_S1x31x512_S1x1x512_0_29_0) (ix3 0 0 k) = w (ix3 0 29 k) := by pointwise
  have p (k : Fin 512) : k0_pay22 (chain h x w cv) (rows h x 15) (View.ld w (Rect.unit ![0, 13, 0] ![1, 1, 512] inb_S1x31x512_S1x1x512_0_13_0)) (rows h x 23) (View.ld w (Rect.unit ![0, 21, 0] ![1, 1, 512] inb_S1x31x512_S1x1x512_0_21_0)) (rows h x 31) (View.ld w (Rect.unit ![0, 29, 0] ![1, 1, 512] inb_S1x31x512_S1x1x512_0_29_0)) (ix2 i k) =
      centred (fun k => conv (fun j => ext h x (j + (2 + i)) k) (fun j => w (ix3 0 j k)) (cv (ix3 0 0 k))) k := by
    refine (pay22_at _ _ _ _ _ _ _ _ _).trans (congrArg (centred · k) (funext fun k => ?_))
    rw [e, e', e'']
    exact chain_at h x w cv i k
  rw [pay23_at]
  simp only [p]
  rfl

/-- What a point leaves in the output block. -/
def outBlock (n : grid0.Coords) (x : Vec Ideal S1024x1024 .f32) (o hc : Vec Ideal S1024x512 .bf16) (halo : Vec Ideal S32x512 .bf16) (g : Vec Ideal S1x6x1024 .f32)
    (w : Vec Ideal S1x31x512 .f32) (cv : Vec Ideal S1x3x512 .f32) (c : Vec Ideal S1x1024x1024 .bf16) : Vec Ideal S1024x1024 .f32 := fun y =>
  closing (fun k => x (ix2 (y 0) k)) (fun k => o (ix2 (y 0) k))
    (convRow (fun j k => ext (front n halo) hc (j + (2 + y 0)) k) (fun j k => w (ix3 0 j k)) (fun k => cv (ix3 0 0 k)) (fun k => cv (ix3 0 1 k)) (fun k => cv (ix3 0 2 k)))
    (fun j d => c (ix3 0 j d)) (fun k => g (ix3 0 3 k)) (y 1)

variable (m : (ℓ : Loc nD τ sig) → Buf (Elt Ideal) ℓ)

/-- What the body leaves in the output block at a point, the blocks it reads given. -/
def block (c : Dev nD) (t : Fin cfg0.N) (x : Vec Ideal S1024x1024 .f32) (oa : Vec Ideal S1024x512 .bf16) (hc : Vec Ideal S1024x512 .bf16) (halo : Vec Ideal S32x512 .bf16) (g : Vec Ideal S1x6x1024 .f32) (w : Vec Ideal S1x31x512 .f32) (cv : Vec Ideal S1x3x512 .f32) (cw : Vec Ideal S1x1024x1024 .bf16) : Vec Ideal S1024x1024 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) x oa hc halo g w cv cw

set_option maxHeartbeats 1600000 in
theorem block_at (c : Dev nD) (t : Fin cfg0.N) (x : Vec Ideal S1024x1024 .f32) (oa : Vec Ideal S1024x512 .bf16) (hc : Vec Ideal S1024x512 .bf16) (halo : Vec Ideal S32x512 .bf16) (g : Vec Ideal S1x6x1024 .f32) (w : Vec Ideal S1x31x512 .f32) (cv : Vec Ideal S1x3x512 .f32) (cw : Vec Ideal S1x1024x1024 .bf16) (y) :
    block c t x oa hc halo g w cv cw y = outBlock (grid0.coords t) x oa hc halo g w cv cw y := by
  unfold block
  frame_open
  frame_out
  simp only [ext_read, pay4_eq, pay6_eq, pay9_eq, pay11_eq, pay13_eq, pay15_eq, pay17_eq, pay18_eq]
  simp (discharger := omega) only [win_read]
  simp only [Nat.reduceAdd, chain_eq]
  generalize hh : front (grid0.coords t) halo = h
  idx_vars y
  pointwise [k0_pay1, k0_pay24, k0_pay25, k0_pay26, k0_pay20, k0_pay21]
  simp only [ln_at, hh, outBlock, closing, convRow, silu, sigmoid, rms, scale]
  rfl

theorem outs_at (c : Dev nD) (t : Fin cfg0.N) (y) :
    outsAt0 m c t y = outBlock (grid0.coords t) (iblk m c 0 t) (iblk m c 1 t) (iblk m c 2 t) (iblk m c 3 t) (iblk m c 4 t) (iblk m c 5 t) (iblk m c 6 t) (iblk m c 7 t) y := block_at ..

theorem idx : ∀ t : Fin cfg0.N, win0_0.index t = ![(t : ℕ), 0] ∧ win0_1.index t = ![(t : ℕ), 0] ∧ win0_2.index t = ![(t : ℕ), 0] ∧ win0_3.index t = ![32 * (t : ℕ) - 1, 0] ∧
    win0_4.index t = ![0, 0, 0] ∧ win0_5.index t = ![0, 0, 0] ∧ win0_6.index t = ![0, 0, 0] ∧ win0_7.index t = ![0, 0, 0] ∧ win0_8.index t = ![(t : ℕ), 0] ∧
    (grid0.coords t 1 : ℕ) = t % 2 :=
  (by decide +kernel : ∀ t : Fin grid0.N, _)

/-- The halo's rows: zeros in front of a sequence's first tile. -/
theorem front_at (n : grid0.Coords) (halo : Vec Ideal S32x512 .bf16) (a : Fin 32) (k : Fin 512) : front n halo a k = if (n 1 : ℕ) = 0 then 0 else halo (ix2 a k) := by
  unfold front
  pointwise [k0_pay2]
  have h : ∀ b : Fin 2, Scalar.cmpi CmpIPredicate.eq (BitVec.ofNat 32 (b : ℕ)) 0#32 = if (b : ℕ) = 0 then 1 else 0 := by decide +kernel
  refine (congrArg (Scalar.select · (0 : EReal) (halo (ix2 a k))) (h (n 1))).trans ?_
  by_cases h0 : (n 1 : ℕ) = 0
  · rw [if_pos h0, if_pos h0]
    rfl
  · rw [if_neg h0, if_neg h0]
    rfl

/-- The rows the kernel reads: the arguments', numbered through. -/
theorem x_at (c : Dev nD) (r : Fin 16384) (k : Fin 1024) :
    V m c main_v5 (ix2 r k) = m ((c.tc : Thread nD τ).loc main_arg0) (ix3 ⟨r / 2048, by omega⟩ ⟨r % 2048, by omega⟩ k) := by
  entry_read
  pointwise

theorem o_at (c : Dev nD) (r : Fin 16384) (k : Fin 512) :
    V m c main_v6 (ix2 r k) = m ((c.tc : Thread nD τ).loc main_arg1) (ix3 ⟨r / 2048, by omega⟩ ⟨r % 2048, by omega⟩ k) := by
  entry_read
  pointwise

theorem h_at (c : Dev nD) (r : Fin 16384) (k : Fin 512) :
    V m c main_v7 (ix2 r k) = m ((c.tc : Thread nD τ).loc main_arg2) (ix3 ⟨r / 2048, by omega⟩ ⟨r % 2048, by omega⟩ k) := by
  entry_read
  pointwise

/-- The three vectors' rows stacked. -/
def stack (x y z : Vec Ideal S2x1x512 .f32) : Vec Ideal S2x3x512 .f32 :=
  concatenate S2x3x512 1 [⟨S2x1x512, x⟩, ⟨S2x1x512, y⟩, ⟨S2x1x512, z⟩] concatenates_S2x1x512_S2x1x512_S2x1x512_S2x3x512_d1

theorem stack_at0 (x y z : Vec Ideal S2x1x512 .f32) (l : Fin 2) (k : Fin 512) : stack x y z (ix3 l 0 k) = x (ix3 l 0 k) := by
  pointwise [stack]

theorem stack_at1 (x y z : Vec Ideal S2x1x512 .f32) (l : Fin 2) (k : Fin 512) : stack x y z (ix3 l 1 k) = y (ix3 l 0 k) := by
  pointwise [stack]

theorem stack_at2 (x y z : Vec Ideal S2x1x512 .f32) (l : Fin 2) (k : Fin 512) : stack x y z (ix3 l 2 k) = z (ix3 l 0 k) := by
  pointwise [stack]

/-- The buffers after the host's first four operations. -/
abbrev early (c : Dev nD) (b : Ref sig .tc) : Buf (Elt Ideal) ((c : Thread nD τ).loc b) :=
  StableHlo.after (hostOps0.take 4) (fun b => m (c, b)) (Proc.devRef .tc b)

theorem stack_eq (c : Dev nD) : V m c main_v4 = stack (early m c main_v1) (early m c main_v2) (early m c main_v3) := by
  show StableHlo.after hostOps0 (fun b => m (c, b)) (Proc.devRef .tc main_v4) = _
  simp only [StableHlo.after_cons, StableHlo.after_nil, hostOps0, List.take]
  rw [StableHlo.reshape_result_ne]; rotate_left; decide
  rw [StableHlo.reshape_result_ne]; rotate_left; decide
  rw [StableHlo.reshape_result_ne]; rotate_left; decide
  rw [StableHlo.nary_result]
  rfl

theorem b_at (c : Dev nD) (l : Fin 2) (k : Fin 512) : V m c main_v4 (ix3 l 0 k) = m ((c.tc : Thread nD τ).loc main_arg5) (ix2 l k) := by
  rw [stack_eq, stack_at0]
  show StableHlo.after (hostOps0.take 4) (fun b => m (c, b)) (Proc.devRef .tc main_v1) (ix3 l 0 k) = _
  simp only [hostOps0, List.take]
  entry_read
  pointwise

theorem g_at (c : Dev nD) (l : Fin 2) (k : Fin 512) : V m c main_v4 (ix3 l 1 k) = m ((c.tc : Thread nD τ).loc main_arg6) (ix2 l k) := by
  rw [stack_eq, stack_at1]
  show StableHlo.after (hostOps0.take 4) (fun b => m (c, b)) (Proc.devRef .tc main_v2) (ix3 l 0 k) = _
  simp only [hostOps0, List.take]
  entry_read
  pointwise

theorem a_at (c : Dev nD) (l : Fin 2) (k : Fin 512) : V m c main_v4 (ix3 l 2 k) = m ((c.tc : Thread nD τ).loc main_arg7) (ix2 l k) := by
  rw [stack_eq, stack_at2]
  show StableHlo.after (hostOps0.take 4) (fun b => m (c, b)) (Proc.devRef .tc main_v3) (ix3 l 0 k) = _
  simp only [hostOps0, List.take]
  entry_read
  pointwise

theorem c_at (c : Dev nD) (l : Fin 2) (j d : Fin 1024) : V m c main_v0 (ix3 l j d) = m ((c.tc : Thread nD τ).loc main_arg8) (ix3 l j d) := by
  entry_read
  pointwise

/-- The array the kernel writes is the reference's result of the same arguments. -/
theorem final (c : Dev nD) : (dats m 0 c).arrAt 8 (cfgs 0).N =
    ReferenceConvIdeal.Value.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 8 _ (by decide +kernel) fun t _ (y : S1024x1024.Idx) => ?_
  blk_simp
  rw [after0_8, outs_at]
  obtain ⟨i0, i1, i2, i3, i4, i5, i6, i7, i8, ic⟩ := idx t
  have ht : (t : ℕ) < 16 := t.isLt
  have hy : (y 0 : ℕ) < 1024 := (y 0).isLt
  have eo : (win0_8.blk t).view.emb y = ix2 ⟨1024 * t + (y 0 : ℕ), by omega⟩ (y 1) := by blk_ext [i8]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (k : Fin 512) : iblk m c 1 t (ix2 (y 0) k) = m ((c.tc : Thread nD τ).loc main_arg1) (ix3 ⟨(1024 * t + (y 0 : ℕ)) / 2048, by omega⟩ ⟨(1024 * t + (y 0 : ℕ)) % 2048, by omega⟩ k) := by
    refine Eq.trans ?_ (o_at m c ⟨1024 * t + (y 0 : ℕ), by omega⟩ k)
    blk_point [iblk, i1]
  have e2 (i : Fin 1024) (k : Fin 512) : iblk m c 2 t (ix2 i k) = m ((c.tc : Thread nD τ).loc main_arg2) (ix3 ⟨(1024 * t + (i : ℕ)) / 2048, by omega⟩ ⟨(1024 * t + (i : ℕ)) % 2048, by omega⟩ k) := by
    refine Eq.trans ?_ (h_at m c ⟨1024 * t + (i : ℕ), by omega⟩ k)
    blk_point [iblk, i2]
  have e3 (i : Fin 32) (k : Fin 512) : iblk m c 3 t (ix2 i k) = m ((c.tc : Thread nD τ).loc main_arg2) (ix3 ⟨(32 * (32 * t - 1) + (i : ℕ)) / 2048, by omega⟩ ⟨(32 * (32 * t - 1) + (i : ℕ)) % 2048, by omega⟩ k) := by
    refine Eq.trans ?_ (h_at m c ⟨32 * (32 * t - 1) + (i : ℕ), by omega⟩ k)
    blk_point [iblk, i3]
  have e4 (a : Fin 6) (k : Fin 1024) : iblk m c 4 t (ix3 0 a k) = m ((c.tc : Thread nD τ).loc main_arg3) (ix3 0 a k) := by blk_point [iblk, V, i4]
  have e5 (j : Fin 31) (k : Fin 512) : iblk m c 5 t (ix3 0 j k) = m ((c.tc : Thread nD τ).loc main_arg4) (ix3 0 j k) := by blk_point [iblk, V, i5]
  have e60 (k : Fin 512) : iblk m c 6 t (ix3 0 0 k) = m ((c.tc : Thread nD τ).loc main_arg5) (ix2 0 k) := by
    refine Eq.trans ?_ (b_at m c 0 k)
    blk_point [iblk, i6]
  have e61 (k : Fin 512) : iblk m c 6 t (ix3 0 1 k) = m ((c.tc : Thread nD τ).loc main_arg6) (ix2 0 k) := by
    refine Eq.trans ?_ (g_at m c 0 k)
    blk_point [iblk, i6]
  have e62 (k : Fin 512) : iblk m c 6 t (ix3 0 2 k) = m ((c.tc : Thread nD τ).loc main_arg7) (ix2 0 k) := by
    refine Eq.trans ?_ (a_at m c 0 k)
    blk_point [iblk, i6]
  have e7 (j d : Fin 1024) : iblk m c 7 t (ix3 0 j d) = m ((c.tc : Thread nD τ).loc main_arg8) (ix3 0 j d) := by
    refine Eq.trans ?_ (c_at m c 0 j d)
    blk_point [iblk, i7]
  have ex (j : Fin 31) (k : Fin 512) : ext (front (grid0.coords t) (iblk m c 3 t)) (iblk m c 2 t) (j + (2 + (y 0 : ℕ))) k =
      ReferenceConvIdeal.Value.past (m ((c.tc : Thread nD τ).loc main_arg2)) ⟨(1024 * t + (y 0 : ℕ)) / 2048, by omega⟩ k (j + (1024 * t + (y 0 : ℕ)) % 2048) := by
    have hj : (j : ℕ) < 31 := j.isLt
    rw [ReferenceConvIdeal.Value.past, dif_pos (by omega), ext]
    by_cases h : (j : ℕ) + (2 + (y 0 : ℕ)) < 32
    · rw [dif_pos h, front_at, ic]
      by_cases h' : (t : ℕ) % 2 = 0
      · rw [if_pos h', ReferenceConvIdeal.Value.padded_front _ _ _ _ (by simp only []; omega)]
      · rw [if_neg h', ReferenceConvIdeal.Value.padded_back _ _ _ _ (by simp only []; omega), e3]
        have h1 : (32 * (32 * (t : ℕ) - 1) + (j + (2 + (y 0 : ℕ)))) / 2048 = (1024 * t + (y 0 : ℕ)) / 2048 := by omega
        have h2 : (32 * (32 * (t : ℕ) - 1) + (j + (2 + (y 0 : ℕ)))) % 2048 = j + (1024 * t + (y 0 : ℕ)) % 2048 - 30 := by omega
        simp only [h1, h2]
    · rw [dif_neg h, dif_pos (by omega), ReferenceConvIdeal.Value.padded_back _ _ _ _ (by simp only []; omega), e2]
      have h1 : (1024 * (t : ℕ) + (j + (2 + (y 0 : ℕ)) - 32)) / 2048 = (1024 * t + (y 0 : ℕ)) / 2048 := by omega
      have h2 : (1024 * (t : ℕ) + (j + (2 + (y 0 : ℕ)) - 32)) % 2048 = j + (1024 * t + (y 0 : ℕ)) % 2048 - 30 := by omega
      simp only [h1, h2]
  rw [show (win0_8.blk t).view.emb y = _ from eo]
  erw [ReferenceConvIdeal.Value.result_at]
  simp only [outBlock, e0, e1, e4, e5, e60, e61, e62, e7]
  refine congrArg (fun f => closing _ _ f _ _ _) (funext fun k => ?_)
  unfold convRow conv
  simp only [ex]

end Cert.KernelConvIdeal.Value

end
-- ==== Proof.Conv.lean ====
/- The convolution sublayer's closing kernel's claim of equal results over the ideal reals. -/
module

public import proofs.«01_k».proof.Defs
public import proofs.«01_k».proof.Proof.ConvValue
public import Idealize.ShloMosaic.Lib.Claim

@[expose] public section

set_option maxRecDepth 16384

noncomputable section

open Idealize.ShloMosaic Idealize.SL.Sem

attribute [local instance] Cert.KernelConvIdeal.Gen.facts Cert.ReferenceConvIdeal.Gen.facts

namespace Cert

set_option maxHeartbeats 4000000 in
theorem conv_algebraic : Cert.algebraic_KernelConvIdeal_ReferenceConvIdeal := by
  pair_intro
  · run_from Cert.KernelConvIdeal.Gen.run_main m g
  · run_from Cert.ReferenceConvIdeal.Value.run_result m' g'
    exact (KernelConvIdeal.Value.final m c).symm

end Cert

end
-- ==== Proof.SguValue.lean ====
/- The gating sublayer's closing kernel: its result array is the reference's, row by row. -/
module

public import proofs.«01_k».proof.Proof.Gen.KernelSguIdeal.Frame
public import proofs.«01_k».proof.Proof.SguRef

@[expose] public section

set_option maxRecDepth 16384

noncomputable section

open Idealize.ShloMosaic Idealize.ShloMosaic.TcCoe Idealize.SL.Sem
open Idealize.ShloMosaic.Pipeline (Dat)

namespace Cert.KernelSguIdeal.Value
open Cert.KernelSguIdeal Cert.KernelSguIdeal.Gen Cert.Rows

/-- The mixture of the positions of the block's chunk `n` over the group `g`, at position `p` and the group's channel `k`. -/
def chunkMix (v : Vec Ideal S1024x512 .bf16) (w : Vec Ideal S1x4x128x128 .f32) (b : Vec Ideal S1x128x4 .f32) (n : Fin 8) (g : Fin 4) (p k : Fin 128) : EReal :=
  mix (fun s => w (ix4 0 g p s)) (fun s => v (ix2 ⟨n * 128 + s, by omega⟩ ⟨g * 128 + k, by omega⟩)) (b (ix3 0 p g)) p

/-- What the scratch holds: the gated side of the block's rows. -/
def gateBlock (u v : Vec Ideal S1024x512 .bf16) (w : Vec Ideal S1x4x128x128 .f32) (b : Vec Ideal S1x128x4 .f32) : Vec Ideal S1024x512 .bf16 := fun y =>
  u y * chunkMix v w b ⟨(y 0 : ℕ) / 128, by have h : (y 0 : ℕ) < 1024 := (y 0).isLt; omega⟩ ⟨(y 1 : ℕ) / 128, by have h : (y 1 : ℕ) < 512 := (y 1).isLt; omega⟩
    ⟨(y 0 : ℕ) % 128, by omega⟩ ⟨(y 1 : ℕ) % 128, by omega⟩

theorem gateBlock_ix (u v w b) (i : Fin 1024) (k : Fin 512) : gateBlock u v w b (ix2 i k) =
    u (ix2 i k) * mix (fun s => w (ix4 0 ⟨(k : ℕ) / 128, by omega⟩ ⟨(i : ℕ) % 128, by omega⟩ s))
      (fun s => v (ix2 ⟨(i : ℕ) / 128 * 128 + s, by omega⟩ ⟨(k : ℕ) / 128 * 128 + (k : ℕ) % 128, by omega⟩))
      (b (ix3 0 ⟨(i : ℕ) % 128, by omega⟩ ⟨(k : ℕ) / 128, by omega⟩)) ⟨(i : ℕ) % 128, by omega⟩ := rfl

/-- The gated side at an entry of the chunk `n` and the group `g`. -/
theorem gate_at (u v w b) (n : Fin 8) (g : Fin 4) {p q : ℕ} {inb} (hp : p = n * 128) (hq : q = g * 128) (z : S128x128.Idx) :
    gateBlock u v w b ((Rect.unit (s := S1024x512) ![p, q] ![128, 128] inb).emb z) =
      u ((Rect.unit (s := S1024x512) ![p, q] ![128, 128] inb).emb z) * chunkMix v w b n g (z 0) (z 1) := by
  have h0 : (((Rect.unit (s := S1024x512) ![p, q] ![128, 128] inb).emb z 0 : Fin 1024) : ℕ) = p + (z 0 : ℕ) := ValueKit.rect_emb_unit_val ..
  have h1 : (((Rect.unit (s := S1024x512) ![p, q] ![128, 128] inb).emb z 1 : Fin 512) : ℕ) = q + (z 1 : ℕ) := ValueKit.rect_emb_unit_val ..
  have z0 : (z 0 : ℕ) < 128 := (z 0).isLt
  have z1 : (z 1 : ℕ) < 128 := (z 1).isLt
  show _ * chunkMix v w b ⟨_, _⟩ ⟨_, _⟩ ⟨_, _⟩ ⟨_, _⟩ = _
  congr 2
  · exact Fin.ext (by rw [Fin.val_mk, h0]; omega)
  · exact Fin.ext (by rw [Fin.val_mk, h1]; omega)
  · exact Fin.ext (by rw [Fin.val_mk, h0]; omega)
  · exact Fin.ext (by rw [Fin.val_mk, h1]; omega)

theorem gate_ix (u v w b) (n : Fin 8) (g : Fin 4) {p q : ℕ} {inb} (hp : p = n * 128) (hq : q = g * 128) (y k : Fin 128) :
    gateBlock u v w b ((Rect.unit (s := S1024x512) ![p, q] ![128, 128] inb).emb (ix2 y k)) =
      u (ix2 ⟨p + y, by omega⟩ ⟨q + k, by omega⟩) * chunkMix v w b n g y k := by
  refine (gate_at u v w b n g hp hq (ix2 y k)).trans (congrArg (u · * _) (funext fun a => Fin.ext ?_))
  rw [ValueKit.rect_emb_unit_val]
  match a with
  | 0 => rfl
  | 1 => rfl

theorem mask_at : ∀ p s : Fin 128, IntOp.cmpi CmpIPredicate.sle (BitVec.ofNat 32 (s : ℕ)) (BitVec.ofNat 32 (p : ℕ)) = if s ≤ p then 1 else 0 := by decide +kernel

theorem mix_term {p s : Fin 128} {c : BitVec 1} {w x y : EReal} (hc : c = if s ≤ p then 1 else 0) (h : x = y) :
    Scalar.select c (w * x) (0 : EReal) = (if s ≤ p then w else 0) * y := by
  rw [hc, h, Scalar.select]
  split <;> simp

theorem group0_at (v w b) (n : Fin 8) (p k : Fin 128) : k0_pay3 v (View.ld w (Rect.unit ![0, 0, 0, 0] ![1, 1, 128, 128] inb_S1x4x128x128_S1x1x128x128_0_0_0_0)) (View.ld b (Rect.unit ![0, 0, 0] ![1, 128, 1] inb_S1x128x4_S1x128x1_0_0_0)) (ix2 p ⟨n * 128 + k, by omega⟩) = chunkMix v w b n 0 p k := by
  unfold chunkMix mix
  fin_cases n
  all_goals pointwise [k0_pay3, k0_pay2]
  all_goals
    refine congrArg (· + _) (Finset.sum_congr rfl fun s _ => mix_term (mask_at p s) ?_)
    repeat rw [dif_neg (by omega)]
    try rw [dif_pos (by omega)]
    exact congrArg₂ (fun i j => v (ix2 i j)) (Fin.ext (by simp only []; try omega)) (Fin.ext (by simp only []; try omega))

theorem group1_at (v w b) (n : Fin 8) (p k : Fin 128) : k0_pay13 (k0_pay2 v) (iota .tc S128x128 32 [0] iota_S128x128_d0_w32) (iota .tc S128x128 32 [1] iota_S128x128_d1_w32) (View.ld w (Rect.unit ![0, 1, 0, 0] ![1, 1, 128, 128] inb_S1x4x128x128_S1x1x128x128_0_1_0_0)) (View.ld b (Rect.unit ![0, 0, 1] ![1, 128, 1] inb_S1x128x4_S1x128x1_0_0_1)) (ix2 p ⟨n * 128 + k, by omega⟩) = chunkMix v w b n 1 p k := by
  unfold chunkMix mix
  fin_cases n
  all_goals pointwise [k0_pay13, k0_pay2]
  all_goals
    refine congrArg (· + _) (Finset.sum_congr rfl fun s _ => mix_term (mask_at p s) ?_)
    repeat rw [dif_neg (by omega)]
    try rw [dif_pos (by omega)]
    exact congrArg₂ (fun i j => v (ix2 i j)) (Fin.ext (by simp only []; try omega)) (Fin.ext (by simp only []; try omega))

theorem group2_at (v w b) (n : Fin 8) (p k : Fin 128) : k0_pay24 (k0_pay2 v) (k0_pay23 (iota .tc S128x128 32 [0] iota_S128x128_d0_w32) (iota .tc S128x128 32 [1] iota_S128x128_d1_w32) (View.ld w (Rect.unit ![0, 2, 0, 0] ![1, 1, 128, 128] inb_S1x4x128x128_S1x1x128x128_0_2_0_0)) ) (View.ld b (Rect.unit ![0, 0, 2] ![1, 128, 1] inb_S1x128x4_S1x128x1_0_0_2)) (ix2 p ⟨n * 128 + k, by omega⟩) = chunkMix v w b n 2 p k := by
  unfold chunkMix mix
  fin_cases n
  all_goals pointwise [k0_pay24, k0_pay23, k0_pay2]
  all_goals
    refine congrArg (· + _) (Finset.sum_congr rfl fun s _ => mix_term (mask_at p s) ?_)
    repeat rw [dif_neg (by omega)]
    try rw [dif_pos (by omega)]
    exact congrArg₂ (fun i j => v (ix2 i j)) (Fin.ext (by simp only []; try omega)) (Fin.ext (by simp only []; try omega))

theorem group3_at (v w b) (n : Fin 8) (p k : Fin 128) : k0_pay34 (k0_pay2 v) (iota .tc S128x128 32 [0] iota_S128x128_d0_w32) (iota .tc S128x128 32 [1] iota_S128x128_d1_w32) (View.ld w (Rect.unit ![0, 3, 0, 0] ![1, 1, 128, 128] inb_S1x4x128x128_S1x1x128x128_0_3_0_0)) (View.ld b (Rect.unit ![0, 0, 3] ![1, 128, 1] inb_S1x128x4_S1x128x1_0_0_3)) (ix2 p ⟨n * 128 + k, by omega⟩) = chunkMix v w b n 3 p k := by
  unfold chunkMix mix
  fin_cases n
  all_goals pointwise [k0_pay34, k0_pay2]
  all_goals
    refine congrArg (· + _) (Finset.sum_congr rfl fun s _ => mix_term (mask_at p s) ?_)
    repeat rw [dif_neg (by omega)]
    try rw [dif_pos (by omega)]
    exact congrArg₂ (fun i j => v (ix2 i j)) (Fin.ext (by simp only []; try omega)) (Fin.ext (by simp only []; try omega))

/-- What a point leaves in the output block. -/
def outBlock (x : Vec Ideal S1024x1024 .f32) (u v o : Vec Ideal S1024x512 .bf16) (g : Vec Ideal S1x6x1024 .f32) (w : Vec Ideal S1x4x128x128 .f32)
    (b : Vec Ideal S1x128x4 .f32) (c : Vec Ideal S1x1024x1024 .bf16) : Vec Ideal S1024x1024 .f32 := fun y =>
  closing (fun k => x (ix2 (y 0) k)) (fun k => gateBlock u v w b (ix2 (y 0) k)) (fun k => o (ix2 (y 0) k)) (fun j d => c (ix3 0 j d)) (fun k => g (ix3 0 3 k)) (y 1)

variable (m : (ℓ : Loc nD τ sig) → Buf (Elt Ideal) ℓ)

set_option maxHeartbeats 1600000 in
/-- What the body leaves in the output block, whatever its buffers hold. -/
theorem out_at (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1x6x1024 .f32) (harg5 : arg5.IsWhole) (arg6 : Memref sig .tc .vmem S1x4x128x128 .f32) (harg6 : arg6.IsWhole) (arg7 : Memref sig .tc .vmem S1x128x4 .f32) (harg7 : arg7.IsWhole) (arg8 : Memref sig .tc .vmem S1x1024x1024 .bf16) (harg8 : arg8.IsWhole) (arg9 : Memref sig .tc .vmem S1024x1024 .f32) (harg9 : arg9.IsWhole) (arg10 : Memref sig .tc .vmem S1024x512 .bf16) (harg10 : arg10.IsWhole)
    (x : Vec Ideal S1024x1024 .f32) (u : Vec Ideal S1024x512 .bf16) (v : Vec Ideal S1024x512 .bf16) (o : Vec Ideal S1024x512 .bf16) (g : Vec Ideal S1x6x1024 .f32) (w : Vec Ideal S1x4x128x128 .f32) (b : Vec Ideal S1x128x4 .f32) (cw : Vec Ideal S1x1024x1024 .bf16) (y) :
    out0_A_8 (F := Ideal) c i arg1 harg1 arg2 harg2 arg3 harg3 arg4 harg4 arg5 harg5 arg6 harg6 arg7 harg7 arg8 harg8 arg9 harg9 arg10 harg10 x u v o g w b cw y = outBlock x u v o g w b cw y := by
  frame_open
  frame_out
  rw [readCov_of_pieces (gateBlock u v w b)]
  · idx_vars y
    pointwise [outBlock, closing, k0_pay1, k0_pay45, k0_pay46]
    rfl
  · simp only [View.PiecesOf]
    and_intros
    all_goals try trivial
    · intro (z : S128x128.Idx)
      idx_vars z
      rw [gate_ix u v w b 7 3 (p := 896) (q := 384) rfl rfl, ← group3_at]
      pointwise [k0_pay35, k0_pay36, k0_pay37, k0_pay38, k0_pay39, k0_pay40, k0_pay41, k0_pay42, k0_pay43, k0_pay44]
    · intro (z : S128x128.Idx)
      idx_vars z
      rw [gate_ix u v w b 6 3 (p := 768) (q := 384) rfl rfl, ← group3_at]
      pointwise [k0_pay35, k0_pay36, k0_pay37, k0_pay38, k0_pay39, k0_pay40, k0_pay41, k0_pay42, k0_pay43, k0_pay44]
    · intro (z : S128x128.Idx)
      idx_vars z
      rw [gate_ix u v w b 5 3 (p := 640) (q := 384) rfl rfl, ← group3_at]
      pointwise [k0_pay35, k0_pay36, k0_pay37, k0_pay38, k0_pay39, k0_pay40, k0_pay41, k0_pay42, k0_pay43, k0_pay44]
    · intro (z : S128x128.Idx)
      idx_vars z
      rw [gate_ix u v w b 4 3 (p := 512) (q := 384) rfl rfl, ← group3_at]
      pointwise [k0_pay35, k0_pay36, k0_pay37, k0_pay38, k0_pay39, k0_pay40, k0_pay41, k0_pay42, k0_pay43, k0_pay44]
    · intro (z : S128x128.Idx)
      idx_vars z
      rw [gate_ix u v w b 3 3 (p := 384) (q := 384) rfl rfl, ← group3_at]
      pointwise [k0_pay35, k0_pay36, k0_pay37, k0_pay38, k0_pay39, k0_pay40, k0_pay41, k0_pay42, k0_pay43, k0_pay44]
    · intro (z : S128x128.Idx)
      idx_vars z
      rw [gate_ix u v w b 2 3 (p := 256) (q := 384) rfl rfl, ← group3_at]
      pointwise [k0_pay35, k0_pay36, k0_pay37, k0_pay38, k0_pay39, k0_pay40, k0_pay41, k0_pay42, k0_pay43, k0_pay44]
    · intro (z : S128x128.Idx)
      idx_vars z
      rw [gate_ix u v w b 1 3 (p := 128) (q := 384) rfl rfl, ← group3_at]
      pointwise [k0_pay35, k0_pay36, k0_pay37, k0_pay38, k0_pay39, k0_pay40, k0_pay41, k0_pay42, k0_pay43, k0_pay44]
    · intro (z : S128x128.Idx)
      idx_vars z
      rw [gate_ix u v w b 0 3 (p := 0) (q := 384) rfl rfl, ← group3_at]
      pointwise [k0_pay35, k0_pay36, k0_pay37, k0_pay38, k0_pay39, k0_pay40, k0_pay41, k0_pay42, k0_pay43, k0_pay44]
    · intro (z : S128x128.Idx)
      idx_vars z
      rw [gate_ix u v w b 7 2 (p := 896) (q := 256) rfl rfl, ← group2_at]
      pointwise [k0_pay25, k0_pay26, k0_pay27, k0_pay28, k0_pay29, k0_pay30, k0_pay31, k0_pay32, k0_pay33]
    · intro (z : S128x128.Idx)
      idx_vars z
      rw [gate_ix u v w b 6 2 (p := 768) (q := 256) rfl rfl, ← group2_at]
      pointwise [k0_pay25, k0_pay26, k0_pay27, k0_pay28, k0_pay29, k0_pay30, k0_pay31, k0_pay32, k0_pay33]
    · intro (z : S128x128.Idx)
      idx_vars z
      rw [gate_ix u v w b 5 2 (p := 640) (q := 256) rfl rfl, ← group2_at]
      pointwise [k0_pay25, k0_pay26, k0_pay27, k0_pay28, k0_pay29, k0_pay30, k0_pay31, k0_pay32, k0_pay33]
    · intro (z : S128x128.Idx)
      idx_vars z
      rw [gate_ix u v w b 4 2 (p := 512) (q := 256) rfl rfl, ← group2_at]
      pointwise [k0_pay25, k0_pay26, k0_pay27, k0_pay28, k0_pay29, k0_pay30, k0_pay31, k0_pay32, k0_pay33]
    · intro (z : S128x128.Idx)
      idx_vars z
      rw [gate_ix u v w b 3 2 (p := 384) (q := 256) rfl rfl, ← group2_at]
      pointwise [k0_pay25, k0_pay26, k0_pay27, k0_pay28, k0_pay29, k0_pay30, k0_pay31, k0_pay32, k0_pay33]
    · intro (z : S128x128.Idx)
      idx_vars z
      rw [gate_ix u v w b 2 2 (p := 256) (q := 256) rfl rfl, ← group2_at]
      pointwise [k0_pay25, k0_pay26, k0_pay27, k0_pay28, k0_pay29, k0_pay30, k0_pay31, k0_pay32, k0_pay33]
    · intro (z : S128x128.Idx)
      idx_vars z
      rw [gate_ix u v w b 1 2 (p := 128) (q := 256) rfl rfl, ← group2_at]
      pointwise [k0_pay25, k0_pay26, k0_pay27, k0_pay28, k0_pay29, k0_pay30, k0_pay31, k0_pay32, k0_pay33]
    · intro (z : S128x128.Idx)
      idx_vars z
      rw [gate_ix u v w b 0 2 (p := 0) (q := 256) rfl rfl, ← group2_at]
      pointwise [k0_pay25, k0_pay26, k0_pay27, k0_pay28, k0_pay29, k0_pay30, k0_pay31, k0_pay32, k0_pay33]
    · intro (z : S128x128.Idx)
      idx_vars z
      rw [gate_ix u v w b 7 1 (p := 896) (q := 128) rfl rfl, ← group1_at]
      pointwise [k0_pay14, k0_pay15, k0_pay16, k0_pay17, k0_pay18, k0_pay19, k0_pay20, k0_pay21, k0_pay22]
    · intro (z : S128x128.Idx)
      idx_vars z
      rw [gate_ix u v w b 6 1 (p := 768) (q := 128) rfl rfl, ← group1_at]
      pointwise [k0_pay14, k0_pay15, k0_pay16, k0_pay17, k0_pay18, k0_pay19, k0_pay20, k0_pay21, k0_pay22]
    · intro (z : S128x128.Idx)
      idx_vars z
      rw [gate_ix u v w b 5 1 (p := 640) (q := 128) rfl rfl, ← group1_at]
      pointwise [k0_pay14, k0_pay15, k0_pay16, k0_pay17, k0_pay18, k0_pay19, k0_pay20, k0_pay21, k0_pay22]
    · intro (z : S128x128.Idx)
      idx_vars z
      rw [gate_ix u v w b 4 1 (p := 512) (q := 128) rfl rfl, ← group1_at]
      pointwise [k0_pay14, k0_pay15, k0_pay16, k0_pay17, k0_pay18, k0_pay19, k0_pay20, k0_pay21, k0_pay22]
    · intro (z : S128x128.Idx)
      idx_vars z
      rw [gate_ix u v w b 3 1 (p := 384) (q := 128) rfl rfl, ← group1_at]
      pointwise [k0_pay14, k0_pay15, k0_pay16, k0_pay17, k0_pay18, k0_pay19, k0_pay20, k0_pay21, k0_pay22]
    · intro (z : S128x128.Idx)
      idx_vars z
      rw [gate_ix u v w b 2 1 (p := 256) (q := 128) rfl rfl, ← group1_at]
      pointwise [k0_pay14, k0_pay15, k0_pay16, k0_pay17, k0_pay18, k0_pay19, k0_pay20, k0_pay21, k0_pay22]
    · intro (z : S128x128.Idx)
      idx_vars z
      rw [gate_ix u v w b 1 1 (p := 128) (q := 128) rfl rfl, ← group1_at]
      pointwise [k0_pay14, k0_pay15, k0_pay16, k0_pay17, k0_pay18, k0_pay19, k0_pay20, k0_pay21, k0_pay22]
    · intro (z : S128x128.Idx)
      idx_vars z
      rw [gate_ix u v w b 0 1 (p := 0) (q := 128) rfl rfl, ← group1_at]
      pointwise [k0_pay14, k0_pay15, k0_pay16, k0_pay17, k0_pay18, k0_pay19, k0_pay20, k0_pay21, k0_pay22]
    · intro (z : S128x128.Idx)
      idx_vars z
      rw [gate_ix u v w b 7 0 (p := 896) (q := 0) rfl rfl, ← group0_at]
      pointwise [k0_pay4, k0_pay5, k0_pay6, k0_pay7, k0_pay8, k0_pay9, k0_pay10, k0_pay11, k0_pay12]
    · intro (z : S128x128.Idx)
      idx_vars z
      rw [gate_ix u v w b 6 0 (p := 768) (q := 0) rfl rfl, ← group0_at]
      pointwise [k0_pay4, k0_pay5, k0_pay6, k0_pay7, k0_pay8, k0_pay9, k0_pay10, k0_pay11, k0_pay12]
    · intro (z : S128x128.Idx)
      idx_vars z
      rw [gate_ix u v w b 5 0 (p := 640) (q := 0) rfl rfl, ← group0_at]
      pointwise [k0_pay4, k0_pay5, k0_pay6, k0_pay7, k0_pay8, k0_pay9, k0_pay10, k0_pay11, k0_pay12]
    · intro (z : S128x128.Idx)
      idx_vars z
      rw [gate_ix u v w b 4 0 (p := 512) (q := 0) rfl rfl, ← group0_at]
      pointwise [k0_pay4, k0_pay5, k0_pay6, k0_pay7, k0_pay8, k0_pay9, k0_pay10, k0_pay11, k0_pay12]
    · intro (z : S128x128.Idx)
      idx_vars z
      rw [gate_ix u v w b 3 0 (p := 384) (q := 0) rfl rfl, ← group0_at]
      pointwise [k0_pay4, k0_pay5, k0_pay6, k0_pay7, k0_pay8, k0_pay9, k0_pay10, k0_pay11, k0_pay12]
    · intro (z : S128x128.Idx)
      idx_vars z
      rw [gate_ix u v w b 2 0 (p := 256) (q := 0) rfl rfl, ← group0_at]
      pointwise [k0_pay4, k0_pay5, k0_pay6, k0_pay7, k0_pay8, k0_pay9, k0_pay10, k0_pay11, k0_pay12]
    · intro (z : S128x128.Idx)
      idx_vars z
      rw [gate_ix u v w b 1 0 (p := 128) (q := 0) rfl rfl, ← group0_at]
      pointwise [k0_pay4, k0_pay5, k0_pay6, k0_pay7, k0_pay8, k0_pay9, k0_pay10, k0_pay11, k0_pay12]
    · intro (z : S128x128.Idx)
      idx_vars z
      rw [gate_ix u v w b 0 0 (p := 0) (q := 0) rfl rfl, ← group0_at]
      pointwise [k0_pay4, k0_pay5, k0_pay6, k0_pay7, k0_pay8, k0_pay9, k0_pay10, k0_pay11, k0_pay12]
  · intro (z : S1024x512.Idx)
    have hz : (z 0 : ℕ) < 1024 := (z 0).isLt
    have hz1 : (z 1 : ℕ) < 512 := (z 1).isLt
    obtain h | h | h | h : (z 1 : ℕ) < 128 ∨ (128 ≤ (z 1 : ℕ) ∧ (z 1 : ℕ) < 256) ∨ (256 ≤ (z 1 : ℕ) ∧ (z 1 : ℕ) < 384) ∨ 384 ≤ (z 1 : ℕ) := by omega
    · obtain h' | h' | h' | h' | h' | h' | h' | h' : (z 0 : ℕ) < 128 ∨ (128 ≤ (z 0 : ℕ) ∧ (z 0 : ℕ) < 256) ∨ (256 ≤ (z 0 : ℕ) ∧ (z 0 : ℕ) < 384) ∨ (384 ≤ (z 0 : ℕ) ∧ (z 0 : ℕ) < 512) ∨ (512 ≤ (z 0 : ℕ) ∧ (z 0 : ℕ) < 640) ∨ (640 ≤ (z 0 : ℕ) ∧ (z 0 : ℕ) < 768) ∨ (768 ≤ (z 0 : ℕ) ∧ (z 0 : ℕ) < 896) ∨ 896 ≤ (z 0 : ℕ) := by omega
      · exact Held.at 31 (Nat.le_of_ble_eq_true rfl) ((mem_box2 (inb' := inb_S1024x512_S128x128_0_0) z).2 (by simp; omega))
      · exact Held.at 30 (Nat.le_of_ble_eq_true rfl) ((mem_box2 (inb' := inb_S1024x512_S128x128_128_0) z).2 (by simp; omega))
      · exact Held.at 29 (Nat.le_of_ble_eq_true rfl) ((mem_box2 (inb' := inb_S1024x512_S128x128_256_0) z).2 (by simp; omega))
      · exact Held.at 28 (Nat.le_of_ble_eq_true rfl) ((mem_box2 (inb' := inb_S1024x512_S128x128_384_0) z).2 (by simp; omega))
      · exact Held.at 27 (Nat.le_of_ble_eq_true rfl) ((mem_box2 (inb' := inb_S1024x512_S128x128_512_0) z).2 (by simp; omega))
      · exact Held.at 26 (Nat.le_of_ble_eq_true rfl) ((mem_box2 (inb' := inb_S1024x512_S128x128_640_0) z).2 (by simp; omega))
      · exact Held.at 25 (Nat.le_of_ble_eq_true rfl) ((mem_box2 (inb' := inb_S1024x512_S128x128_768_0) z).2 (by simp; omega))
      · exact Held.at 24 (Nat.le_of_ble_eq_true rfl) ((mem_box2 (inb' := inb_S1024x512_S128x128_896_0) z).2 (by simp; omega))
    · obtain h' | h' | h' | h' | h' | h' | h' | h' : (z 0 : ℕ) < 128 ∨ (128 ≤ (z 0 : ℕ) ∧ (z 0 : ℕ) < 256) ∨ (256 ≤ (z 0 : ℕ) ∧ (z 0 : ℕ) < 384) ∨ (384 ≤ (z 0 : ℕ) ∧ (z 0 : ℕ) < 512) ∨ (512 ≤ (z 0 : ℕ) ∧ (z 0 : ℕ) < 640) ∨ (640 ≤ (z 0 : ℕ) ∧ (z 0 : ℕ) < 768) ∨ (768 ≤ (z 0 : ℕ) ∧ (z 0 : ℕ) < 896) ∨ 896 ≤ (z 0 : ℕ) := by omega
      · exact Held.at 23 (Nat.le_of_ble_eq_true rfl) ((mem_box2 (inb' := inb_S1024x512_S128x128_0_128) z).2 (by simp; omega))
      · exact Held.at 22 (Nat.le_of_ble_eq_true rfl) ((mem_box2 (inb' := inb_S1024x512_S128x128_128_128) z).2 (by simp; omega))
      · exact Held.at 21 (Nat.le_of_ble_eq_true rfl) ((mem_box2 (inb' := inb_S1024x512_S128x128_256_128) z).2 (by simp; omega))
      · exact Held.at 20 (Nat.le_of_ble_eq_true rfl) ((mem_box2 (inb' := inb_S1024x512_S128x128_384_128) z).2 (by simp; omega))
      · exact Held.at 19 (Nat.le_of_ble_eq_true rfl) ((mem_box2 (inb' := inb_S1024x512_S128x128_512_128) z).2 (by simp; omega))
      · exact Held.at 18 (Nat.le_of_ble_eq_true rfl) ((mem_box2 (inb' := inb_S1024x512_S128x128_640_128) z).2 (by simp; omega))
      · exact Held.at 17 (Nat.le_of_ble_eq_true rfl) ((mem_box2 (inb' := inb_S1024x512_S128x128_768_128) z).2 (by simp; omega))
      · exact Held.at 16 (Nat.le_of_ble_eq_true rfl) ((mem_box2 (inb' := inb_S1024x512_S128x128_896_128) z).2 (by simp; omega))
    · obtain h' | h' | h' | h' | h' | h' | h' | h' : (z 0 : ℕ) < 128 ∨ (128 ≤ (z 0 : ℕ) ∧ (z 0 : ℕ) < 256) ∨ (256 ≤ (z 0 : ℕ) ∧ (z 0 : ℕ) < 384) ∨ (384 ≤ (z 0 : ℕ) ∧ (z 0 : ℕ) < 512) ∨ (512 ≤ (z 0 : ℕ) ∧ (z 0 : ℕ) < 640) ∨ (640 ≤ (z 0 : ℕ) ∧ (z 0 : ℕ) < 768) ∨ (768 ≤ (z 0 : ℕ) ∧ (z 0 : ℕ) < 896) ∨ 896 ≤ (z 0 : ℕ) := by omega
      · exact Held.at 15 (Nat.le_of_ble_eq_true rfl) ((mem_box2 (inb' := inb_S1024x512_S128x128_0_256) z).2 (by simp; omega))
      · exact Held.at 14 (Nat.le_of_ble_eq_true rfl) ((mem_box2 (inb' := inb_S1024x512_S128x128_128_256) z).2 (by simp; omega))
      · exact Held.at 13 (Nat.le_of_ble_eq_true rfl) ((mem_box2 (inb' := inb_S1024x512_S128x128_256_256) z).2 (by simp; omega))
      · exact Held.at 12 (Nat.le_of_ble_eq_true rfl) ((mem_box2 (inb' := inb_S1024x512_S128x128_384_256) z).2 (by simp; omega))
      · exact Held.at 11 (Nat.le_of_ble_eq_true rfl) ((mem_box2 (inb' := inb_S1024x512_S128x128_512_256) z).2 (by simp; omega))
      · exact Held.at 10 (Nat.le_of_ble_eq_true rfl) ((mem_box2 (inb' := inb_S1024x512_S128x128_640_256) z).2 (by simp; omega))
      · exact Held.at 9 (Nat.le_of_ble_eq_true rfl) ((mem_box2 (inb' := inb_S1024x512_S128x128_768_256) z).2 (by simp; omega))
      · exact Held.at 8 (Nat.le_of_ble_eq_true rfl) ((mem_box2 (inb' := inb_S1024x512_S128x128_896_256) z).2 (by simp; omega))
    · obtain h' | h' | h' | h' | h' | h' | h' | h' : (z 0 : ℕ) < 128 ∨ (128 ≤ (z 0 : ℕ) ∧ (z 0 : ℕ) < 256) ∨ (256 ≤ (z 0 : ℕ) ∧ (z 0 : ℕ) < 384) ∨ (384 ≤ (z 0 : ℕ) ∧ (z 0 : ℕ) < 512) ∨ (512 ≤ (z 0 : ℕ) ∧ (z 0 : ℕ) < 640) ∨ (640 ≤ (z 0 : ℕ) ∧ (z 0 : ℕ) < 768) ∨ (768 ≤ (z 0 : ℕ) ∧ (z 0 : ℕ) < 896) ∨ 896 ≤ (z 0 : ℕ) := by omega
      · exact Held.at 7 (Nat.le_of_ble_eq_true rfl) ((mem_box2 (inb' := inb_S1024x512_S128x128_0_384) z).2 (by simp; omega))
      · exact Held.at 6 (Nat.le_of_ble_eq_true rfl) ((mem_box2 (inb' := inb_S1024x512_S128x128_128_384) z).2 (by simp; omega))
      · exact Held.at 5 (Nat.le_of_ble_eq_true rfl) ((mem_box2 (inb' := inb_S1024x512_S128x128_256_384) z).2 (by simp; omega))
      · exact Held.at 4 (Nat.le_of_ble_eq_true rfl) ((mem_box2 (inb' := inb_S1024x512_S128x128_384_384) z).2 (by simp; omega))
      · exact Held.at 3 (Nat.le_of_ble_eq_true rfl) ((mem_box2 (inb' := inb_S1024x512_S128x128_512_384) z).2 (by simp; omega))
      · exact Held.at 2 (Nat.le_of_ble_eq_true rfl) ((mem_box2 (inb' := inb_S1024x512_S128x128_640_384) z).2 (by simp; omega))
      · exact Held.at 1 (Nat.le_of_ble_eq_true rfl) ((mem_box2 (inb' := inb_S1024x512_S128x128_768_384) z).2 (by simp; omega))
      · exact Held.at 0 (Nat.le_of_ble_eq_true rfl) ((mem_box2 (inb' := inb_S1024x512_S128x128_896_384) z).2 (by simp; omega))

/-- What the body leaves in the output block at a point, the blocks it reads given. -/
def block (t : Fin cfg0.N) (x : Vec Ideal S1024x1024 .f32) (u : Vec Ideal S1024x512 .bf16) (v : Vec Ideal S1024x512 .bf16) (o : Vec Ideal S1024x512 .bf16) (g : Vec Ideal S1x6x1024 .f32) (w : Vec Ideal S1x4x128x128 .f32) (b : Vec Ideal S1x128x4 .f32) (cw : Vec Ideal S1x1024x1024 .bf16) : Vec Ideal S1024x1024 .f32 :=
  out0_A_8 0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) x u v o g w b cw

theorem block_at (t : Fin cfg0.N) (x : Vec Ideal S1024x1024 .f32) (u : Vec Ideal S1024x512 .bf16) (v : Vec Ideal S1024x512 .bf16) (o : Vec Ideal S1024x512 .bf16) (g : Vec Ideal S1x6x1024 .f32) (w : Vec Ideal S1x4x128x128 .f32) (b : Vec Ideal S1x128x4 .f32) (cw : Vec Ideal S1x1024x1024 .bf16) (y) :
    block t x u v o g w b cw y = outBlock x u v o g w b cw y := out_at ..

theorem outs_at (c : Dev nD) (t : Fin cfg0.N) (y) :
    outsAt0 m c t y = outBlock (iblk m c 0 t) (iblk m c 1 t) (iblk m c 2 t) (iblk m c 3 t) (iblk m c 4 t) (iblk m c 5 t) (iblk m c 6 t) (iblk m c 7 t) y := out_at ..

theorem idx : ∀ t : Fin cfg0.N, win0_0.index t = ![(t : ℕ), 0] ∧ win0_1.index t = ![(t : ℕ), 0] ∧ win0_2.index t = ![(t : ℕ), 0] ∧ win0_3.index t = ![(t : ℕ), 0] ∧
    win0_4.index t = ![1, 0, 0] ∧ win0_5.index t = ![0, 0, 0, 0] ∧ win0_6.index t = ![0, 0, 0] ∧ win0_7.index t = ![0, 0, 0] ∧ win0_8.index t = ![(t : ℕ), 0] :=
  (by decide +kernel : ∀ t : Fin grid0.N, _)

/-- The rows the kernel reads: the arguments', numbered through. -/
theorem x_at (c : Dev nD) (r : Fin 16384) (k : Fin 1024) :
    V m c main_v2 (ix2 r k) = m ((c.tc : Thread nD τ).loc main_arg0) (ix3 ⟨r / 2048, by omega⟩ ⟨r % 2048, by omega⟩ k) := by
  entry_read
  pointwise

theorem u_at (c : Dev nD) (r : Fin 16384) (k : Fin 512) :
    V m c main_v3 (ix2 r k) = m ((c.tc : Thread nD τ).loc main_arg1) (ix3 ⟨r / 2048, by omega⟩ ⟨r % 2048, by omega⟩ k) := by
  entry_read
  pointwise

theorem v_at (c : Dev nD) (r : Fin 16384) (k : Fin 512) :
    V m c main_v4 (ix2 r k) = m ((c.tc : Thread nD τ).loc main_arg2) (ix3 ⟨r / 2048, by omega⟩ ⟨r % 2048, by omega⟩ k) := by
  entry_read
  pointwise

theorem o_at (c : Dev nD) (r : Fin 16384) (k : Fin 512) :
    V m c main_v5 (ix2 r k) = m ((c.tc : Thread nD τ).loc main_arg3) (ix3 ⟨r / 2048, by omega⟩ ⟨r % 2048, by omega⟩ k) := by
  entry_read
  pointwise

theorem b_at (c : Dev nD) (l : Fin 2) (p : Fin 128) (g : Fin 4) : V m c main_v1 (ix3 l p g) = m ((c.tc : Thread nD τ).loc main_arg6) (ix3 l g p) := by
  entry_read
  pointwise

theorem c_at (c : Dev nD) (l : Fin 2) (j d : Fin 1024) : V m c main_v0 (ix3 l j d) = m ((c.tc : Thread nD τ).loc main_arg7) (ix3 l j d) := by
  entry_read
  pointwise

/-- The array the kernel writes is the reference's result of the same arguments. -/
theorem final (c : Dev nD) : (dats m 0 c).arrAt 8 (cfgs 0).N =
    ReferenceSguIdeal.Value.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  refine (dats m 0 c).arrAt_eq_of_covers 8 _ (by decide +kernel) fun t _ (y : S1024x1024.Idx) => ?_
  blk_simp
  rw [after0_8, outs_at]
  obtain ⟨i0, i1, i2, i3, i4, i5, i6, i7, i8⟩ := idx t
  have ht : (t : ℕ) < 16 := t.isLt
  have hy : (y 0 : ℕ) < 1024 := (y 0).isLt
  have eo : (win0_8.blk t).view.emb y = ix2 ⟨1024 * t + (y 0 : ℕ), by omega⟩ (y 1) := by blk_ext [i8]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (k : Fin 512) : iblk m c 1 t (ix2 (y 0) k) = m ((c.tc : Thread nD τ).loc main_arg1) (ix3 ⟨(1024 * t + (y 0 : ℕ)) / 2048, by omega⟩ ⟨(1024 * t + (y 0 : ℕ)) % 2048, by omega⟩ k) := by
    refine Eq.trans ?_ (u_at m c ⟨1024 * t + (y 0 : ℕ), by omega⟩ k)
    blk_point [iblk, i1]
  have e2' (i : Fin 1024) (k : Fin 512) : iblk m c 2 t (ix2 i k) = m ((c.tc : Thread nD τ).loc main_arg2) (ix3 ⟨(1024 * t + (i : ℕ)) / 2048, by omega⟩ ⟨(1024 * t + (i : ℕ)) % 2048, by omega⟩ k) := by
    refine Eq.trans ?_ (v_at m c ⟨1024 * t + (i : ℕ), by omega⟩ k)
    blk_point [iblk, i2]
  have e2 (s : Fin 128) (k : Fin 512) : iblk m c 2 t (ix2 ⟨(y 0 : ℕ) / 128 * 128 + s, by omega⟩ ⟨(k : ℕ) / 128 * 128 + (k : ℕ) % 128, by omega⟩) =
      m ((c.tc : Thread nD τ).loc main_arg2) (ix3 ⟨(1024 * t + (y 0 : ℕ)) / 2048, by omega⟩ ⟨(1024 * t + (y 0 : ℕ)) % 2048 / 128 * 128 + s, by omega⟩ k) := by
    refine (e2' _ _).trans ?_
    have hs : (s : ℕ) < 128 := s.isLt
    have h1 : (1024 * t + ((y 0 : ℕ) / 128 * 128 + s)) / 2048 = (1024 * t + (y 0 : ℕ)) / 2048 := by omega
    have h2 : (1024 * t + ((y 0 : ℕ) / 128 * 128 + s)) % 2048 = (1024 * t + (y 0 : ℕ)) % 2048 / 128 * 128 + s := by omega
    have h3 : (k : ℕ) / 128 * 128 + (k : ℕ) % 128 = k := by omega
    simp only [h1, h2, h3]
  have e3 (k : Fin 512) : iblk m c 3 t (ix2 (y 0) k) = m ((c.tc : Thread nD τ).loc main_arg3) (ix3 ⟨(1024 * t + (y 0 : ℕ)) / 2048, by omega⟩ ⟨(1024 * t + (y 0 : ℕ)) % 2048, by omega⟩ k) := by
    refine Eq.trans ?_ (o_at m c ⟨1024 * t + (y 0 : ℕ), by omega⟩ k)
    blk_point [iblk, i3]
  have e4 (a : Fin 6) (k : Fin 1024) : iblk m c 4 t (ix3 0 a k) = m ((c.tc : Thread nD τ).loc main_arg4) (ix3 1 a k) := by blk_point [iblk, V, i4]
  have e5 (g : Fin 4) (p s : Fin 128) : iblk m c 5 t (ix4 0 g p s) = m ((c.tc : Thread nD τ).loc main_arg5) (ix4 0 g p s) := by blk_point [iblk, V, i5]
  have e6 (p : Fin 128) (g : Fin 4) : iblk m c 6 t (ix3 0 p g) = m ((c.tc : Thread nD τ).loc main_arg6) (ix3 0 g p) := by
    refine Eq.trans ?_ (b_at m c 0 p g)
    blk_point [iblk, i6]
  have e7 (j d : Fin 1024) : iblk m c 7 t (ix3 0 j d) = m ((c.tc : Thread nD τ).loc main_arg7) (ix3 0 j d) := by
    refine Eq.trans ?_ (c_at m c 0 j d)
    blk_point [iblk, i7]
  have hp : (⟨(1024 * t + (y 0 : ℕ)) % 128, by omega⟩ : Fin 128) = ⟨(y 0 : ℕ) % 128, by omega⟩ := Fin.ext (by simp only []; omega)
  rw [show (win0_8.blk t).view.emb y = _ from eo]
  erw [ReferenceSguIdeal.Value.result_at]
  simp only [outBlock, e0, e3, e4, e7, hp]
  refine congrArg (fun a => closing _ a _ _ _ _) (funext fun k => (gateBlock_ix _ _ _ _ (y 0) k).trans ?_)
  simp only [e1, e2, e5, e6]

end Cert.KernelSguIdeal.Value

end
-- ==== Proof.Sgu.lean ====
/- The feed-forward kernel's claim of equal results over the ideal reals. -/
module

public import proofs.«01_k».proof.Defs
public import proofs.«01_k».proof.Proof.SguValue
public import Idealize.ShloMosaic.Lib.Claim

@[expose] public section

set_option maxRecDepth 16384

noncomputable section

open Idealize.ShloMosaic Idealize.SL.Sem

attribute [local instance] Cert.KernelSguIdeal.Gen.facts Cert.ReferenceSguIdeal.Gen.facts

namespace Cert

theorem sgu_algebraic : Cert.algebraic_KernelSguIdeal_ReferenceSguIdeal := by
  pair_intro
  · run_from Cert.KernelSguIdeal.Gen.run_main m g
  · run_from Cert.ReferenceSguIdeal.Value.run m' g'
    obtain ⟨a0, a1, a2, a3, a4, a5, a6, a7⟩ := hagree c
    refine (ReferenceSguIdeal.Value.res_eq m' c).trans (Eq.trans ?_ (KernelSguIdeal.Value.final m c).symm)
    rw [a0, a1, a2, a3, a4, a5, a6, a7]

end Cert

end
-- ==== Proof.FfnRef.lean ====
/- The reference of the feed-forward call, stage by stage, and its value at an index as a function of one row. -/
module

public import proofs.«01_k».proof.Proof.Gen.ReferenceFfnIdeal.Run
public import proofs.«01_k».proof.Proof.Rows

@[expose] public section

set_option maxRecDepth 16384

noncomputable section

open Idealize.ShloMosaic Idealize.ShloMosaic.TcCoe Idealize.SL.Sem

namespace Cert.Rows

/-- The gated activation of one row. -/
def act (x g : Fin 1024 → EReal) (wg wu : Fin 1024 → Fin 2816 → EReal) (j : Fin 2816) : EReal :=
  silu (∑ k, rms x g k * wg k j) * ∑ k, rms x g k * wu k j

/-- One row of the feed-forward sublayer: half of the normed down-projection of the activation, added to the row. -/
def ffn (x g g' : Fin 1024 → EReal) (wg wu : Fin 1024 → Fin 2816 → EReal) (wd : Fin 2816 → Fin 1024 → EReal) (d : Fin 1024) : EReal :=
  x d + Ideal.ofBits FTy.f32 0x3F000000#32 * rms (fun d => ∑ j, act x g wg wu j * wd j d) g' d

end Cert.Rows

namespace Cert.ReferenceFfnIdeal.Value
open Cert.ReferenceFfnIdeal Cert.ReferenceFfnIdeal.Gen Cert.Rows

variable (X : FVec Ideal S8x2048x1024 .f32)

def normed (X : FVec Ideal S8x2048x1024 .f32) (g : FVec Ideal S1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

def into (H : FVec Ideal S8x2048x1024 .f32) (w : FVec Ideal S1024x2816 .f32) : FVec Ideal S8x2048x2816 .f32 :=
  Host.dotGeneral dot_S8x2048x1024_S1024x2816_S8x2048x2816_2_0_01_1_n_n none H w

def gated (Z : FVec Ideal S8x2048x2816 .f32) : FVec Ideal S8x2048x2816 .f32 :=
  mulf Z (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf Z))))

def down (A : FVec Ideal S8x2048x2816 .f32) (w : FVec Ideal S2816x1024 .f32) : FVec Ideal S8x2048x1024 .f32 :=
  Host.dotGeneral dot_S8x2048x2816_S2816x1024_S8x2048x1024_2_0_01_1_n_n none A w

variable (g g' : FVec Ideal S1024 .f32) (wg wu : FVec Ideal S1024x2816 .f32) (wd : FVec Ideal S2816x1024 .f32)

def acts : FVec Ideal S8x2048x2816 .f32 := mulf (gated (into (normed X g) wg)) (into (normed X g) wu)

/-- The sublayer of an array and of one layer's gains and weights. -/
def sublayer : FVec Ideal S16384x1024 .f32 :=
  shapeCast S16384x1024 (addf X (mulf (broadcastInDim S8x2048x1024 ![] bcast_S_S8x2048x1024 (constant S_ .f32 0x3F000000#32)) (normed (down (acts X g wg wu) wd) g'))) shapeCasts_S8x2048x1024_S16384x1024

theorem normed_at (g : FVec Ideal S1024 .f32) (b : Fin 8) (t : Fin 2048) (d : Fin 1024) :
    normed X g (ix3 b t d) = rms (fun k => X (ix3 b t k)) (fun k => g (ix1 k)) d := by
  pointwise [normed, rms, scale]

theorem into_at (H : FVec Ideal S8x2048x1024 .f32) (w : FVec Ideal S1024x2816 .f32) (b : Fin 8) (t : Fin 2048) (j : Fin 2816) :
    into H w (ix3 b t j) = ∑ k, H (ix3 b t k) * w (ix2 k j) := by pointwise [into]

theorem gated_at (Z : FVec Ideal S8x2048x2816 .f32) (b : Fin 8) (t : Fin 2048) (j : Fin 2816) : gated Z (ix3 b t j) = silu (Z (ix3 b t j)) := by
  pointwise [gated, silu, sigmoid]
  rw [zero_sub]

theorem down_at (A : FVec Ideal S8x2048x2816 .f32) (w : FVec Ideal S2816x1024 .f32) (b : Fin 8) (t : Fin 2048) (d : Fin 1024) :
    down A w (ix3 b t d) = ∑ j, A (ix3 b t j) * w (ix2 j d) := by pointwise [down]

theorem acts_at (b : Fin 8) (t : Fin 2048) (j : Fin 2816) :
    acts X g wg wu (ix3 b t j) = act (fun k => X (ix3 b t k)) (fun k => g (ix1 k)) (fun k j => wg (ix2 k j)) (fun k j => wu (ix2 k j)) j := by
  show gated _ (ix3 b t j) * into _ _ (ix3 b t j) = _
  simp only [gated_at, into_at, normed_at, act]

theorem sublayer_at (r : Fin 16384) (d : Fin 1024) :
    sublayer X g g' wg wu wd (ix2 r d) = ffn (fun k => X (ix3 ⟨r / 2048, by omega⟩ ⟨r % 2048, by omega⟩ k)) (fun k => g (ix1 k)) (fun k => g' (ix1 k))
      (fun k j => wg (ix2 k j)) (fun k j => wu (ix2 k j)) (fun j k => wd (ix2 j k)) d := by
  pointwise [sublayer]
  simp only [normed_at, down_at, acts_at, ffn]

/-- The sublayer of layer `l` and half `h`, whose two gains are the rows `a` and `b` of the layer's, row by row. -/
def ffnOut (l : Fin 4) (h : Fin 2) (a b : Fin 6) (X : FVec Ideal S8x2048x1024 .f32) (G : FVec Ideal S4x6x1024 .f32)
    (WG WU : FVec Ideal S4x2x1024x2816 .f32) (WD : FVec Ideal S4x2x2816x1024 .f32) : FVec Ideal S16384x1024 .f32 := fun y =>
  ffn (fun k => X (ix3 ⟨(y 0 : ℕ) / 2048, by have : (y 0 : ℕ) < 16384 := (y 0).isLt; omega⟩ ⟨(y 0 : ℕ) % 2048, by omega⟩ k)) (fun k => G (ix3 l a k)) (fun k => G (ix3 l b k))
    (fun k j => WG (ix4 l h k j)) (fun k j => WU (ix4 l h k j)) (fun j k => WD (ix4 l h j k)) (y 1)

theorem ffnOut_at (l : Fin 4) (h : Fin 2) (a b : Fin 6) (X : FVec Ideal S8x2048x1024 .f32) (G : FVec Ideal S4x6x1024 .f32)
    (WG WU : FVec Ideal S4x2x1024x2816 .f32) (WD : FVec Ideal S4x2x2816x1024 .f32) (r : Fin 16384) (d : Fin 1024) :
    ffnOut l h a b X G WG WU WD (ix2 r d) = ffn (fun k => X (ix3 ⟨r / 2048, by omega⟩ ⟨r % 2048, by omega⟩ k)) (fun k => G (ix3 l a k)) (fun k => G (ix3 l b k))
      (fun k j => WG (ix4 l h k j)) (fun k j => WU (ix4 l h k j)) (fun j k => WD (ix4 l h j k)) d := rfl

/-- The sublayer of the gains and weights cut from the stacked arrays is that of the layer and the half. -/
theorem sublayer_eq {l : Fin 4} {h : Fin 2} {a b : Fin 6} {G : FVec Ideal S4x6x1024 .f32} {WG WU : FVec Ideal S4x2x1024x2816 .f32} {WD : FVec Ideal S4x2x2816x1024 .f32}
    (hg : ∀ k, g (ix1 k) = G (ix3 l a k)) (hg' : ∀ k, g' (ix1 k) = G (ix3 l b k)) (hwg : ∀ k j, wg (ix2 k j) = WG (ix4 l h k j))
    (hwu : ∀ k j, wu (ix2 k j) = WU (ix4 l h k j)) (hwd : ∀ j k, wd (ix2 j k) = WD (ix4 l h j k)) :
    sublayer X g g' wg wu wd = ffnOut l h a b X G WG WU WD := by
  funext y
  idx_vars y
  refine (sublayer_at X g g' wg wu wd y0 y1).trans ?_
  simp only [hg, hg', hwg, hwu, hwd]
  rfl

end Cert.ReferenceFfnIdeal.Value

end
-- ==== Proof.FfnValue.lean ====
/- The feed-forward kernel's result array: the reference's, row by row. -/
module

public import proofs.«01_k».proof.Proof.Gen.KernelFfnIdeal.Frame
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.KernelFfnIdeal.Value
open Cert.KernelFfnIdeal Cert.KernelFfnIdeal.Gen Cert.Rows

/-- What the scratch holds where the point has stored into it, over the point's blocks, the gain in row `a`: the activation of row `512 s + r` at `(s, r, j)`. -/
def actBlock (a : Fin 6) (x : Vec Ideal S1024x1024 .f32) (g : Vec Ideal S1x6x1024 .f32) (wg wu : Vec Ideal S1x1x1024x2816 .f32) : Vec Ideal S2x512x2816 .bf16 := fun y =>
  act (fun k => x (ix2 ⟨(y 0 : ℕ) * 512 + (y 1 : ℕ), by have := (y 0).isLt; have := (y 1).isLt; simp at *; omega⟩ k)) (fun k => g (ix3 0 a k))
    (fun k j => wg (ix4 0 0 k j)) (fun k j => wu (ix4 0 0 k j)) ⟨(y 2 : ℕ), (y 2).isLt⟩

/-- What the point leaves in the output block, the gains in the rows `a` and `b`. -/
def outBlock (a b : Fin 6) (x : Vec Ideal S1024x1024 .f32) (g : Vec Ideal S1x6x1024 .f32) (wg wu : Vec Ideal S1x1x1024x2816 .f32) (wd : Vec Ideal S1x1x2816x1024 .f32) :
    Vec Ideal S1024x1024 .f32 := fun y =>
  ffn (fun k => x (ix2 (y 0) k)) (fun k => g (ix3 0 a k)) (fun k => g (ix3 0 b k))
    (fun k j => wg (ix4 0 0 k j)) (fun k j => wu (ix4 0 0 k j)) (fun j k => wd (ix4 0 0 j k)) (y 1)

variable (m : (ℓ : Loc nD τ sig) → Buf (Elt Ideal) ℓ)

theorem colLt {a b k : ℕ} {inb} (z : (Rect.unit (s := S2x512x2816) ![a, b, k] ![1, 512, 256] inb).shape.Idx) : k + (z 2 : ℕ) < 2816 := by
  have h : k + 256 ≤ 2816 := inb 2
  have h' : (z 2 : ℕ) < 256 := (z 2).isLt
  omega

/-- The column of an index of a chunk of 256 columns. -/
theorem emb_col {a b k : ℕ} {inb} (z : (Rect.unit (s := S2x512x2816) ![a, b, k] ![1, 512, 256] inb).shape.Idx) :
    (Rect.unit (s := S2x512x2816) ![a, b, k] ![1, 512, 256] inb).emb z 2 = ⟨k + (z 2 : ℕ), colLt z⟩ :=
  Fin.ext (ValueKit.rect_emb_unit_val ..)

/-- What the body leaves in the output block, whatever its buffers hold. -/
theorem out_at (c : Dev nD) (i : grid0.Coords) (arg1 : Memref sig .tc .vmem S1024x1024 .f32) (harg1 : arg1.IsWhole) (arg2 : Memref sig .tc .vmem S1x6x1024 .f32) (harg2 : arg2.IsWhole) (arg3 : Memref sig .tc .vmem S1x1x1024x2816 .f32) (harg3 : arg3.IsWhole) (arg4 : Memref sig .tc .vmem S1x1x1024x2816 .f32) (harg4 : arg4.IsWhole) (arg5 : Memref sig .tc .vmem S1x1x2816x1024 .f32) (harg5 : arg5.IsWhole) (arg6 : Memref sig .tc .vmem S1024x1024 .f32) (harg6 : arg6.IsWhole) (arg7 : Memref sig .tc .vmem S2x512x2816 .bf16) (harg7 : arg7.IsWhole)
    (x : Vec Ideal S1024x1024 .f32) (g : Vec Ideal S1x6x1024 .f32) (wg wu : Vec Ideal S1x1x1024x2816 .f32) (wd : Vec Ideal S1x1x2816x1024 .f32) (y) :
    out0_A_5 (F := Ideal) c i arg1 harg1 arg2 harg2 arg3 harg3 arg4 harg4 arg5 harg5 arg6 harg6 arg7 harg7 x g wg wu wd y = outBlock 4 5 x g wg wu wd y := by
  frame_open
  frame_out
  canon_tiles x' h
  · rw [readCov_of_pieces (actBlock 4 x g wg wu)]
    · idx_vars y
      pointwise [outBlock, actBlock, ffn, k0_pay1, k0_pay51, k0_pay52, k0_pay53, k0_pay54, h0, h1]
      rw [show y0 = ⟨512 + (x' 0 : ℕ), by rw [← h0]; exact y0.isLt⟩ from Fin.ext h0, show y1 = x' 1 from Fin.ext h1]
      rfl
    · simp only [View.PiecesOf]
      and_intros
      all_goals try trivial
      all_goals intro (z : S1x512x256.Idx)
      all_goals pointwise [actBlock, act, rms, scale, silu, sigmoid, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay34, k0_pay35, k0_pay36, k0_pay37, k0_pay38, k0_pay39, k0_pay40, k0_pay41, k0_pay42, k0_pay43, k0_pay44, k0_pay45, k0_pay46, k0_pay47, k0_pay48, k0_pay49, k0_pay50]
      all_goals blk_simp
      all_goals simp only [emb_col, zero_add] <;> rfl
    · intro (z : S1x512x2816.Idx)
      have hz : (z 2 : ℕ) < 2816 := (z 2).isLt
      have hz1 : (z 1 : ℕ) < 512 := (z 1).isLt
      have hz0 : (z 0 : ℕ) < 1 := (z 0).isLt
      simp [Held, mem_box]
      omega
  · rw [readCov_of_pieces (actBlock 4 x g wg wu)]
    · idx_vars y
      pointwise [outBlock, actBlock, ffn, k0_pay1, k0_pay33, k0_pay26, k0_pay27, k0_pay28, k0_pay30, k0_pay31, k0_pay32, k0_pay51, k0_pay52, k0_pay53, k0_pay54, h0, h1]
      rw [show y0 = ⟨(x' 0 : ℕ), by rw [← h0]; exact y0.isLt⟩ from Fin.ext h0, show y1 = x' 1 from Fin.ext h1]
      rfl
    · simp only [View.PiecesOf]
      and_intros
      all_goals try trivial
      all_goals intro (z : S1x512x256.Idx)
      all_goals pointwise [actBlock, act, rms, scale, silu, sigmoid, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
      all_goals blk_simp
      all_goals simp only [emb_col, zero_add] <;> rfl
    · intro (z : S1x512x2816.Idx)
      have hz : (z 2 : ℕ) < 2816 := (z 2).isLt
      have hz1 : (z 1 : ℕ) < 512 := (z 1).isLt
      have hz0 : (z 0 : ℕ) < 1 := (z 0).isLt
      simp [Held, mem_box]
      omega

/-- The first point. -/
def p0 : Fin cfg0.N := ⟨0, by decide +kernel⟩

/-- What the body leaves in the output block at the first point, the blocks it reads given. -/
def block (x : Vec Ideal S1024x1024 .f32) (g : Vec Ideal S1x6x1024 .f32) (wg wu : Vec Ideal S1x1x1024x2816 .f32) (wd : Vec Ideal S1x1x2816x1024 .f32) :
    Vec Ideal S1024x1024 .f32 :=
  out0_A_5 0 (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0)
    scM0_0 (Memref.isWhole_whole _) x g wg wu wd

theorem block_at (x : Vec Ideal S1024x1024 .f32) (g : Vec Ideal S1x6x1024 .f32) (wg wu : Vec Ideal S1x1x1024x2816 .f32) (wd : Vec Ideal S1x1x2816x1024 .f32) (y) :
    block x g wg wu wd y = outBlock 4 5 x g wg wu wd y := out_at ..

theorem outs_at (c : Dev nD) (t : Fin cfg0.N) (y) :
    outsAt0 m c t y = outBlock 4 5 (iblk m c 0 t) (iblk m c 1 t) (iblk m c 2 t) (iblk m c 3 t) (iblk m c 4 t) y := out_at ..

theorem idx : ∀ t : Fin cfg0.N, win0_0.index t = ![(t : ℕ), 0] ∧ win0_1.index t = ![3, 0, 0] ∧ win0_2.index t = ![3, 1, 0, 0] ∧ win0_3.index t = ![3, 1, 0, 0] ∧
    win0_4.index t = ![3, 1, 0, 0] ∧ win0_5.index t = ![(t : ℕ), 0] :=
  (by decide +kernel : ∀ t : Fin grid0.N, _)

/-- The rows the kernel reads: the argument's, numbered through. -/
theorem x_at (c : Dev nD) (r : Fin 16384) (k : Fin 1024) :
    V m c main_v0 (ix2 r k) = m ((c.tc : Thread nD τ).loc main_arg0) (ix3 ⟨r / 2048, by omega⟩ ⟨r % 2048, by omega⟩ k) := by
  entry_read
  pointwise

/-- The array the kernel writes is the reference's result of the same arguments. -/
theorem final (c : Dev nD) : (dats m 0 c).arrAt 5 (cfgs 0).N =
    ReferenceFfnIdeal.Value.ffnOut 3 1 4 5 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t _ (y : S1024x1024.Idx) => ?_
  blk_simp
  rw [after0_5, outs_at]
  obtain ⟨i0, i1, i2, i3, i4, i5⟩ := idx t
  have ht : (t : ℕ) < 16 := t.isLt
  have hy : (y 0 : ℕ) < 1024 := (y 0).isLt
  have e5 : (win0_5.blk t).view.emb y = ix2 ⟨1024 * t + (y 0 : ℕ), by omega⟩ (y 1) := by blk_ext [i5]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (a : Fin 6) (k : Fin 1024) : iblk m c 1 t (ix3 0 a k) = m ((c.tc : Thread nD τ).loc main_arg1) (ix3 3 a k) := by blk_point [iblk, V, i1]
  have e2 (k : Fin 1024) (j : Fin 2816) : iblk m c 2 t (ix4 0 0 k j) = m ((c.tc : Thread nD τ).loc main_arg2) (ix4 3 1 k j) := by blk_point [iblk, V, i2]
  have e3 (k : Fin 1024) (j : Fin 2816) : iblk m c 3 t (ix4 0 0 k j) = m ((c.tc : Thread nD τ).loc main_arg3) (ix4 3 1 k j) := by blk_point [iblk, V, i3]
  have e4 (j : Fin 2816) (k : Fin 1024) : iblk m c 4 t (ix4 0 0 j k) = m ((c.tc : Thread nD τ).loc main_arg4) (ix4 3 1 j k) := by blk_point [iblk, V, i4]
  rw [show (win0_5.blk t).view.emb y = _ from e5]
  erw [ReferenceFfnIdeal.Value.ffnOut_at]
  simp only [outBlock, e0, e1, e2, e3, e4]

end Cert.KernelFfnIdeal.Value

end
-- ==== Proof.Ffn.lean ====
/- The feed-forward call of layer 3, half 1: the kernel's and the reference's results, and the claim that they are equal over the ideal reals. -/
module

public import proofs.«01_k».proof.Defs
public import proofs.«01_k».proof.Proof.Gen.KernelFfnIdeal.Frame
public import proofs.«01_k».proof.Proof.Gen.ReferenceFfnIdeal.Run
public import proofs.«01_k».proof.Proof.FfnValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFfnIdeal.Value
open Cert.ReferenceFfnIdeal Cert.ReferenceFfnIdeal.Gen

variable (m : (ℓ : Loc nD τ sig) → Buf (Elt Ideal) ℓ) (c : Dev nD)

def gains : FVec Ideal S6x1024 .f32 := shapeCast S6x1024 (extractStridedSlice S1x6x1024 ![3, 0, 0] (m ((c.tc : Thread nD τ).loc main_arg1)) slices_S4x6x1024_S1x6x1024_3_0_0) shapeCasts_S1x6x1024_S6x1024
def gainIn : FVec Ideal S1024 .f32 := shapeCast S1024 (extractStridedSlice S1x1024 ![4, 0] (gains m c) slices_S6x1024_S1x1024_4_0) shapeCasts_S1x1024_S1024
def gainOut : FVec Ideal S1024 .f32 := shapeCast S1024 (extractStridedSlice S1x1024 ![5, 0] (gains m c) slices_S6x1024_S1x1024_5_0) shapeCasts_S1x1024_S1024
def weightIn (W : FVec Ideal S4x2x1024x2816 .f32) : FVec Ideal S1024x2816 .f32 := shapeCast S1024x2816 (extractStridedSlice S1x1x1024x2816 ![3, 1, 0, 0] W slices_S4x2x1024x2816_S1x1x1024x2816_3_1_0_0) shapeCasts_S1x1x1024x2816_S1024x2816
def weightOut (W : FVec Ideal S4x2x2816x1024 .f32) : FVec Ideal S2816x1024 .f32 := shapeCast S2816x1024 (extractStridedSlice S1x1x2816x1024 ![3, 1, 0, 0] W slices_S4x2x2816x1024_S1x1x2816x1024_3_1_0_0) shapeCasts_S1x1x2816x1024_S2816x1024

theorem res_sub : res_out0 (F := Ideal) m c = ReferenceFfnIdeal.Value.sublayer (m ((c.tc : Thread nD τ).loc main_arg0)) (gainIn m c) (gainOut m c)
    (weightIn (m ((c.tc : Thread nD τ).loc main_arg2))) (weightIn (m ((c.tc : Thread nD τ).loc main_arg3))) (weightOut (m ((c.tc : Thread nD τ).loc main_arg4))) := rfl

/-- The reference's result, row by row. -/
theorem res_eq : res_out0 (F := Ideal) m c = ReferenceFfnIdeal.Value.ffnOut 3 1 4 5 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (res_sub m c).trans (ReferenceFfnIdeal.Value.sublayer_eq _ _ _ _ _ _ ?_ ?_ ?_ ?_ ?_)
  · intro k; pointwise [gainIn, gains]
  · intro k; pointwise [gainOut, gains]
  · intro k j; pointwise [weightIn]
  · intro k j; pointwise [weightIn]
  · intro j k; pointwise [weightOut]

end Cert.ReferenceFfnIdeal.Value

attribute [local instance] Cert.KernelFfnIdeal.Gen.facts Cert.ReferenceFfnIdeal.Gen.facts

namespace Cert

theorem ffn_algebraic : Cert.algebraic_KernelFfnIdeal_ReferenceFfnIdeal := by
  pair_intro
  · run_from Cert.KernelFfnIdeal.Gen.run_main m g
  · run_from Cert.ReferenceFfnIdeal.Value.run m' g'
    obtain ⟨a0, a1, a2, a3, a4⟩ := hagree c
    refine (ReferenceFfnIdeal.Value.res_eq m' c).trans (Eq.trans ?_ (KernelFfnIdeal.Value.final m c).symm)
    rw [a0, a1, a2, a3, a4]

end Cert

end
-- ==== Proof.EvenRef.lean ====
/- The even layers' projection reference, read at one index of each result. -/
module

public import proofs.«01_k».proof.Proof.Gen.ReferenceEvenIdeal.Run
public import proofs.«01_k».proof.Proof.Rows

@[expose] public section

set_option maxRecDepth 16384

noncomputable section

open Idealize.ShloMosaic Idealize.ShloMosaic.TcCoe Idealize.SL.Sem

namespace Cert.Rows

/-- Entry `k` of a row of eight heads of 64 numbers, each head turned: its first half against its second. -/
def turned (z : Fin 512 → EReal) (c s : Fin 32 → EReal) (k : Fin 512) : EReal :=
  if h : (k : ℕ) % 64 < 32 then z k * c ⟨k % 64, h⟩ - z ⟨k + 32, by omega⟩ * s ⟨k % 64, h⟩
  else z k * c ⟨k % 64 - 32, by omega⟩ + z ⟨k - 32, by omega⟩ * s ⟨k % 64 - 32, by omega⟩

end Cert.Rows

namespace Cert.ReferenceEvenIdeal.Value
open Cert.ReferenceEvenIdeal Cert.ReferenceEvenIdeal.Gen Cert.Rows

variable (X : FVec Ideal S8x2048x1024 .f32) (G : FVec Ideal S4x6x1024 .f32) (W : FVec Ideal S2x1024x2560 .f32)

def normed (X : FVec Ideal S8x2048x1024 .f32) (g : FVec Ideal S1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

def gain : FVec Ideal S1024 .f32 := shapeCast S1024 (extractStridedSlice S1x1024 ![2, 0] (shapeCast S6x1024 (extractStridedSlice S1x6x1024 ![0, 0, 0] G slices_S4x6x1024_S1x6x1024_0_0_0) shapeCasts_S1x6x1024_S6x1024) slices_S6x1024_S1x1024_2_0) shapeCasts_S1x1024_S1024

def projected : FVec Ideal S8x2048x2560 .f32 :=
  Host.dotGeneral dot_S8x2048x1024_S1024x2560_S8x2048x2560_2_0_01_1_n_n none (normed X (gain G)) (shapeCast S1024x2560 (extractStridedSlice S1x1024x2560 ![0, 0, 0] W slices_S2x1024x2560_S1x1024x2560_0_0_0) shapeCasts_S1x1024x2560_S1024x2560)

/-- The angle by which position `p` turns the pair numbered `f`. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

def spread (A : FVec Ideal S2048x32 .f32) : FVec Ideal S8x2048x8x32 .f32 :=
  broadcastInDim S8x2048x8x32 ![0, 1, 2, 3] bcast_S1x2048x1x32_S8x2048x8x32_0_1_2_3 (broadcastInDim S1x2048x1x32 ![1, 3] bcast_S2048x32_S1x2048x1x32_1_3 A)

def first (Z : FVec Ideal S8x2048x512 .f32) : FVec Ideal S8x2048x8x32 .f32 :=
  extractStridedSlice S8x2048x8x32 ![0, 0, 0, 0] (shapeCast S8x2048x8x64 Z shapeCasts_S8x2048x512_S8x2048x8x64) slices_S8x2048x8x64_S8x2048x8x32_0_0_0_0

def second (Z : FVec Ideal S8x2048x512 .f32) : FVec Ideal S8x2048x8x32 .f32 :=
  extractStridedSlice S8x2048x8x32 ![0, 0, 0, 32] (shapeCast S8x2048x8x64 Z shapeCasts_S8x2048x512_S8x2048x8x64) slices_S8x2048x8x64_S8x2048x8x32_0_0_0_32

def turnedRows (Z : FVec Ideal S8x2048x512 .f32) : FVec Ideal S16384x512 .f32 :=
  shapeCast S16384x512 (concatenate S8x2048x8x64 3 [⟨S8x2048x8x32, (subf (mulf (first Z) (spread (Host.cos angles))) (mulf (second Z) (spread (Host.sin angles))))⟩, ⟨S8x2048x8x32, (addf (mulf (second Z) (spread (Host.cos angles))) (mulf (first Z) (spread (Host.sin angles))))⟩] concatenates_S8x2048x8x32_S8x2048x8x32_S8x2048x8x64_d3) shapeCasts_S8x2048x8x64_S16384x512

def gated (A B : FVec Ideal S8x2048x512 .f32) : FVec Ideal S8x2048x512 .f32 :=
  mulf A (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf B))))

def leave (Z : FVec Ideal S8x2048x512 .f32) : FVec Ideal S16384x512 .bf16 := truncf .bf16 (shapeCast S16384x512 Z shapeCasts_S8x2048x512_S16384x512) bitsLt_bf16_f32

def result0 : FVec Ideal S16384x512 .f32 := turnedRows (extractStridedSlice S8x2048x512 ![0, 0, 0] (projected X G W) slices_S8x2048x2560_S8x2048x512_0_0_0)
def result1 : FVec Ideal S16384x512 .f32 := turnedRows (extractStridedSlice S8x2048x512 ![0, 0, 512] (projected X G W) slices_S8x2048x2560_S8x2048x512_0_0_512)
def result2 : FVec Ideal S16384x512 .bf16 := leave (extractStridedSlice S8x2048x512 ![0, 0, 1024] (projected X G W) slices_S8x2048x2560_S8x2048x512_0_0_1024)
def result3 : FVec Ideal S16384x512 .bf16 := leave (gated (extractStridedSlice S8x2048x512 ![0, 0, 1536] (projected X G W) slices_S8x2048x2560_S8x2048x512_0_0_1536) (extractStridedSlice S8x2048x512 ![0, 0, 2048] (projected X G W) slices_S8x2048x2560_S8x2048x512_0_0_2048))

theorem res_eq0 (m : (ℓ : Loc nD τ sig) → Buf (Elt Ideal) ℓ) (c : Dev nD) : res_out0 (F := Ideal) m c = result0 (m ((c.tc : Thread nD τ).loc main_arg0)) (m ((c.tc : Thread nD τ).loc main_arg1)) (m ((c.tc : Thread nD τ).loc main_arg2)) := rfl
theorem res_eq1 (m : (ℓ : Loc nD τ sig) → Buf (Elt Ideal) ℓ) (c : Dev nD) : res_out1 (F := Ideal) m c = result1 (m ((c.tc : Thread nD τ).loc main_arg0)) (m ((c.tc : Thread nD τ).loc main_arg1)) (m ((c.tc : Thread nD τ).loc main_arg2)) := rfl

theorem normed_at (g : FVec Ideal S1024 .f32) (b : Fin 8) (t : Fin 2048) (d : Fin 1024) :
    normed X g (ix3 b t d) = rms (fun k => X (ix3 b t k)) (fun k => g (ix1 k)) d := by
  pointwise [normed, rms, scale]

theorem gain_at (k : Fin 1024) : gain G (ix1 k) = G (ix3 0 2 k) := by pointwise [gain]

theorem projected_at (b : Fin 8) (t : Fin 2048) (j : Fin 2560) :
    projected X G W (ix3 b t j) = proj (fun k => X (ix3 b t k)) (fun k => G (ix3 0 2 k)) (fun k j => W (ix3 0 k j)) j := by
  pointwise [projected]
  simp only [normed_at, gain_at, proj]

theorem spread_at (A : FVec Ideal S2048x32 .f32) (b : Fin 8) (t : Fin 2048) (h : Fin 8) (f : Fin 32) : spread A (ix4 b t h f) = A (ix2 t f) := by
  pointwise [spread]

theorem first_at (Z : FVec Ideal S8x2048x512 .f32) (b : Fin 8) (t : Fin 2048) (h : Fin 8) (f : Fin 32) :
    first Z (ix4 b t h f) = Z (ix3 b t ⟨h * 64 + f, by omega⟩) := by
  pointwise [first]

theorem second_at (Z : FVec Ideal S8x2048x512 .f32) (b : Fin 8) (t : Fin 2048) (h : Fin 8) (f : Fin 32) :
    second Z (ix4 b t h f) = Z (ix3 b t ⟨h * 64 + (32 + f), by omega⟩) := by
  pointwise [second]

theorem turnedRows_at (Z : FVec Ideal S8x2048x512 .f32) (r : Fin 16384) (k : Fin 512) :
    turnedRows Z (ix2 r k) = turned (fun k => Z (ix3 ⟨r / 2048, by omega⟩ ⟨r % 2048, by omega⟩ k))
      (fun f => Ideal.cos (angles (ix2 ⟨r % 2048, by omega⟩ f))) (fun f => Ideal.sin (angles (ix2 ⟨r % 2048, by omega⟩ f))) k := by
  pointwise [turnedRows, turned]
  simp only [first_at, second_at, spread_at]
  by_cases h : (k : ℕ) % 64 < 32
  · rw [dif_pos h, dif_pos h]
    have a (p) : (⟨(k : ℕ) / 64 * 64 + k % 64, p⟩ : Fin 512) = k := Fin.ext (by show (k : ℕ) / 64 * 64 + k % 64 = k; omega)
    have b (p) : (⟨(k : ℕ) / 64 * 64 + (32 + k % 64), p⟩ : Fin 512) = ⟨k + 32, by omega⟩ := Fin.ext (by show (k : ℕ) / 64 * 64 + (32 + k % 64) = k + 32; omega)
    rw [a, b]
    rfl
  · rw [dif_neg h, dif_neg h]
    have a (p) : (⟨(k : ℕ) / 64 * 64 + (32 + (k % 64 - 32)), p⟩ : Fin 512) = k := Fin.ext (by show (k : ℕ) / 64 * 64 + (32 + (k % 64 - 32)) = k; omega)
    have b (p) : (⟨(k : ℕ) / 64 * 64 + (k % 64 - 32), p⟩ : Fin 512) = ⟨k - 32, by omega⟩ := Fin.ext (by show (k : ℕ) / 64 * 64 + (k % 64 - 32) = k - 32; omega)
    rw [a, b]
    rfl

theorem gated_at (A B : FVec Ideal S8x2048x512 .f32) (b : Fin 8) (t : Fin 2048) (k : Fin 512) :
    gated A B (ix3 b t k) = A (ix3 b t k) * sigmoid (B (ix3 b t k)) := by
  pointwise [gated, sigmoid]
  rw [zero_sub]

theorem leave_at (Z : FVec Ideal S8x2048x512 .f32) (r : Fin 16384) (k : Fin 512) : leave Z (ix2 r k) = Z (ix3 ⟨r / 2048, by omega⟩ ⟨r % 2048, by omega⟩ k) := by
  pointwise [leave]

theorem result0_at (r : Fin 16384) (k : Fin 512) : result0 X G W (ix2 r k) = turned (fun k => (proj (fun k => X (ix3 ⟨r / 2048, by omega⟩ ⟨r % 2048, by omega⟩ k)) (fun k => G (ix3 0 2 k)) (fun k j => W (ix3 0 k j)) ⟨k, by omega⟩)) (fun f => Ideal.cos (angles (ix2 ⟨r % 2048, by omega⟩ f))) (fun f => Ideal.sin (angles (ix2 ⟨r % 2048, by omega⟩ f))) k := by
  rw [result0, turnedRows_at]
  refine congrArg (fun z => turned z _ _ k) (funext fun k => ?_)
  pointwise
  simp only [projected_at]

theorem result1_at (r : Fin 16384) (k : Fin 512) : result1 X G W (ix2 r k) = turned (fun k => (proj (fun k => X (ix3 ⟨r / 2048, by omega⟩ ⟨r % 2048, by omega⟩ k)) (fun k => G (ix3 0 2 k)) (fun k j => W (ix3 0 k j)) ⟨512 + k, by omega⟩)) (fun f => Ideal.cos (angles (ix2 ⟨r % 2048, by omega⟩ f))) (fun f => Ideal.sin (angles (ix2 ⟨r % 2048, by omega⟩ f))) k := by
  rw [result1, turnedRows_at]
  refine congrArg (fun z => turned z _ _ k) (funext fun k => ?_)
  pointwise
  simp only [projected_at]

theorem result2_at (r : Fin 16384) (k : Fin 512) : result2 X G W (ix2 r k) = (proj (fun k => X (ix3 ⟨r / 2048, by omega⟩ ⟨r % 2048, by omega⟩ k)) (fun k => G (ix3 0 2 k)) (fun k j => W (ix3 0 k j)) ⟨1024 + k, by omega⟩) := by
  rw [result2, leave_at]
  pointwise
  simp only [projected_at]

theorem result3_at (r : Fin 16384) (k : Fin 512) : result3 X G W (ix2 r k) = (proj (fun k => X (ix3 ⟨r / 2048, by omega⟩ ⟨r % 2048, by omega⟩ k)) (fun k => G (ix3 0 2 k)) (fun k j => W (ix3 0 k j)) ⟨1536 + k, by omega⟩) * sigmoid (proj (fun k => X (ix3 ⟨r / 2048, by omega⟩ ⟨r % 2048, by omega⟩ k)) (fun k => G (ix3 0 2 k)) (fun k j => W (ix3 0 k j)) ⟨2048 + k, by omega⟩) := by
  rw [result3, leave_at, gated_at]
  pointwise
  simp only [projected_at]

end Cert.ReferenceEvenIdeal.Value

end
-- ==== Proof.EvenValue.lean ====
/- The even layers' projection kernel: its four result arrays are the reference's, row by row. -/
module

public import proofs.«01_k».proof.Proof.Gen.KernelEvenIdeal.Frame
public import proofs.«01_k».proof.Proof.EvenRef

@[expose] public section

set_option maxRecDepth 16384

noncomputable section

open Idealize.ShloMosaic Idealize.ShloMosaic.TcCoe Idealize.SL.Sem
open Idealize.ShloMosaic.Pipeline (Dat)

namespace Cert.KernelEvenIdeal.Value
open Cert.KernelEvenIdeal Cert.KernelEvenIdeal.Gen Cert.Rows

variable (x : Vec Ideal S1024x1024 .f32) (g : Vec Ideal S1x6x1024 .f32) (w : Vec Ideal S1x1024x2560 .f32) (cs sn : Vec Ideal S1024x128 .f32)

/-- Entry `j` of the projection of the block's row `i`. -/
def projBlock (i : Fin 1024) (j : Fin 2560) : EReal := proj (fun k => x (ix2 i k)) (fun k => g (ix3 0 2 k)) (fun k j => w (ix3 0 k j)) j

theorem normed_at (i k : Fin 1024) : k0_pay3 (View.ld x r0_0) (View.ld g r0_1) (ix2 i k) = rms (fun k => x (ix2 i k)) (fun k => g (ix3 0 2 k)) k := by
  pointwise [k0_pay3, rms, scale]

theorem normed_at' (i k : Fin 1024) : k0_pay3 x (View.ld g r0_1) (ix2 i k) = rms (fun k => x (ix2 i k)) (fun k => g (ix3 0 2 k)) k := by
  pointwise [k0_pay3, rms, scale]

theorem low_at (i : Fin 1024) (l : Fin 128) : k0_pay16 (ix2 i l) = if (l : ℕ) % 64 < 32 then 1#1 else 0#1 := by
  pointwise [k0_pay16]
  revert l
  decide +kernel

/-- One slice of 128 lanes, turned as the kernel turns it. -/
def rotated (v c s : FVec Ideal S1024x128 .f32) : FVec Ideal S1024x128 .f32 :=
  addf (mulf v c) (mulf (select k0_pay16 (dynamicRotate 1 96#32 none v rotates_S1024x128_d1) (dynamicRotate 1 32#32 none v rotates_S1024x128_d1)) s)

/-- Entry `l` of a row of two heads, each turned by one table of 128 lanes. -/
def turn (z c s : Fin 128 → EReal) (l : Fin 128) : EReal :=
  if h : (l : ℕ) % 64 < 32 then z l * c l + z ⟨l + 32, by omega⟩ * s l else z l * c l + z ⟨l - 32, by omega⟩ * s l

theorem rotated_at (v c s : FVec Ideal S1024x128 .f32) (i : Fin 1024) (l : Fin 128) :
    rotated v c s (ix2 i l) = turn (fun l => v (ix2 i l)) (fun l => c (ix2 i l)) (fun l => s (ix2 i l)) l := by
  pointwise [rotated, low_at, turn]
  by_cases h : (l : ℕ) % 64 < 32
  · have a (p) : (⟨((l : ℕ) + 128 - 96) % 128, p⟩ : Fin 128) = ⟨l + 32, by omega⟩ := Fin.ext (by show ((l : ℕ) + 128 - 96) % 128 = l + 32; omega)
    rw [dif_pos h, if_pos h, a]
    rfl
  · have a (p) : (⟨((l : ℕ) + 128 - 32) % 128, p⟩ : Fin 128) = ⟨l - 32, by omega⟩ := Fin.ext (by show ((l : ℕ) + 128 - 32) % 128 = l - 32; omega)
    rw [dif_neg h, if_neg h, a]
    rfl

variable (m : (ℓ : Loc nD τ sig) → Buf (Elt Ideal) ℓ)

theorem cos_at (c : Dev nD) (p : Fin 2048) (l : Fin 128) :
    V m c main_v21 (ix2 p l) = Ideal.cos (ReferenceEvenIdeal.Value.angles (ix2 p ⟨l % 32, by omega⟩)) := by
  entry_read
  pointwise [ReferenceEvenIdeal.Value.angles]
  by_cases h : (l : ℕ) % 64 < 32
  · have e : (l : ℕ) % 64 = l % 32 := by omega
    rw [dif_pos h]
    simp only [e]
  · have e : (l : ℕ) % 64 - 32 = l % 32 := by omega
    rw [dif_neg h]
    simp only [e]

theorem sin_at (c : Dev nD) (p : Fin 2048) (l : Fin 128) :
    V m c main_v26 (ix2 p l) = if (l : ℕ) % 64 < 32 then - Ideal.sin (ReferenceEvenIdeal.Value.angles (ix2 p ⟨l % 32, by omega⟩)) else Ideal.sin (ReferenceEvenIdeal.Value.angles (ix2 p ⟨l % 32, by omega⟩)) := by
  entry_read
  pointwise [ReferenceEvenIdeal.Value.angles]
  by_cases h : (l : ℕ) % 64 < 32
  · have e : (l : ℕ) % 64 = l % 32 := by omega
    rw [dif_pos h, if_pos h]
    simp only [e]
  · have e : (l : ℕ) % 64 - 32 = l % 32 := by omega
    rw [dif_neg h, if_neg h]
    simp only [e]

theorem x_at (c : Dev nD) (r : Fin 16384) (k : Fin 1024) :
    V m c main_v27 (ix2 r k) = m ((c.tc : Thread nD τ).loc main_arg0) (ix3 ⟨r / 2048, by omega⟩ ⟨r % 2048, by omega⟩ k) := by
  entry_read
  pointwise

theorem first_at (i : Fin 1024) (j : Fin 512) : k0_pay43 x g w cs sn (ix2 i j) = projBlock x g w i ⟨j, by omega⟩ := by
  pointwise [k0_pay43, k0_pay4]
  simp only [normed_at, projBlock, proj]

theorem second_at (i : Fin 1024) (j : Fin 512) : k0_pay44 x g w cs sn (ix2 i j) = projBlock x g w i ⟨512 + j, by omega⟩ := by
  pointwise [k0_pay44, k0_pay24, k0_pay42]
  simp only [normed_at, projBlock, proj]

def lanes (z : Fin 1024 → Fin 512 → EReal) (i : Fin 1024) (k : Fin 512) : EReal :=
  turn (fun l => z i ⟨(k : ℕ) / 128 * 128 + l, by omega⟩) (fun l => cs (ix2 i l)) (fun l => sn (ix2 i l)) ⟨(k : ℕ) % 128, by omega⟩

theorem emb_at (p : ℕ) (hp : ∀ a, ![0, p] a + S1024x128.size a ≤ S1024x512.size a) (i : Fin 1024) (l : Fin 128) (h : p + l < 512) :
    (Rect.unit (s := S1024x512) ![0, p] S1024x128.size hp).emb (ix2 i l) = ix2 i ⟨p + l, h⟩ := by
  refine funext fun a => Fin.ext ?_
  rw [ValueKit.rect_emb_unit_val]
  match a with
  | 0 => exact Nat.zero_add _
  | 1 => rfl

/-- The four slices of 128 lanes, each turned. -/
def turnedBlock (z : Fin 1024 → Fin 512 → EReal) : Vec Ideal S1024x512 .f32 := fun y : S1024x512.Idx => lanes cs sn z (y 0) (y 1)

theorem turnedBlock_ix (z : Fin 1024 → Fin 512 → EReal) (i : Fin 1024) (q : Fin 4) (l : Fin 128) (p : ℕ) (hp : p = 128 * q) (h : p + l < 512) :
    turnedBlock cs sn z (ix2 i ⟨p + l, h⟩) = turn (fun l => z i ⟨p + l, by omega⟩) (fun l => cs (ix2 i l)) (fun l => sn (ix2 i l)) l := by
  subst hp
  have a (l' : Fin 128) (u) : (⟨(128 * (q : ℕ) + l) / 128 * 128 + l', u⟩ : Fin 512) = ⟨128 * q + l', by omega⟩ := Fin.ext (by show (128 * (q : ℕ) + l) / 128 * 128 + l' = 128 * q + l'; omega)
  have b (u) : (⟨(128 * (q : ℕ) + l) % 128, u⟩ : Fin 128) = l := Fin.ext (by show (128 * (q : ℕ) + l) % 128 = l; omega)
  show lanes cs sn z i ⟨128 * q + l, h⟩ = _
  simp only [lanes, a, b]

theorem slice5_3 (v : Vec Ideal S1024x512 .f32) (a b : Vec Ideal S1024x128 .f32) : k0_pay23 (k0_pay21 v) (k0_pay22 a) b = rotated (extractStridedSlice S1024x128 ![0, 384] v slices_S1024x512_o0_384_S1024x128) (shapeCast S1024x128 a shapeCasts_S1024x128_S1024x128) (shapeCast S1024x128 b shapeCasts_S1024x128_S1024x128) := rfl

theorem slice5_2 (v : Vec Ideal S1024x512 .f32) (a b : Vec Ideal S1024x128 .f32) : k0_pay20 v a b = rotated (extractStridedSlice S1024x128 ![0, 256] v slices_S1024x512_o0_256_S1024x128) (shapeCast S1024x128 a shapeCasts_S1024x128_S1024x128) (shapeCast S1024x128 b shapeCasts_S1024x128_S1024x128) := rfl

theorem slice5_1 (v : Vec Ideal S1024x512 .f32) (a b : Vec Ideal S1024x128 .f32) : k0_pay19 (k0_pay13 v) (k0_pay14 a) (k0_pay15 b) k0_pay16 (k0_pay17 v) (k0_pay18 v) = rotated (extractStridedSlice S1024x128 ![0, 128] v slices_S1024x512_o0_128_S1024x128) (shapeCast S1024x128 a shapeCasts_S1024x128_S1024x128) (shapeCast S1024x128 b shapeCasts_S1024x128_S1024x128) := rfl

theorem slice6_3 (v : Vec Ideal S1024x512 .f32) (a b : Vec Ideal S1024x128 .f32) : k0_pay41 v a b = rotated (extractStridedSlice S1024x128 ![0, 384] v slices_S1024x512_o0_384_S1024x128) (shapeCast S1024x128 a shapeCasts_S1024x128_S1024x128) (shapeCast S1024x128 b shapeCasts_S1024x128_S1024x128) := rfl

theorem slice6_2 (v : Vec Ideal S1024x512 .f32) (a b : Vec Ideal S1024x128 .f32) : k0_pay40 (k0_pay36 v) (k0_pay37 a) (k0_pay38 b) k0_pay39 96#32 = rotated (extractStridedSlice S1024x128 ![0, 256] v slices_S1024x512_o0_256_S1024x128) (shapeCast S1024x128 a shapeCasts_S1024x128_S1024x128) (shapeCast S1024x128 b shapeCasts_S1024x128_S1024x128) := rfl

theorem slice6_1 (v : Vec Ideal S1024x512 .f32) (a b : Vec Ideal S1024x128 .f32) : k0_pay35 (k0_pay29 v) (k0_pay30 a) (k0_pay31 b) (Scalar.select (Scalar.cmpi .eq 64#32 0#32) 1#32 64#32) k0_pay32 k0_pay33 k0_pay34 = rotated (extractStridedSlice S1024x128 ![0, 128] v slices_S1024x512_o0_128_S1024x128) (shapeCast S1024x128 a shapeCasts_S1024x128_S1024x128) (shapeCast S1024x128 b shapeCasts_S1024x128_S1024x128) := rfl

theorem slice5_0 (a b : Vec Ideal S1024x128 .f32) :
    k0_pay12 (k0_pay5 (View.ld x r0_0) (View.ld g r0_1) (View.ld w r0_2)) (k0_pay6 a) (k0_pay7 b) (Scalar.select (Scalar.cmpi .eq 64#32 0#32) 1#32 64#32) k0_pay8 k0_pay9 k0_pay10 k0_pay11 = rotated (extractStridedSlice S1024x128 ![0, 0] (k0_pay43 x g w cs sn) slices_S1024x512_o0_0_S1024x128) (shapeCast S1024x128 a shapeCasts_S1024x128_S1024x128) (shapeCast S1024x128 b shapeCasts_S1024x128_S1024x128) := rfl

theorem slice6_0 (a b : Vec Ideal S1024x128 .f32) :
    k0_pay28 (k0_pay25 (k0_pay42 x g w cs sn) (View.ld w r0_8)) (k0_pay26 a) (k0_pay27 b) (iota .tc S1024x128 32 [1] iota_S1024x128_d1_w32) = rotated (extractStridedSlice S1024x128 ![0, 0] (k0_pay44 x g w cs sn) slices_S1024x512_o0_0_S1024x128) (shapeCast S1024x128 a shapeCasts_S1024x128_S1024x128) (shapeCast S1024x128 b shapeCasts_S1024x128_S1024x128) := rfl

theorem out5_at (i : Fin 1024) (k : Fin 512) : out0_5 x g w cs sn (ix2 i k) = turnedBlock cs sn (fun i k => projBlock x g w i ⟨k, by omega⟩) (ix2 i k) := by
  unfold out0_5
  refine View.canon_append_of_piecesOf (turnedBlock cs sn fun i k => projBlock x g w i ⟨k, by omega⟩) [] _ ?_ (ix2 i k) (cover0_5 _ _ _ _ _)
  simp only [View.PiecesOf]
  and_intros
  all_goals try trivial
  · intro (z : S1024x128.Idx)
    idx_vars z
    refine Eq.trans (congrFun (slice5_3 _ _ _) _) ((rotated_at _ _ _ _ _).trans ?_)
    rw [emb_at 384 _ _ _ (by omega), turnedBlock_ix cs sn _ _ 3 _ 384 rfl]
    pointwise
    simp only [first_at]
  · intro (z : S1024x128.Idx)
    idx_vars z
    refine Eq.trans (congrFun (slice5_2 _ _ _) _) ((rotated_at _ _ _ _ _).trans ?_)
    rw [emb_at 256 _ _ _ (by omega), turnedBlock_ix cs sn _ _ 2 _ 256 rfl]
    pointwise
    simp only [first_at]
  · intro (z : S1024x128.Idx)
    idx_vars z
    refine Eq.trans (congrFun (slice5_1 _ _ _) _) ((rotated_at _ _ _ _ _).trans ?_)
    rw [emb_at 128 _ _ _ (by omega), turnedBlock_ix cs sn _ _ 1 _ 128 rfl]
    pointwise
    simp only [first_at]
  · intro (z : S1024x128.Idx)
    idx_vars z
    refine Eq.trans (congrFun (slice5_0 x g w cs sn _ _) _) ((rotated_at _ _ _ _ _).trans ?_)
    rw [emb_at 0 _ _ _ (by omega), turnedBlock_ix cs sn _ _ 0 _ 0 rfl]
    pointwise
    simp only [first_at]

theorem out6_at (i : Fin 1024) (k : Fin 512) : out0_6 x g w cs sn (ix2 i k) = turnedBlock cs sn (fun i k => projBlock x g w i ⟨512 + k, by omega⟩) (ix2 i k) := by
  unfold out0_6
  refine View.canon_append_of_piecesOf (turnedBlock cs sn fun i k => projBlock x g w i ⟨512 + k, by omega⟩) [] _ ?_ (ix2 i k) (cover0_6 _ _ _ _ _)
  simp only [View.PiecesOf]
  and_intros
  all_goals try trivial
  · intro (z : S1024x128.Idx)
    idx_vars z
    refine Eq.trans (congrFun (slice6_3 _ _ _) _) ((rotated_at _ _ _ _ _).trans ?_)
    rw [emb_at 384 _ _ _ (by omega), turnedBlock_ix cs sn _ _ 3 _ 384 rfl]
    pointwise
    simp only [second_at]
  · intro (z : S1024x128.Idx)
    idx_vars z
    refine Eq.trans (congrFun (slice6_2 _ _ _) _) ((rotated_at _ _ _ _ _).trans ?_)
    rw [emb_at 256 _ _ _ (by omega), turnedBlock_ix cs sn _ _ 2 _ 256 rfl]
    pointwise
    simp only [second_at]
  · intro (z : S1024x128.Idx)
    idx_vars z
    refine Eq.trans (congrFun (slice6_1 _ _ _) _) ((rotated_at _ _ _ _ _).trans ?_)
    rw [emb_at 128 _ _ _ (by omega), turnedBlock_ix cs sn _ _ 1 _ 128 rfl]
    pointwise
    simp only [second_at]
  · intro (z : S1024x128.Idx)
    idx_vars z
    refine Eq.trans (congrFun (slice6_0 x g w cs sn _ _) _) ((rotated_at _ _ _ _ _).trans ?_)
    rw [emb_at 0 _ _ _ (by omega), turnedBlock_ix cs sn _ _ 0 _ 0 rfl]
    pointwise
    simp only [second_at]

theorem out7_at (i : Fin 1024) (k : Fin 512) : out0_7 x g w cs sn (ix2 i k) = projBlock x g w i ⟨1024 + k, by omega⟩ := by
  frame_out
  pointwise [k0_pay1, k0_pay42]
  simp only [normed_at, projBlock, proj]

theorem out8_at (i : Fin 1024) (k : Fin 512) : out0_8 x g w cs sn (ix2 i k) = projBlock x g w i ⟨1536 + k, by omega⟩ * sigmoid (projBlock x g w i ⟨2048 + k, by omega⟩) := by
  frame_out
  pointwise [k0_pay2, k0_pay42]
  simp only [normed_at, projBlock, proj, sigmoid]

theorem turnedBlock_at (z : Fin 1024 → Fin 512 → EReal) (C S : Fin 32 → EReal) (i : Fin 1024) (k : Fin 512)
    (hc : ∀ l : Fin 128, cs (ix2 i l) = C ⟨l % 32, by omega⟩)
    (hs : ∀ l : Fin 128, sn (ix2 i l) = if (l : ℕ) % 64 < 32 then - S ⟨l % 32, by omega⟩ else S ⟨l % 32, by omega⟩) :
    turnedBlock cs sn z (ix2 i k) = turned (z i) C S k := by
  show lanes cs sn z i k = _
  have a (u) : (⟨(k : ℕ) / 128 * 128 + k % 128, u⟩ : Fin 512) = k := Fin.ext (by show (k : ℕ) / 128 * 128 + k % 128 = k; omega)
  simp only [lanes, turn, turned, hc, hs, a]
  by_cases h : (k : ℕ) % 64 < 32
  · have h' : (k : ℕ) % 128 % 64 < 32 := by omega
    have b (u) : (⟨(k : ℕ) / 128 * 128 + (k % 128 + 32), u⟩ : Fin 512) = ⟨k + 32, by omega⟩ := Fin.ext (by show (k : ℕ) / 128 * 128 + (k % 128 + 32) = k + 32; omega)
    have d (u) : (⟨(k : ℕ) % 128 % 32, u⟩ : Fin 32) = ⟨k % 64, h⟩ := Fin.ext (by show (k : ℕ) % 128 % 32 = k % 64; omega)
    rw [dif_pos h', dif_pos h, if_pos h', b, d, mul_neg, sub_eq_add_neg]
  · have h' : ¬ (k : ℕ) % 128 % 64 < 32 := by omega
    have b (u) : (⟨(k : ℕ) / 128 * 128 + (k % 128 - 32), u⟩ : Fin 512) = ⟨k - 32, by omega⟩ := Fin.ext (by show (k : ℕ) / 128 * 128 + (k % 128 - 32) = k - 32; omega)
    have d (u) : (⟨(k : ℕ) % 128 % 32, u⟩ : Fin 32) = ⟨k % 64 - 32, by omega⟩ := Fin.ext (by show (k : ℕ) % 128 % 32 = k % 64 - 32; omega)
    rw [dif_neg h', dif_neg h, if_neg h', b, d]

theorem idx : ∀ t : Fin cfg0.N, win0_0.index t = ![(t : ℕ), 0] ∧ win0_1.index t = ![0, 0, 0] ∧ win0_2.index t = ![0, 0, 0] ∧ win0_3.index t = ![(t : ℕ) % 2, 0] ∧
    win0_4.index t = ![(t : ℕ) % 2, 0] ∧ win0_5.index t = ![(t : ℕ), 0] ∧ win0_6.index t = ![(t : ℕ), 0] ∧ win0_7.index t = ![(t : ℕ), 0] ∧ win0_8.index t = ![(t : ℕ), 0] :=
  (by decide +kernel : ∀ t : Fin grid0.N, _)

theorem projBlock_at (c : Dev nD) (t : Fin cfg0.N) (i : Fin 1024) (r : Fin 16384) (hr : (r : ℕ) = 1024 * t + i) (j : Fin 2560) :
    projBlock (iblk m c 0 t) (iblk m c 1 t) (iblk m c 2 t) i j =
      proj (fun k => m ((c.tc : Thread nD τ).loc main_arg0) (ix3 ⟨r / 2048, by omega⟩ ⟨r % 2048, by omega⟩ k)) (fun k => m ((c.tc : Thread nD τ).loc main_arg1) (ix3 0 2 k))
        (fun k j => m ((c.tc : Thread nD τ).loc main_arg2) (ix3 0 k j)) j := by
  obtain ⟨i0, i1, i2, i3, i4, i5, i6, i7, i8⟩ := idx t
  have e0 (k : Fin 1024) : iblk m c 0 t (ix2 i k) = m ((c.tc : Thread nD τ).loc main_arg0) (ix3 ⟨r / 2048, by omega⟩ ⟨r % 2048, by omega⟩ k) := by
    refine Eq.trans ?_ (x_at m c r k)
    obtain ⟨r, h⟩ := r
    obtain rfl : r = 1024 * t + i := hr
    blk_point [iblk, i0]
  have e1 (a : Fin 6) (k : Fin 1024) : iblk m c 1 t (ix3 0 a k) = m ((c.tc : Thread nD τ).loc main_arg1) (ix3 0 a k) := by blk_point [iblk, V, i1]
  have e2 (k : Fin 1024) (j : Fin 2560) : iblk m c 2 t (ix3 0 k j) = m ((c.tc : Thread nD τ).loc main_arg2) (ix3 0 k j) := by blk_point [iblk, V, i2]
  simp only [projBlock, e0, e1, e2]

theorem cosBlock_at (c : Dev nD) (t : Fin cfg0.N) (i : Fin 1024) (r : Fin 16384) (hr : (r : ℕ) = 1024 * t + i) (l : Fin 128) :
    iblk m c 3 t (ix2 i l) = Ideal.cos (ReferenceEvenIdeal.Value.angles (ix2 ⟨r % 2048, by omega⟩ ⟨l % 32, by omega⟩)) := by
  obtain ⟨i0, i1, i2, i3, i4, i5, i6, i7, i8⟩ := idx t
  refine Eq.trans ?_ (cos_at m c _ l)
  have e : (⟨(r : ℕ) % 2048, by omega⟩ : Fin 2048) = ⟨1024 * (t % 2) + i, by omega⟩ := Fin.ext (by show (r : ℕ) % 2048 = 1024 * (t % 2) + i; omega)
  rw [e]
  blk_point [iblk, i3]

theorem sinBlock_at (c : Dev nD) (t : Fin cfg0.N) (i : Fin 1024) (r : Fin 16384) (hr : (r : ℕ) = 1024 * t + i) (l : Fin 128) :
    iblk m c 4 t (ix2 i l) = if (l : ℕ) % 64 < 32 then - Ideal.sin (ReferenceEvenIdeal.Value.angles (ix2 ⟨r % 2048, by omega⟩ ⟨l % 32, by omega⟩)) else Ideal.sin (ReferenceEvenIdeal.Value.angles (ix2 ⟨r % 2048, by omega⟩ ⟨l % 32, by omega⟩)) := by
  obtain ⟨i0, i1, i2, i3, i4, i5, i6, i7, i8⟩ := idx t
  refine Eq.trans ?_ (sin_at m c _ l)
  have e : (⟨(r : ℕ) % 2048, by omega⟩ : Fin 2048) = ⟨1024 * (t % 2) + i, by omega⟩ := Fin.ext (by show (r : ℕ) % 2048 = 1024 * (t % 2) + i; omega)
  rw [e]
  blk_point [iblk, i4]

/-- The array window 5 leaves is the reference's. -/
theorem final5 (c : Dev nD) : (dats m 0 c).arrAt 5 (cfgs 0).N = ReferenceEvenIdeal.Value.result0 (m ((c.tc : Thread nD τ).loc main_arg0)) (m ((c.tc : Thread nD τ).loc main_arg1)) (m ((c.tc : Thread nD τ).loc main_arg2)) := by
  refine (dats m 0 c).arrAt_eq_of_covers 5 _ (by decide +kernel) fun t _ (y : S1024x512.Idx) => ?_
  blk_simp
  rw [after0_5]
  obtain ⟨i0, i1, i2, i3, i4, i5, i6, i7, i8⟩ := idx t
  have ht : (t : ℕ) < 16 := t.isLt
  have hy : (y 0 : ℕ) < 1024 := (y 0).isLt
  have eo : (win0_5.blk t).view.emb y = ix2 ⟨1024 * t + (y 0 : ℕ), by omega⟩ (y 1) := by blk_ext [i5]
  rw [show (win0_5.blk t).view.emb y = _ from eo]
  refine Eq.trans ?_ (ReferenceEvenIdeal.Value.result0_at _ _ _ _ _).symm
  have hp (j : Fin 2560) := projBlock_at m c t (y 0) ⟨1024 * t + (y 0 : ℕ), by omega⟩ rfl j
  refine Eq.trans (congrArg _ (ix2_eta y).symm) ((out5_at _ _ _ _ _ (y 0) (y 1)).trans ?_)
  refine (turnedBlock_at _ _ _ (fun f => Ideal.cos (ReferenceEvenIdeal.Value.angles (ix2 ⟨(1024 * (t : ℕ) + (y 0 : ℕ)) % 2048, by omega⟩ f))) (fun f => Ideal.sin (ReferenceEvenIdeal.Value.angles (ix2 ⟨(1024 * (t : ℕ) + (y 0 : ℕ)) % 2048, by omega⟩ f))) (y 0) (y 1) (cosBlock_at m c t (y 0) ⟨1024 * t + (y 0 : ℕ), by omega⟩ rfl) (sinBlock_at m c t (y 0) ⟨1024 * t + (y 0 : ℕ), by omega⟩ rfl)).trans ?_
  simp only [hp]

/-- The array window 6 leaves is the reference's. -/
theorem final6 (c : Dev nD) : (dats m 0 c).arrAt 6 (cfgs 0).N = ReferenceEvenIdeal.Value.result1 (m ((c.tc : Thread nD τ).loc main_arg0)) (m ((c.tc : Thread nD τ).loc main_arg1)) (m ((c.tc : Thread nD τ).loc main_arg2)) := by
  refine (dats m 0 c).arrAt_eq_of_covers 6 _ (by decide +kernel) fun t _ (y : S1024x512.Idx) => ?_
  blk_simp
  rw [after0_6]
  obtain ⟨i0, i1, i2, i3, i4, i5, i6, i7, i8⟩ := idx t
  have ht : (t : ℕ) < 16 := t.isLt
  have hy : (y 0 : ℕ) < 1024 := (y 0).isLt
  have eo : (win0_6.blk t).view.emb y = ix2 ⟨1024 * t + (y 0 : ℕ), by omega⟩ (y 1) := by blk_ext [i6]
  rw [show (win0_6.blk t).view.emb y = _ from eo]
  refine Eq.trans ?_ (ReferenceEvenIdeal.Value.result1_at _ _ _ _ _).symm
  have hp (j : Fin 2560) := projBlock_at m c t (y 0) ⟨1024 * t + (y 0 : ℕ), by omega⟩ rfl j
  refine Eq.trans (congrArg _ (ix2_eta y).symm) ((out6_at _ _ _ _ _ (y 0) (y 1)).trans ?_)
  refine (turnedBlock_at _ _ _ (fun f => Ideal.cos (ReferenceEvenIdeal.Value.angles (ix2 ⟨(1024 * (t : ℕ) + (y 0 : ℕ)) % 2048, by omega⟩ f))) (fun f => Ideal.sin (ReferenceEvenIdeal.Value.angles (ix2 ⟨(1024 * (t : ℕ) + (y 0 : ℕ)) % 2048, by omega⟩ f))) (y 0) (y 1) (cosBlock_at m c t (y 0) ⟨1024 * t + (y 0 : ℕ), by omega⟩ rfl) (sinBlock_at m c t (y 0) ⟨1024 * t + (y 0 : ℕ), by omega⟩ rfl)).trans ?_
  simp only [hp]

/-- The array window 7 leaves is the reference's. -/
theorem final7 (c : Dev nD) : (dats m 0 c).arrAt 7 (cfgs 0).N = ReferenceEvenIdeal.Value.result2 (m ((c.tc : Thread nD τ).loc main_arg0)) (m ((c.tc : Thread nD τ).loc main_arg1)) (m ((c.tc : Thread nD τ).loc main_arg2)) := by
  refine (dats m 0 c).arrAt_eq_of_covers 7 _ (by decide +kernel) fun t _ (y : S1024x512.Idx) => ?_
  blk_simp
  rw [after0_7]
  obtain ⟨i0, i1, i2, i3, i4, i5, i6, i7, i8⟩ := idx t
  have ht : (t : ℕ) < 16 := t.isLt
  have hy : (y 0 : ℕ) < 1024 := (y 0).isLt
  have eo : (win0_7.blk t).view.emb y = ix2 ⟨1024 * t + (y 0 : ℕ), by omega⟩ (y 1) := by blk_ext [i7]
  rw [show (win0_7.blk t).view.emb y = _ from eo]
  refine Eq.trans ?_ (ReferenceEvenIdeal.Value.result2_at _ _ _ _ _).symm
  have hp (j : Fin 2560) := projBlock_at m c t (y 0) ⟨1024 * t + (y 0 : ℕ), by omega⟩ rfl j
  refine Eq.trans (congrArg _ (ix2_eta y).symm) ((out7_at _ _ _ _ _ (y 0) (y 1)).trans ?_)
  simp only [hp]

/-- The array window 8 leaves is the reference's. -/
theorem final8 (c : Dev nD) : (dats m 0 c).arrAt 8 (cfgs 0).N = ReferenceEvenIdeal.Value.result3 (m ((c.tc : Thread nD τ).loc main_arg0)) (m ((c.tc : Thread nD τ).loc main_arg1)) (m ((c.tc : Thread nD τ).loc main_arg2)) := by
  refine (dats m 0 c).arrAt_eq_of_covers 8 _ (by decide +kernel) fun t _ (y : S1024x512.Idx) => ?_
  blk_simp
  rw [after0_8]
  obtain ⟨i0, i1, i2, i3, i4, i5, i6, i7, i8⟩ := idx t
  have ht : (t : ℕ) < 16 := t.isLt
  have hy : (y 0 : ℕ) < 1024 := (y 0).isLt
  have eo : (win0_8.blk t).view.emb y = ix2 ⟨1024 * t + (y 0 : ℕ), by omega⟩ (y 1) := by blk_ext [i8]
  rw [show (win0_8.blk t).view.emb y = _ from eo]
  refine Eq.trans ?_ (ReferenceEvenIdeal.Value.result3_at _ _ _ _ _).symm
  have hp (j : Fin 2560) := projBlock_at m c t (y 0) ⟨1024 * t + (y 0 : ℕ), by omega⟩ rfl j
  refine Eq.trans (congrArg _ (ix2_eta y).symm) ((out8_at _ _ _ _ _ (y 0) (y 1)).trans ?_)
  simp only [hp]

end Cert.KernelEvenIdeal.Value

end
-- ==== Proof.Even.lean ====
/- The even layers' projection kernel's claim of equal results over the ideal reals. -/
module

public import proofs.«01_k».proof.Defs
public import proofs.«01_k».proof.Proof.EvenValue
public import Idealize.ShloMosaic.Lib.Claim

@[expose] public section

set_option maxRecDepth 16384

noncomputable section

open Idealize.ShloMosaic Idealize.SL.Sem

attribute [local instance] Cert.KernelEvenIdeal.Gen.facts Cert.ReferenceEvenIdeal.Gen.facts

namespace Cert

set_option maxHeartbeats 4000000 in
theorem even_algebraic : Cert.algebraic_KernelEvenIdeal_ReferenceEvenIdeal := by
  pair_intro
  · run_from Cert.KernelEvenIdeal.Gen.run_main m g
  · run_from Cert.ReferenceEvenIdeal.Value.run m' g'
    · refine (ReferenceEvenIdeal.Value.res_eq0 m' c).trans (Eq.trans ?_ (KernelEvenIdeal.Value.final5 m c).symm)
      obtain ⟨a0, a1, a2⟩ := hagree c
      rw [a0, a1, a2]
    · refine (ReferenceEvenIdeal.Value.res_eq1 m' c).trans (Eq.trans ?_ (KernelEvenIdeal.Value.final6 m c).symm)
      obtain ⟨a0, a1, a2⟩ := hagree c
      rw [a0, a1, a2]
    · exact (KernelEvenIdeal.Value.final7 m c).symm
    · exact (KernelEvenIdeal.Value.final8 m c).symm

end Cert

end
-- ==== Proof.OddRef.lean ====
/- The odd layers' projection reference, read at one index of each result. -/
module

public import proofs.«01_k».proof.Proof.Gen.ReferenceOddIdeal.Run
public import proofs.«01_k».proof.Proof.Rows

@[expose] public section

set_option maxRecDepth 16384

noncomputable section

open Idealize.ShloMosaic Idealize.ShloMosaic.TcCoe Idealize.SL.Sem

namespace Cert.ReferenceOddIdeal.Value
open Cert.ReferenceOddIdeal Cert.ReferenceOddIdeal.Gen Cert.Rows

variable (X : FVec Ideal S8x2048x1024 .f32) (G : FVec Ideal S4x6x1024 .f32) (W : FVec Ideal S2x1024x2560 .f32) (LG LB : FVec Ideal S2x512 .f32)

def normed (X : FVec Ideal S8x2048x1024 .f32) (g : FVec Ideal S1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

def gain : FVec Ideal S1024 .f32 := shapeCast S1024 (extractStridedSlice S1x1024 ![2, 0] (shapeCast S6x1024 (extractStridedSlice S1x6x1024 ![1, 0, 0] G slices_S4x6x1024_S1x6x1024_1_0_0) shapeCasts_S1x6x1024_S6x1024) slices_S6x1024_S1x1024_2_0) shapeCasts_S1x1024_S1024

def projected : FVec Ideal S8x2048x2560 .f32 :=
  Host.dotGeneral dot_S8x2048x1024_S1024x2560_S8x2048x2560_2_0_01_1_n_n none (normed X (gain G)) (shapeCast S1024x2560 (extractStridedSlice S1x1024x2560 ![0, 0, 0] W slices_S2x1024x2560_S1x1024x2560_0_0_0) shapeCasts_S1x1024x2560_S1024x2560)

def gelus (Z : FVec Ideal S8x2048x512 .f32) : FVec Ideal S8x2048x512 .f32 :=
  mulf Z (mulf (broadcastInDim S8x2048x512 ![] bcast_S_S8x2048x512 (constant S_ .f32 0x3F000000#32)) (addf (broadcastInDim S8x2048x512 ![] bcast_S_S8x2048x512 (constant S_ .f32 0x3F800000#32)) (Host.tanh (mulf (broadcastInDim S8x2048x512 ![] bcast_S_S8x2048x512 (constant S_ .f32 0x3F4C422A#32)) (addf Z (mulf (broadcastInDim S8x2048x512 ![] bcast_S_S8x2048x512 (constant S_ .f32 0x3D372713#32)) (mulf (mulf Z Z) Z)))))))

def means (Z : FVec Ideal S8x2048x512 .f32) : FVec Ideal S8x2048x1 .f32 :=
  Host.divf (broadcastInDim S8x2048x1 ![0, 1] bcast_S8x2048_S8x2048x1_0_1 (Host.reduceAdd Z (constant S_ .f32 0x00000000#32) reducesTo_S8x2048x512_S8x2048_d2 h_S_)) (broadcastInDim S8x2048x1 ![] bcast_S_S8x2048x1 (constant S_ .f32 0x44000000#32))

def centre (Z : FVec Ideal S8x2048x512 .f32) : FVec Ideal S8x2048x512 .f32 :=
  subf Z (broadcastInDim S8x2048x512 ![0, 1, 2] bcast_S8x2048x1_S8x2048x512_0_1_2 (means Z))

def along (g : FVec Ideal S2x512 .f32) : FVec Ideal S8x2048x512 .f32 :=
  broadcastInDim S8x2048x512 ![0, 1, 2] bcast_S1x1x512_S8x2048x512_0_1_2 (broadcastInDim S1x1x512 ![2] bcast_S512_S1x1x512_2 (shapeCast S512 (extractStridedSlice S1x512 ![0, 0] g slices_S2x512_S1x512_0_0) shapeCasts_S1x512_S512))

def layerNormed (Z : FVec Ideal S8x2048x512 .f32) : FVec Ideal S8x2048x512 .f32 :=
  addf (mulf (mulf (centre Z) (broadcastInDim S8x2048x512 ![0, 1, 2] bcast_S8x2048x1_S8x2048x512_0_1_2 (Host.rsqrt (addf (means (mulf (centre Z) (centre Z))) (broadcastInDim S8x2048x1 ![] bcast_S_S8x2048x1 (constant S_ .f32 0x3727C5AC#32)))))) (along LG)) (along LB)

def leave (Z : FVec Ideal S8x2048x512 .f32) : FVec Ideal S16384x512 .bf16 := truncf .bf16 (shapeCast S16384x512 Z shapeCasts_S8x2048x512_S16384x512) bitsLt_bf16_f32

def result0 : FVec Ideal S16384x512 .bf16 := leave (gelus (extractStridedSlice S8x2048x512 ![0, 0, 0] (projected X G W) slices_S8x2048x2560_S8x2048x512_0_0_0))
def result1 : FVec Ideal S16384x512 .bf16 := leave (layerNormed LG LB (gelus (extractStridedSlice S8x2048x512 ![0, 0, 512] (projected X G W) slices_S8x2048x2560_S8x2048x512_0_0_512)))
def result2 : FVec Ideal S16384x512 .bf16 := leave (extractStridedSlice S8x2048x512 ![0, 0, 1024] (projected X G W) slices_S8x2048x2560_S8x2048x512_0_0_1024)
def result3 : FVec Ideal S16384x512 .bf16 := leave (extractStridedSlice S8x2048x512 ![0, 0, 1536] (projected X G W) slices_S8x2048x2560_S8x2048x512_0_0_1536)
def result4 : FVec Ideal S16384x512 .bf16 := leave (extractStridedSlice S8x2048x512 ![0, 0, 2048] (projected X G W) slices_S8x2048x2560_S8x2048x512_0_0_2048)

theorem res_eq0 (m : (ℓ : Loc nD τ sig) → Buf (Elt Ideal) ℓ) (c : Dev nD) : res_out0 (F := Ideal) m c = result0 (m ((c.tc : Thread nD τ).loc main_arg0)) (m ((c.tc : Thread nD τ).loc main_arg1)) (m ((c.tc : Thread nD τ).loc main_arg2)) := rfl
theorem res_eq1 (m : (ℓ : Loc nD τ sig) → Buf (Elt Ideal) ℓ) (c : Dev nD) : res_out1 (F := Ideal) m c = result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem normed_at (g : FVec Ideal S1024 .f32) (b : Fin 8) (t : Fin 2048) (d : Fin 1024) :
    normed X g (ix3 b t d) = rms (fun k => X (ix3 b t k)) (fun k => g (ix1 k)) d := by
  pointwise [normed, rms, scale]

theorem gain_at (k : Fin 1024) : gain G (ix1 k) = G (ix3 1 2 k) := by pointwise [gain]

theorem projected_at (b : Fin 8) (t : Fin 2048) (j : Fin 2560) :
    projected X G W (ix3 b t j) = proj (fun k => X (ix3 b t k)) (fun k => G (ix3 1 2 k)) (fun k j => W (ix3 0 k j)) j := by
  pointwise [projected]
  simp only [normed_at, gain_at, proj]

theorem gelus_at (Z : FVec Ideal S8x2048x512 .f32) (b : Fin 8) (t : Fin 2048) (k : Fin 512) : gelus Z (ix3 b t k) = gelu (Z (ix3 b t k)) := by
  pointwise [gelus, gelu]

theorem means_at (Z : FVec Ideal S8x2048x512 .f32) (b : Fin 8) (t : Fin 2048) : means Z (ix3 b t 0) = mean (fun k => Z (ix3 b t k)) := by
  pointwise [means, mean]

theorem centre_at (Z : FVec Ideal S8x2048x512 .f32) (b : Fin 8) (t : Fin 2048) (k : Fin 512) : centre Z (ix3 b t k) = centred (fun k => Z (ix3 b t k)) k := by
  pointwise [centre]
  rw [means_at, centred]

theorem along_at (g : FVec Ideal S2x512 .f32) (b : Fin 8) (t : Fin 2048) (k : Fin 512) : along g (ix3 b t k) = g (ix2 0 k) := by pointwise [along]

theorem layerNormed_at (Z : FVec Ideal S8x2048x512 .f32) (b : Fin 8) (t : Fin 2048) (k : Fin 512) :
    layerNormed LG LB Z (ix3 b t k) = layerNorm (fun k => Z (ix3 b t k)) (fun k => LG (ix2 0 k)) (fun k => LB (ix2 0 k)) k := by
  pointwise [layerNormed]
  simp only [along_at, centre_at, means_at, layerNorm]
  pointwise
  simp only [centre_at]

theorem leave_at (Z : FVec Ideal S8x2048x512 .f32) (r : Fin 16384) (k : Fin 512) : leave Z (ix2 r k) = Z (ix3 ⟨r / 2048, by omega⟩ ⟨r % 2048, by omega⟩ k) := by
  pointwise [leave]

theorem result0_at (r : Fin 16384) (k : Fin 512) : result0 X G W (ix2 r k) = gelu (proj (fun k => X (ix3 ⟨r / 2048, by omega⟩ ⟨r % 2048, by omega⟩ k)) (fun k => G (ix3 1 2 k)) (fun k j => W (ix3 0 k j)) ⟨k, by omega⟩) := by
  rw [result0, leave_at, gelus_at]
  pointwise
  simp only [projected_at]

theorem result1_at (r : Fin 16384) (k : Fin 512) : result1 X G W LG LB (ix2 r k) = layerNorm (fun k => gelu (proj (fun k => X (ix3 ⟨r / 2048, by omega⟩ ⟨r % 2048, by omega⟩ k)) (fun k => G (ix3 1 2 k)) (fun k j => W (ix3 0 k j)) ⟨512 + k, by omega⟩)) (fun k => LG (ix2 0 k)) (fun k => LB (ix2 0 k)) k := by
  rw [result1, leave_at, layerNormed_at]
  simp only [gelus_at]
  pointwise
  simp only [projected_at]

theorem result2_at (r : Fin 16384) (k : Fin 512) : result2 X G W (ix2 r k) = proj (fun k => X (ix3 ⟨r / 2048, by omega⟩ ⟨r % 2048, by omega⟩ k)) (fun k => G (ix3 1 2 k)) (fun k j => W (ix3 0 k j)) ⟨1024 + k, by omega⟩ := by
  rw [result2, leave_at]
  pointwise
  simp only [projected_at]

theorem result3_at (r : Fin 16384) (k : Fin 512) : result3 X G W (ix2 r k) = proj (fun k => X (ix3 ⟨r / 2048, by omega⟩ ⟨r % 2048, by omega⟩ k)) (fun k => G (ix3 1 2 k)) (fun k j => W (ix3 0 k j)) ⟨1536 + k, by omega⟩ := by
  rw [result3, leave_at]
  pointwise
  simp only [projected_at]

theorem result4_at (r : Fin 16384) (k : Fin 512) : result4 X G W (ix2 r k) = proj (fun k => X (ix3 ⟨r / 2048, by omega⟩ ⟨r % 2048, by omega⟩ k)) (fun k => G (ix3 1 2 k)) (fun k j => W (ix3 0 k j)) ⟨2048 + k, by omega⟩ := by
  rw [result4, leave_at]
  pointwise
  simp only [projected_at]

end Cert.ReferenceOddIdeal.Value

end
-- ==== Proof.OddValue.lean ====
/- The odd layers' projection kernel: its five result arrays are the reference's, row by row. -/
module

public import proofs.«01_k».proof.Proof.Gen.KernelOddIdeal.Frame
public import proofs.«01_k».proof.Proof.OddRef

@[expose] public section

set_option maxRecDepth 16384

noncomputable section

open Idealize.ShloMosaic Idealize.ShloMosaic.TcCoe Idealize.SL.Sem
open Idealize.ShloMosaic.Pipeline (Dat)

namespace Cert.KernelOddIdeal.Value
open Cert.KernelOddIdeal Cert.KernelOddIdeal.Gen Cert.Rows

variable (x : Vec Ideal S1024x1024 .f32) (g : Vec Ideal S1x6x1024 .f32) (w : Vec Ideal S1x1024x2560 .f32) (l : Vec Ideal S1x2x512 .f32)

/-- Entry `j` of the projection of the block's row `i`. -/
def projBlock (i : Fin 1024) (j : Fin 2560) : EReal := proj (fun k => x (ix2 i k)) (fun k => g (ix3 0 2 k)) (fun k j => w (ix3 0 k j)) j

theorem normed_at (i k : Fin 1024) : k0_pay4 (View.ld x r0_0) (View.ld g r0_1) (ix2 i k) = rms (fun k => x (ix2 i k)) (fun k => g (ix3 0 2 k)) k := by
  pointwise [k0_pay4, rms, scale]

theorem normed_at' (i k : Fin 1024) : k0_pay4 x (View.ld g r0_1) (ix2 i k) = rms (fun k => x (ix2 i k)) (fun k => g (ix3 0 2 k)) k := by
  pointwise [k0_pay4, rms, scale]

theorem gelu_eq (z : EReal) : Ideal.ofBits FTy.f32 0x3F000000#32 * z * (1 + Ideal.tanh (Ideal.ofBits FTy.f32 0x3F4C422A#32 * (z + Ideal.ofBits FTy.f32 0x3D372713#32 * (z * z * z)))) = gelu z := by
  rw [gelu, mul_comm _ z, mul_assoc]

theorem out4_at (i : Fin 1024) (k : Fin 512) : out0_4 x g w l (ix2 i k) = gelu (projBlock x g w i ⟨k, by omega⟩) := by
  frame_out
  pointwise [k0_pay5]
  rw [gelu_eq]
  simp only [normed_at', projBlock, proj]

theorem out5_at (i : Fin 1024) (k : Fin 512) : out0_5 x g w l (ix2 i k) = layerNorm (fun k => gelu (projBlock x g w i ⟨512 + k, by omega⟩)) (fun k => l (ix3 0 0 k)) (fun k => l (ix3 0 1 k)) k := by
  frame_out
  pointwise [k0_pay6, k0_pay7]
  simp only [gelu_eq, normed_at]
  rfl

theorem out6_at (i : Fin 1024) (k : Fin 512) : out0_6 x g w l (ix2 i k) = projBlock x g w i ⟨1024 + k, by omega⟩ := by
  frame_out
  pointwise [k0_pay1, k0_pay7]
  simp only [normed_at, projBlock, proj]

theorem out7_at (i : Fin 1024) (k : Fin 512) : out0_7 x g w l (ix2 i k) = projBlock x g w i ⟨1536 + k, by omega⟩ := by
  frame_out
  pointwise [k0_pay2, k0_pay7]
  simp only [normed_at, projBlock, proj]

theorem out8_at (i : Fin 1024) (k : Fin 512) : out0_8 x g w l (ix2 i k) = projBlock x g w i ⟨2048 + k, by omega⟩ := by
  frame_out
  pointwise [k0_pay3, k0_pay7]
  simp only [normed_at, projBlock, proj]

variable (m : (ℓ : Loc nD τ sig) → Buf (Elt Ideal) ℓ)

theorem idx : ∀ t : Fin cfg0.N, win0_0.index t = ![(t : ℕ), 0] ∧ win0_1.index t = ![1, 0, 0] ∧ win0_2.index t = ![0, 0, 0] ∧ win0_3.index t = ![0, 0, 0] ∧
    win0_4.index t = ![(t : ℕ), 0] ∧ win0_5.index t = ![(t : ℕ), 0] ∧ win0_6.index t = ![(t : ℕ), 0] ∧ win0_7.index t = ![(t : ℕ), 0] ∧ win0_8.index t = ![(t : ℕ), 0] :=
  (by decide +kernel : ∀ t : Fin grid0.N, _)

/-- The rows the kernel reads: the argument's, numbered through. -/
theorem x_at (c : Dev nD) (r : Fin 16384) (k : Fin 1024) :
    V m c main_v3 (ix2 r k) = m ((c.tc : Thread nD τ).loc main_arg0) (ix3 ⟨r / 2048, by omega⟩ ⟨r % 2048, by omega⟩ k) := by
  entry_read
  pointwise

theorem lg_at (c : Dev nD) (a : Fin 2) (k : Fin 512) : V m c main_v2 (ix3 a 0 k) = m ((c.tc : Thread nD τ).loc main_arg3) (ix2 a k) := by
  entry_read
  pointwise

theorem lb_at (c : Dev nD) (a : Fin 2) (k : Fin 512) : V m c main_v2 (ix3 a 1 k) = m ((c.tc : Thread nD τ).loc main_arg4) (ix2 a k) := by
  entry_read
  pointwise

theorem projBlock_at (c : Dev nD) (t : Fin cfg0.N) (i : Fin 1024) (r : Fin 16384) (hr : (r : ℕ) = 1024 * t + i) (j : Fin 2560) :
    projBlock (iblk m c 0 t) (iblk m c 1 t) (iblk m c 2 t) i j =
      proj (fun k => m ((c.tc : Thread nD τ).loc main_arg0) (ix3 ⟨r / 2048, by omega⟩ ⟨r % 2048, by omega⟩ k)) (fun k => m ((c.tc : Thread nD τ).loc main_arg1) (ix3 1 2 k))
        (fun k j => m ((c.tc : Thread nD τ).loc main_arg2) (ix3 0 k j)) j := by
  obtain ⟨i0, i1, i2, i3, i4, i5, i6, i7, i8⟩ := idx t
  have e0 (k : Fin 1024) : iblk m c 0 t (ix2 i k) = m ((c.tc : Thread nD τ).loc main_arg0) (ix3 ⟨r / 2048, by omega⟩ ⟨r % 2048, by omega⟩ k) := by
    refine Eq.trans ?_ (x_at m c r k)
    obtain ⟨r, h⟩ := r
    obtain rfl : r = 1024 * t + i := hr
    blk_point [iblk, i0]
  have e1 (a : Fin 6) (k : Fin 1024) : iblk m c 1 t (ix3 0 a k) = m ((c.tc : Thread nD τ).loc main_arg1) (ix3 1 a k) := by blk_point [iblk, V, i1]
  have e2 (k : Fin 1024) (j : Fin 2560) : iblk m c 2 t (ix3 0 k j) = m ((c.tc : Thread nD τ).loc main_arg2) (ix3 0 k j) := by blk_point [iblk, V, i2]
  simp only [projBlock, e0, e1, e2]

/-- The array window 4 leaves is the reference's. -/
theorem final4 (c : Dev nD) : (dats m 0 c).arrAt 4 (cfgs 0).N = ReferenceOddIdeal.Value.result0 (m ((c.tc : Thread nD τ).loc main_arg0)) (m ((c.tc : Thread nD τ).loc main_arg1)) (m ((c.tc : Thread nD τ).loc main_arg2)) := by
  refine (dats m 0 c).arrAt_eq_of_covers 4 _ (by decide +kernel) fun t _ (y : S1024x512.Idx) => ?_
  blk_simp
  rw [after0_4]
  obtain ⟨i0, i1, i2, i3, i4, i5, i6, i7, i8⟩ := idx t
  have ht : (t : ℕ) < 16 := t.isLt
  have hy : (y 0 : ℕ) < 1024 := (y 0).isLt
  have eo : (win0_4.blk t).view.emb y = ix2 ⟨1024 * t + (y 0 : ℕ), by omega⟩ (y 1) := by blk_ext [i4]
  rw [show (win0_4.blk t).view.emb y = _ from eo]
  refine Eq.trans ?_ (ReferenceOddIdeal.Value.result0_at _ _ _ _ _).symm
  have hp (j : Fin 2560) := projBlock_at m c t (y 0) ⟨1024 * t + (y 0 : ℕ), by omega⟩ rfl j
  refine Eq.trans (congrArg _ (ix2_eta y).symm) ((out4_at _ _ _ _ (y 0) (y 1)).trans ?_)
  simp only [hp]

/-- The array window 5 leaves is the reference's. -/
theorem final5 (c : Dev nD) : (dats m 0 c).arrAt 5 (cfgs 0).N = ReferenceOddIdeal.Value.result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t _ (y : S1024x512.Idx) => ?_
  blk_simp
  rw [after0_5]
  obtain ⟨i0, i1, i2, i3, i4, i5, i6, i7, i8⟩ := idx t
  have ht : (t : ℕ) < 16 := t.isLt
  have hy : (y 0 : ℕ) < 1024 := (y 0).isLt
  have eo : (win0_5.blk t).view.emb y = ix2 ⟨1024 * t + (y 0 : ℕ), by omega⟩ (y 1) := by blk_ext [i5]
  rw [show (win0_5.blk t).view.emb y = _ from eo]
  refine Eq.trans ?_ (ReferenceOddIdeal.Value.result1_at _ _ _ _ _ _ _).symm
  have hp (j : Fin 2560) := projBlock_at m c t (y 0) ⟨1024 * t + (y 0 : ℕ), by omega⟩ rfl j
  have hg (k : Fin 512) : iblk m c 3 t (ix3 0 0 k) = m ((c.tc : Thread nD τ).loc main_arg3) (ix2 0 k) := by
    refine Eq.trans ?_ (lg_at m c 0 k)
    blk_point [iblk, i3]
  have hb (k : Fin 512) : iblk m c 3 t (ix3 0 1 k) = m ((c.tc : Thread nD τ).loc main_arg4) (ix2 0 k) := by
    refine Eq.trans ?_ (lb_at m c 0 k)
    blk_point [iblk, i3]
  refine Eq.trans (congrArg _ (ix2_eta y).symm) ((out5_at _ _ _ _ (y 0) (y 1)).trans ?_)
  simp only [hp, hg, hb]

/-- The array window 6 leaves is the reference's. -/
theorem final6 (c : Dev nD) : (dats m 0 c).arrAt 6 (cfgs 0).N = ReferenceOddIdeal.Value.result2 (m ((c.tc : Thread nD τ).loc main_arg0)) (m ((c.tc : Thread nD τ).loc main_arg1)) (m ((c.tc : Thread nD τ).loc main_arg2)) := by
  refine (dats m 0 c).arrAt_eq_of_covers 6 _ (by decide +kernel) fun t _ (y : S1024x512.Idx) => ?_
  blk_simp
  rw [after0_6]
  obtain ⟨i0, i1, i2, i3, i4, i5, i6, i7, i8⟩ := idx t
  have ht : (t : ℕ) < 16 := t.isLt
  have hy : (y 0 : ℕ) < 1024 := (y 0).isLt
  have eo : (win0_6.blk t).view.emb y = ix2 ⟨1024 * t + (y 0 : ℕ), by omega⟩ (y 1) := by blk_ext [i6]
  rw [show (win0_6.blk t).view.emb y = _ from eo]
  refine Eq.trans ?_ (ReferenceOddIdeal.Value.result2_at _ _ _ _ _).symm
  have hp (j : Fin 2560) := projBlock_at m c t (y 0) ⟨1024 * t + (y 0 : ℕ), by omega⟩ rfl j
  refine Eq.trans (congrArg _ (ix2_eta y).symm) ((out6_at _ _ _ _ (y 0) (y 1)).trans ?_)
  simp only [hp]

/-- The array window 7 leaves is the reference's. -/
theorem final7 (c : Dev nD) : (dats m 0 c).arrAt 7 (cfgs 0).N = ReferenceOddIdeal.Value.result3 (m ((c.tc : Thread nD τ).loc main_arg0)) (m ((c.tc : Thread nD τ).loc main_arg1)) (m ((c.tc : Thread nD τ).loc main_arg2)) := by
  refine (dats m 0 c).arrAt_eq_of_covers 7 _ (by decide +kernel) fun t _ (y : S1024x512.Idx) => ?_
  blk_simp
  rw [after0_7]
  obtain ⟨i0, i1, i2, i3, i4, i5, i6, i7, i8⟩ := idx t
  have ht : (t : ℕ) < 16 := t.isLt
  have hy : (y 0 : ℕ) < 1024 := (y 0).isLt
  have eo : (win0_7.blk t).view.emb y = ix2 ⟨1024 * t + (y 0 : ℕ), by omega⟩ (y 1) := by blk_ext [i7]
  rw [show (win0_7.blk t).view.emb y = _ from eo]
  refine Eq.trans ?_ (ReferenceOddIdeal.Value.result3_at _ _ _ _ _).symm
  have hp (j : Fin 2560) := projBlock_at m c t (y 0) ⟨1024 * t + (y 0 : ℕ), by omega⟩ rfl j
  refine Eq.trans (congrArg _ (ix2_eta y).symm) ((out7_at _ _ _ _ (y 0) (y 1)).trans ?_)
  simp only [hp]

/-- The array window 8 leaves is the reference's. -/
theorem final8 (c : Dev nD) : (dats m 0 c).arrAt 8 (cfgs 0).N = ReferenceOddIdeal.Value.result4 (m ((c.tc : Thread nD τ).loc main_arg0)) (m ((c.tc : Thread nD τ).loc main_arg1)) (m ((c.tc : Thread nD τ).loc main_arg2)) := by
  refine (dats m 0 c).arrAt_eq_of_covers 8 _ (by decide +kernel) fun t _ (y : S1024x512.Idx) => ?_
  blk_simp
  rw [after0_8]
  obtain ⟨i0, i1, i2, i3, i4, i5, i6, i7, i8⟩ := idx t
  have ht : (t : ℕ) < 16 := t.isLt
  have hy : (y 0 : ℕ) < 1024 := (y 0).isLt
  have eo : (win0_8.blk t).view.emb y = ix2 ⟨1024 * t + (y 0 : ℕ), by omega⟩ (y 1) := by blk_ext [i8]
  rw [show (win0_8.blk t).view.emb y = _ from eo]
  refine Eq.trans ?_ (ReferenceOddIdeal.Value.result4_at _ _ _ _ _).symm
  have hp (j : Fin 2560) := projBlock_at m c t (y 0) ⟨1024 * t + (y 0 : ℕ), by omega⟩ rfl j
  refine Eq.trans (congrArg _ (ix2_eta y).symm) ((out8_at _ _ _ _ (y 0) (y 1)).trans ?_)
  simp only [hp]

end Cert.KernelOddIdeal.Value

end
-- ==== Proof.Odd.lean ====
/- The odd layers' projection kernel's claim of equal results over the ideal reals. -/
module

public import proofs.«01_k».proof.Defs
public import proofs.«01_k».proof.Proof.OddValue
public import Idealize.ShloMosaic.Lib.Claim

@[expose] public section

set_option maxRecDepth 16384

noncomputable section

open Idealize.ShloMosaic Idealize.SL.Sem

attribute [local instance] Cert.KernelOddIdeal.Gen.facts Cert.ReferenceOddIdeal.Gen.facts

namespace Cert

theorem odd_algebraic : Cert.algebraic_KernelOddIdeal_ReferenceOddIdeal := by
  pair_intro
  · run_from Cert.KernelOddIdeal.Gen.run_main m g
  · run_from Cert.ReferenceOddIdeal.Value.run m' g'
    · refine (ReferenceOddIdeal.Value.res_eq0 m' c).trans (Eq.trans ?_ (KernelOddIdeal.Value.final4 m c).symm)
      obtain ⟨a0, a1, a2, a3, a4⟩ := hagree c
      rw [a0, a1, a2]
    · refine (ReferenceOddIdeal.Value.res_eq1 m' c).trans (Eq.trans ?_ (KernelOddIdeal.Value.final5 m c).symm)
      obtain ⟨a0, a1, a2, a3, a4⟩ := hagree c
      rw [a0, a1, a2, a3, a4]
    · exact (KernelOddIdeal.Value.final6 m c).symm
    · exact (KernelOddIdeal.Value.final7 m c).symm
    · exact (KernelOddIdeal.Value.final8 m c).symm

end Cert

end
-- ==== Proof.Ffn21.lean ====
/- The feed-forward call of layer 2, half 1: the kernel's and the reference's results, and the claim that they are equal over the ideal reals. -/
module

public import proofs.«01_k».proof.Defs
public import proofs.«01_k».proof.Proof.Gen.KernelFfn21Ideal.Frame
public import proofs.«01_k».proof.Proof.Gen.ReferenceFfn21Ideal.Run
public import proofs.«01_k».proof.Proof.FfnValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFfn21Ideal.Value
open Cert.ReferenceFfn21Ideal Cert.ReferenceFfn21Ideal.Gen

variable (m : (ℓ : Loc nD τ sig) → Buf (Elt Ideal) ℓ) (c : Dev nD)

def gains : FVec Ideal S6x1024 .f32 := shapeCast S6x1024 (extractStridedSlice S1x6x1024 ![2, 0, 0] (m ((c.tc : Thread nD τ).loc main_arg1)) slices_S4x6x1024_S1x6x1024_2_0_0) shapeCasts_S1x6x1024_S6x1024
def gainIn : FVec Ideal S1024 .f32 := shapeCast S1024 (extractStridedSlice S1x1024 ![4, 0] (gains m c) slices_S6x1024_S1x1024_4_0) shapeCasts_S1x1024_S1024
def gainOut : FVec Ideal S1024 .f32 := shapeCast S1024 (extractStridedSlice S1x1024 ![5, 0] (gains m c) slices_S6x1024_S1x1024_5_0) shapeCasts_S1x1024_S1024
def weightIn (W : FVec Ideal S4x2x1024x2816 .f32) : FVec Ideal S1024x2816 .f32 := shapeCast S1024x2816 (extractStridedSlice S1x1x1024x2816 ![2, 1, 0, 0] W slices_S4x2x1024x2816_S1x1x1024x2816_2_1_0_0) shapeCasts_S1x1x1024x2816_S1024x2816
def weightOut (W : FVec Ideal S4x2x2816x1024 .f32) : FVec Ideal S2816x1024 .f32 := shapeCast S2816x1024 (extractStridedSlice S1x1x2816x1024 ![2, 1, 0, 0] W slices_S4x2x2816x1024_S1x1x2816x1024_2_1_0_0) shapeCasts_S1x1x2816x1024_S2816x1024

theorem res_sub : res_out0 (F := Ideal) m c = ReferenceFfnIdeal.Value.sublayer (m ((c.tc : Thread nD τ).loc main_arg0)) (gainIn m c) (gainOut m c)
    (weightIn (m ((c.tc : Thread nD τ).loc main_arg2))) (weightIn (m ((c.tc : Thread nD τ).loc main_arg3))) (weightOut (m ((c.tc : Thread nD τ).loc main_arg4))) := rfl

/-- The reference's result, row by row. -/
theorem res_eq : res_out0 (F := Ideal) m c = ReferenceFfnIdeal.Value.ffnOut 2 1 4 5 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (res_sub m c).trans (ReferenceFfnIdeal.Value.sublayer_eq _ _ _ _ _ _ ?_ ?_ ?_ ?_ ?_)
  · intro k; pointwise [gainIn, gains]
  · intro k; pointwise [gainOut, gains]
  · intro k j; pointwise [weightIn]
  · intro k j; pointwise [weightIn]
  · intro j k; pointwise [weightOut]

end Cert.ReferenceFfn21Ideal.Value

namespace Cert.KernelFfn21Ideal.Value
open Cert.KernelFfn21Ideal Cert.KernelFfn21Ideal.Gen

variable (m : (ℓ : Loc nD τ sig) → Buf (Elt Ideal) ℓ)

theorem outs_at (c : Dev nD) (t : Fin cfg0.N) (y) :
    outsAt0 m c t y = KernelFfnIdeal.Value.outBlock 4 5 (iblk m c 0 t) (iblk m c 1 t) (iblk m c 2 t) (iblk m c 3 t) (iblk m c 4 t) y := by
  unfold outsAt0
  generalize iblk m c 0 t = x
  generalize iblk m c 1 t = g
  generalize iblk m c 2 t = wg
  generalize iblk m c 3 t = wu
  generalize iblk m c 4 t = wd
  refine Eq.trans ?_ (KernelFfnIdeal.Value.block_at x g wg wu wd y)
  unfold KernelFfnIdeal.Value.block
  frame_open
  frame_out
  rfl

theorem idx : ∀ t : Fin cfg0.N, win0_0.index t = ![(t : ℕ), 0] ∧ win0_1.index t = ![2, 0, 0] ∧ win0_2.index t = ![2, 1, 0, 0] ∧ win0_3.index t = ![2, 1, 0, 0] ∧
    win0_4.index t = ![2, 1, 0, 0] ∧ win0_5.index t = ![(t : ℕ), 0] :=
  (by decide +kernel : ∀ t : Fin grid0.N, _)

/-- The rows the kernel reads: the argument's, numbered through. -/
theorem x_at (c : Dev nD) (r : Fin 16384) (k : Fin 1024) :
    V m c main_v0 (ix2 r k) = m ((c.tc : Thread nD τ).loc main_arg0) (ix3 ⟨r / 2048, by omega⟩ ⟨r % 2048, by omega⟩ k) := by
  entry_read
  pointwise

/-- The array the kernel writes is the reference's result of the same arguments. -/
theorem final (c : Dev nD) : (dats m 0 c).arrAt 5 (cfgs 0).N =
    ReferenceFfnIdeal.Value.ffnOut 2 1 4 5 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t _ (y : S1024x1024.Idx) => ?_
  blk_simp
  rw [after0_5, outs_at]
  obtain ⟨i0, i1, i2, i3, i4, i5⟩ := idx t
  have ht : (t : ℕ) < 16 := t.isLt
  have hy : (y 0 : ℕ) < 1024 := (y 0).isLt
  have e5 : (win0_5.blk t).view.emb y = ix2 ⟨1024 * t + (y 0 : ℕ), by omega⟩ (y 1) := by blk_ext [i5]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (a : Fin 6) (k : Fin 1024) : iblk m c 1 t (ix3 0 a k) = m ((c.tc : Thread nD τ).loc main_arg1) (ix3 2 a k) := by blk_point [iblk, V, i1]
  have e2 (k : Fin 1024) (j : Fin 2816) : iblk m c 2 t (ix4 0 0 k j) = m ((c.tc : Thread nD τ).loc main_arg2) (ix4 2 1 k j) := by blk_point [iblk, V, i2]
  have e3 (k : Fin 1024) (j : Fin 2816) : iblk m c 3 t (ix4 0 0 k j) = m ((c.tc : Thread nD τ).loc main_arg3) (ix4 2 1 k j) := by blk_point [iblk, V, i3]
  have e4 (j : Fin 2816) (k : Fin 1024) : iblk m c 4 t (ix4 0 0 j k) = m ((c.tc : Thread nD τ).loc main_arg4) (ix4 2 1 j k) := by blk_point [iblk, V, i4]
  rw [show (win0_5.blk t).view.emb y = _ from e5]
  erw [ReferenceFfnIdeal.Value.ffnOut_at]
  simp only [KernelFfnIdeal.Value.outBlock, e0, e1, e2, e3, e4]

end Cert.KernelFfn21Ideal.Value

attribute [local instance] Cert.KernelFfn21Ideal.Gen.facts Cert.ReferenceFfn21Ideal.Gen.facts

namespace Cert

theorem ffn21_algebraic : Cert.algebraic_KernelFfn21Ideal_ReferenceFfn21Ideal := by
  pair_intro
  · run_from Cert.KernelFfn21Ideal.Gen.run_main m g
  · run_from Cert.ReferenceFfn21Ideal.Value.run m' g'
    obtain ⟨a0, a1, a2, a3, a4⟩ := hagree c
    refine (ReferenceFfn21Ideal.Value.res_eq m' c).trans (Eq.trans ?_ (KernelFfn21Ideal.Value.final m c).symm)
    rw [a0, a1, a2, a3, a4]

end Cert

end
-- ==== Proof.Ffn30.lean ====
/- The feed-forward call of layer 3, half 0: the kernel's and the reference's results, and the claim that they are equal over the ideal reals. -/
module

public import proofs.«01_k».proof.Defs
public import proofs.«01_k».proof.Proof.Gen.KernelFfn30Ideal.Frame
public import proofs.«01_k».proof.Proof.Gen.ReferenceFfn30Ideal.Run
public import proofs.«01_k».proof.Proof.FfnValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFfn30Ideal.Value
open Cert.ReferenceFfn30Ideal Cert.ReferenceFfn30Ideal.Gen

variable (m : (ℓ : Loc nD τ sig) → Buf (Elt Ideal) ℓ) (c : Dev nD)

def gains : FVec Ideal S6x1024 .f32 := shapeCast S6x1024 (extractStridedSlice S1x6x1024 ![3, 0, 0] (m ((c.tc : Thread nD τ).loc main_arg1)) slices_S4x6x1024_S1x6x1024_3_0_0) shapeCasts_S1x6x1024_S6x1024
def gainIn : FVec Ideal S1024 .f32 := shapeCast S1024 (extractStridedSlice S1x1024 ![0, 0] (gains m c) slices_S6x1024_S1x1024_0_0) shapeCasts_S1x1024_S1024
def gainOut : FVec Ideal S1024 .f32 := shapeCast S1024 (extractStridedSlice S1x1024 ![1, 0] (gains m c) slices_S6x1024_S1x1024_1_0) shapeCasts_S1x1024_S1024
def weightIn (W : FVec Ideal S4x2x1024x2816 .f32) : FVec Ideal S1024x2816 .f32 := shapeCast S1024x2816 (extractStridedSlice S1x1x1024x2816 ![3, 0, 0, 0] W slices_S4x2x1024x2816_S1x1x1024x2816_3_0_0_0) shapeCasts_S1x1x1024x2816_S1024x2816
def weightOut (W : FVec Ideal S4x2x2816x1024 .f32) : FVec Ideal S2816x1024 .f32 := shapeCast S2816x1024 (extractStridedSlice S1x1x2816x1024 ![3, 0, 0, 0] W slices_S4x2x2816x1024_S1x1x2816x1024_3_0_0_0) shapeCasts_S1x1x2816x1024_S2816x1024

theorem res_sub : res_out0 (F := Ideal) m c = ReferenceFfnIdeal.Value.sublayer (m ((c.tc : Thread nD τ).loc main_arg0)) (gainIn m c) (gainOut m c)
    (weightIn (m ((c.tc : Thread nD τ).loc main_arg2))) (weightIn (m ((c.tc : Thread nD τ).loc main_arg3))) (weightOut (m ((c.tc : Thread nD τ).loc main_arg4))) := rfl

/-- The reference's result, row by row. -/
theorem res_eq : res_out0 (F := Ideal) m c = ReferenceFfnIdeal.Value.ffnOut 3 0 0 1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (res_sub m c).trans (ReferenceFfnIdeal.Value.sublayer_eq _ _ _ _ _ _ ?_ ?_ ?_ ?_ ?_)
  · intro k; pointwise [gainIn, gains]
  · intro k; pointwise [gainOut, gains]
  · intro k j; pointwise [weightIn]
  · intro k j; pointwise [weightIn]
  · intro j k; pointwise [weightOut]

end Cert.ReferenceFfn30Ideal.Value

namespace Cert.KernelFfn30Ideal.Value
open Cert.KernelFfn30Ideal Cert.KernelFfn30Ideal.Gen Cert.Rows

variable (m : (ℓ : Loc nD τ sig) → Buf (Elt Ideal) ℓ)

open KernelFfnIdeal.Value (actBlock outBlock emb_col)

/-- What the body leaves in the output block, whatever its buffers hold. -/
theorem out_at (c : Dev nD) (i : grid0.Coords) (arg1 : Memref sig .tc .vmem S1024x1024 .f32) (harg1 : arg1.IsWhole) (arg2 : Memref sig .tc .vmem S1x6x1024 .f32) (harg2 : arg2.IsWhole) (arg3 : Memref sig .tc .vmem S1x1x1024x2816 .f32) (harg3 : arg3.IsWhole) (arg4 : Memref sig .tc .vmem S1x1x1024x2816 .f32) (harg4 : arg4.IsWhole) (arg5 : Memref sig .tc .vmem S1x1x2816x1024 .f32) (harg5 : arg5.IsWhole) (arg6 : Memref sig .tc .vmem S1024x1024 .f32) (harg6 : arg6.IsWhole) (arg7 : Memref sig .tc .vmem S2x512x2816 .bf16) (harg7 : arg7.IsWhole)
    (x : Vec Ideal S1024x1024 .f32) (g : Vec Ideal S1x6x1024 .f32) (wg wu : Vec Ideal S1x1x1024x2816 .f32) (wd : Vec Ideal S1x1x2816x1024 .f32) (y) :
    out0_A_5 (F := Ideal) c i arg1 harg1 arg2 harg2 arg3 harg3 arg4 harg4 arg5 harg5 arg6 harg6 arg7 harg7 x g wg wu wd y = outBlock 0 1 x g wg wu wd y := by
  frame_open
  frame_out
  canon_tiles x' h
  · rw [readCov_of_pieces (actBlock 0 x g wg wu)]
    · idx_vars y
      pointwise [outBlock, actBlock, ffn, k0_pay1, k0_pay51, k0_pay52, k0_pay53, k0_pay54, h0, h1]
      rw [show y0 = ⟨512 + (x' 0 : ℕ), by rw [← h0]; exact y0.isLt⟩ from Fin.ext h0, show y1 = x' 1 from Fin.ext h1]
      rfl
    · simp only [View.PiecesOf]
      and_intros
      all_goals try trivial
      all_goals intro (z : S1x512x256.Idx)
      all_goals pointwise [actBlock, act, rms, scale, silu, sigmoid, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay29, k0_pay34, k0_pay35, k0_pay36, k0_pay37, k0_pay38, k0_pay39, k0_pay40, k0_pay41, k0_pay42, k0_pay43, k0_pay44, k0_pay45, k0_pay46, k0_pay47, k0_pay48, k0_pay49, k0_pay50]
      all_goals blk_simp
      all_goals simp only [emb_col, zero_add] <;> rfl
    · intro (z : S1x512x2816.Idx)
      have hz : (z 2 : ℕ) < 2816 := (z 2).isLt
      have hz1 : (z 1 : ℕ) < 512 := (z 1).isLt
      have hz0 : (z 0 : ℕ) < 1 := (z 0).isLt
      simp [Held, mem_box]
      omega
  · rw [readCov_of_pieces (actBlock 0 x g wg wu)]
    · idx_vars y
      pointwise [outBlock, actBlock, ffn, k0_pay1, k0_pay33, k0_pay26, k0_pay27, k0_pay28, k0_pay30, k0_pay31, k0_pay32, k0_pay51, k0_pay52, k0_pay53, k0_pay54, h0, h1]
      rw [show y0 = ⟨(x' 0 : ℕ), by rw [← h0]; exact y0.isLt⟩ from Fin.ext h0, show y1 = x' 1 from Fin.ext h1]
      rfl
    · simp only [View.PiecesOf]
      and_intros
      all_goals try trivial
      all_goals intro (z : S1x512x256.Idx)
      all_goals pointwise [actBlock, act, rms, scale, silu, sigmoid, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]
      all_goals blk_simp
      all_goals simp only [emb_col, zero_add] <;> rfl
    · intro (z : S1x512x2816.Idx)
      have hz : (z 2 : ℕ) < 2816 := (z 2).isLt
      have hz1 : (z 1 : ℕ) < 512 := (z 1).isLt
      have hz0 : (z 0 : ℕ) < 1 := (z 0).isLt
      simp [Held, mem_box]
      omega

/-- The first point. -/
def p0 : Fin cfg0.N := ⟨0, by decide +kernel⟩

/-- What the body leaves in the output block at the first point, the blocks it reads given. -/
def block (x : Vec Ideal S1024x1024 .f32) (g : Vec Ideal S1x6x1024 .f32) (wg wu : Vec Ideal S1x1x1024x2816 .f32) (wd : Vec Ideal S1x1x2816x1024 .f32) :
    Vec Ideal S1024x1024 .f32 :=
  out0_A_5 0 (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0)
    scM0_0 (Memref.isWhole_whole _) x g wg wu wd

theorem block_at (x : Vec Ideal S1024x1024 .f32) (g : Vec Ideal S1x6x1024 .f32) (wg wu : Vec Ideal S1x1x1024x2816 .f32) (wd : Vec Ideal S1x1x2816x1024 .f32) (y) :
    block x g wg wu wd y = outBlock 0 1 x g wg wu wd y := out_at ..

theorem outs_at (c : Dev nD) (t : Fin cfg0.N) (y) :
    outsAt0 m c t y = outBlock 0 1 (iblk m c 0 t) (iblk m c 1 t) (iblk m c 2 t) (iblk m c 3 t) (iblk m c 4 t) y := out_at ..

theorem idx : ∀ t : Fin cfg0.N, win0_0.index t = ![(t : ℕ), 0] ∧ win0_1.index t = ![3, 0, 0] ∧ win0_2.index t = ![3, 0, 0, 0] ∧ win0_3.index t = ![3, 0, 0, 0] ∧
    win0_4.index t = ![3, 0, 0, 0] ∧ win0_5.index t = ![(t : ℕ), 0] :=
  (by decide +kernel : ∀ t : Fin grid0.N, _)

/-- The rows the kernel reads: the argument's, numbered through. -/
theorem x_at (c : Dev nD) (r : Fin 16384) (k : Fin 1024) :
    V m c main_v0 (ix2 r k) = m ((c.tc : Thread nD τ).loc main_arg0) (ix3 ⟨r / 2048, by omega⟩ ⟨r % 2048, by omega⟩ k) := by
  entry_read
  pointwise

/-- The array the kernel writes is the reference's result of the same arguments. -/
theorem final (c : Dev nD) : (dats m 0 c).arrAt 5 (cfgs 0).N =
    ReferenceFfnIdeal.Value.ffnOut 3 0 0 1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t _ (y : S1024x1024.Idx) => ?_
  blk_simp
  rw [after0_5, outs_at]
  obtain ⟨i0, i1, i2, i3, i4, i5⟩ := idx t
  have ht : (t : ℕ) < 16 := t.isLt
  have hy : (y 0 : ℕ) < 1024 := (y 0).isLt
  have e5 : (win0_5.blk t).view.emb y = ix2 ⟨1024 * t + (y 0 : ℕ), by omega⟩ (y 1) := by blk_ext [i5]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (a : Fin 6) (k : Fin 1024) : iblk m c 1 t (ix3 0 a k) = m ((c.tc : Thread nD τ).loc main_arg1) (ix3 3 a k) := by blk_point [iblk, V, i1]
  have e2 (k : Fin 1024) (j : Fin 2816) : iblk m c 2 t (ix4 0 0 k j) = m ((c.tc : Thread nD τ).loc main_arg2) (ix4 3 0 k j) := by blk_point [iblk, V, i2]
  have e3 (k : Fin 1024) (j : Fin 2816) : iblk m c 3 t (ix4 0 0 k j) = m ((c.tc : Thread nD τ).loc main_arg3) (ix4 3 0 k j) := by blk_point [iblk, V, i3]
  have e4 (j : Fin 2816) (k : Fin 1024) : iblk m c 4 t (ix4 0 0 j k) = m ((c.tc : Thread nD τ).loc main_arg4) (ix4 3 0 j k) := by blk_point [iblk, V, i4]
  rw [show (win0_5.blk t).view.emb y = _ from e5]
  erw [ReferenceFfnIdeal.Value.ffnOut_at]
  simp only [KernelFfnIdeal.Value.outBlock, e0, e1, e2, e3, e4]

end Cert.KernelFfn30Ideal.Value

attribute [local instance] Cert.KernelFfn30Ideal.Gen.facts Cert.ReferenceFfn30Ideal.Gen.facts

namespace Cert

theorem ffn30_algebraic : Cert.algebraic_KernelFfn30Ideal_ReferenceFfn30Ideal := by
  pair_intro
  · run_from Cert.KernelFfn30Ideal.Gen.run_main m g
  · run_from Cert.ReferenceFfn30Ideal.Value.run m' g'
    obtain ⟨a0, a1, a2, a3, a4⟩ := hagree c
    refine (ReferenceFfn30Ideal.Value.res_eq m' c).trans (Eq.trans ?_ (KernelFfn30Ideal.Value.final m c).symm)
    rw [a0, a1, a2, a3, a4]

end Cert

end
-- ==== Proof.Ffn20.lean ====
/- The feed-forward call of layer 2, half 0: the kernel's and the reference's results, and the claim that they are equal over the ideal reals. -/
module

public import proofs.«01_k».proof.Defs
public import proofs.«01_k».proof.Proof.Gen.KernelFfn20Ideal.Frame
public import proofs.«01_k».proof.Proof.Gen.ReferenceFfn20Ideal.Run
public import proofs.«01_k».proof.Proof.FfnValue
public import proofs.«01_k».proof.Proof.Ffn30
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFfn20Ideal.Value
open Cert.ReferenceFfn20Ideal Cert.ReferenceFfn20Ideal.Gen

variable (m : (ℓ : Loc nD τ sig) → Buf (Elt Ideal) ℓ) (c : Dev nD)

def gains : FVec Ideal S6x1024 .f32 := shapeCast S6x1024 (extractStridedSlice S1x6x1024 ![2, 0, 0] (m ((c.tc : Thread nD τ).loc main_arg1)) slices_S4x6x1024_S1x6x1024_2_0_0) shapeCasts_S1x6x1024_S6x1024
def gainIn : FVec Ideal S1024 .f32 := shapeCast S1024 (extractStridedSlice S1x1024 ![0, 0] (gains m c) slices_S6x1024_S1x1024_0_0) shapeCasts_S1x1024_S1024
def gainOut : FVec Ideal S1024 .f32 := shapeCast S1024 (extractStridedSlice S1x1024 ![1, 0] (gains m c) slices_S6x1024_S1x1024_1_0) shapeCasts_S1x1024_S1024
def weightIn (W : FVec Ideal S4x2x1024x2816 .f32) : FVec Ideal S1024x2816 .f32 := shapeCast S1024x2816 (extractStridedSlice S1x1x1024x2816 ![2, 0, 0, 0] W slices_S4x2x1024x2816_S1x1x1024x2816_2_0_0_0) shapeCasts_S1x1x1024x2816_S1024x2816
def weightOut (W : FVec Ideal S4x2x2816x1024 .f32) : FVec Ideal S2816x1024 .f32 := shapeCast S2816x1024 (extractStridedSlice S1x1x2816x1024 ![2, 0, 0, 0] W slices_S4x2x2816x1024_S1x1x2816x1024_2_0_0_0) shapeCasts_S1x1x2816x1024_S2816x1024

theorem res_sub : res_out0 (F := Ideal) m c = ReferenceFfnIdeal.Value.sublayer (m ((c.tc : Thread nD τ).loc main_arg0)) (gainIn m c) (gainOut m c)
    (weightIn (m ((c.tc : Thread nD τ).loc main_arg2))) (weightIn (m ((c.tc : Thread nD τ).loc main_arg3))) (weightOut (m ((c.tc : Thread nD τ).loc main_arg4))) := rfl

/-- The reference's result, row by row. -/
theorem res_eq : res_out0 (F := Ideal) m c = ReferenceFfnIdeal.Value.ffnOut 2 0 0 1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (res_sub m c).trans (ReferenceFfnIdeal.Value.sublayer_eq _ _ _ _ _ _ ?_ ?_ ?_ ?_ ?_)
  · intro k; pointwise [gainIn, gains]
  · intro k; pointwise [gainOut, gains]
  · intro k j; pointwise [weightIn]
  · intro k j; pointwise [weightIn]
  · intro j k; pointwise [weightOut]

end Cert.ReferenceFfn20Ideal.Value

namespace Cert.KernelFfn20Ideal.Value
open Cert.KernelFfn20Ideal Cert.KernelFfn20Ideal.Gen

variable (m : (ℓ : Loc nD τ sig) → Buf (Elt Ideal) ℓ)

theorem outs_at (c : Dev nD) (t : Fin cfg0.N) (y) :
    outsAt0 m c t y = KernelFfnIdeal.Value.outBlock 0 1 (iblk m c 0 t) (iblk m c 1 t) (iblk m c 2 t) (iblk m c 3 t) (iblk m c 4 t) y := by
  unfold outsAt0
  generalize iblk m c 0 t = x
  generalize iblk m c 1 t = g
  generalize iblk m c 2 t = wg
  generalize iblk m c 3 t = wu
  generalize iblk m c 4 t = wd
  refine Eq.trans ?_ (KernelFfn30Ideal.Value.block_at x g wg wu wd y)
  unfold KernelFfn30Ideal.Value.block
  frame_open
  frame_out
  rfl

theorem idx : ∀ t : Fin cfg0.N, win0_0.index t = ![(t : ℕ), 0] ∧ win0_1.index t = ![2, 0, 0] ∧ win0_2.index t = ![2, 0, 0, 0] ∧ win0_3.index t = ![2, 0, 0, 0] ∧
    win0_4.index t = ![2, 0, 0, 0] ∧ win0_5.index t = ![(t : ℕ), 0] :=
  (by decide +kernel : ∀ t : Fin grid0.N, _)

/-- The rows the kernel reads: the argument's, numbered through. -/
theorem x_at (c : Dev nD) (r : Fin 16384) (k : Fin 1024) :
    V m c main_v0 (ix2 r k) = m ((c.tc : Thread nD τ).loc main_arg0) (ix3 ⟨r / 2048, by omega⟩ ⟨r % 2048, by omega⟩ k) := by
  entry_read
  pointwise

/-- The array the kernel writes is the reference's result of the same arguments. -/
theorem final (c : Dev nD) : (dats m 0 c).arrAt 5 (cfgs 0).N =
    ReferenceFfnIdeal.Value.ffnOut 2 0 0 1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t _ (y : S1024x1024.Idx) => ?_
  blk_simp
  rw [after0_5, outs_at]
  obtain ⟨i0, i1, i2, i3, i4, i5⟩ := idx t
  have ht : (t : ℕ) < 16 := t.isLt
  have hy : (y 0 : ℕ) < 1024 := (y 0).isLt
  have e5 : (win0_5.blk t).view.emb y = ix2 ⟨1024 * t + (y 0 : ℕ), by omega⟩ (y 1) := by blk_ext [i5]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (a : Fin 6) (k : Fin 1024) : iblk m c 1 t (ix3 0 a k) = m ((c.tc : Thread nD τ).loc main_arg1) (ix3 2 a k) := by blk_point [iblk, V, i1]
  have e2 (k : Fin 1024) (j : Fin 2816) : iblk m c 2 t (ix4 0 0 k j) = m ((c.tc : Thread nD τ).loc main_arg2) (ix4 2 0 k j) := by blk_point [iblk, V, i2]
  have e3 (k : Fin 1024) (j : Fin 2816) : iblk m c 3 t (ix4 0 0 k j) = m ((c.tc : Thread nD τ).loc main_arg3) (ix4 2 0 k j) := by blk_point [iblk, V, i3]
  have e4 (j : Fin 2816) (k : Fin 1024) : iblk m c 4 t (ix4 0 0 j k) = m ((c.tc : Thread nD τ).loc main_arg4) (ix4 2 0 j k) := by blk_point [iblk, V, i4]
  rw [show (win0_5.blk t).view.emb y = _ from e5]
  erw [ReferenceFfnIdeal.Value.ffnOut_at]
  simp only [KernelFfnIdeal.Value.outBlock, e0, e1, e2, e3, e4]

end Cert.KernelFfn20Ideal.Value

attribute [local instance] Cert.KernelFfn20Ideal.Gen.facts Cert.ReferenceFfn20Ideal.Gen.facts

namespace Cert

theorem ffn20_algebraic : Cert.algebraic_KernelFfn20Ideal_ReferenceFfn20Ideal := by
  pair_intro
  · run_from Cert.KernelFfn20Ideal.Gen.run_main m g
  · run_from Cert.ReferenceFfn20Ideal.Value.run m' g'
    obtain ⟨a0, a1, a2, a3, a4⟩ := hagree c
    refine (ReferenceFfn20Ideal.Value.res_eq m' c).trans (Eq.trans ?_ (KernelFfn20Ideal.Value.final m c).symm)
    rw [a0, a1, a2, a3, a4]

end Cert

end
-- ==== Proof.Ffn11.lean ====
/- The feed-forward call of layer 1, half 1: the kernel's and the reference's results, and the claim that they are equal over the ideal reals. -/
module

public import proofs.«01_k».proof.Defs
public import proofs.«01_k».proof.Proof.Gen.KernelFfn11Ideal.Frame
public import proofs.«01_k».proof.Proof.Gen.ReferenceFfn11Ideal.Run
public import proofs.«01_k».proof.Proof.FfnValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFfn11Ideal.Value
open Cert.ReferenceFfn11Ideal Cert.ReferenceFfn11Ideal.Gen

variable (m : (ℓ : Loc nD τ sig) → Buf (Elt Ideal) ℓ) (c : Dev nD)

def gains : FVec Ideal S6x1024 .f32 := shapeCast S6x1024 (extractStridedSlice S1x6x1024 ![1, 0, 0] (m ((c.tc : Thread nD τ).loc main_arg1)) slices_S4x6x1024_S1x6x1024_1_0_0) shapeCasts_S1x6x1024_S6x1024
def gainIn : FVec Ideal S1024 .f32 := shapeCast S1024 (extractStridedSlice S1x1024 ![4, 0] (gains m c) slices_S6x1024_S1x1024_4_0) shapeCasts_S1x1024_S1024
def gainOut : FVec Ideal S1024 .f32 := shapeCast S1024 (extractStridedSlice S1x1024 ![5, 0] (gains m c) slices_S6x1024_S1x1024_5_0) shapeCasts_S1x1024_S1024
def weightIn (W : FVec Ideal S4x2x1024x2816 .f32) : FVec Ideal S1024x2816 .f32 := shapeCast S1024x2816 (extractStridedSlice S1x1x1024x2816 ![1, 1, 0, 0] W slices_S4x2x1024x2816_S1x1x1024x2816_1_1_0_0) shapeCasts_S1x1x1024x2816_S1024x2816
def weightOut (W : FVec Ideal S4x2x2816x1024 .f32) : FVec Ideal S2816x1024 .f32 := shapeCast S2816x1024 (extractStridedSlice S1x1x2816x1024 ![1, 1, 0, 0] W slices_S4x2x2816x1024_S1x1x2816x1024_1_1_0_0) shapeCasts_S1x1x2816x1024_S2816x1024

theorem res_sub : res_out0 (F := Ideal) m c = ReferenceFfnIdeal.Value.sublayer (m ((c.tc : Thread nD τ).loc main_arg0)) (gainIn m c) (gainOut m c)
    (weightIn (m ((c.tc : Thread nD τ).loc main_arg2))) (weightIn (m ((c.tc : Thread nD τ).loc main_arg3))) (weightOut (m ((c.tc : Thread nD τ).loc main_arg4))) := rfl

/-- The reference's result, row by row. -/
theorem res_eq : res_out0 (F := Ideal) m c = ReferenceFfnIdeal.Value.ffnOut 1 1 4 5 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (res_sub m c).trans (ReferenceFfnIdeal.Value.sublayer_eq _ _ _ _ _ _ ?_ ?_ ?_ ?_ ?_)
  · intro k; pointwise [gainIn, gains]
  · intro k; pointwise [gainOut, gains]
  · intro k j; pointwise [weightIn]
  · intro k j; pointwise [weightIn]
  · intro j k; pointwise [weightOut]

end Cert.ReferenceFfn11Ideal.Value

namespace Cert.KernelFfn11Ideal.Value
open Cert.KernelFfn11Ideal Cert.KernelFfn11Ideal.Gen

variable (m : (ℓ : Loc nD τ sig) → Buf (Elt Ideal) ℓ)

theorem outs_at (c : Dev nD) (t : Fin cfg0.N) (y) :
    outsAt0 m c t y = KernelFfnIdeal.Value.outBlock 4 5 (iblk m c 0 t) (iblk m c 1 t) (iblk m c 2 t) (iblk m c 3 t) (iblk m c 4 t) y := by
  unfold outsAt0
  generalize iblk m c 0 t = x
  generalize iblk m c 1 t = g
  generalize iblk m c 2 t = wg
  generalize iblk m c 3 t = wu
  generalize iblk m c 4 t = wd
  refine Eq.trans ?_ (KernelFfnIdeal.Value.block_at x g wg wu wd y)
  unfold KernelFfnIdeal.Value.block
  frame_open
  frame_out
  rfl

theorem idx : ∀ t : Fin cfg0.N, win0_0.index t = ![(t : ℕ), 0] ∧ win0_1.index t = ![1, 0, 0] ∧ win0_2.index t = ![1, 1, 0, 0] ∧ win0_3.index t = ![1, 1, 0, 0] ∧
    win0_4.index t = ![1, 1, 0, 0] ∧ win0_5.index t = ![(t : ℕ), 0] :=
  (by decide +kernel : ∀ t : Fin grid0.N, _)

/-- The rows the kernel reads: the argument's, numbered through. -/
theorem x_at (c : Dev nD) (r : Fin 16384) (k : Fin 1024) :
    V m c main_v0 (ix2 r k) = m ((c.tc : Thread nD τ).loc main_arg0) (ix3 ⟨r / 2048, by omega⟩ ⟨r % 2048, by omega⟩ k) := by
  entry_read
  pointwise

/-- The array the kernel writes is the reference's result of the same arguments. -/
theorem final (c : Dev nD) : (dats m 0 c).arrAt 5 (cfgs 0).N =
    ReferenceFfnIdeal.Value.ffnOut 1 1 4 5 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t _ (y : S1024x1024.Idx) => ?_
  blk_simp
  rw [after0_5, outs_at]
  obtain ⟨i0, i1, i2, i3, i4, i5⟩ := idx t
  have ht : (t : ℕ) < 16 := t.isLt
  have hy : (y 0 : ℕ) < 1024 := (y 0).isLt
  have e5 : (win0_5.blk t).view.emb y = ix2 ⟨1024 * t + (y 0 : ℕ), by omega⟩ (y 1) := by blk_ext [i5]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (a : Fin 6) (k : Fin 1024) : iblk m c 1 t (ix3 0 a k) = m ((c.tc : Thread nD τ).loc main_arg1) (ix3 1 a k) := by blk_point [iblk, V, i1]
  have e2 (k : Fin 1024) (j : Fin 2816) : iblk m c 2 t (ix4 0 0 k j) = m ((c.tc : Thread nD τ).loc main_arg2) (ix4 1 1 k j) := by blk_point [iblk, V, i2]
  have e3 (k : Fin 1024) (j : Fin 2816) : iblk m c 3 t (ix4 0 0 k j) = m ((c.tc : Thread nD τ).loc main_arg3) (ix4 1 1 k j) := by blk_point [iblk, V, i3]
  have e4 (j : Fin 2816) (k : Fin 1024) : iblk m c 4 t (ix4 0 0 j k) = m ((c.tc : Thread nD τ).loc main_arg4) (ix4 1 1 j k) := by blk_point [iblk, V, i4]
  rw [show (win0_5.blk t).view.emb y = _ from e5]
  erw [ReferenceFfnIdeal.Value.ffnOut_at]
  simp only [KernelFfnIdeal.Value.outBlock, e0, e1, e2, e3, e4]

end Cert.KernelFfn11Ideal.Value

attribute [local instance] Cert.KernelFfn11Ideal.Gen.facts Cert.ReferenceFfn11Ideal.Gen.facts

namespace Cert

theorem ffn11_algebraic : Cert.algebraic_KernelFfn11Ideal_ReferenceFfn11Ideal := by
  pair_intro
  · run_from Cert.KernelFfn11Ideal.Gen.run_main m g
  · run_from Cert.ReferenceFfn11Ideal.Value.run m' g'
    obtain ⟨a0, a1, a2, a3, a4⟩ := hagree c
    refine (ReferenceFfn11Ideal.Value.res_eq m' c).trans (Eq.trans ?_ (KernelFfn11Ideal.Value.final m c).symm)
    rw [a0, a1, a2, a3, a4]

end Cert

end
-- ==== Proof.Ffn10.lean ====
/- The feed-forward call of layer 1, half 0: the kernel's and the reference's results, and the claim that they are equal over the ideal reals. -/
module

public import proofs.«01_k».proof.Defs
public import proofs.«01_k».proof.Proof.Gen.KernelFfn10Ideal.Frame
public import proofs.«01_k».proof.Proof.Gen.ReferenceFfn10Ideal.Run
public import proofs.«01_k».proof.Proof.FfnValue
public import proofs.«01_k».proof.Proof.Ffn30
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFfn10Ideal.Value
open Cert.ReferenceFfn10Ideal Cert.ReferenceFfn10Ideal.Gen

variable (m : (ℓ : Loc nD τ sig) → Buf (Elt Ideal) ℓ) (c : Dev nD)

def gains : FVec Ideal S6x1024 .f32 := shapeCast S6x1024 (extractStridedSlice S1x6x1024 ![1, 0, 0] (m ((c.tc : Thread nD τ).loc main_arg1)) slices_S4x6x1024_S1x6x1024_1_0_0) shapeCasts_S1x6x1024_S6x1024
def gainIn : FVec Ideal S1024 .f32 := shapeCast S1024 (extractStridedSlice S1x1024 ![0, 0] (gains m c) slices_S6x1024_S1x1024_0_0) shapeCasts_S1x1024_S1024
def gainOut : FVec Ideal S1024 .f32 := shapeCast S1024 (extractStridedSlice S1x1024 ![1, 0] (gains m c) slices_S6x1024_S1x1024_1_0) shapeCasts_S1x1024_S1024
def weightIn (W : FVec Ideal S4x2x1024x2816 .f32) : FVec Ideal S1024x2816 .f32 := shapeCast S1024x2816 (extractStridedSlice S1x1x1024x2816 ![1, 0, 0, 0] W slices_S4x2x1024x2816_S1x1x1024x2816_1_0_0_0) shapeCasts_S1x1x1024x2816_S1024x2816
def weightOut (W : FVec Ideal S4x2x2816x1024 .f32) : FVec Ideal S2816x1024 .f32 := shapeCast S2816x1024 (extractStridedSlice S1x1x2816x1024 ![1, 0, 0, 0] W slices_S4x2x2816x1024_S1x1x2816x1024_1_0_0_0) shapeCasts_S1x1x2816x1024_S2816x1024

theorem res_sub : res_out0 (F := Ideal) m c = ReferenceFfnIdeal.Value.sublayer (m ((c.tc : Thread nD τ).loc main_arg0)) (gainIn m c) (gainOut m c)
    (weightIn (m ((c.tc : Thread nD τ).loc main_arg2))) (weightIn (m ((c.tc : Thread nD τ).loc main_arg3))) (weightOut (m ((c.tc : Thread nD τ).loc main_arg4))) := rfl

/-- The reference's result, row by row. -/
theorem res_eq : res_out0 (F := Ideal) m c = ReferenceFfnIdeal.Value.ffnOut 1 0 0 1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (res_sub m c).trans (ReferenceFfnIdeal.Value.sublayer_eq _ _ _ _ _ _ ?_ ?_ ?_ ?_ ?_)
  · intro k; pointwise [gainIn, gains]
  · intro k; pointwise [gainOut, gains]
  · intro k j; pointwise [weightIn]
  · intro k j; pointwise [weightIn]
  · intro j k; pointwise [weightOut]

end Cert.ReferenceFfn10Ideal.Value

namespace Cert.KernelFfn10Ideal.Value
open Cert.KernelFfn10Ideal Cert.KernelFfn10Ideal.Gen

variable (m : (ℓ : Loc nD τ sig) → Buf (Elt Ideal) ℓ)

theorem outs_at (c : Dev nD) (t : Fin cfg0.N) (y) :
    outsAt0 m c t y = KernelFfnIdeal.Value.outBlock 0 1 (iblk m c 0 t) (iblk m c 1 t) (iblk m c 2 t) (iblk m c 3 t) (iblk m c 4 t) y := by
  unfold outsAt0
  generalize iblk m c 0 t = x
  generalize iblk m c 1 t = g
  generalize iblk m c 2 t = wg
  generalize iblk m c 3 t = wu
  generalize iblk m c 4 t = wd
  refine Eq.trans ?_ (KernelFfn30Ideal.Value.block_at x g wg wu wd y)
  unfold KernelFfn30Ideal.Value.block
  frame_open
  frame_out
  rfl

theorem idx : ∀ t : Fin cfg0.N, win0_0.index t = ![(t : ℕ), 0] ∧ win0_1.index t = ![1, 0, 0] ∧ win0_2.index t = ![1, 0, 0, 0] ∧ win0_3.index t = ![1, 0, 0, 0] ∧
    win0_4.index t = ![1, 0, 0, 0] ∧ win0_5.index t = ![(t : ℕ), 0] :=
  (by decide +kernel : ∀ t : Fin grid0.N, _)

/-- The rows the kernel reads: the argument's, numbered through. -/
theorem x_at (c : Dev nD) (r : Fin 16384) (k : Fin 1024) :
    V m c main_v0 (ix2 r k) = m ((c.tc : Thread nD τ).loc main_arg0) (ix3 ⟨r / 2048, by omega⟩ ⟨r % 2048, by omega⟩ k) := by
  entry_read
  pointwise

/-- The array the kernel writes is the reference's result of the same arguments. -/
theorem final (c : Dev nD) : (dats m 0 c).arrAt 5 (cfgs 0).N =
    ReferenceFfnIdeal.Value.ffnOut 1 0 0 1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t _ (y : S1024x1024.Idx) => ?_
  blk_simp
  rw [after0_5, outs_at]
  obtain ⟨i0, i1, i2, i3, i4, i5⟩ := idx t
  have ht : (t : ℕ) < 16 := t.isLt
  have hy : (y 0 : ℕ) < 1024 := (y 0).isLt
  have e5 : (win0_5.blk t).view.emb y = ix2 ⟨1024 * t + (y 0 : ℕ), by omega⟩ (y 1) := by blk_ext [i5]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (a : Fin 6) (k : Fin 1024) : iblk m c 1 t (ix3 0 a k) = m ((c.tc : Thread nD τ).loc main_arg1) (ix3 1 a k) := by blk_point [iblk, V, i1]
  have e2 (k : Fin 1024) (j : Fin 2816) : iblk m c 2 t (ix4 0 0 k j) = m ((c.tc : Thread nD τ).loc main_arg2) (ix4 1 0 k j) := by blk_point [iblk, V, i2]
  have e3 (k : Fin 1024) (j : Fin 2816) : iblk m c 3 t (ix4 0 0 k j) = m ((c.tc : Thread nD τ).loc main_arg3) (ix4 1 0 k j) := by blk_point [iblk, V, i3]
  have e4 (j : Fin 2816) (k : Fin 1024) : iblk m c 4 t (ix4 0 0 j k) = m ((c.tc : Thread nD τ).loc main_arg4) (ix4 1 0 j k) := by blk_point [iblk, V, i4]
  rw [show (win0_5.blk t).view.emb y = _ from e5]
  erw [ReferenceFfnIdeal.Value.ffnOut_at]
  simp only [KernelFfnIdeal.Value.outBlock, e0, e1, e2, e3, e4]

end Cert.KernelFfn10Ideal.Value

attribute [local instance] Cert.KernelFfn10Ideal.Gen.facts Cert.ReferenceFfn10Ideal.Gen.facts

namespace Cert

theorem ffn10_algebraic : Cert.algebraic_KernelFfn10Ideal_ReferenceFfn10Ideal := by
  pair_intro
  · run_from Cert.KernelFfn10Ideal.Gen.run_main m g
  · run_from Cert.ReferenceFfn10Ideal.Value.run m' g'
    obtain ⟨a0, a1, a2, a3, a4⟩ := hagree c
    refine (ReferenceFfn10Ideal.Value.res_eq m' c).trans (Eq.trans ?_ (KernelFfn10Ideal.Value.final m c).symm)
    rw [a0, a1, a2, a3, a4]

end Cert

end
-- ==== Proof.Ffn01.lean ====
/- The feed-forward call of layer 0, half 1: the kernel's and the reference's results, and the claim that they are equal over the ideal reals. -/
module

public import proofs.«01_k».proof.Defs
public import proofs.«01_k».proof.Proof.Gen.KernelFfn01Ideal.Frame
public import proofs.«01_k».proof.Proof.Gen.ReferenceFfn01Ideal.Run
public import proofs.«01_k».proof.Proof.FfnValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFfn01Ideal.Value
open Cert.ReferenceFfn01Ideal Cert.ReferenceFfn01Ideal.Gen

variable (m : (ℓ : Loc nD τ sig) → Buf (Elt Ideal) ℓ) (c : Dev nD)

def gains : FVec Ideal S6x1024 .f32 := shapeCast S6x1024 (extractStridedSlice S1x6x1024 ![0, 0, 0] (m ((c.tc : Thread nD τ).loc main_arg1)) slices_S4x6x1024_S1x6x1024_0_0_0) shapeCasts_S1x6x1024_S6x1024
def gainIn : FVec Ideal S1024 .f32 := shapeCast S1024 (extractStridedSlice S1x1024 ![4, 0] (gains m c) slices_S6x1024_S1x1024_4_0) shapeCasts_S1x1024_S1024
def gainOut : FVec Ideal S1024 .f32 := shapeCast S1024 (extractStridedSlice S1x1024 ![5, 0] (gains m c) slices_S6x1024_S1x1024_5_0) shapeCasts_S1x1024_S1024
def weightIn (W : FVec Ideal S4x2x1024x2816 .f32) : FVec Ideal S1024x2816 .f32 := shapeCast S1024x2816 (extractStridedSlice S1x1x1024x2816 ![0, 1, 0, 0] W slices_S4x2x1024x2816_S1x1x1024x2816_0_1_0_0) shapeCasts_S1x1x1024x2816_S1024x2816
def weightOut (W : FVec Ideal S4x2x2816x1024 .f32) : FVec Ideal S2816x1024 .f32 := shapeCast S2816x1024 (extractStridedSlice S1x1x2816x1024 ![0, 1, 0, 0] W slices_S4x2x2816x1024_S1x1x2816x1024_0_1_0_0) shapeCasts_S1x1x2816x1024_S2816x1024

theorem res_sub : res_out0 (F := Ideal) m c = ReferenceFfnIdeal.Value.sublayer (m ((c.tc : Thread nD τ).loc main_arg0)) (gainIn m c) (gainOut m c)
    (weightIn (m ((c.tc : Thread nD τ).loc main_arg2))) (weightIn (m ((c.tc : Thread nD τ).loc main_arg3))) (weightOut (m ((c.tc : Thread nD τ).loc main_arg4))) := rfl

/-- The reference's result, row by row. -/
theorem res_eq : res_out0 (F := Ideal) m c = ReferenceFfnIdeal.Value.ffnOut 0 1 4 5 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (res_sub m c).trans (ReferenceFfnIdeal.Value.sublayer_eq _ _ _ _ _ _ ?_ ?_ ?_ ?_ ?_)
  · intro k; pointwise [gainIn, gains]
  · intro k; pointwise [gainOut, gains]
  · intro k j; pointwise [weightIn]
  · intro k j; pointwise [weightIn]
  · intro j k; pointwise [weightOut]

end Cert.ReferenceFfn01Ideal.Value

namespace Cert.KernelFfn01Ideal.Value
open Cert.KernelFfn01Ideal Cert.KernelFfn01Ideal.Gen

variable (m : (ℓ : Loc nD τ sig) → Buf (Elt Ideal) ℓ)

theorem outs_at (c : Dev nD) (t : Fin cfg0.N) (y) :
    outsAt0 m c t y = KernelFfnIdeal.Value.outBlock 4 5 (iblk m c 0 t) (iblk m c 1 t) (iblk m c 2 t) (iblk m c 3 t) (iblk m c 4 t) y := by
  unfold outsAt0
  generalize iblk m c 0 t = x
  generalize iblk m c 1 t = g
  generalize iblk m c 2 t = wg
  generalize iblk m c 3 t = wu
  generalize iblk m c 4 t = wd
  refine Eq.trans ?_ (KernelFfnIdeal.Value.block_at x g wg wu wd y)
  unfold KernelFfnIdeal.Value.block
  frame_open
  frame_out
  rfl

theorem idx : ∀ t : Fin cfg0.N, win0_0.index t = ![(t : ℕ), 0] ∧ win0_1.index t = ![0, 0, 0] ∧ win0_2.index t = ![0, 1, 0, 0] ∧ win0_3.index t = ![0, 1, 0, 0] ∧
    win0_4.index t = ![0, 1, 0, 0] ∧ win0_5.index t = ![(t : ℕ), 0] :=
  (by decide +kernel : ∀ t : Fin grid0.N, _)

/-- The rows the kernel reads: the argument's, numbered through. -/
theorem x_at (c : Dev nD) (r : Fin 16384) (k : Fin 1024) :
    V m c main_v0 (ix2 r k) = m ((c.tc : Thread nD τ).loc main_arg0) (ix3 ⟨r / 2048, by omega⟩ ⟨r % 2048, by omega⟩ k) := by
  entry_read
  pointwise

/-- The array the kernel writes is the reference's result of the same arguments. -/
theorem final (c : Dev nD) : (dats m 0 c).arrAt 5 (cfgs 0).N =
    ReferenceFfnIdeal.Value.ffnOut 0 1 4 5 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t _ (y : S1024x1024.Idx) => ?_
  blk_simp
  rw [after0_5, outs_at]
  obtain ⟨i0, i1, i2, i3, i4, i5⟩ := idx t
  have ht : (t : ℕ) < 16 := t.isLt
  have hy : (y 0 : ℕ) < 1024 := (y 0).isLt
  have e5 : (win0_5.blk t).view.emb y = ix2 ⟨1024 * t + (y 0 : ℕ), by omega⟩ (y 1) := by blk_ext [i5]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (a : Fin 6) (k : Fin 1024) : iblk m c 1 t (ix3 0 a k) = m ((c.tc : Thread nD τ).loc main_arg1) (ix3 0 a k) := by blk_point [iblk, V, i1]
  have e2 (k : Fin 1024) (j : Fin 2816) : iblk m c 2 t (ix4 0 0 k j) = m ((c.tc : Thread nD τ).loc main_arg2) (ix4 0 1 k j) := by blk_point [iblk, V, i2]
  have e3 (k : Fin 1024) (j : Fin 2816) : iblk m c 3 t (ix4 0 0 k j) = m ((c.tc : Thread nD τ).loc main_arg3) (ix4 0 1 k j) := by blk_point [iblk, V, i3]
  have e4 (j : Fin 2816) (k : Fin 1024) : iblk m c 4 t (ix4 0 0 j k) = m ((c.tc : Thread nD τ).loc main_arg4) (ix4 0 1 j k) := by blk_point [iblk, V, i4]
  rw [show (win0_5.blk t).view.emb y = _ from e5]
  erw [ReferenceFfnIdeal.Value.ffnOut_at]
  simp only [KernelFfnIdeal.Value.outBlock, e0, e1, e2, e3, e4]

end Cert.KernelFfn01Ideal.Value

attribute [local instance] Cert.KernelFfn01Ideal.Gen.facts Cert.ReferenceFfn01Ideal.Gen.facts

namespace Cert

theorem ffn01_algebraic : Cert.algebraic_KernelFfn01Ideal_ReferenceFfn01Ideal := by
  pair_intro
  · run_from Cert.KernelFfn01Ideal.Gen.run_main m g
  · run_from Cert.ReferenceFfn01Ideal.Value.run m' g'
    obtain ⟨a0, a1, a2, a3, a4⟩ := hagree c
    refine (ReferenceFfn01Ideal.Value.res_eq m' c).trans (Eq.trans ?_ (KernelFfn01Ideal.Value.final m c).symm)
    rw [a0, a1, a2, a3, a4]

end Cert

end
-- ==== Proof.Ffn00.lean ====
/- The feed-forward call of layer 0, half 0: the kernel's and the reference's results, and the claim that they are equal over the ideal reals. -/
module

public import proofs.«01_k».proof.Defs
public import proofs.«01_k».proof.Proof.Gen.KernelFfn00Ideal.Frame
public import proofs.«01_k».proof.Proof.Gen.ReferenceFfn00Ideal.Run
public import proofs.«01_k».proof.Proof.FfnValue
public import proofs.«01_k».proof.Proof.Ffn30
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFfn00Ideal.Value
open Cert.ReferenceFfn00Ideal Cert.ReferenceFfn00Ideal.Gen

variable (m : (ℓ : Loc nD τ sig) → Buf (Elt Ideal) ℓ) (c : Dev nD)

def gains : FVec Ideal S6x1024 .f32 := shapeCast S6x1024 (extractStridedSlice S1x6x1024 ![0, 0, 0] (m ((c.tc : Thread nD τ).loc main_arg1)) slices_S4x6x1024_S1x6x1024_0_0_0) shapeCasts_S1x6x1024_S6x1024
def gainIn : FVec Ideal S1024 .f32 := shapeCast S1024 (extractStridedSlice S1x1024 ![0, 0] (gains m c) slices_S6x1024_S1x1024_0_0) shapeCasts_S1x1024_S1024
def gainOut : FVec Ideal S1024 .f32 := shapeCast S1024 (extractStridedSlice S1x1024 ![1, 0] (gains m c) slices_S6x1024_S1x1024_1_0) shapeCasts_S1x1024_S1024
def weightIn (W : FVec Ideal S4x2x1024x2816 .f32) : FVec Ideal S1024x2816 .f32 := shapeCast S1024x2816 (extractStridedSlice S1x1x1024x2816 ![0, 0, 0, 0] W slices_S4x2x1024x2816_S1x1x1024x2816_0_0_0_0) shapeCasts_S1x1x1024x2816_S1024x2816
def weightOut (W : FVec Ideal S4x2x2816x1024 .f32) : FVec Ideal S2816x1024 .f32 := shapeCast S2816x1024 (extractStridedSlice S1x1x2816x1024 ![0, 0, 0, 0] W slices_S4x2x2816x1024_S1x1x2816x1024_0_0_0_0) shapeCasts_S1x1x2816x1024_S2816x1024

theorem res_sub : res_out0 (F := Ideal) m c = ReferenceFfnIdeal.Value.sublayer (m ((c.tc : Thread nD τ).loc main_arg0)) (gainIn m c) (gainOut m c)
    (weightIn (m ((c.tc : Thread nD τ).loc main_arg2))) (weightIn (m ((c.tc : Thread nD τ).loc main_arg3))) (weightOut (m ((c.tc : Thread nD τ).loc main_arg4))) := rfl

/-- The reference's result, row by row. -/
theorem res_eq : res_out0 (F := Ideal) m c = ReferenceFfnIdeal.Value.ffnOut 0 0 0 1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (res_sub m c).trans (ReferenceFfnIdeal.Value.sublayer_eq _ _ _ _ _ _ ?_ ?_ ?_ ?_ ?_)
  · intro k; pointwise [gainIn, gains]
  · intro k; pointwise [gainOut, gains]
  · intro k j; pointwise [weightIn]
  · intro k j; pointwise [weightIn]
  · intro j k; pointwise [weightOut]

end Cert.ReferenceFfn00Ideal.Value

namespace Cert.KernelFfn00Ideal.Value
open Cert.KernelFfn00Ideal Cert.KernelFfn00Ideal.Gen

variable (m : (ℓ : Loc nD τ sig) → Buf (Elt Ideal) ℓ)

theorem outs_at (c : Dev nD) (t : Fin cfg0.N) (y) :
    outsAt0 m c t y = KernelFfnIdeal.Value.outBlock 0 1 (iblk m c 0 t) (iblk m c 1 t) (iblk m c 2 t) (iblk m c 3 t) (iblk m c 4 t) y := by
  unfold outsAt0
  generalize iblk m c 0 t = x
  generalize iblk m c 1 t = g
  generalize iblk m c 2 t = wg
  generalize iblk m c 3 t = wu
  generalize iblk m c 4 t = wd
  refine Eq.trans ?_ (KernelFfn30Ideal.Value.block_at x g wg wu wd y)
  unfold KernelFfn30Ideal.Value.block
  frame_open
  frame_out
  rfl

theorem idx : ∀ t : Fin cfg0.N, win0_0.index t = ![(t : ℕ), 0] ∧ win0_1.index t = ![0, 0, 0] ∧ win0_2.index t = ![0, 0, 0, 0] ∧ win0_3.index t = ![0, 0, 0, 0] ∧
    win0_4.index t = ![0, 0, 0, 0] ∧ win0_5.index t = ![(t : ℕ), 0] :=
  (by decide +kernel : ∀ t : Fin grid0.N, _)

/-- The rows the kernel reads: the argument's, numbered through. -/
theorem x_at (c : Dev nD) (r : Fin 16384) (k : Fin 1024) :
    V m c main_v0 (ix2 r k) = m ((c.tc : Thread nD τ).loc main_arg0) (ix3 ⟨r / 2048, by omega⟩ ⟨r % 2048, by omega⟩ k) := by
  entry_read
  pointwise

/-- The array the kernel writes is the reference's result of the same arguments. -/
theorem final (c : Dev nD) : (dats m 0 c).arrAt 5 (cfgs 0).N =
    ReferenceFfnIdeal.Value.ffnOut 0 0 0 1 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t _ (y : S1024x1024.Idx) => ?_
  blk_simp
  rw [after0_5, outs_at]
  obtain ⟨i0, i1, i2, i3, i4, i5⟩ := idx t
  have ht : (t : ℕ) < 16 := t.isLt
  have hy : (y 0 : ℕ) < 1024 := (y 0).isLt
  have e5 : (win0_5.blk t).view.emb y = ix2 ⟨1024 * t + (y 0 : ℕ), by omega⟩ (y 1) := by blk_ext [i5]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (a : Fin 6) (k : Fin 1024) : iblk m c 1 t (ix3 0 a k) = m ((c.tc : Thread nD τ).loc main_arg1) (ix3 0 a k) := by blk_point [iblk, V, i1]
  have e2 (k : Fin 1024) (j : Fin 2816) : iblk m c 2 t (ix4 0 0 k j) = m ((c.tc : Thread nD τ).loc main_arg2) (ix4 0 0 k j) := by blk_point [iblk, V, i2]
  have e3 (k : Fin 1024) (j : Fin 2816) : iblk m c 3 t (ix4 0 0 k j) = m ((c.tc : Thread nD τ).loc main_arg3) (ix4 0 0 k j) := by blk_point [iblk, V, i3]
  have e4 (j : Fin 2816) (k : Fin 1024) : iblk m c 4 t (ix4 0 0 j k) = m ((c.tc : Thread nD τ).loc main_arg4) (ix4 0 0 j k) := by blk_point [iblk, V, i4]
  rw [show (win0_5.blk t).view.emb y = _ from e5]
  erw [ReferenceFfnIdeal.Value.ffnOut_at]
  simp only [KernelFfnIdeal.Value.outBlock, e0, e1, e2, e3, e4]

end Cert.KernelFfn00Ideal.Value

attribute [local instance] Cert.KernelFfn00Ideal.Gen.facts Cert.ReferenceFfn00Ideal.Gen.facts

namespace Cert

theorem ffn00_algebraic : Cert.algebraic_KernelFfn00Ideal_ReferenceFfn00Ideal := by
  pair_intro
  · run_from Cert.KernelFfn00Ideal.Gen.run_main m g
  · run_from Cert.ReferenceFfn00Ideal.Value.run m' g'
    obtain ⟨a0, a1, a2, a3, a4⟩ := hagree c
    refine (ReferenceFfn00Ideal.Value.res_eq m' c).trans (Eq.trans ?_ (KernelFfn00Ideal.Value.final m c).symm)
    rw [a0, a1, a2, a3, a4]

end Cert

end
-- ==== Proof.Conv2.lean ====
/- The convolution sublayer's closing call of layer 2: the kernel's and the reference's results, and the claim that they are equal over the ideal reals. -/
module

public import proofs.«01_k».proof.Defs
public import proofs.«01_k».proof.Proof.Gen.KernelConv2Ideal.Frame
public import proofs.«01_k».proof.Proof.Gen.ReferenceConv2Ideal.Run
public import proofs.«01_k».proof.Proof.ConvValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceConvIdeal.Value
open Cert.ReferenceConvIdeal Cert.ReferenceConvIdeal.Gen

/-! The parameters of layer 2 put where layer 0 has its own. -/

def layerG (G : FVec Ideal S4x6x1024 .f32) : FVec Ideal S4x6x1024 .f32 := fun y => G (ix3 2 (y 1) (y 2))
def layerW (W : FVec Ideal S2x31x512 .f32) : FVec Ideal S2x31x512 .f32 := fun y => W (ix3 1 (y 1) (y 2))
def layerB (B : FVec Ideal S2x512 .f32) : FVec Ideal S2x512 .f32 := fun y => B (ix2 1 (y 1))
def layerC (C : FVec Ideal S2x1024x1024 .f32) : FVec Ideal S2x1024x1024 .f32 := fun y => C (ix3 1 (y 1) (y 2))

theorem cutG (G) (h : S4x6x1024.Slices ![0, 0, 0] S1x6x1024) (h' : S4x6x1024.Slices ![2, 0, 0] S1x6x1024) :
    extractStridedSlice S1x6x1024 ![0, 0, 0] (layerG G) h = extractStridedSlice S1x6x1024 ![2, 0, 0] G h' := by
  funext y
  idx_vars y
  pointwise [layerG]
theorem cutB (B) (h : S2x512.Slices ![0, 0] S1x512) (h' : S2x512.Slices ![1, 0] S1x512) :
    extractStridedSlice S1x512 ![0, 0] (layerB B) h = extractStridedSlice S1x512 ![1, 0] B h' := by
  funext y
  idx_vars y
  pointwise [layerB]
theorem cutC (C) (h : S2x1024x1024.Slices ![0, 0, 0] S1x1024x1024) (h' : S2x1024x1024.Slices ![1, 0, 0] S1x1024x1024) :
    extractStridedSlice S1x1024x1024 ![0, 0, 0] (layerC C) h = extractStridedSlice S1x1024x1024 ![1, 0, 0] C h' := by
  funext y
  idx_vars y
  pointwise [layerC]
theorem tap_of (j : ℕ) (h : S2x31x512.Slices ![0, j, 0] S1x1x512) : S2x31x512.Slices ![1, j, 0] S1x1x512 :=
  ⟨h.1, fun a => by
    match a with
    | 0 => exact Nat.le_refl 2
    | 1 => exact h.2 1
    | 2 => exact h.2 2⟩
theorem cutW (W) (j : ℕ) (h : S2x31x512.Slices ![0, j, 0] S1x1x512) :
    extractStridedSlice S1x1x512 ![0, j, 0] (layerW W) h = extractStridedSlice S1x1x512 ![1, j, 0] W (tap_of j h) := by
  funext y
  idx_vars y
  pointwise [layerW]

end Cert.ReferenceConvIdeal.Value

namespace Cert.ReferenceConv2Ideal.Value
open Cert.ReferenceConv2Ideal Cert.ReferenceConv2Ideal.Gen
open ReferenceConvIdeal.Value (layerG layerW layerB layerC cutG cutW cutB cutC)

set_option maxHeartbeats 2000000 in
theorem side_eq (m : (ℓ : Loc nD τ sig) → Buf (Elt Ideal) ℓ) (c : Dev nD) : res_main_v259 (F := Ideal) (StableHlo.launchContents m c) =
    ReferenceConvIdeal.Value.outp (layerC (m ((c.tc : Thread nD τ).loc main_arg8))) (ReferenceConvIdeal.Value.sides (m ((c.tc : Thread nD τ).loc main_arg1)) (ReferenceConvIdeal.Value.swished (ReferenceConvIdeal.Value.layered (layerB (m ((c.tc : Thread nD τ).loc main_arg6))) (layerB (m ((c.tc : Thread nD τ).loc main_arg7))) (ReferenceConvIdeal.Value.convolved (layerW (m ((c.tc : Thread nD τ).loc main_arg4))) (layerB (m ((c.tc : Thread nD τ).loc main_arg5))) (ReferenceConvIdeal.Value.padded (m ((c.tc : Thread nD τ).loc main_arg2))))))) := by
  unfold ReferenceConvIdeal.Value.outp ReferenceConvIdeal.Value.layered ReferenceConvIdeal.Value.convolved ReferenceConvIdeal.Value.channels
  simp only [cutW]
  rw [cutC _ _ slices_S2x1024x1024_S1x1024x1024_1_0_0, cutB _ _ slices_S2x512_S1x512_1_0, cutB _ _ slices_S2x512_S1x512_1_0, cutB _ _ slices_S2x512_S1x512_1_0]
  rfl

set_option maxHeartbeats 2000000 in
/-- The reference's run, its result named. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v276) = ReferenceConvIdeal.Value.result (m ((c.tc : Thread nD τ).loc main_arg0)) (m ((c.tc : Thread nD τ).loc main_arg1)) (m ((c.tc : Thread nD τ).loc main_arg2)) (layerG (m ((c.tc : Thread nD τ).loc main_arg3))) (layerW (m ((c.tc : Thread nD τ).loc main_arg4))) (layerB (m ((c.tc : Thread nD τ).loc main_arg5))) (layerB (m ((c.tc : Thread nD τ).loc main_arg6))) (layerB (m ((c.tc : Thread nD τ).loc main_arg7))) (layerC (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (by rw [side_eq]; unfold ReferenceConvIdeal.Value.result ReferenceConvIdeal.Value.gain; rw [cutG _ _ slices_S4x6x1024_S1x6x1024_2_0_0]; rfl), (h c).2⟩) (run (F := Ideal) m ρ)

end Cert.ReferenceConv2Ideal.Value

namespace Cert.KernelConv2Ideal.Value
open Cert.KernelConv2Ideal Cert.KernelConv2Ideal.Gen
open ReferenceConvIdeal.Value (layerG layerW layerB layerC)
open KernelConvIdeal.Value (ext front front_at)

variable (m : (ℓ : Loc nD τ sig) → Buf (Elt Ideal) ℓ)

theorem outs_at (c : Dev nD) (t : Fin cfg0.N) (y) :
    outsAt0 m c t y = KernelConvIdeal.Value.outBlock (grid0.coords t) (iblk m c 0 t) (iblk m c 1 t) (iblk m c 2 t) (iblk m c 3 t) (iblk m c 4 t) (iblk m c 5 t) (iblk m c 6 t) (iblk m c 7 t) y := by
  unfold outsAt0
  generalize iblk m c 0 t = x
  generalize iblk m c 1 t = oa
  generalize iblk m c 2 t = hc
  generalize iblk m c 3 t = halo
  generalize iblk m c 4 t = g
  generalize iblk m c 5 t = w
  generalize iblk m c 6 t = cv
  generalize iblk m c 7 t = cw
  refine Eq.trans ?_ (KernelConvIdeal.Value.block_at c t x oa hc halo g w cv cw y)
  unfold KernelConvIdeal.Value.block
  frame_open
  frame_out
  rfl

theorem idx : ∀ t : Fin cfg0.N, win0_0.index t = ![(t : ℕ), 0] ∧ win0_1.index t = ![(t : ℕ), 0] ∧ win0_2.index t = ![(t : ℕ), 0] ∧ win0_3.index t = ![32 * (t : ℕ) - 1, 0] ∧
    win0_4.index t = ![2, 0, 0] ∧ win0_5.index t = ![1, 0, 0] ∧ win0_6.index t = ![1, 0, 0] ∧ win0_7.index t = ![1, 0, 0] ∧ win0_8.index t = ![(t : ℕ), 0] ∧
    (grid0.coords t 1 : ℕ) = t % 2 :=
  (by decide +kernel : ∀ t : Fin grid0.N, _)

/-- The rows the kernel reads: the arguments', numbered through. -/
theorem x_at (c : Dev nD) (r : Fin 16384) (k : Fin 1024) :
    V m c main_v5 (ix2 r k) = m ((c.tc : Thread nD τ).loc main_arg0) (ix3 ⟨r / 2048, by omega⟩ ⟨r % 2048, by omega⟩ k) := by
  entry_read
  pointwise

theorem o_at (c : Dev nD) (r : Fin 16384) (k : Fin 512) :
    V m c main_v6 (ix2 r k) = m ((c.tc : Thread nD τ).loc main_arg1) (ix3 ⟨r / 2048, by omega⟩ ⟨r % 2048, by omega⟩ k) := by
  entry_read
  pointwise

theorem h_at (c : Dev nD) (r : Fin 16384) (k : Fin 512) :
    V m c main_v7 (ix2 r k) = m ((c.tc : Thread nD τ).loc main_arg2) (ix3 ⟨r / 2048, by omega⟩ ⟨r % 2048, by omega⟩ k) := by
  entry_read
  pointwise

/-- The buffers after the host's first four operations. -/
abbrev early (c : Dev nD) (b : Ref sig .tc) : Buf (Elt Ideal) ((c : Thread nD τ).loc b) :=
  StableHlo.after (hostOps0.take 4) (fun b => m (c, b)) (Proc.devRef .tc b)

theorem stack_eq (c : Dev nD) : V m c main_v4 = KernelConvIdeal.Value.stack (early m c main_v1) (early m c main_v2) (early m c main_v3) := by
  show StableHlo.after hostOps0 (fun b => m (c, b)) (Proc.devRef .tc main_v4) = _
  simp only [StableHlo.after_cons, StableHlo.after_nil, hostOps0, List.take]
  rw [StableHlo.reshape_result_ne]; rotate_left; decide
  rw [StableHlo.reshape_result_ne]; rotate_left; decide
  rw [StableHlo.reshape_result_ne]; rotate_left; decide
  rw [StableHlo.nary_result]
  rfl

theorem b_at (c : Dev nD) (l : Fin 2) (k : Fin 512) : V m c main_v4 (ix3 l 0 k) = m ((c.tc : Thread nD τ).loc main_arg5) (ix2 l k) := by
  rw [stack_eq, KernelConvIdeal.Value.stack_at0]
  show StableHlo.after (hostOps0.take 4) (fun b => m (c, b)) (Proc.devRef .tc main_v1) (ix3 l 0 k) = _
  simp only [hostOps0, List.take]
  entry_read
  pointwise

theorem g_at (c : Dev nD) (l : Fin 2) (k : Fin 512) : V m c main_v4 (ix3 l 1 k) = m ((c.tc : Thread nD τ).loc main_arg6) (ix2 l k) := by
  rw [stack_eq, KernelConvIdeal.Value.stack_at1]
  show StableHlo.after (hostOps0.take 4) (fun b => m (c, b)) (Proc.devRef .tc main_v2) (ix3 l 0 k) = _
  simp only [hostOps0, List.take]
  entry_read
  pointwise

theorem a_at (c : Dev nD) (l : Fin 2) (k : Fin 512) : V m c main_v4 (ix3 l 2 k) = m ((c.tc : Thread nD τ).loc main_arg7) (ix2 l k) := by
  rw [stack_eq, KernelConvIdeal.Value.stack_at2]
  show StableHlo.after (hostOps0.take 4) (fun b => m (c, b)) (Proc.devRef .tc main_v3) (ix3 l 0 k) = _
  simp only [hostOps0, List.take]
  entry_read
  pointwise

theorem c_at (c : Dev nD) (l : Fin 2) (j d : Fin 1024) : V m c main_v0 (ix3 l j d) = m ((c.tc : Thread nD τ).loc main_arg8) (ix3 l j d) := by
  entry_read
  pointwise

/-- The array the kernel writes is the reference's result of the same arguments. -/
theorem final (c : Dev nD) : (dats m 0 c).arrAt 8 (cfgs 0).N =
    ReferenceConvIdeal.Value.result (m ((c.tc : Thread nD τ).loc main_arg0)) (m ((c.tc : Thread nD τ).loc main_arg1)) (m ((c.tc : Thread nD τ).loc main_arg2)) (layerG (m ((c.tc : Thread nD τ).loc main_arg3))) (layerW (m ((c.tc : Thread nD τ).loc main_arg4))) (layerB (m ((c.tc : Thread nD τ).loc main_arg5))) (layerB (m ((c.tc : Thread nD τ).loc main_arg6))) (layerB (m ((c.tc : Thread nD τ).loc main_arg7))) (layerC (m ((c.tc : Thread nD τ).loc main_arg8))) := by
  refine (dats m 0 c).arrAt_eq_of_covers 8 _ (by decide +kernel) fun t _ (y : S1024x1024.Idx) => ?_
  blk_simp
  rw [after0_8, outs_at]
  obtain ⟨i0, i1, i2, i3, i4, i5, i6, i7, i8, ic⟩ := idx t
  have ht : (t : ℕ) < 16 := t.isLt
  have hy : (y 0 : ℕ) < 1024 := (y 0).isLt
  have eo : (win0_8.blk t).view.emb y = ix2 ⟨1024 * t + (y 0 : ℕ), by omega⟩ (y 1) := by blk_ext [i8]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (k : Fin 512) : iblk m c 1 t (ix2 (y 0) k) = m ((c.tc : Thread nD τ).loc main_arg1) (ix3 ⟨(1024 * t + (y 0 : ℕ)) / 2048, by omega⟩ ⟨(1024 * t + (y 0 : ℕ)) % 2048, by omega⟩ k) := by
    refine Eq.trans ?_ (o_at m c ⟨1024 * t + (y 0 : ℕ), by omega⟩ k)
    blk_point [iblk, i1]
  have e2 (i : Fin 1024) (k : Fin 512) : iblk m c 2 t (ix2 i k) = m ((c.tc : Thread nD τ).loc main_arg2) (ix3 ⟨(1024 * t + (i : ℕ)) / 2048, by omega⟩ ⟨(1024 * t + (i : ℕ)) % 2048, by omega⟩ k) := by
    refine Eq.trans ?_ (h_at m c ⟨1024 * t + (i : ℕ), by omega⟩ k)
    blk_point [iblk, i2]
  have e3 (i : Fin 32) (k : Fin 512) : iblk m c 3 t (ix2 i k) = m ((c.tc : Thread nD τ).loc main_arg2) (ix3 ⟨(32 * (32 * t - 1) + (i : ℕ)) / 2048, by omega⟩ ⟨(32 * (32 * t - 1) + (i : ℕ)) % 2048, by omega⟩ k) := by
    refine Eq.trans ?_ (h_at m c ⟨32 * (32 * t - 1) + (i : ℕ), by omega⟩ k)
    blk_point [iblk, i3]
  have e4 (a : Fin 6) (k : Fin 1024) : iblk m c 4 t (ix3 0 a k) = layerG (m ((c.tc : Thread nD τ).loc main_arg3)) (ix3 0 a k) := by blk_point [iblk, V, i4, layerG]
  have e5 (j : Fin 31) (k : Fin 512) : iblk m c 5 t (ix3 0 j k) = layerW (m ((c.tc : Thread nD τ).loc main_arg4)) (ix3 0 j k) := by blk_point [iblk, V, i5, layerW]
  have e60 (k : Fin 512) : iblk m c 6 t (ix3 0 0 k) = layerB (m ((c.tc : Thread nD τ).loc main_arg5)) (ix2 0 k) := by
    refine Eq.trans ?_ (b_at m c 1 k)
    blk_point [iblk, i6]
  have e61 (k : Fin 512) : iblk m c 6 t (ix3 0 1 k) = layerB (m ((c.tc : Thread nD τ).loc main_arg6)) (ix2 0 k) := by
    refine Eq.trans ?_ (g_at m c 1 k)
    blk_point [iblk, i6]
  have e62 (k : Fin 512) : iblk m c 6 t (ix3 0 2 k) = layerB (m ((c.tc : Thread nD τ).loc main_arg7)) (ix2 0 k) := by
    refine Eq.trans ?_ (a_at m c 1 k)
    blk_point [iblk, i6]
  have e7 (j d : Fin 1024) : iblk m c 7 t (ix3 0 j d) = layerC (m ((c.tc : Thread nD τ).loc main_arg8)) (ix3 0 j d) := by
    refine Eq.trans ?_ (c_at m c 1 j d)
    blk_point [iblk, i7]
  have ex (j : Fin 31) (k : Fin 512) : ext (front (grid0.coords t) (iblk m c 3 t)) (iblk m c 2 t) (j + (2 + (y 0 : ℕ))) k =
      ReferenceConvIdeal.Value.past (m ((c.tc : Thread nD τ).loc main_arg2)) ⟨(1024 * t + (y 0 : ℕ)) / 2048, by omega⟩ k (j + (1024 * t + (y 0 : ℕ)) % 2048) := by
    have hj : (j : ℕ) < 31 := j.isLt
    rw [ReferenceConvIdeal.Value.past, dif_pos (by omega), ext]
    by_cases h : (j : ℕ) + (2 + (y 0 : ℕ)) < 32
    · rw [dif_pos h, front_at, ic]
      by_cases h' : (t : ℕ) % 2 = 0
      · rw [if_pos h', ReferenceConvIdeal.Value.padded_front _ _ _ _ (by simp only []; omega)]
      · rw [if_neg h', ReferenceConvIdeal.Value.padded_back _ _ _ _ (by simp only []; omega), e3]
        have h1 : (32 * (32 * (t : ℕ) - 1) + (j + (2 + (y 0 : ℕ)))) / 2048 = (1024 * t + (y 0 : ℕ)) / 2048 := by omega
        have h2 : (32 * (32 * (t : ℕ) - 1) + (j + (2 + (y 0 : ℕ)))) % 2048 = j + (1024 * t + (y 0 : ℕ)) % 2048 - 30 := by omega
        simp only [h1, h2]
    · rw [dif_neg h, dif_pos (by omega), ReferenceConvIdeal.Value.padded_back _ _ _ _ (by simp only []; omega), e2]
      have h1 : (1024 * (t : ℕ) + (j + (2 + (y 0 : ℕ)) - 32)) / 2048 = (1024 * t + (y 0 : ℕ)) / 2048 := by omega
      have h2 : (1024 * (t : ℕ) + (j + (2 + (y 0 : ℕ)) - 32)) % 2048 = j + (1024 * t + (y 0 : ℕ)) % 2048 - 30 := by omega
      simp only [h1, h2]
  rw [show (win0_8.blk t).view.emb y = _ from eo]
  erw [ReferenceConvIdeal.Value.result_at]
  simp only [KernelConvIdeal.Value.outBlock, e0, e1, e4, e5, e60, e61, e62, e7]
  refine congrArg (fun f => Rows.closing _ _ f _ _ _) (funext fun k => ?_)
  unfold Rows.convRow Rows.conv
  simp only [ex]

end Cert.KernelConv2Ideal.Value

attribute [local instance] Cert.KernelConv2Ideal.Gen.facts Cert.ReferenceConv2Ideal.Gen.facts

namespace Cert

theorem conv2_algebraic : Cert.algebraic_KernelConv2Ideal_ReferenceConv2Ideal := by
  pair_intro
  · run_from Cert.KernelConv2Ideal.Gen.run_main m g
  · run_from Cert.ReferenceConv2Ideal.Value.run_result m' g'
    exact (KernelConv2Ideal.Value.final m c).symm

end Cert

end
-- ==== Proof.Sgu3.lean ====
/- The gating sublayer's closing call of layer 3: the kernel's and the reference's results, and the claim that they are equal over the ideal reals. -/
module

public import proofs.«01_k».proof.Defs
public import proofs.«01_k».proof.Proof.Gen.KernelSgu3Ideal.Frame
public import proofs.«01_k».proof.Proof.Gen.ReferenceSgu3Ideal.Run
public import proofs.«01_k».proof.Proof.SguValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceSguIdeal.Value
open Cert.ReferenceSguIdeal Cert.ReferenceSguIdeal.Gen

/-! The parameters of layer 3 put where layer 1 has its own. -/

def layerG (G : FVec Ideal S4x6x1024 .f32) : FVec Ideal S4x6x1024 .f32 := fun y => G (ix3 3 (y 1) (y 2))
def layerW (W : FVec Ideal S2x4x128x128 .f32) : FVec Ideal S2x4x128x128 .f32 := fun y => W (ix4 1 (y 1) (y 2) (y 3))
def layerB (B : FVec Ideal S2x4x128 .f32) : FVec Ideal S2x4x128 .f32 := fun y => B (ix3 1 (y 1) (y 2))
def layerC (C : FVec Ideal S2x1024x1024 .f32) : FVec Ideal S2x1024x1024 .f32 := fun y => C (ix3 1 (y 1) (y 2))

theorem cutG (G) (h : S4x6x1024.Slices ![1, 0, 0] S1x6x1024) (h' : S4x6x1024.Slices ![3, 0, 0] S1x6x1024) :
    extractStridedSlice S1x6x1024 ![1, 0, 0] (layerG G) h = extractStridedSlice S1x6x1024 ![3, 0, 0] G h' := by
  funext y
  idx_vars y
  pointwise [layerG]
theorem cutW (W) (h : S2x4x128x128.Slices ![0, 0, 0, 0] S1x4x128x128) (h' : S2x4x128x128.Slices ![1, 0, 0, 0] S1x4x128x128) :
    extractStridedSlice S1x4x128x128 ![0, 0, 0, 0] (layerW W) h = extractStridedSlice S1x4x128x128 ![1, 0, 0, 0] W h' := by
  funext y
  idx_vars y
  pointwise [layerW]
theorem cutB (B) (h : S2x4x128.Slices ![0, 0, 0] S1x4x128) (h' : S2x4x128.Slices ![1, 0, 0] S1x4x128) :
    extractStridedSlice S1x4x128 ![0, 0, 0] (layerB B) h = extractStridedSlice S1x4x128 ![1, 0, 0] B h' := by
  funext y
  idx_vars y
  pointwise [layerB]
theorem cutC (C) (h : S2x1024x1024.Slices ![0, 0, 0] S1x1024x1024) (h' : S2x1024x1024.Slices ![1, 0, 0] S1x1024x1024) :
    extractStridedSlice S1x1024x1024 ![0, 0, 0] (layerC C) h = extractStridedSlice S1x1024x1024 ![1, 0, 0] C h' := by
  funext y
  idx_vars y
  pointwise [layerC]

end Cert.ReferenceSguIdeal.Value

namespace Cert.ReferenceSgu3Ideal.Value
open Cert.ReferenceSgu3Ideal Cert.ReferenceSgu3Ideal.Gen

theorem res_eq (m : (ℓ : Loc nD τ sig) → Buf (Elt Ideal) ℓ) (c : Dev nD) :
    res_out0 (F := Ideal) m c = ReferenceSguIdeal.Value.result (m ((c.tc : Thread nD τ).loc main_arg0)) (m ((c.tc : Thread nD τ).loc main_arg1)) (m ((c.tc : Thread nD τ).loc main_arg2)) (m ((c.tc : Thread nD τ).loc main_arg3)) (ReferenceSguIdeal.Value.layerG (m ((c.tc : Thread nD τ).loc main_arg4))) (ReferenceSguIdeal.Value.layerW (m ((c.tc : Thread nD τ).loc main_arg5))) (ReferenceSguIdeal.Value.layerB (m ((c.tc : Thread nD τ).loc main_arg6))) (ReferenceSguIdeal.Value.layerC (m ((c.tc : Thread nD τ).loc main_arg7))) := by
  unfold ReferenceSguIdeal.Value.result ReferenceSguIdeal.Value.outp ReferenceSguIdeal.Value.sides ReferenceSguIdeal.Value.gated ReferenceSguIdeal.Value.mixed ReferenceSguIdeal.Value.weights ReferenceSguIdeal.Value.bias ReferenceSguIdeal.Value.gain
  rw [ReferenceSguIdeal.Value.cutG _ _ slices_S4x6x1024_S1x6x1024_3_0_0, ReferenceSguIdeal.Value.cutW _ _ slices_S2x4x128x128_S1x4x128x128_1_0_0_0,
    ReferenceSguIdeal.Value.cutB _ _ slices_S2x4x128_S1x4x128_1_0_0, ReferenceSguIdeal.Value.cutC _ _ slices_S2x1024x1024_S1x1024x1024_1_0_0]
  rfl

end Cert.ReferenceSgu3Ideal.Value

namespace Cert.KernelSgu3Ideal.Value
open Cert.KernelSgu3Ideal Cert.KernelSgu3Ideal.Gen
open ReferenceSguIdeal.Value (layerG layerW layerB layerC)

variable (m : (ℓ : Loc nD τ sig) → Buf (Elt Ideal) ℓ)

theorem outs_at (c : Dev nD) (t : Fin cfg0.N) (y) :
    outsAt0 m c t y = KernelSguIdeal.Value.outBlock (iblk m c 0 t) (iblk m c 1 t) (iblk m c 2 t) (iblk m c 3 t) (iblk m c 4 t) (iblk m c 5 t) (iblk m c 6 t) (iblk m c 7 t) y := by
  unfold outsAt0
  generalize iblk m c 0 t = x
  generalize iblk m c 1 t = u
  generalize iblk m c 2 t = v
  generalize iblk m c 3 t = o
  generalize iblk m c 4 t = g
  generalize iblk m c 5 t = w
  generalize iblk m c 6 t = b
  generalize iblk m c 7 t = cw
  refine Eq.trans ?_ (KernelSguIdeal.Value.block_at t x u v o g w b cw y)
  unfold KernelSguIdeal.Value.block
  frame_open
  frame_out
  rfl

theorem idx : ∀ t : Fin cfg0.N, win0_0.index t = ![(t : ℕ), 0] ∧ win0_1.index t = ![(t : ℕ), 0] ∧ win0_2.index t = ![(t : ℕ), 0] ∧ win0_3.index t = ![(t : ℕ), 0] ∧
    win0_4.index t = ![3, 0, 0] ∧ win0_5.index t = ![1, 0, 0, 0] ∧ win0_6.index t = ![1, 0, 0] ∧ win0_7.index t = ![1, 0, 0] ∧ win0_8.index t = ![(t : ℕ), 0] :=
  (by decide +kernel : ∀ t : Fin grid0.N, _)

/-- The rows the kernel reads: the arguments', numbered through. -/
theorem x_at (c : Dev nD) (r : Fin 16384) (k : Fin 1024) :
    V m c main_v2 (ix2 r k) = m ((c.tc : Thread nD τ).loc main_arg0) (ix3 ⟨r / 2048, by omega⟩ ⟨r % 2048, by omega⟩ k) := by
  entry_read
  pointwise

theorem u_at (c : Dev nD) (r : Fin 16384) (k : Fin 512) :
    V m c main_v3 (ix2 r k) = m ((c.tc : Thread nD τ).loc main_arg1) (ix3 ⟨r / 2048, by omega⟩ ⟨r % 2048, by omega⟩ k) := by
  entry_read
  pointwise

theorem v_at (c : Dev nD) (r : Fin 16384) (k : Fin 512) :
    V m c main_v4 (ix2 r k) = m ((c.tc : Thread nD τ).loc main_arg2) (ix3 ⟨r / 2048, by omega⟩ ⟨r % 2048, by omega⟩ k) := by
  entry_read
  pointwise

theorem o_at (c : Dev nD) (r : Fin 16384) (k : Fin 512) :
    V m c main_v5 (ix2 r k) = m ((c.tc : Thread nD τ).loc main_arg3) (ix3 ⟨r / 2048, by omega⟩ ⟨r % 2048, by omega⟩ k) := by
  entry_read
  pointwise

theorem b_at (c : Dev nD) (l : Fin 2) (p : Fin 128) (g : Fin 4) : V m c main_v1 (ix3 l p g) = m ((c.tc : Thread nD τ).loc main_arg6) (ix3 l g p) := by
  entry_read
  pointwise

theorem c_at (c : Dev nD) (l : Fin 2) (j d : Fin 1024) : V m c main_v0 (ix3 l j d) = m ((c.tc : Thread nD τ).loc main_arg7) (ix3 l j d) := by
  entry_read
  pointwise

/-- The array the kernel writes is the reference's result of the same arguments. -/
theorem final (c : Dev nD) : (dats m 0 c).arrAt 8 (cfgs 0).N =
    ReferenceSguIdeal.Value.result (m ((c.tc : Thread nD τ).loc main_arg0)) (m ((c.tc : Thread nD τ).loc main_arg1)) (m ((c.tc : Thread nD τ).loc main_arg2)) (m ((c.tc : Thread nD τ).loc main_arg3)) (ReferenceSguIdeal.Value.layerG (m ((c.tc : Thread nD τ).loc main_arg4))) (ReferenceSguIdeal.Value.layerW (m ((c.tc : Thread nD τ).loc main_arg5))) (ReferenceSguIdeal.Value.layerB (m ((c.tc : Thread nD τ).loc main_arg6))) (ReferenceSguIdeal.Value.layerC (m ((c.tc : Thread nD τ).loc main_arg7))) := by
  refine (dats m 0 c).arrAt_eq_of_covers 8 _ (by decide +kernel) fun t _ (y : S1024x1024.Idx) => ?_
  blk_simp
  rw [after0_8, outs_at]
  obtain ⟨i0, i1, i2, i3, i4, i5, i6, i7, i8⟩ := idx t
  have ht : (t : ℕ) < 16 := t.isLt
  have hy : (y 0 : ℕ) < 1024 := (y 0).isLt
  have eo : (win0_8.blk t).view.emb y = ix2 ⟨1024 * t + (y 0 : ℕ), by omega⟩ (y 1) := by blk_ext [i8]
  have e0 (k : Fin 1024) : iblk m c 0 t (ix2 (y 0) k) = m ((c.tc : Thread nD τ).loc main_arg0) (ix3 ⟨(1024 * t + (y 0 : ℕ)) / 2048, by omega⟩ ⟨(1024 * t + (y 0 : ℕ)) % 2048, by omega⟩ k) := by
    refine Eq.trans ?_ (x_at m c ⟨1024 * t + (y 0 : ℕ), by omega⟩ k)
    blk_point [iblk, i0]
  have e1 (k : Fin 512) : iblk m c 1 t (ix2 (y 0) k) = m ((c.tc : Thread nD τ).loc main_arg1) (ix3 ⟨(1024 * t + (y 0 : ℕ)) / 2048, by omega⟩ ⟨(1024 * t + (y 0 : ℕ)) % 2048, by omega⟩ k) := by
    refine Eq.trans ?_ (u_at m c ⟨1024 * t + (y 0 : ℕ), by omega⟩ k)
    blk_point [iblk, i1]
  have e2' (i : Fin 1024) (k : Fin 512) : iblk m c 2 t (ix2 i k) = m ((c.tc : Thread nD τ).loc main_arg2) (ix3 ⟨(1024 * t + (i : ℕ)) / 2048, by omega⟩ ⟨(1024 * t + (i : ℕ)) % 2048, by omega⟩ k) := by
    refine Eq.trans ?_ (v_at m c ⟨1024 * t + (i : ℕ), by omega⟩ k)
    blk_point [iblk, i2]
  have e2 (s : Fin 128) (k : Fin 512) : iblk m c 2 t (ix2 ⟨(y 0 : ℕ) / 128 * 128 + s, by omega⟩ ⟨(k : ℕ) / 128 * 128 + (k : ℕ) % 128, by omega⟩) =
      m ((c.tc : Thread nD τ).loc main_arg2) (ix3 ⟨(1024 * t + (y 0 : ℕ)) / 2048, by omega⟩ ⟨(1024 * t + (y 0 : ℕ)) % 2048 / 128 * 128 + s, by omega⟩ k) := by
    refine (e2' _ _).trans ?_
    have hs : (s : ℕ) < 128 := s.isLt
    have h1 : (1024 * t + ((y 0 : ℕ) / 128 * 128 + s)) / 2048 = (1024 * t + (y 0 : ℕ)) / 2048 := by omega
    have h2 : (1024 * t + ((y 0 : ℕ) / 128 * 128 + s)) % 2048 = (1024 * t + (y 0 : ℕ)) % 2048 / 128 * 128 + s := by omega
    have h3 : (k : ℕ) / 128 * 128 + (k : ℕ) % 128 = k := by omega
    simp only [h1, h2, h3]
  have e3 (k : Fin 512) : iblk m c 3 t (ix2 (y 0) k) = m ((c.tc : Thread nD τ).loc main_arg3) (ix3 ⟨(1024 * t + (y 0 : ℕ)) / 2048, by omega⟩ ⟨(1024 * t + (y 0 : ℕ)) % 2048, by omega⟩ k) := by
    refine Eq.trans ?_ (o_at m c ⟨1024 * t + (y 0 : ℕ), by omega⟩ k)
    blk_point [iblk, i3]
  have e4 (a : Fin 6) (k : Fin 1024) : iblk m c 4 t (ix3 0 a k) = layerG (m ((c.tc : Thread nD τ).loc main_arg4)) (ix3 1 a k) := by blk_point [iblk, V, i4, layerG]
  have e5 (g : Fin 4) (p s : Fin 128) : iblk m c 5 t (ix4 0 g p s) = layerW (m ((c.tc : Thread nD τ).loc main_arg5)) (ix4 0 g p s) := by blk_point [iblk, V, i5, layerW]
  have e6 (p : Fin 128) (g : Fin 4) : iblk m c 6 t (ix3 0 p g) = layerB (m ((c.tc : Thread nD τ).loc main_arg6)) (ix3 0 g p) := by
    refine Eq.trans ?_ (b_at m c 1 p g)
    blk_point [iblk, i6]
  have e7 (j d : Fin 1024) : iblk m c 7 t (ix3 0 j d) = layerC (m ((c.tc : Thread nD τ).loc main_arg7)) (ix3 0 j d) := by
    refine Eq.trans ?_ (c_at m c 1 j d)
    blk_point [iblk, i7]
  have hp : (⟨(1024 * t + (y 0 : ℕ)) % 128, by omega⟩ : Fin 128) = ⟨(y 0 : ℕ) % 128, by omega⟩ := Fin.ext (by simp only []; omega)
  rw [show (win0_8.blk t).view.emb y = _ from eo]
  erw [ReferenceSguIdeal.Value.result_at]
  simp only [KernelSguIdeal.Value.outBlock, e0, e3, e4, e7, hp]
  refine congrArg (fun a => Rows.closing _ a _ _ _ _) (funext fun k => (KernelSguIdeal.Value.gateBlock_ix _ _ _ _ (y 0) k).trans ?_)
  simp only [e1, e2, e5, e6]

end Cert.KernelSgu3Ideal.Value

attribute [local instance] Cert.KernelSgu3Ideal.Gen.facts Cert.ReferenceSgu3Ideal.Gen.facts

namespace Cert

theorem sgu3_algebraic : Cert.algebraic_KernelSgu3Ideal_ReferenceSgu3Ideal := by
  pair_intro
  · run_from Cert.KernelSgu3Ideal.Gen.run_main m g
  · run_from Cert.ReferenceSgu3Ideal.Value.run m' g'
    obtain ⟨a0, a1, a2, a3, a4, a5, a6, a7⟩ := hagree c
    refine (ReferenceSgu3Ideal.Value.res_eq m' c).trans (Eq.trans ?_ (KernelSgu3Ideal.Value.final m c).symm)
    rw [a0, a1, a2, a3, a4, a5, a6, a7]

end Cert

end
-- ==== Proof.Even2.lean ====
/- The projection of layer 2: the kernel's and the reference's results, and the claim that they are equal over the ideal reals. -/
module

public import proofs.«01_k».proof.Defs
public import proofs.«01_k».proof.Proof.Gen.KernelEven2Ideal.Frame
public import proofs.«01_k».proof.Proof.Gen.ReferenceEven2Ideal.Run
public import proofs.«01_k».proof.Proof.EvenValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceEvenIdeal.Value
open Cert.ReferenceEvenIdeal Cert.ReferenceEvenIdeal.Gen

/-! The parameters of layer 2 put where layer 0 has its own. -/

def layerG (G : FVec Ideal S4x6x1024 .f32) : FVec Ideal S4x6x1024 .f32 := fun y => G (ix3 2 (y 1) (y 2))
def layerW (W : FVec Ideal S2x1024x2560 .f32) : FVec Ideal S2x1024x2560 .f32 := fun y => W (ix3 1 (y 1) (y 2))

theorem cutG (G) (h : S4x6x1024.Slices ![0, 0, 0] S1x6x1024) (h' : S4x6x1024.Slices ![2, 0, 0] S1x6x1024) :
    extractStridedSlice S1x6x1024 ![0, 0, 0] (layerG G) h = extractStridedSlice S1x6x1024 ![2, 0, 0] G h' := by
  funext y
  idx_vars y
  pointwise [layerG]
theorem cutW (W) (h : S2x1024x2560.Slices ![0, 0, 0] S1x1024x2560) (h' : S2x1024x2560.Slices ![1, 0, 0] S1x1024x2560) :
    extractStridedSlice S1x1024x2560 ![0, 0, 0] (layerW W) h = extractStridedSlice S1x1024x2560 ![1, 0, 0] W h' := by
  funext y
  idx_vars y
  pointwise [layerW]

end Cert.ReferenceEvenIdeal.Value

namespace Cert.ReferenceEven2Ideal.Value
open Cert.ReferenceEven2Ideal Cert.ReferenceEven2Ideal.Gen
open ReferenceEvenIdeal.Value (layerG layerW cutG cutW)

theorem projected_eq (X : FVec Ideal S8x2048x1024 .f32) (G : FVec Ideal S4x6x1024 .f32) (W : FVec Ideal S2x1024x2560 .f32) :
    ReferenceEvenIdeal.Value.projected X (layerG G) (layerW W) =
      Host.dotGeneral dot_S8x2048x1024_S1024x2560_S8x2048x2560_2_0_01_1_n_n none
        (ReferenceEvenIdeal.Value.normed X (shapeCast S1024 (extractStridedSlice S1x1024 ![2, 0] (shapeCast S6x1024 (extractStridedSlice S1x6x1024 ![2, 0, 0] G slices_S4x6x1024_S1x6x1024_2_0_0) shapeCasts_S1x6x1024_S6x1024) slices_S6x1024_S1x1024_2_0) shapeCasts_S1x1024_S1024))
        (shapeCast S1024x2560 (extractStridedSlice S1x1024x2560 ![1, 0, 0] W slices_S2x1024x2560_S1x1024x2560_1_0_0) shapeCasts_S1x1024x2560_S1024x2560) := by
  unfold ReferenceEvenIdeal.Value.projected ReferenceEvenIdeal.Value.gain
  rw [cutG _ _ slices_S4x6x1024_S1x6x1024_2_0_0, cutW _ _ slices_S2x1024x2560_S1x1024x2560_1_0_0]
  rfl

theorem res_eq0 (m : (ℓ : Loc nD τ sig) → Buf (Elt Ideal) ℓ) (c : Dev nD) : res_out0 (F := Ideal) m c = ReferenceEvenIdeal.Value.result0 (m ((c.tc : Thread nD τ).loc main_arg0)) (layerG (m ((c.tc : Thread nD τ).loc main_arg1))) (layerW (m ((c.tc : Thread nD τ).loc main_arg2))) := by
  unfold ReferenceEvenIdeal.Value.result0
  rw [projected_eq]
  rfl

theorem res_eq1 (m : (ℓ : Loc nD τ sig) → Buf (Elt Ideal) ℓ) (c : Dev nD) : res_out1 (F := Ideal) m c = ReferenceEvenIdeal.Value.result1 (m ((c.tc : Thread nD τ).loc main_arg0)) (layerG (m ((c.tc : Thread nD τ).loc main_arg1))) (layerW (m ((c.tc : Thread nD τ).loc main_arg2))) := by
  unfold ReferenceEvenIdeal.Value.result1
  rw [projected_eq]
  rfl

end Cert.ReferenceEven2Ideal.Value

namespace Cert.KernelEven2Ideal.Value
open Cert.KernelEven2Ideal Cert.KernelEven2Ideal.Gen Cert.Rows
open KernelEvenIdeal.Value (projBlock turnedBlock turnedBlock_at)
open ReferenceEvenIdeal.Value (layerG layerW)

variable (x : Vec Ideal S1024x1024 .f32) (g : Vec Ideal S1x6x1024 .f32) (w : Vec Ideal S1x1024x2560 .f32) (cs sn : Vec Ideal S1024x128 .f32)

theorem out5_at (i : Fin 1024) (k : Fin 512) : out0_5 x g w cs sn (ix2 i k) = turnedBlock cs sn (fun i k => projBlock x g w i ⟨k, by omega⟩) (ix2 i k) :=
  (congrFun (show out0_5 x g w cs sn = KernelEvenIdeal.Gen.out0_5 x g w cs sn from rfl) _).trans (KernelEvenIdeal.Value.out5_at ..)

theorem out6_at (i : Fin 1024) (k : Fin 512) : out0_6 x g w cs sn (ix2 i k) = turnedBlock cs sn (fun i k => projBlock x g w i ⟨512 + k, by omega⟩) (ix2 i k) :=
  (congrFun (show out0_6 x g w cs sn = KernelEvenIdeal.Gen.out0_6 x g w cs sn from rfl) _).trans (KernelEvenIdeal.Value.out6_at ..)

theorem out7_at (i : Fin 1024) (k : Fin 512) : out0_7 x g w cs sn (ix2 i k) = projBlock x g w i ⟨1024 + k, by omega⟩ :=
  (congrFun (show out0_7 x g w cs sn = KernelEvenIdeal.Gen.out0_7 x g w cs sn from rfl) _).trans (KernelEvenIdeal.Value.out7_at ..)

theorem out8_at (i : Fin 1024) (k : Fin 512) : out0_8 x g w cs sn (ix2 i k) = projBlock x g w i ⟨1536 + k, by omega⟩ * sigmoid (projBlock x g w i ⟨2048 + k, by omega⟩) :=
  (congrFun (show out0_8 x g w cs sn = KernelEvenIdeal.Gen.out0_8 x g w cs sn from rfl) _).trans (KernelEvenIdeal.Value.out8_at ..)

variable (m : (ℓ : Loc nD τ sig) → Buf (Elt Ideal) ℓ)

theorem cos_at (c : Dev nD) (p : Fin 2048) (l : Fin 128) :
    V m c main_v21 (ix2 p l) = Ideal.cos (ReferenceEvenIdeal.Value.angles (ix2 p ⟨l % 32, by omega⟩)) := by
  entry_read
  pointwise [ReferenceEvenIdeal.Value.angles]
  by_cases h : (l : ℕ) % 64 < 32
  · have e : (l : ℕ) % 64 = l % 32 := by omega
    rw [dif_pos h]
    simp only [e]
  · have e : (l : ℕ) % 64 - 32 = l % 32 := by omega
    rw [dif_neg h]
    simp only [e]

theorem sin_at (c : Dev nD) (p : Fin 2048) (l : Fin 128) :
    V m c main_v26 (ix2 p l) = if (l : ℕ) % 64 < 32 then - Ideal.sin (ReferenceEvenIdeal.Value.angles (ix2 p ⟨l % 32, by omega⟩)) else Ideal.sin (ReferenceEvenIdeal.Value.angles (ix2 p ⟨l % 32, by omega⟩)) := by
  entry_read
  pointwise [ReferenceEvenIdeal.Value.angles]
  by_cases h : (l : ℕ) % 64 < 32
  · have e : (l : ℕ) % 64 = l % 32 := by omega
    rw [dif_pos h, if_pos h]
    simp only [e]
  · have e : (l : ℕ) % 64 - 32 = l % 32 := by omega
    rw [dif_neg h, if_neg h]
    simp only [e]

theorem x_at (c : Dev nD) (r : Fin 16384) (k : Fin 1024) :
    V m c main_v27 (ix2 r k) = m ((c.tc : Thread nD τ).loc main_arg0) (ix3 ⟨r / 2048, by omega⟩ ⟨r % 2048, by omega⟩ k) := by
  entry_read
  pointwise

theorem idx : ∀ t : Fin cfg0.N, win0_0.index t = ![(t : ℕ), 0] ∧ win0_1.index t = ![2, 0, 0] ∧ win0_2.index t = ![1, 0, 0] ∧ win0_3.index t = ![(t : ℕ) % 2, 0] ∧
    win0_4.index t = ![(t : ℕ) % 2, 0] ∧ win0_5.index t = ![(t : ℕ), 0] ∧ win0_6.index t = ![(t : ℕ), 0] ∧ win0_7.index t = ![(t : ℕ), 0] ∧ win0_8.index t = ![(t : ℕ), 0] :=
  (by decide +kernel : ∀ t : Fin grid0.N, _)

theorem projBlock_at (c : Dev nD) (t : Fin cfg0.N) (i : Fin 1024) (r : Fin 16384) (hr : (r : ℕ) = 1024 * t + i) (j : Fin 2560) :
    projBlock (iblk m c 0 t) (iblk m c 1 t) (iblk m c 2 t) i j =
      proj (fun k => m ((c.tc : Thread nD τ).loc main_arg0) (ix3 ⟨r / 2048, by omega⟩ ⟨r % 2048, by omega⟩ k)) (fun k => layerG (m ((c.tc : Thread nD τ).loc main_arg1)) (ix3 0 2 k))
        (fun k j => layerW (m ((c.tc : Thread nD τ).loc main_arg2)) (ix3 0 k j)) j := by
  obtain ⟨i0, i1, i2, i3, i4, i5, i6, i7, i8⟩ := idx t
  have e0 (k : Fin 1024) : iblk m c 0 t (ix2 i k) = m ((c.tc : Thread nD τ).loc main_arg0) (ix3 ⟨r / 2048, by omega⟩ ⟨r % 2048, by omega⟩ k) := by
    refine Eq.trans ?_ (x_at m c r k)
    obtain ⟨r, h⟩ := r
    obtain rfl : r = 1024 * t + i := hr
    blk_point [iblk, i0]
  have e1 (a : Fin 6) (k : Fin 1024) : iblk m c 1 t (ix3 0 a k) = layerG (m ((c.tc : Thread nD τ).loc main_arg1)) (ix3 0 a k) := by blk_point [iblk, V, i1, layerG]
  have e2 (k : Fin 1024) (j : Fin 2560) : iblk m c 2 t (ix3 0 k j) = layerW (m ((c.tc : Thread nD τ).loc main_arg2)) (ix3 0 k j) := by blk_point [iblk, V, i2, layerW]
  simp only [projBlock, e0, e1, e2]

theorem cosBlock_at (c : Dev nD) (t : Fin cfg0.N) (i : Fin 1024) (r : Fin 16384) (hr : (r : ℕ) = 1024 * t + i) (l : Fin 128) :
    iblk m c 3 t (ix2 i l) = Ideal.cos (ReferenceEvenIdeal.Value.angles (ix2 ⟨r % 2048, by omega⟩ ⟨l % 32, by omega⟩)) := by
  obtain ⟨i0, i1, i2, i3, i4, i5, i6, i7, i8⟩ := idx t
  refine Eq.trans ?_ (cos_at m c _ l)
  have e : (⟨(r : ℕ) % 2048, by omega⟩ : Fin 2048) = ⟨1024 * (t % 2) + i, by omega⟩ := Fin.ext (by show (r : ℕ) % 2048 = 1024 * (t % 2) + i; omega)
  rw [e]
  blk_point [iblk, i3]

theorem sinBlock_at (c : Dev nD) (t : Fin cfg0.N) (i : Fin 1024) (r : Fin 16384) (hr : (r : ℕ) = 1024 * t + i) (l : Fin 128) :
    iblk m c 4 t (ix2 i l) = if (l : ℕ) % 64 < 32 then - Ideal.sin (ReferenceEvenIdeal.Value.angles (ix2 ⟨r % 2048, by omega⟩ ⟨l % 32, by omega⟩)) else Ideal.sin (ReferenceEvenIdeal.Value.angles (ix2 ⟨r % 2048, by omega⟩ ⟨l % 32, by omega⟩)) := by
  obtain ⟨i0, i1, i2, i3, i4, i5, i6, i7, i8⟩ := idx t
  refine Eq.trans ?_ (sin_at m c _ l)
  have e : (⟨(r : ℕ) % 2048, by omega⟩ : Fin 2048) = ⟨1024 * (t % 2) + i, by omega⟩ := Fin.ext (by show (r : ℕ) % 2048 = 1024 * (t % 2) + i; omega)
  rw [e]
  blk_point [iblk, i4]

/-- The array window 5 leaves is the reference's. -/
theorem final5 (c : Dev nD) : (dats m 0 c).arrAt 5 (cfgs 0).N = ReferenceEvenIdeal.Value.result0 (m ((c.tc : Thread nD τ).loc main_arg0)) (layerG (m ((c.tc : Thread nD τ).loc main_arg1))) (layerW (m ((c.tc : Thread nD τ).loc main_arg2))) := by
  refine (dats m 0 c).arrAt_eq_of_covers 5 _ (by decide +kernel) fun t _ (y : S1024x512.Idx) => ?_
  blk_simp
  rw [after0_5]
  obtain ⟨i0, i1, i2, i3, i4, i5, i6, i7, i8⟩ := idx t
  have ht : (t : ℕ) < 16 := t.isLt
  have hy : (y 0 : ℕ) < 1024 := (y 0).isLt
  have eo : (win0_5.blk t).view.emb y = ix2 ⟨1024 * t + (y 0 : ℕ), by omega⟩ (y 1) := by blk_ext [i5]
  rw [show (win0_5.blk t).view.emb y = _ from eo]
  refine Eq.trans ?_ (ReferenceEvenIdeal.Value.result0_at _ _ _ _ _).symm
  have hp (j : Fin 2560) := projBlock_at m c t (y 0) ⟨1024 * t + (y 0 : ℕ), by omega⟩ rfl j
  refine Eq.trans (congrArg _ (ix2_eta y).symm) ((out5_at _ _ _ _ _ (y 0) (y 1)).trans ?_)
  refine (turnedBlock_at _ _ _ (fun f => Ideal.cos (ReferenceEvenIdeal.Value.angles (ix2 ⟨(1024 * (t : ℕ) + (y 0 : ℕ)) % 2048, by omega⟩ f))) (fun f => Ideal.sin (ReferenceEvenIdeal.Value.angles (ix2 ⟨(1024 * (t : ℕ) + (y 0 : ℕ)) % 2048, by omega⟩ f))) (y 0) (y 1) (cosBlock_at m c t (y 0) ⟨1024 * t + (y 0 : ℕ), by omega⟩ rfl) (sinBlock_at m c t (y 0) ⟨1024 * t + (y 0 : ℕ), by omega⟩ rfl)).trans ?_
  simp only [hp]

/-- The array window 6 leaves is the reference's. -/
theorem final6 (c : Dev nD) : (dats m 0 c).arrAt 6 (cfgs 0).N = ReferenceEvenIdeal.Value.result1 (m ((c.tc : Thread nD τ).loc main_arg0)) (layerG (m ((c.tc : Thread nD τ).loc main_arg1))) (layerW (m ((c.tc : Thread nD τ).loc main_arg2))) := by
  refine (dats m 0 c).arrAt_eq_of_covers 6 _ (by decide +kernel) fun t _ (y : S1024x512.Idx) => ?_
  blk_simp
  rw [after0_6]
  obtain ⟨i0, i1, i2, i3, i4, i5, i6, i7, i8⟩ := idx t
  have ht : (t : ℕ) < 16 := t.isLt
  have hy : (y 0 : ℕ) < 1024 := (y 0).isLt
  have eo : (win0_6.blk t).view.emb y = ix2 ⟨1024 * t + (y 0 : ℕ), by omega⟩ (y 1) := by blk_ext [i6]
  rw [show (win0_6.blk t).view.emb y = _ from eo]
  refine Eq.trans ?_ (ReferenceEvenIdeal.Value.result1_at _ _ _ _ _).symm
  have hp (j : Fin 2560) := projBlock_at m c t (y 0) ⟨1024 * t + (y 0 : ℕ), by omega⟩ rfl j
  refine Eq.trans (congrArg _ (ix2_eta y).symm) ((out6_at _ _ _ _ _ (y 0) (y 1)).trans ?_)
  refine (turnedBlock_at _ _ _ (fun f => Ideal.cos (ReferenceEvenIdeal.Value.angles (ix2 ⟨(1024 * (t : ℕ) + (y 0 : ℕ)) % 2048, by omega⟩ f))) (fun f => Ideal.sin (ReferenceEvenIdeal.Value.angles (ix2 ⟨(1024 * (t : ℕ) + (y 0 : ℕ)) % 2048, by omega⟩ f))) (y 0) (y 1) (cosBlock_at m c t (y 0) ⟨1024 * t + (y 0 : ℕ), by omega⟩ rfl) (sinBlock_at m c t (y 0) ⟨1024 * t + (y 0 : ℕ), by omega⟩ rfl)).trans ?_
  simp only [hp]

/-- The array window 7 leaves is the reference's. -/
theorem final7 (c : Dev nD) : (dats m 0 c).arrAt 7 (cfgs 0).N = ReferenceEvenIdeal.Value.result2 (m ((c.tc : Thread nD τ).loc main_arg0)) (layerG (m ((c.tc : Thread nD τ).loc main_arg1))) (layerW (m ((c.tc : Thread nD τ).loc main_arg2))) := by
  refine (dats m 0 c).arrAt_eq_of_covers 7 _ (by decide +kernel) fun t _ (y : S1024x512.Idx) => ?_
  blk_simp
  rw [after0_7]
  obtain ⟨i0, i1, i2, i3, i4, i5, i6, i7, i8⟩ := idx t
  have ht : (t : ℕ) < 16 := t.isLt
  have hy : (y 0 : ℕ) < 1024 := (y 0).isLt
  have eo : (win0_7.blk t).view.emb y = ix2 ⟨1024 * t + (y 0 : ℕ), by omega⟩ (y 1) := by blk_ext [i7]
  rw [show (win0_7.blk t).view.emb y = _ from eo]
  refine Eq.trans ?_ (ReferenceEvenIdeal.Value.result2_at _ _ _ _ _).symm
  have hp (j : Fin 2560) := projBlock_at m c t (y 0) ⟨1024 * t + (y 0 : ℕ), by omega⟩ rfl j
  refine Eq.trans (congrArg _ (ix2_eta y).symm) ((out7_at _ _ _ _ _ (y 0) (y 1)).trans ?_)
  simp only [hp]

/-- The array window 8 leaves is the reference's. -/
theorem final8 (c : Dev nD) : (dats m 0 c).arrAt 8 (cfgs 0).N = ReferenceEvenIdeal.Value.result3 (m ((c.tc : Thread nD τ).loc main_arg0)) (layerG (m ((c.tc : Thread nD τ).loc main_arg1))) (layerW (m ((c.tc : Thread nD τ).loc main_arg2))) := by
  refine (dats m 0 c).arrAt_eq_of_covers 8 _ (by decide +kernel) fun t _ (y : S1024x512.Idx) => ?_
  blk_simp
  rw [after0_8]
  obtain ⟨i0, i1, i2, i3, i4, i5, i6, i7, i8⟩ := idx t
  have ht : (t : ℕ) < 16 := t.isLt
  have hy : (y 0 : ℕ) < 1024 := (y 0).isLt
  have eo : (win0_8.blk t).view.emb y = ix2 ⟨1024 * t + (y 0 : ℕ), by omega⟩ (y 1) := by blk_ext [i8]
  rw [show (win0_8.blk t).view.emb y = _ from eo]
  refine Eq.trans ?_ (ReferenceEvenIdeal.Value.result3_at _ _ _ _ _).symm
  have hp (j : Fin 2560) := projBlock_at m c t (y 0) ⟨1024 * t + (y 0 : ℕ), by omega⟩ rfl j
  refine Eq.trans (congrArg _ (ix2_eta y).symm) ((out8_at _ _ _ _ _ (y 0) (y 1)).trans ?_)
  simp only [hp]

end Cert.KernelEven2Ideal.Value

attribute [local instance] Cert.KernelEven2Ideal.Gen.facts Cert.ReferenceEven2Ideal.Gen.facts

namespace Cert

set_option maxHeartbeats 4000000 in
theorem even2_algebraic : Cert.algebraic_KernelEven2Ideal_ReferenceEven2Ideal := by
  pair_intro
  · run_from Cert.KernelEven2Ideal.Gen.run_main m g
  · run_from Cert.ReferenceEven2Ideal.Value.run m' g'
    · refine (ReferenceEven2Ideal.Value.res_eq0 m' c).trans (Eq.trans ?_ (KernelEven2Ideal.Value.final5 m c).symm)
      obtain ⟨a0, a1, a2⟩ := hagree c
      rw [a0, a1, a2]
    · refine (ReferenceEven2Ideal.Value.res_eq1 m' c).trans (Eq.trans ?_ (KernelEven2Ideal.Value.final6 m c).symm)
      obtain ⟨a0, a1, a2⟩ := hagree c
      rw [a0, a1, a2]
    · refine Eq.trans ?_ (KernelEven2Ideal.Value.final7 m c).symm
      unfold ReferenceEvenIdeal.Value.result2
      rw [ReferenceEven2Ideal.Value.projected_eq]
      rfl
    · refine Eq.trans ?_ (KernelEven2Ideal.Value.final8 m c).symm
      unfold ReferenceEvenIdeal.Value.result3
      rw [ReferenceEven2Ideal.Value.projected_eq]
      rfl

end Cert

end
-- ==== Proof.Odd3.lean ====
/- The projection of layer 3: the kernel's and the reference's results, and the claim that they are equal over the ideal reals. -/
module

public import proofs.«01_k».proof.Defs
public import proofs.«01_k».proof.Proof.Gen.KernelOdd3Ideal.Frame
public import proofs.«01_k».proof.Proof.Gen.ReferenceOdd3Ideal.Run
public import proofs.«01_k».proof.Proof.OddValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceOddIdeal.Value
open Cert.ReferenceOddIdeal Cert.ReferenceOddIdeal.Gen

/-! The parameters of layer 3 put where layer 1 has its own. -/

def layerG (G : FVec Ideal S4x6x1024 .f32) : FVec Ideal S4x6x1024 .f32 := fun y => G (ix3 3 (y 1) (y 2))
def layerW (W : FVec Ideal S2x1024x2560 .f32) : FVec Ideal S2x1024x2560 .f32 := fun y => W (ix3 1 (y 1) (y 2))
def layerB (B : FVec Ideal S2x512 .f32) : FVec Ideal S2x512 .f32 := fun y => B (ix2 1 (y 1))

theorem cutG (G) (h : S4x6x1024.Slices ![1, 0, 0] S1x6x1024) (h' : S4x6x1024.Slices ![3, 0, 0] S1x6x1024) :
    extractStridedSlice S1x6x1024 ![1, 0, 0] (layerG G) h = extractStridedSlice S1x6x1024 ![3, 0, 0] G h' := by
  funext y
  idx_vars y
  pointwise [layerG]
theorem cutW (W) (h : S2x1024x2560.Slices ![0, 0, 0] S1x1024x2560) (h' : S2x1024x2560.Slices ![1, 0, 0] S1x1024x2560) :
    extractStridedSlice S1x1024x2560 ![0, 0, 0] (layerW W) h = extractStridedSlice S1x1024x2560 ![1, 0, 0] W h' := by
  funext y
  idx_vars y
  pointwise [layerW]
theorem cutB (B) (h : S2x512.Slices ![0, 0] S1x512) (h' : S2x512.Slices ![1, 0] S1x512) :
    extractStridedSlice S1x512 ![0, 0] (layerB B) h = extractStridedSlice S1x512 ![1, 0] B h' := by
  funext y
  idx_vars y
  pointwise [layerB]

end Cert.ReferenceOddIdeal.Value

namespace Cert.ReferenceOdd3Ideal.Value
open Cert.ReferenceOdd3Ideal Cert.ReferenceOdd3Ideal.Gen
open ReferenceOddIdeal.Value (layerG layerW cutG cutW layerB cutB)

theorem projected_eq (X : FVec Ideal S8x2048x1024 .f32) (G : FVec Ideal S4x6x1024 .f32) (W : FVec Ideal S2x1024x2560 .f32) :
    ReferenceOddIdeal.Value.projected X (layerG G) (layerW W) =
      Host.dotGeneral dot_S8x2048x1024_S1024x2560_S8x2048x2560_2_0_01_1_n_n none
        (ReferenceOddIdeal.Value.normed X (shapeCast S1024 (extractStridedSlice S1x1024 ![2, 0] (shapeCast S6x1024 (extractStridedSlice S1x6x1024 ![3, 0, 0] G slices_S4x6x1024_S1x6x1024_3_0_0) shapeCasts_S1x6x1024_S6x1024) slices_S6x1024_S1x1024_2_0) shapeCasts_S1x1024_S1024))
        (shapeCast S1024x2560 (extractStridedSlice S1x1024x2560 ![1, 0, 0] W slices_S2x1024x2560_S1x1024x2560_1_0_0) shapeCasts_S1x1024x2560_S1024x2560) := by
  unfold ReferenceOddIdeal.Value.projected ReferenceOddIdeal.Value.gain
  rw [cutG _ _ slices_S4x6x1024_S1x6x1024_3_0_0, cutW _ _ slices_S2x1024x2560_S1x1024x2560_1_0_0]
  rfl

theorem res_eq0 (m : (ℓ : Loc nD τ sig) → Buf (Elt Ideal) ℓ) (c : Dev nD) : res_out0 (F := Ideal) m c = ReferenceOddIdeal.Value.result0 (m ((c.tc : Thread nD τ).loc main_arg0)) (layerG (m ((c.tc : Thread nD τ).loc main_arg1))) (layerW (m ((c.tc : Thread nD τ).loc main_arg2))) := by
  unfold ReferenceOddIdeal.Value.result0
  rw [projected_eq]
  rfl

theorem res_eq1 (m : (ℓ : Loc nD τ sig) → Buf (Elt Ideal) ℓ) (c : Dev nD) : res_out1 (F := Ideal) m c = ReferenceOddIdeal.Value.result1 (m ((c.tc : Thread nD τ).loc main_arg0)) (layerG (m ((c.tc : Thread nD τ).loc main_arg1))) (layerW (m ((c.tc : Thread nD τ).loc main_arg2))) (layerB (m ((c.tc : Thread nD τ).loc main_arg3))) (layerB (m ((c.tc : Thread nD τ).loc main_arg4))) := by
  unfold ReferenceOddIdeal.Value.result1
  unfold ReferenceOddIdeal.Value.layerNormed ReferenceOddIdeal.Value.along
  rw [projected_eq, cutB _ _ slices_S2x512_S1x512_1_0, cutB _ _ slices_S2x512_S1x512_1_0]
  rfl

end Cert.ReferenceOdd3Ideal.Value

namespace Cert.KernelOdd3Ideal.Value
open Cert.KernelOdd3Ideal Cert.KernelOdd3Ideal.Gen Cert.Rows
open KernelOddIdeal.Value (projBlock)
open ReferenceOddIdeal.Value (layerG layerW layerB)

variable (x : Vec Ideal S1024x1024 .f32) (g : Vec Ideal S1x6x1024 .f32) (w : Vec Ideal S1x1024x2560 .f32) (l : Vec Ideal S1x2x512 .f32)

theorem out4_at (i : Fin 1024) (k : Fin 512) : out0_4 x g w l (ix2 i k) = gelu (projBlock x g w i ⟨k, by omega⟩) :=
  (congrFun (show out0_4 x g w l = KernelOddIdeal.Gen.out0_4 x g w l from rfl) _).trans (KernelOddIdeal.Value.out4_at ..)

theorem out5_at (i : Fin 1024) (k : Fin 512) : out0_5 x g w l (ix2 i k) = layerNorm (fun k => gelu (projBlock x g w i ⟨512 + k, by omega⟩)) (fun k => l (ix3 0 0 k)) (fun k => l (ix3 0 1 k)) k :=
  (congrFun (show out0_5 x g w l = KernelOddIdeal.Gen.out0_5 x g w l from rfl) _).trans (KernelOddIdeal.Value.out5_at ..)

theorem out6_at (i : Fin 1024) (k : Fin 512) : out0_6 x g w l (ix2 i k) = projBlock x g w i ⟨1024 + k, by omega⟩ :=
  (congrFun (show out0_6 x g w l = KernelOddIdeal.Gen.out0_6 x g w l from rfl) _).trans (KernelOddIdeal.Value.out6_at ..)

theorem out7_at (i : Fin 1024) (k : Fin 512) : out0_7 x g w l (ix2 i k) = projBlock x g w i ⟨1536 + k, by omega⟩ :=
  (congrFun (show out0_7 x g w l = KernelOddIdeal.Gen.out0_7 x g w l from rfl) _).trans (KernelOddIdeal.Value.out7_at ..)

theorem out8_at (i : Fin 1024) (k : Fin 512) : out0_8 x g w l (ix2 i k) = projBlock x g w i ⟨2048 + k, by omega⟩ :=
  (congrFun (show out0_8 x g w l = KernelOddIdeal.Gen.out0_8 x g w l from rfl) _).trans (KernelOddIdeal.Value.out8_at ..)

variable (m : (ℓ : Loc nD τ sig) → Buf (Elt Ideal) ℓ)

theorem idx : ∀ t : Fin cfg0.N, win0_0.index t = ![(t : ℕ), 0] ∧ win0_1.index t = ![3, 0, 0] ∧ win0_2.index t = ![1, 0, 0] ∧ win0_3.index t = ![1, 0, 0] ∧
    win0_4.index t = ![(t : ℕ), 0] ∧ win0_5.index t = ![(t : ℕ), 0] ∧ win0_6.index t = ![(t : ℕ), 0] ∧ win0_7.index t = ![(t : ℕ), 0] ∧ win0_8.index t = ![(t : ℕ), 0] :=
  (by decide +kernel : ∀ t : Fin grid0.N, _)

/-- The rows the kernel reads: the argument's, numbered through. -/
theorem x_at (c : Dev nD) (r : Fin 16384) (k : Fin 1024) :
    V m c main_v3 (ix2 r k) = m ((c.tc : Thread nD τ).loc main_arg0) (ix3 ⟨r / 2048, by omega⟩ ⟨r % 2048, by omega⟩ k) := by
  entry_read
  pointwise

theorem lg_at (c : Dev nD) (a : Fin 2) (k : Fin 512) : V m c main_v2 (ix3 a 0 k) = m ((c.tc : Thread nD τ).loc main_arg3) (ix2 a k) := by
  entry_read
  pointwise

theorem lb_at (c : Dev nD) (a : Fin 2) (k : Fin 512) : V m c main_v2 (ix3 a 1 k) = m ((c.tc : Thread nD τ).loc main_arg4) (ix2 a k) := by
  entry_read
  pointwise

theorem projBlock_at (c : Dev nD) (t : Fin cfg0.N) (i : Fin 1024) (r : Fin 16384) (hr : (r : ℕ) = 1024 * t + i) (j : Fin 2560) :
    projBlock (iblk m c 0 t) (iblk m c 1 t) (iblk m c 2 t) i j =
      proj (fun k => m ((c.tc : Thread nD τ).loc main_arg0) (ix3 ⟨r / 2048, by omega⟩ ⟨r % 2048, by omega⟩ k)) (fun k => layerG (m ((c.tc : Thread nD τ).loc main_arg1)) (ix3 1 2 k))
        (fun k j => layerW (m ((c.tc : Thread nD τ).loc main_arg2)) (ix3 0 k j)) j := by
  obtain ⟨i0, i1, i2, i3, i4, i5, i6, i7, i8⟩ := idx t
  have e0 (k : Fin 1024) : iblk m c 0 t (ix2 i k) = m ((c.tc : Thread nD τ).loc main_arg0) (ix3 ⟨r / 2048, by omega⟩ ⟨r % 2048, by omega⟩ k) := by
    refine Eq.trans ?_ (x_at m c r k)
    obtain ⟨r, h⟩ := r
    obtain rfl : r = 1024 * t + i := hr
    blk_point [iblk, i0]
  have e1 (a : Fin 6) (k : Fin 1024) : iblk m c 1 t (ix3 0 a k) = layerG (m ((c.tc : Thread nD τ).loc main_arg1)) (ix3 1 a k) := by blk_point [iblk, V, i1, layerG]
  have e2 (k : Fin 1024) (j : Fin 2560) : iblk m c 2 t (ix3 0 k j) = layerW (m ((c.tc : Thread nD τ).loc main_arg2)) (ix3 0 k j) := by blk_point [iblk, V, i2, layerW]
  simp only [projBlock, e0, e1, e2]

/-- The array window 4 leaves is the reference's. -/
theorem final4 (c : Dev nD) : (dats m 0 c).arrAt 4 (cfgs 0).N = ReferenceOddIdeal.Value.result0 (m ((c.tc : Thread nD τ).loc main_arg0)) (layerG (m ((c.tc : Thread nD τ).loc main_arg1))) (layerW (m ((c.tc : Thread nD τ).loc main_arg2))) := by
  refine (dats m 0 c).arrAt_eq_of_covers 4 _ (by decide +kernel) fun t _ (y : S1024x512.Idx) => ?_
  blk_simp
  rw [after0_4]
  obtain ⟨i0, i1, i2, i3, i4, i5, i6, i7, i8⟩ := idx t
  have ht : (t : ℕ) < 16 := t.isLt
  have hy : (y 0 : ℕ) < 1024 := (y 0).isLt
  have eo : (win0_4.blk t).view.emb y = ix2 ⟨1024 * t + (y 0 : ℕ), by omega⟩ (y 1) := by blk_ext [i4]
  rw [show (win0_4.blk t).view.emb y = _ from eo]
  refine Eq.trans ?_ (ReferenceOddIdeal.Value.result0_at _ _ _ _ _).symm
  have hp (j : Fin 2560) := projBlock_at m c t (y 0) ⟨1024 * t + (y 0 : ℕ), by omega⟩ rfl j
  refine Eq.trans (congrArg _ (ix2_eta y).symm) ((out4_at _ _ _ _ (y 0) (y 1)).trans ?_)
  simp only [hp]

/-- The array window 5 leaves is the reference's. -/
theorem final5 (c : Dev nD) : (dats m 0 c).arrAt 5 (cfgs 0).N = ReferenceOddIdeal.Value.result1 (m ((c.tc : Thread nD τ).loc main_arg0)) (layerG (m ((c.tc : Thread nD τ).loc main_arg1))) (layerW (m ((c.tc : Thread nD τ).loc main_arg2))) (layerB (m ((c.tc : Thread nD τ).loc main_arg3))) (layerB (m ((c.tc : Thread nD τ).loc main_arg4))) := by
  refine (dats m 0 c).arrAt_eq_of_covers 5 _ (by decide +kernel) fun t _ (y : S1024x512.Idx) => ?_
  blk_simp
  rw [after0_5]
  obtain ⟨i0, i1, i2, i3, i4, i5, i6, i7, i8⟩ := idx t
  have ht : (t : ℕ) < 16 := t.isLt
  have hy : (y 0 : ℕ) < 1024 := (y 0).isLt
  have eo : (win0_5.blk t).view.emb y = ix2 ⟨1024 * t + (y 0 : ℕ), by omega⟩ (y 1) := by blk_ext [i5]
  rw [show (win0_5.blk t).view.emb y = _ from eo]
  refine Eq.trans ?_ (ReferenceOddIdeal.Value.result1_at _ _ _ _ _ _ _).symm
  have hp (j : Fin 2560) := projBlock_at m c t (y 0) ⟨1024 * t + (y 0 : ℕ), by omega⟩ rfl j
  have hg (k : Fin 512) : iblk m c 3 t (ix3 0 0 k) = layerB (m ((c.tc : Thread nD τ).loc main_arg3)) (ix2 0 k) := by
    refine Eq.trans ?_ (lg_at m c 1 k)
    blk_point [iblk, i3]
  have hb (k : Fin 512) : iblk m c 3 t (ix3 0 1 k) = layerB (m ((c.tc : Thread nD τ).loc main_arg4)) (ix2 0 k) := by
    refine Eq.trans ?_ (lb_at m c 1 k)
    blk_point [iblk, i3]
  refine Eq.trans (congrArg _ (ix2_eta y).symm) ((out5_at _ _ _ _ (y 0) (y 1)).trans ?_)
  simp only [hp, hg, hb]

/-- The array window 6 leaves is the reference's. -/
theorem final6 (c : Dev nD) : (dats m 0 c).arrAt 6 (cfgs 0).N = ReferenceOddIdeal.Value.result2 (m ((c.tc : Thread nD τ).loc main_arg0)) (layerG (m ((c.tc : Thread nD τ).loc main_arg1))) (layerW (m ((c.tc : Thread nD τ).loc main_arg2))) := by
  refine (dats m 0 c).arrAt_eq_of_covers 6 _ (by decide +kernel) fun t _ (y : S1024x512.Idx) => ?_
  blk_simp
  rw [after0_6]
  obtain ⟨i0, i1, i2, i3, i4, i5, i6, i7, i8⟩ := idx t
  have ht : (t : ℕ) < 16 := t.isLt
  have hy : (y 0 : ℕ) < 1024 := (y 0).isLt
  have eo : (win0_6.blk t).view.emb y = ix2 ⟨1024 * t + (y 0 : ℕ), by omega⟩ (y 1) := by blk_ext [i6]
  rw [show (win0_6.blk t).view.emb y = _ from eo]
  refine Eq.trans ?_ (ReferenceOddIdeal.Value.result2_at _ _ _ _ _).symm
  have hp (j : Fin 2560) := projBlock_at m c t (y 0) ⟨1024 * t + (y 0 : ℕ), by omega⟩ rfl j
  refine Eq.trans (congrArg _ (ix2_eta y).symm) ((out6_at _ _ _ _ (y 0) (y 1)).trans ?_)
  simp only [hp]

/-- The array window 7 leaves is the reference's. -/
theorem final7 (c : Dev nD) : (dats m 0 c).arrAt 7 (cfgs 0).N = ReferenceOddIdeal.Value.result3 (m ((c.tc : Thread nD τ).loc main_arg0)) (layerG (m ((c.tc : Thread nD τ).loc main_arg1))) (layerW (m ((c.tc : Thread nD τ).loc main_arg2))) := by
  refine (dats m 0 c).arrAt_eq_of_covers 7 _ (by decide +kernel) fun t _ (y : S1024x512.Idx) => ?_
  blk_simp
  rw [after0_7]
  obtain ⟨i0, i1, i2, i3, i4, i5, i6, i7, i8⟩ := idx t
  have ht : (t : ℕ) < 16 := t.isLt
  have hy : (y 0 : ℕ) < 1024 := (y 0).isLt
  have eo : (win0_7.blk t).view.emb y = ix2 ⟨1024 * t + (y 0 : ℕ), by omega⟩ (y 1) := by blk_ext [i7]
  rw [show (win0_7.blk t).view.emb y = _ from eo]
  refine Eq.trans ?_ (ReferenceOddIdeal.Value.result3_at _ _ _ _ _).symm
  have hp (j : Fin 2560) := projBlock_at m c t (y 0) ⟨1024 * t + (y 0 : ℕ), by omega⟩ rfl j
  refine Eq.trans (congrArg _ (ix2_eta y).symm) ((out7_at _ _ _ _ (y 0) (y 1)).trans ?_)
  simp only [hp]

/-- The array window 8 leaves is the reference's. -/
theorem final8 (c : Dev nD) : (dats m 0 c).arrAt 8 (cfgs 0).N = ReferenceOddIdeal.Value.result4 (m ((c.tc : Thread nD τ).loc main_arg0)) (layerG (m ((c.tc : Thread nD τ).loc main_arg1))) (layerW (m ((c.tc : Thread nD τ).loc main_arg2))) := by
  refine (dats m 0 c).arrAt_eq_of_covers 8 _ (by decide +kernel) fun t _ (y : S1024x512.Idx) => ?_
  blk_simp
  rw [after0_8]
  obtain ⟨i0, i1, i2, i3, i4, i5, i6, i7, i8⟩ := idx t
  have ht : (t : ℕ) < 16 := t.isLt
  have hy : (y 0 : ℕ) < 1024 := (y 0).isLt
  have eo : (win0_8.blk t).view.emb y = ix2 ⟨1024 * t + (y 0 : ℕ), by omega⟩ (y 1) := by blk_ext [i8]
  rw [show (win0_8.blk t).view.emb y = _ from eo]
  refine Eq.trans ?_ (ReferenceOddIdeal.Value.result4_at _ _ _ _ _).symm
  have hp (j : Fin 2560) := projBlock_at m c t (y 0) ⟨1024 * t + (y 0 : ℕ), by omega⟩ rfl j
  refine Eq.trans (congrArg _ (ix2_eta y).symm) ((out8_at _ _ _ _ (y 0) (y 1)).trans ?_)
  simp only [hp]

end Cert.KernelOdd3Ideal.Value

attribute [local instance] Cert.KernelOdd3Ideal.Gen.facts Cert.ReferenceOdd3Ideal.Gen.facts

namespace Cert

set_option maxHeartbeats 4000000 in
theorem odd3_algebraic : Cert.algebraic_KernelOdd3Ideal_ReferenceOdd3Ideal := by
  pair_intro
  · run_from Cert.KernelOdd3Ideal.Gen.run_main m g
  · run_from Cert.ReferenceOdd3Ideal.Value.run m' g'
    · refine (ReferenceOdd3Ideal.Value.res_eq0 m' c).trans (Eq.trans ?_ (KernelOdd3Ideal.Value.final4 m c).symm)
      obtain ⟨a0, a1, a2, a3, a4⟩ := hagree c
      rw [a0, a1, a2]
    · refine (ReferenceOdd3Ideal.Value.res_eq1 m' c).trans (Eq.trans ?_ (KernelOdd3Ideal.Value.final5 m c).symm)
      obtain ⟨a0, a1, a2, a3, a4⟩ := hagree c
      rw [a0, a1, a2, a3, a4]
    · refine Eq.trans ?_ (KernelOdd3Ideal.Value.final6 m c).symm
      unfold ReferenceOddIdeal.Value.result2
      rw [ReferenceOdd3Ideal.Value.projected_eq]
      rfl
    · refine Eq.trans ?_ (KernelOdd3Ideal.Value.final7 m c).symm
      unfold ReferenceOddIdeal.Value.result3
      rw [ReferenceOdd3Ideal.Value.projected_eq]
      rfl
    · refine Eq.trans ?_ (KernelOdd3Ideal.Value.final8 m c).symm
      unfold ReferenceOddIdeal.Value.result4
      rw [ReferenceOdd3Ideal.Value.projected_eq]
      rfl

end Cert

end
-- ==== Proof.lean ====
/- The claim: each kernel's and each reference's run, and the results equal over the ideal reals. -/
module

public import proofs.«01_k».proof.Defs
public import proofs.«01_k».proof.Proof.Gen.KernelConv.Frame
public import proofs.«01_k».proof.Proof.Gen.KernelConvIdeal.Frame
public import proofs.«01_k».proof.Proof.Gen.ReferenceConvIdeal.Run
public import proofs.«01_k».proof.Proof.Gen.KernelSgu.Frame
public import proofs.«01_k».proof.Proof.Gen.KernelSguIdeal.Frame
public import proofs.«01_k».proof.Proof.Gen.ReferenceSguIdeal.Run
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Gen.KernelEven.Frame
public import proofs.«01_k».proof.Proof.Gen.KernelEvenIdeal.Frame
public import proofs.«01_k».proof.Proof.Gen.ReferenceEvenIdeal.Run
public import proofs.«01_k».proof.Proof.Gen.KernelOdd.Frame
public import proofs.«01_k».proof.Proof.Gen.KernelOddIdeal.Frame
public import proofs.«01_k».proof.Proof.Gen.ReferenceOddIdeal.Run
public import proofs.«01_k».proof.Proof.Gen.KernelMoba.Frame
public import proofs.«01_k».proof.Proof.Gen.KernelMobaIdeal.Frame
public import proofs.«01_k».proof.Proof.Gen.KernelFfn21.Frame
public import proofs.«01_k».proof.Proof.Gen.KernelFfn21Ideal.Frame
public import proofs.«01_k».proof.Proof.Gen.ReferenceFfn21Ideal.Run
public import proofs.«01_k».proof.Proof.Gen.KernelFfn30.Frame
public import proofs.«01_k».proof.Proof.Gen.KernelFfn30Ideal.Frame
public import proofs.«01_k».proof.Proof.Gen.ReferenceFfn30Ideal.Run
public import proofs.«01_k».proof.Proof.Gen.KernelFfn20.Frame
public import proofs.«01_k».proof.Proof.Gen.KernelFfn20Ideal.Frame
public import proofs.«01_k».proof.Proof.Gen.ReferenceFfn20Ideal.Run
public import proofs.«01_k».proof.Proof.Gen.KernelFfn11.Frame
public import proofs.«01_k».proof.Proof.Gen.KernelFfn11Ideal.Frame
public import proofs.«01_k».proof.Proof.Gen.ReferenceFfn11Ideal.Run
public import proofs.«01_k».proof.Proof.Gen.KernelFfn10.Frame
public import proofs.«01_k».proof.Proof.Gen.KernelFfn10Ideal.Frame
public import proofs.«01_k».proof.Proof.Gen.ReferenceFfn10Ideal.Run
public import proofs.«01_k».proof.Proof.Gen.KernelFfn01.Frame
public import proofs.«01_k».proof.Proof.Gen.KernelFfn01Ideal.Frame
public import proofs.«01_k».proof.Proof.Gen.ReferenceFfn01Ideal.Run
public import proofs.«01_k».proof.Proof.Gen.KernelFfn00.Frame
public import proofs.«01_k».proof.Proof.Gen.KernelFfn00Ideal.Frame
public import proofs.«01_k».proof.Proof.Gen.ReferenceFfn00Ideal.Run
public import proofs.«01_k».proof.Proof.Gen.KernelConv2.Frame
public import proofs.«01_k».proof.Proof.Gen.KernelConv2Ideal.Frame
public import proofs.«01_k».proof.Proof.Gen.ReferenceConv2Ideal.Run
public import proofs.«01_k».proof.Proof.Gen.KernelSgu3.Frame
public import proofs.«01_k».proof.Proof.Gen.KernelSgu3Ideal.Frame
public import proofs.«01_k».proof.Proof.Gen.ReferenceSgu3Ideal.Run
public import proofs.«01_k».proof.Proof.Gen.KernelEven2.Frame
public import proofs.«01_k».proof.Proof.Gen.KernelEven2Ideal.Frame
public import proofs.«01_k».proof.Proof.Gen.ReferenceEven2Ideal.Run
public import proofs.«01_k».proof.Proof.Gen.KernelOdd3.Frame
public import proofs.«01_k».proof.Proof.Gen.KernelOdd3Ideal.Frame
public import proofs.«01_k».proof.Proof.Gen.ReferenceOdd3Ideal.Run
public import proofs.«01_k».proof.Proof.Conv
public import proofs.«01_k».proof.Proof.Sgu
public import proofs.«01_k».proof.Proof.Ffn
public import proofs.«01_k».proof.Proof.Even
public import proofs.«01_k».proof.Proof.Odd
public import proofs.«01_k».proof.Proof.Ffn21
public import proofs.«01_k».proof.Proof.Ffn30
public import proofs.«01_k».proof.Proof.Ffn20
public import proofs.«01_k».proof.Proof.Ffn11
public import proofs.«01_k».proof.Proof.Ffn10
public import proofs.«01_k».proof.Proof.Ffn01
public import proofs.«01_k».proof.Proof.Ffn00
public import proofs.«01_k».proof.Proof.Conv2
public import proofs.«01_k».proof.Proof.Sgu3
public import proofs.«01_k».proof.Proof.Even2
public import proofs.«01_k».proof.Proof.Odd3
public import Idealize.ShloMosaic.Lib.Claim

@[expose] public section

set_option maxRecDepth 16384

noncomputable section

namespace Cert.Proof

open Idealize.ShloMosaic Idealize.SL.Sem

attribute [local instance] Cert.KernelConv.Gen.facts Cert.KernelConvIdeal.Gen.facts Cert.ReferenceConvIdeal.Gen.facts Cert.KernelSgu.Gen.facts Cert.KernelSguIdeal.Gen.facts Cert.ReferenceSguIdeal.Gen.facts Cert.KernelFfn.Gen.facts Cert.KernelFfnIdeal.Gen.facts Cert.ReferenceFfnIdeal.Gen.facts Cert.KernelEven.Gen.facts Cert.KernelEvenIdeal.Gen.facts Cert.ReferenceEvenIdeal.Gen.facts Cert.KernelOdd.Gen.facts Cert.KernelOddIdeal.Gen.facts Cert.ReferenceOddIdeal.Gen.facts Cert.KernelMoba.Gen.facts Cert.KernelMobaIdeal.Gen.facts Cert.KernelFfn21.Gen.facts Cert.KernelFfn21Ideal.Gen.facts Cert.ReferenceFfn21Ideal.Gen.facts Cert.KernelFfn30.Gen.facts Cert.KernelFfn30Ideal.Gen.facts Cert.ReferenceFfn30Ideal.Gen.facts Cert.KernelFfn20.Gen.facts Cert.KernelFfn20Ideal.Gen.facts Cert.ReferenceFfn20Ideal.Gen.facts Cert.KernelFfn11.Gen.facts Cert.KernelFfn11Ideal.Gen.facts Cert.ReferenceFfn11Ideal.Gen.facts Cert.KernelFfn10.Gen.facts Cert.KernelFfn10Ideal.Gen.facts Cert.ReferenceFfn10Ideal.Gen.facts Cert.KernelFfn01.Gen.facts Cert.KernelFfn01Ideal.Gen.facts Cert.ReferenceFfn01Ideal.Gen.facts Cert.KernelFfn00.Gen.facts Cert.KernelFfn00Ideal.Gen.facts Cert.ReferenceFfn00Ideal.Gen.facts Cert.KernelConv2.Gen.facts Cert.KernelConv2Ideal.Gen.facts Cert.ReferenceConv2Ideal.Gen.facts Cert.KernelSgu3.Gen.facts Cert.KernelSgu3Ideal.Gen.facts Cert.ReferenceSgu3Ideal.Gen.facts Cert.KernelEven2.Gen.facts Cert.KernelEven2Ideal.Gen.facts Cert.ReferenceEven2Ideal.Gen.facts Cert.KernelOdd3.Gen.facts Cert.KernelOdd3Ideal.Gen.facts Cert.ReferenceOdd3Ideal.Gen.facts

theorem runs_ReferenceConvIdeal : Cert.quiescent_ReferenceConvIdeal := by
  intro m ρ _
  exact (θ_run Cert.ReferenceConvIdeal.defs _ _).mono (fun r h => ⟨fun c => (h c).2, sem_eq_zero_of_no_sems (by decide) r.2⟩) (Cert.ReferenceConvIdeal.Value.run (F := Ideal) m ρ)

theorem runs_ReferenceSguIdeal : Cert.quiescent_ReferenceSguIdeal := by
  intro m ρ _
  exact (θ_run Cert.ReferenceSguIdeal.defs _ _).mono (fun r h => ⟨fun c => (h c).2, sem_eq_zero_of_no_sems (by decide) r.2⟩) (Cert.ReferenceSguIdeal.Value.run (F := Ideal) m ρ)

theorem runs_ReferenceFfnIdeal : Cert.quiescent_ReferenceFfnIdeal := by
  intro m ρ _
  exact (θ_run Cert.ReferenceFfnIdeal.defs _ _).mono (fun r h => ⟨fun c => (h c).2, sem_eq_zero_of_no_sems (by decide) r.2⟩) (Cert.ReferenceFfnIdeal.Value.run (F := Ideal) m ρ)

theorem runs_ReferenceEvenIdeal : Cert.quiescent_ReferenceEvenIdeal := by
  intro m ρ _
  exact (θ_run Cert.ReferenceEvenIdeal.defs _ _).mono (fun r h => ⟨fun c => (h c).2.2.2.2, sem_eq_zero_of_no_sems (by decide) r.2⟩) (Cert.ReferenceEvenIdeal.Value.run (F := Ideal) m ρ)

theorem runs_ReferenceOddIdeal : Cert.quiescent_ReferenceOddIdeal := by
  intro m ρ _
  exact (θ_run Cert.ReferenceOddIdeal.defs _ _).mono (fun r h => ⟨fun c => (h c).2.2.2.2.2, sem_eq_zero_of_no_sems (by decide) r.2⟩) (Cert.ReferenceOddIdeal.Value.run (F := Ideal) m ρ)

theorem runs_ReferenceFfn21Ideal : Cert.quiescent_ReferenceFfn21Ideal := by
  intro m ρ _
  exact (θ_run Cert.ReferenceFfn21Ideal.defs _ _).mono (fun r h => ⟨fun c => (h c).2, sem_eq_zero_of_no_sems (by decide) r.2⟩) (Cert.ReferenceFfn21Ideal.Value.run (F := Ideal) m ρ)

theorem runs_ReferenceFfn30Ideal : Cert.quiescent_ReferenceFfn30Ideal := by
  intro m ρ _
  exact (θ_run Cert.ReferenceFfn30Ideal.defs _ _).mono (fun r h => ⟨fun c => (h c).2, sem_eq_zero_of_no_sems (by decide) r.2⟩) (Cert.ReferenceFfn30Ideal.Value.run (F := Ideal) m ρ)

theorem runs_ReferenceFfn20Ideal : Cert.quiescent_ReferenceFfn20Ideal := by
  intro m ρ _
  exact (θ_run Cert.ReferenceFfn20Ideal.defs _ _).mono (fun r h => ⟨fun c => (h c).2, sem_eq_zero_of_no_sems (by decide) r.2⟩) (Cert.ReferenceFfn20Ideal.Value.run (F := Ideal) m ρ)

theorem runs_ReferenceFfn11Ideal : Cert.quiescent_ReferenceFfn11Ideal := by
  intro m ρ _
  exact (θ_run Cert.ReferenceFfn11Ideal.defs _ _).mono (fun r h => ⟨fun c => (h c).2, sem_eq_zero_of_no_sems (by decide) r.2⟩) (Cert.ReferenceFfn11Ideal.Value.run (F := Ideal) m ρ)

theorem runs_ReferenceFfn10Ideal : Cert.quiescent_ReferenceFfn10Ideal := by
  intro m ρ _
  exact (θ_run Cert.ReferenceFfn10Ideal.defs _ _).mono (fun r h => ⟨fun c => (h c).2, sem_eq_zero_of_no_sems (by decide) r.2⟩) (Cert.ReferenceFfn10Ideal.Value.run (F := Ideal) m ρ)

theorem runs_ReferenceFfn01Ideal : Cert.quiescent_ReferenceFfn01Ideal := by
  intro m ρ _
  exact (θ_run Cert.ReferenceFfn01Ideal.defs _ _).mono (fun r h => ⟨fun c => (h c).2, sem_eq_zero_of_no_sems (by decide) r.2⟩) (Cert.ReferenceFfn01Ideal.Value.run (F := Ideal) m ρ)

theorem runs_ReferenceFfn00Ideal : Cert.quiescent_ReferenceFfn00Ideal := by
  intro m ρ _
  exact (θ_run Cert.ReferenceFfn00Ideal.defs _ _).mono (fun r h => ⟨fun c => (h c).2, sem_eq_zero_of_no_sems (by decide) r.2⟩) (Cert.ReferenceFfn00Ideal.Value.run (F := Ideal) m ρ)

theorem runs_ReferenceConv2Ideal : Cert.quiescent_ReferenceConv2Ideal := by
  intro m ρ _
  exact (θ_run Cert.ReferenceConv2Ideal.defs _ _).mono (fun r h => ⟨fun c => (h c).2, sem_eq_zero_of_no_sems (by decide) r.2⟩) (Cert.ReferenceConv2Ideal.Value.run (F := Ideal) m ρ)

theorem runs_ReferenceSgu3Ideal : Cert.quiescent_ReferenceSgu3Ideal := by
  intro m ρ _
  exact (θ_run Cert.ReferenceSgu3Ideal.defs _ _).mono (fun r h => ⟨fun c => (h c).2, sem_eq_zero_of_no_sems (by decide) r.2⟩) (Cert.ReferenceSgu3Ideal.Value.run (F := Ideal) m ρ)

theorem runs_ReferenceEven2Ideal : Cert.quiescent_ReferenceEven2Ideal := by
  intro m ρ _
  exact (θ_run Cert.ReferenceEven2Ideal.defs _ _).mono (fun r h => ⟨fun c => (h c).2.2.2.2, sem_eq_zero_of_no_sems (by decide) r.2⟩) (Cert.ReferenceEven2Ideal.Value.run (F := Ideal) m ρ)

theorem runs_ReferenceOdd3Ideal : Cert.quiescent_ReferenceOdd3Ideal := by
  intro m ρ _
  exact (θ_run Cert.ReferenceOdd3Ideal.defs _ _).mono (fun r h => ⟨fun c => (h c).2.2.2.2.2, sem_eq_zero_of_no_sems (by decide) r.2⟩) (Cert.ReferenceOdd3Ideal.Value.run (F := Ideal) m ρ)

theorem claim : Cert.Claim := ⟨Cert.KernelConv.Gen.facts, Cert.KernelConvIdeal.Gen.facts, Cert.ReferenceConvIdeal.Gen.facts, Cert.KernelSgu.Gen.facts, Cert.KernelSguIdeal.Gen.facts, Cert.ReferenceSguIdeal.Gen.facts, Cert.KernelFfn.Gen.facts, Cert.KernelFfnIdeal.Gen.facts, Cert.ReferenceFfnIdeal.Gen.facts, Cert.KernelEven.Gen.facts, Cert.KernelEvenIdeal.Gen.facts, Cert.ReferenceEvenIdeal.Gen.facts, Cert.KernelOdd.Gen.facts, Cert.KernelOddIdeal.Gen.facts, Cert.ReferenceOddIdeal.Gen.facts, Cert.KernelMoba.Gen.facts, Cert.KernelMobaIdeal.Gen.facts, Cert.KernelFfn21.Gen.facts, Cert.KernelFfn21Ideal.Gen.facts, Cert.ReferenceFfn21Ideal.Gen.facts, Cert.KernelFfn30.Gen.facts, Cert.KernelFfn30Ideal.Gen.facts, Cert.ReferenceFfn30Ideal.Gen.facts, Cert.KernelFfn20.Gen.facts, Cert.KernelFfn20Ideal.Gen.facts, Cert.ReferenceFfn20Ideal.Gen.facts, Cert.KernelFfn11.Gen.facts, Cert.KernelFfn11Ideal.Gen.facts, Cert.ReferenceFfn11Ideal.Gen.facts, Cert.KernelFfn10.Gen.facts, Cert.KernelFfn10Ideal.Gen.facts, Cert.ReferenceFfn10Ideal.Gen.facts, Cert.KernelFfn01.Gen.facts, Cert.KernelFfn01Ideal.Gen.facts, Cert.ReferenceFfn01Ideal.Gen.facts, Cert.KernelFfn00.Gen.facts, Cert.KernelFfn00Ideal.Gen.facts, Cert.ReferenceFfn00Ideal.Gen.facts, Cert.KernelConv2.Gen.facts, Cert.KernelConv2Ideal.Gen.facts, Cert.ReferenceConv2Ideal.Gen.facts, Cert.KernelSgu3.Gen.facts, Cert.KernelSgu3Ideal.Gen.facts, Cert.ReferenceSgu3Ideal.Gen.facts, Cert.KernelEven2.Gen.facts, Cert.KernelEven2Ideal.Gen.facts, Cert.ReferenceEven2Ideal.Gen.facts, Cert.KernelOdd3.Gen.facts, Cert.KernelOdd3Ideal.Gen.facts, Cert.ReferenceOdd3Ideal.Gen.facts,
  fun m ρ _ => Cert.KernelConv.Gen.frame m ρ,
  fun m ρ _ => Cert.KernelConvIdeal.Gen.frame m ρ,
  runs_ReferenceConvIdeal,
  fun m ρ _ => Cert.KernelSgu.Gen.frame m ρ,
  fun m ρ _ => Cert.KernelSguIdeal.Gen.frame m ρ,
  runs_ReferenceSguIdeal,
  fun m ρ _ => Cert.KernelFfn.Gen.frame m ρ,
  fun m ρ _ => Cert.KernelFfnIdeal.Gen.frame m ρ,
  runs_ReferenceFfnIdeal,
  fun m ρ _ => Cert.KernelEven.Gen.frame m ρ,
  fun m ρ _ => Cert.KernelEvenIdeal.Gen.frame m ρ,
  runs_ReferenceEvenIdeal,
  fun m ρ _ => Cert.KernelOdd.Gen.frame m ρ,
  fun m ρ _ => Cert.KernelOddIdeal.Gen.frame m ρ,
  runs_ReferenceOddIdeal,
  fun m ρ _ => Cert.KernelMoba.Gen.frame m ρ,
  fun m ρ _ => Cert.KernelMobaIdeal.Gen.frame m ρ,
  fun m ρ _ => Cert.KernelFfn21.Gen.frame m ρ,
  fun m ρ _ => Cert.KernelFfn21Ideal.Gen.frame m ρ,
  runs_ReferenceFfn21Ideal,
  fun m ρ _ => Cert.KernelFfn30.Gen.frame m ρ,
  fun m ρ _ => Cert.KernelFfn30Ideal.Gen.frame m ρ,
  runs_ReferenceFfn30Ideal,
  fun m ρ _ => Cert.KernelFfn20.Gen.frame m ρ,
  fun m ρ _ => Cert.KernelFfn20Ideal.Gen.frame m ρ,
  runs_ReferenceFfn20Ideal,
  fun m ρ _ => Cert.KernelFfn11.Gen.frame m ρ,
  fun m ρ _ => Cert.KernelFfn11Ideal.Gen.frame m ρ,
  runs_ReferenceFfn11Ideal,
  fun m ρ _ => Cert.KernelFfn10.Gen.frame m ρ,
  fun m ρ _ => Cert.KernelFfn10Ideal.Gen.frame m ρ,
  runs_ReferenceFfn10Ideal,
  fun m ρ _ => Cert.KernelFfn01.Gen.frame m ρ,
  fun m ρ _ => Cert.KernelFfn01Ideal.Gen.frame m ρ,
  runs_ReferenceFfn01Ideal,
  fun m ρ _ => Cert.KernelFfn00.Gen.frame m ρ,
  fun m ρ _ => Cert.KernelFfn00Ideal.Gen.frame m ρ,
  runs_ReferenceFfn00Ideal,
  fun m ρ _ => Cert.KernelConv2.Gen.frame m ρ,
  fun m ρ _ => Cert.KernelConv2Ideal.Gen.frame m ρ,
  runs_ReferenceConv2Ideal,
  fun m ρ _ => Cert.KernelSgu3.Gen.frame m ρ,
  fun m ρ _ => Cert.KernelSgu3Ideal.Gen.frame m ρ,
  runs_ReferenceSgu3Ideal,
  fun m ρ _ => Cert.KernelEven2.Gen.frame m ρ,
  fun m ρ _ => Cert.KernelEven2Ideal.Gen.frame m ρ,
  runs_ReferenceEven2Ideal,
  fun m ρ _ => Cert.KernelOdd3.Gen.frame m ρ,
  fun m ρ _ => Cert.KernelOdd3Ideal.Gen.frame m ρ,
  runs_ReferenceOdd3Ideal,
  trivial,
  conv_algebraic,
  trivial,
  sgu_algebraic,
  trivial,
  ffn_algebraic,
  trivial,
  even_algebraic,
  trivial,
  odd_algebraic,
  trivial,
  trivial,
  ffn21_algebraic,
  trivial,
  ffn30_algebraic,
  trivial,
  ffn20_algebraic,
  trivial,
  ffn11_algebraic,
  trivial,
  ffn10_algebraic,
  trivial,
  ffn01_algebraic,
  trivial,
  ffn00_algebraic,
  trivial,
  conv2_algebraic,
  trivial,
  sgu3_algebraic,
  trivial,
  even2_algebraic,
  trivial,
  odd3_algebraic⟩

end Cert.Proof

end
